-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S224x1536 : Shape := ⟨2, ![224, 1536]⟩
abbrev S96x256x16 : Shape := ⟨3, ![96, 256, 16]⟩
abbrev S96 : Shape := ⟨1, ![96]⟩
abbrev S96x98304 : Shape := ⟨2, ![96, 98304]⟩
abbrev S_ : Shape := ⟨0, ![]⟩

class Facts : Prop where
  bcast_S_S224x1536 : S_.BroadcastsInDim S224x1536 (![] : Fin 0 → Fin S224x1536.rank)
  bcast_S_S96x256x16 : S_.BroadcastsInDim S96x256x16 (![] : Fin 0 → Fin S96x256x16.rank)
  bcast_S_S96 : S_.BroadcastsInDim S96 (![] : Fin 0 → Fin S96.rank)

variable [Facts]

def fn {F : FTy → Type} [FloatOps F] (main_arg0 : FVec F S224x1536 .bf16) (main_arg1 : IVec S96x256x16 8) (main_arg2 : FVec F S96 .f32) (main_arg3 : IVec S96x98304 8) : IVec S224x1536 1 × IVec S96x256x16 1 × IVec S96x256x16 1 × IVec S96 1 :=
  let main_v0 : FVec F S224x1536 .bf16 := Host.absf main_arg0
  let main_cst : FVec F S_ .bf16 := constant S_ .bf16 0x7F80#16
  let main_v1 : FVec F S224x1536 .bf16 := broadcastInDim S224x1536 ![] bcast_S_S224x1536 main_cst
  let main_v2 : IVec S224x1536 1 := cmpf .olt main_v0 main_v1
  let main_c : IVec S_ 8 := constantI S_ 8 127#8
  let main_v3 : IVec S96x256x16 8 := broadcastInDim S96x256x16 ![] bcast_S_S96x256x16 main_c
  let main_v4 : IVec S96x256x16 1 := cmpi .ne main_arg1 main_v3
  let main_c_0 : IVec S_ 8 := constantI S_ 8 255#8
  let main_v5 : IVec S96x256x16 8 := broadcastInDim S96x256x16 ![] bcast_S_S96x256x16 main_c_0
  let main_v6 : IVec S96x256x16 1 := cmpi .ne main_arg1 main_v5
  let main_v7 : FVec F S96 .f32 := Host.absf main_arg2
  let main_cst_1 : FVec F S_ .f32 := constant S_ .f32 0x7F800000#32
  let main_v8 : FVec F S96 .f32 := broadcastInDim S96 ![] bcast_S_S96 main_cst_1
  let main_v9 : IVec S96 1 := cmpf .olt main_v7 main_v8
  (main_v2, main_v4, main_v6, main_v9)
-- ==== Kernel.lean ====
abbrev S224x1536 : Shape := ⟨2, ![224, 1536]⟩
abbrev S96x256x16 : Shape := ⟨3, ![96, 256, 16]⟩
abbrev S96 : Shape := ⟨1, ![96]⟩
abbrev S96x98304 : Shape := ⟨2, ![96, 98304]⟩
abbrev S96x16x256 : Shape := ⟨3, ![96, 16, 256]⟩
abbrev S1536x256 : Shape := ⟨2, ![1536, 256]⟩
abbrev S224x96x16 : Shape := ⟨3, ![224, 96, 16]⟩
abbrev S_ : Shape := ⟨0, ![]⟩
abbrev S1x96x1 : Shape := ⟨3, ![1, 96, 1]⟩
abbrev S224x3x8x4x4x4 : Shape := ⟨6, ![224, 3, 8, 4, 4, 4]⟩
abbrev S224x3x4x4x8x4 : Shape := ⟨6, ![224, 3, 4, 4, 8, 4]⟩
abbrev S96x1 : Shape := ⟨2, ![96, 1]⟩
abbrev S224x98304 : Shape := ⟨2, ![224, 98304]⟩
abbrev S224x96x256 : Shape := ⟨3, ![224, 96, 256]⟩
abbrev S96x1024 : Shape := ⟨2, ![96, 1024]⟩
abbrev S224x1024 : Shape := ⟨2, ![224, 1024]⟩
abbrev S28x8x256 : Shape := ⟨3, ![28, 8, 256]⟩
abbrev S2x384x128 : Shape := ⟨3, ![2, 384, 128]⟩
abbrev S12x4x2x8x128 : Shape := ⟨5, ![12, 4, 2, 8, 128]⟩
abbrev S2x96x128 : Shape := ⟨3, ![2, 96, 128]⟩
abbrev S12x2x8x128 : Shape := ⟨4, ![12, 2, 8, 128]⟩
abbrev S224x128 : Shape := ⟨2, ![224, 128]⟩
abbrev S12x8x28x128 : Shape := ⟨4, ![12, 8, 28, 128]⟩
abbrev S96x256 : Shape := ⟨2, ![96, 256]⟩
abbrev S384x256 : Shape := ⟨2, ![384, 256]⟩
abbrev S384x128 : Shape := ⟨2, ![384, 128]⟩
abbrev S1x384x128 : Shape := ⟨3, ![1, 384, 128]⟩
abbrev S96x128 : Shape := ⟨2, ![96, 128]⟩
abbrev S1x96x128 : Shape := ⟨3, ![1, 96, 128]⟩
abbrev S1x8x128 : Shape := ⟨3, ![1, 8, 128]⟩
abbrev S8x128 : Shape := ⟨2, ![8, 128]⟩
abbrev S1x1x1x8x128 : Shape := ⟨5, ![1, 1, 1, 8, 128]⟩
abbrev S1x1x8x128 : Shape := ⟨4, ![1, 1, 8, 128]⟩
abbrev S28x128 : Shape := ⟨2, ![28, 128]⟩
abbrev S1x1x28x128 : Shape := ⟨4, ![1, 1, 28, 128]⟩
abbrev S224 : Shape := ⟨1, ![224]⟩
abbrev S224x1 : Shape := ⟨2, ![224, 1]⟩
abbrev S32x128 : Shape := ⟨2, ![32, 128]⟩
abbrev S8x128x1 : Shape := ⟨3, ![8, 128, 1]⟩
abbrev S1536x128 : Shape := ⟨2, ![1536, 128]⟩
abbrev S128 : Shape := ⟨1, ![128]⟩
abbrev S1x128 : Shape := ⟨2, ![1, 128]⟩
abbrev S1x256 : Shape := ⟨2, ![1, 256]⟩
abbrev S224x256 : Shape := ⟨2, ![224, 256]⟩
abbrev S1x1x1x128 : Shape := ⟨4, ![1, 1, 1, 128]⟩
abbrev S8 : Shape := ⟨1, ![8]⟩
abbrev S8x1 : Shape := ⟨2, ![8, 1]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 21
  | .vmem => 16
  | .smem => 0
  | _ => 0

abbrev bufTy : (tb : Table) → Fin (tcTables nBuf tb) → BufTy
  | .hbm, ⟨0, _⟩ => ⟨S224x1536, .bf16⟩
  | .hbm, ⟨1, _⟩ => ⟨S96x256x16, .i8⟩
  | .hbm, ⟨2, _⟩ => ⟨S96, .f32⟩
  | .hbm, ⟨3, _⟩ => ⟨S96x98304, .i8⟩
  | .hbm, ⟨4, _⟩ => ⟨S96x16x256, .i8⟩
  | .hbm, ⟨5, _⟩ => ⟨S1536x256, .i8⟩
  | .hbm, ⟨6, _⟩ => ⟨S224x96x16, .bf16⟩
  | .hbm, ⟨7, _⟩ => ⟨S224x96x16, .f32⟩
  | .hbm, ⟨8, _⟩ => ⟨S_, .f32⟩
  | .hbm, ⟨9, _⟩ => ⟨S96, .f32⟩
  | .hbm, ⟨10, _⟩ => ⟨S96, .f32⟩
  | .hbm, ⟨11, _⟩ => ⟨S1x96x1, .f32⟩
  | .hbm, ⟨12, _⟩ => ⟨S224x96x16, .f32⟩
  | .hbm, ⟨13, _⟩ => ⟨S224x96x16, .f32⟩
  | .hbm, ⟨14, _⟩ => ⟨S224x3x8x4x4x4, .f32⟩
  | .hbm, ⟨15, _⟩ => ⟨S224x3x4x4x8x4, .f32⟩
  | .hbm, ⟨16, _⟩ => ⟨S224x1536, .f32⟩
  | .hbm, ⟨17, _⟩ => ⟨S224x1536, .bf16⟩
  | .hbm, ⟨18, _⟩ => ⟨S96x1, .f32⟩
  | .hbm, ⟨19, _⟩ => ⟨S224x98304, .bf16⟩
  | .hbm, ⟨20, _⟩ => ⟨S224x96x256, .f32⟩
  | .local _ .vmem, ⟨0, _⟩ => ⟨S224x1536, .bf16⟩
  | .local _ .vmem, ⟨1, _⟩ => ⟨S224x1536, .bf16⟩
  | .local _ .vmem, ⟨2, _⟩ => ⟨S1536x256, .i8⟩
  | .local _ .vmem, ⟨3, _⟩ => ⟨S96x1, .f32⟩
  | .local _ .vmem, ⟨4, _⟩ => ⟨S96x1024, .i8⟩
  | .local _ .vmem, ⟨5, _⟩ => ⟨S96x1024, .i8⟩
  | .local _ .vmem, ⟨6, _⟩ => ⟨S224x1024, .bf16⟩
  | .local _ .vmem, ⟨7, _⟩ => ⟨S224x1024, .bf16⟩
  | .local _ .vmem, ⟨8, _⟩ => ⟨S28x8x256, .f32⟩
  | .local _ .vmem, ⟨9, _⟩ => ⟨S28x8x256, .f32⟩
  | .local _ .vmem, ⟨10, _⟩ => ⟨S2x384x128, .i32⟩
  | .local _ .vmem, ⟨11, _⟩ => ⟨S12x4x2x8x128, .i32⟩
  | .local _ .vmem, ⟨12, _⟩ => ⟨S2x96x128, .f32⟩
  | .local _ .vmem, ⟨13, _⟩ => ⟨S12x2x8x128, .f32⟩
  | .local _ .vmem, ⟨14, _⟩ => ⟨S224x128, .f32⟩
  | .local _ .vmem, ⟨15, _⟩ => ⟨S12x8x28x128, .f32⟩
  | _, _ => ⟨S224x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![96], ![false]⟩

def k0_mult1 (i : grid0.Coords) : BitVec 32 :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let c128_i32_5213 : BitVec 32 := 128#32
  let v6830 : BitVec 32 := Scalar.muli v6819 c128_i32_5213
  v6830
def k0_off1 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6859 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6860 : Index := Scalar.indexCast v6829
  let c0_5221 : Index := 0#32
  let c0_5222 : Index := 0#32
  ![v6859.toNat, v6860.toNat, 0, 0]
def k0_off2 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6870 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6871 : Index := Scalar.indexCast v6829
  let c1_5225 : Index := 1#32
  let c0_5226 : Index := 0#32
  ![v6870.toNat, v6871.toNat, 1, 0]
def k0_off3 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6881 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6882 : Index := Scalar.indexCast v6829
  let c2_5229 : Index := 2#32
  let c0_5230 : Index := 0#32
  ![v6881.toNat, v6882.toNat, 2, 0]
def k0_off4 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6892 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6893 : Index := Scalar.indexCast v6829
  let c3_5233 : Index := 3#32
  let c0_5234 : Index := 0#32
  ![v6892.toNat, v6893.toNat, 3, 0]
def k0_off5 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6903 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6904 : Index := Scalar.indexCast v6829
  let c4_5237 : Index := 4#32
  let c0_5238 : Index := 0#32
  ![v6903.toNat, v6904.toNat, 4, 0]
def k0_off6 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6914 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6915 : Index := Scalar.indexCast v6829
  let c5_5241 : Index := 5#32
  let c0_5242 : Index := 0#32
  ![v6914.toNat, v6915.toNat, 5, 0]
def k0_off7 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6925 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6926 : Index := Scalar.indexCast v6829
  let c6_5245 : Index := 6#32
  let c0_5246 : Index := 0#32
  ![v6925.toNat, v6926.toNat, 6, 0]
def k0_off8 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6936 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6937 : Index := Scalar.indexCast v6829
  let c7_5249 : Index := 7#32
  let c0_5250 : Index := 0#32
  ![v6936.toNat, v6937.toNat, 7, 0]
def k0_off9 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6947 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6948 : Index := Scalar.indexCast v6829
  let c8_5253 : Index := 8#32
  let c0_5254 : Index := 0#32
  ![v6947.toNat, v6948.toNat, 8, 0]
def k0_off10 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6958 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6959 : Index := Scalar.indexCast v6829
  let c9_5257 : Index := 9#32
  let c0_5258 : Index := 0#32
  ![v6958.toNat, v6959.toNat, 9, 0]
def k0_off11 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6969 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6970 : Index := Scalar.indexCast v6829
  let c10_5261 : Index := 10#32
  let c0_5262 : Index := 0#32
  ![v6969.toNat, v6970.toNat, 10, 0]
def k0_off12 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6980 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6981 : Index := Scalar.indexCast v6829
  let c11_5265 : Index := 11#32
  let c0_5266 : Index := 0#32
  ![v6980.toNat, v6981.toNat, 11, 0]
def k0_off13 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v6991 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v6992 : Index := Scalar.indexCast v6829
  let c12 : Index := 12#32
  let c0_5269 : Index := 0#32
  ![v6991.toNat, v6992.toNat, 12, 0]
def k0_off14 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7002 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7003 : Index := Scalar.indexCast v6829
  let c13 : Index := 13#32
  let c0_5272 : Index := 0#32
  ![v7002.toNat, v7003.toNat, 13, 0]
def k0_off15 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7013 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7014 : Index := Scalar.indexCast v6829
  let c14 : Index := 14#32
  let c0_5275 : Index := 0#32
  ![v7013.toNat, v7014.toNat, 14, 0]
def k0_off16 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7024 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7025 : Index := Scalar.indexCast v6829
  let c15 : Index := 15#32
  let c0_5278 : Index := 0#32
  ![v7024.toNat, v7025.toNat, 15, 0]
def k0_off17 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7035 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7036 : Index := Scalar.indexCast v6829
  let c16 : Index := 16#32
  let c0_5281 : Index := 0#32
  ![v7035.toNat, v7036.toNat, 16, 0]
def k0_off18 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7046 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7047 : Index := Scalar.indexCast v6829
  let c17 : Index := 17#32
  let c0_5284 : Index := 0#32
  ![v7046.toNat, v7047.toNat, 17, 0]
def k0_off19 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7057 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7058 : Index := Scalar.indexCast v6829
  let c18 : Index := 18#32
  let c0_5287 : Index := 0#32
  ![v7057.toNat, v7058.toNat, 18, 0]
def k0_off20 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7068 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7069 : Index := Scalar.indexCast v6829
  let c19 : Index := 19#32
  let c0_5290 : Index := 0#32
  ![v7068.toNat, v7069.toNat, 19, 0]
def k0_off21 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7079 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7080 : Index := Scalar.indexCast v6829
  let c20 : Index := 20#32
  let c0_5293 : Index := 0#32
  ![v7079.toNat, v7080.toNat, 20, 0]
def k0_off22 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7090 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7091 : Index := Scalar.indexCast v6829
  let c21 : Index := 21#32
  let c0_5296 : Index := 0#32
  ![v7090.toNat, v7091.toNat, 21, 0]
def k0_off23 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7101 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7102 : Index := Scalar.indexCast v6829
  let c22 : Index := 22#32
  let c0_5299 : Index := 0#32
  ![v7101.toNat, v7102.toNat, 22, 0]
def k0_off24 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7112 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7113 : Index := Scalar.indexCast v6829
  let c23 : Index := 23#32
  let c0_5302 : Index := 0#32
  ![v7112.toNat, v7113.toNat, 23, 0]
def k0_off25 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7123 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7124 : Index := Scalar.indexCast v6829
  let c24 : Index := 24#32
  let c0_5305 : Index := 0#32
  ![v7123.toNat, v7124.toNat, 24, 0]
def k0_off26 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7134 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7135 : Index := Scalar.indexCast v6829
  let c25 : Index := 25#32
  let c0_5308 : Index := 0#32
  ![v7134.toNat, v7135.toNat, 25, 0]
def k0_off27 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7145 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7146 : Index := Scalar.indexCast v6829
  let c26 : Index := 26#32
  let c0_5311 : Index := 0#32
  ![v7145.toNat, v7146.toNat, 26, 0]
def k0_off28 (i : grid0.Coords) : Fin 4 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let v7156 : Index := Scalar.indexCast v6819
  let c8_i32_5207 : BitVec 32 := 8#32
  let c0_i32_5208 : BitVec 32 := 0#32
  let v6820 : BitVec 1 := Scalar.cmpi .eq c8_i32_5207 c0_i32_5208
  let c1_i32_5209 : BitVec 32 := 1#32
  let v6821 : BitVec 32 := Scalar.select v6820 c1_i32_5209 c8_i32_5207
  let v6822 : BitVec 32 := Scalar.remsi arg0 v6821
  let c0_i32_5211 : BitVec 32 := 0#32
  let v6824 : BitVec 1 := Scalar.cmpi .slt v6822 c0_i32_5211
  let c0_i32_5212 : BitVec 32 := 0#32
  let v6825 : BitVec 1 := Scalar.cmpi .slt v6821 c0_i32_5212
  let v6826 : BitVec 1 := Scalar.xori v6824 v6825
  let c0_i32_5210 : BitVec 32 := 0#32
  let v6823 : BitVec 1 := Scalar.cmpi .ne v6822 c0_i32_5210
  let v6827 : BitVec 1 := Scalar.andi v6826 v6823
  let v6828 : BitVec 32 := Scalar.addi v6822 v6821
  let v6829 : BitVec 32 := Scalar.select v6827 v6828 v6822
  let v7157 : Index := Scalar.indexCast v6829
  let c27 : Index := 27#32
  let c0_5314 : Index := 0#32
  ![v7156.toNat, v7157.toNat, 27, 0]
def k0_off29 (i : grid0.Coords) : Fin 2 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let c128_i32_5213 : BitVec 32 := 128#32
  let v6830 : BitVec 32 := Scalar.muli v6819 c128_i32_5213
  let v6831 : BitVec 32 := v6830
  let v7169 : Index := Scalar.indexCast v6831
  let c0_5317 : Index := 0#32
  ![v7169.toNat, 0]
def k0_mult2 (i : grid0.Coords) : BitVec 32 :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let c8_i32_5319 : BitVec 32 := 8#32
  let v7174 : BitVec 32 := Scalar.muli v6819 c8_i32_5319
  v7174
def k0_off30 (i : grid0.Coords) : Fin 2 → Nat :=
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let c8_i32_5319 : BitVec 32 := 8#32
  let v7174 : BitVec 32 := Scalar.muli v6819 c8_i32_5319
  let v7175 : BitVec 32 := v7174
  let v7176 : Index := Scalar.indexCast v7175
  let c0_5320 : Index := 0#32
  ![v7176.toNat, 0]
def k0_off31 (i : grid0.Coords) : Fin 3 → Nat :=
  let c0_5321 : Index := 0#32
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let c8_i32_5319 : BitVec 32 := 8#32
  let v7174 : BitVec 32 := Scalar.muli v6819 c8_i32_5319
  let v7175 : BitVec 32 := v7174
  let v7179 : Index := Scalar.indexCast v7175
  let c0_5322 : Index := 0#32
  ![0, v7179.toNat, 0]
def k0_off32 (i : grid0.Coords) : Fin 3 → Nat :=
  let c1_5323 : Index := 1#32
  let arg0 : BitVec 32 := BitVec.ofNat 32 (i 0).val
  let c0_i32_5202 : BitVec 32 := 0#32
  let v6804 : BitVec 1 := Scalar.cmpi .sgt arg0 c0_i32_5202
  let v6805 : BitVec 32 := Scalar.extui v6804
  let c0_i32_5203 : BitVec 32 := 0#32
  let v6806 : BitVec 1 := Scalar.cmpi .slt arg0 c0_i32_5203
  let v6807 : BitVec 32 := Scalar.extui v6806
  let v6808 : BitVec 32 := Scalar.subi v6805 v6807
  let c8_i32_5201 : BitVec 32 := 8#32
  let c0_i32_5204 : BitVec 32 := 0#32
  let v6809 : BitVec 1 := Scalar.cmpi .sgt c8_i32_5201 c0_i32_5204
  let v6810 : BitVec 32 := Scalar.extui v6809
  let c0_i32_5205 : BitVec 32 := 0#32
  let v6811 : BitVec 1 := Scalar.cmpi .slt c8_i32_5201 c0_i32_5205
  let v6812 : BitVec 32 := Scalar.extui v6811
  let v6813 : BitVec 32 := Scalar.subi v6810 v6812
  let v6814 : BitVec 1 := Scalar.cmpi .ne v6808 v6813
  let v6815 : BitVec 32 := Scalar.remsi arg0 c8_i32_5201
  let c0_i32_5206 : BitVec 32 := 0#32
  let v6816 : BitVec 1 := Scalar.cmpi .ne v6815 c0_i32_5206
  let v6817 : BitVec 1 := Scalar.andi v6814 v6816
  let v6803 : BitVec 32 := Scalar.divsi arg0 c8_i32_5201
  let c1_i32 : BitVec 32 := 1#32
  let v6818 : BitVec 32 := Scalar.subi v6803 c1_i32
  let v6819 : BitVec 32 := Scalar.select v6817 v6818 v6803
  let c8_i32_5319 : BitVec 32 := 8#32
  let v7174 : BitVec 32 := Scalar.muli v6819 c8_i32_5319
  let v7175 : BitVec 32 := v7174
  let v7182 : Index := Scalar.indexCast v7175
  let c0_5324 : Index := 0#32
  ![1, v7182.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 1 → Memref sig .tc .vmem S224x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S224x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S224x1536 : Shape := ⟨2, ![224, 1536]⟩
abbrev S96x256x16 : Shape := ⟨3, ![96, 256, 16]⟩
abbrev S96 : Shape := ⟨1, ![96]⟩
abbrev S96x98304 : Shape := ⟨2, ![96, 98304]⟩
abbrev S224x96x16 : Shape := ⟨3, ![224, 96, 16]⟩
abbrev S96x256x224 : Shape := ⟨3, ![96, 256, 224]⟩
abbrev S224x96x256 : Shape := ⟨3, ![224, 96, 256]⟩
abbrev S1x96x1 : Shape := ⟨3, ![1, 96, 1]⟩
abbrev S_ : Shape := ⟨0, ![]⟩
abbrev S224x96 : Shape := ⟨2, ![224, 96]⟩
abbrev S96x1 : Shape := ⟨2, ![96, 1]⟩
abbrev S96x256 : Shape := ⟨2, ![96, 256]⟩
abbrev S224x96x1 : Shape := ⟨3, ![224, 96, 1]⟩
abbrev S1x96x256 : Shape := ⟨3, ![1, 96, 256]⟩
abbrev S96x98304x1 : Shape := ⟨3, ![96, 98304, 1]⟩
abbrev S96x98304x2 : Shape := ⟨3, ![96, 98304, 2]⟩
abbrev S224x96x98304 : Shape := ⟨3, ![224, 96, 98304]⟩
abbrev S224x98304 : Shape := ⟨2, ![224, 98304]⟩

abbrev nBuf : Space → Nat
  | .hbm => 57
  | .vmem => 2
  | .smem => 0
  | _ => 0

abbrev bufTy : (tb : Table) → Fin (tcTables nBuf tb) → BufTy
  | .hbm, ⟨0, _⟩ => ⟨S224x1536, .bf16⟩
  | .hbm, ⟨1, _⟩ => ⟨S96x256x16, .i8⟩
  | .hbm, ⟨2, _⟩ => ⟨S96, .f32⟩
  | .hbm, ⟨3, _⟩ => ⟨S96x98304, .i8⟩
  | .hbm, ⟨4, _⟩ => ⟨S96x256x16, .f32⟩
  | .hbm, ⟨5, _⟩ => ⟨S224x96x16, .bf16⟩
  | .hbm, ⟨6, _⟩ => ⟨S96x256x16, .bf16⟩
  | .hbm, ⟨7, _⟩ => ⟨S96x256x224, .f32⟩
  | .hbm, ⟨8, _⟩ => ⟨S224x96x256, .f32⟩
  | .hbm, ⟨9, _⟩ => ⟨S1x96x1, .f32⟩
  | .hbm, ⟨10, _⟩ => ⟨S224x96x256, .f32⟩
  | .hbm, ⟨11, _⟩ => ⟨S224x96x256, .f32⟩
  | .hbm, ⟨12, _⟩ => ⟨S224x96x16, .f32⟩
  | .hbm, ⟨13, _⟩ => ⟨S224x96x16, .f32⟩
  | .hbm, ⟨14, _⟩ => ⟨S_, .f32⟩
  | .hbm, ⟨15, _⟩ => ⟨S224x96, .f32⟩
  | .hbm, ⟨16, _⟩ => ⟨S96, .f32⟩
  | .hbm, ⟨17, _⟩ => ⟨S96x1, .f32⟩
  | .hbm, ⟨18, _⟩ => ⟨S96x256x16, .f32⟩
  | .hbm, ⟨19, _⟩ => ⟨S_, .f32⟩
  | .hbm, ⟨20, _⟩ => ⟨S96x256, .f32⟩
  | .hbm, ⟨21, _⟩ => ⟨S96x256, .f32⟩
  | .hbm, ⟨22, _⟩ => ⟨S96x256, .f32⟩
  | .hbm, ⟨23, _⟩ => ⟨S224x96x1, .f32⟩
  | .hbm, ⟨24, _⟩ => ⟨S1x96x256, .f32⟩
  | .hbm, ⟨25, _⟩ => ⟨S224x96x256, .f32⟩
  | .hbm, ⟨26, _⟩ => ⟨S224x96x256, .f32⟩
  | .hbm, ⟨27, _⟩ => ⟨S224x96x256, .f32⟩
  | .hbm, ⟨28, _⟩ => ⟨S_, .f32⟩
  | .hbm, ⟨29, _⟩ => ⟨S224x96x256, .f32⟩
  | .hbm, ⟨30, _⟩ => ⟨S224x96x256, .f32⟩
  | .hbm, ⟨31, _⟩ => ⟨S224x96x256, .f32⟩
  | .hbm, ⟨32, _⟩ => ⟨S96, .i32⟩
  | .hbm, ⟨33, _⟩ => ⟨S96x1, .i32⟩
  | .hbm, ⟨34, _⟩ => ⟨S96x98304, .i32⟩
  | .hbm, ⟨35, _⟩ => ⟨S_, .i32⟩
  | .hbm, ⟨36, _⟩ => ⟨S96x1, .i32⟩
  | .hbm, ⟨37, _⟩ => ⟨S96x1, .i1⟩
  | .hbm, ⟨38, _⟩ => ⟨S_, .i32⟩
  | .hbm, ⟨39, _⟩ => ⟨S96x1, .i32⟩
  | .hbm, ⟨40, _⟩ => ⟨S96x1, .i32⟩
  | .hbm, ⟨41, _⟩ => ⟨S96x1, .i32⟩
  | .hbm, ⟨42, _⟩ => ⟨S_, .i32⟩
  | .hbm, ⟨43, _⟩ => ⟨S96x98304, .i32⟩
  | .hbm, ⟨44, _⟩ => ⟨S96x98304, .i1⟩
  | .hbm, ⟨45, _⟩ => ⟨S_, .i32⟩
  | .hbm, ⟨46, _⟩ => ⟨S96x98304, .i32⟩
  | .hbm, ⟨47, _⟩ => ⟨S96x98304, .i32⟩
  | .hbm, ⟨48, _⟩ => ⟨S96x98304, .i32⟩
  | .hbm, ⟨49, _⟩ => ⟨S96x98304, .i32⟩
  | .hbm, ⟨50, _⟩ => ⟨S96x98304x1, .i32⟩
  | .hbm, ⟨51, _⟩ => ⟨S96x98304x1, .i32⟩
  | .hbm, ⟨52, _⟩ => ⟨S96x98304x2, .i32⟩
  | .hbm, ⟨53, _⟩ => ⟨S224x96x98304, .f32⟩
  | .hbm, ⟨54, _⟩ => ⟨S_, .f32⟩
  | .hbm, ⟨55, _⟩ => ⟨S224x98304, .f32⟩
  | .hbm, ⟨56, _⟩ => ⟨S224x98304, .bf16⟩
  | .local _ .vmem, ⟨0, _⟩ => ⟨S96x256x16, .i8⟩
  | .local _ .vmem, ⟨1, _⟩ => ⟨S96x256x16, .f32⟩
  | _, _ => ⟨S224x1536, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S96x256x16 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KSpec.lean ====
/- The values one grid point computes, written as functions of the blocks and scratch buffers it reads. -/
module

public import proofs.«01_k».proof.Proof.Gen.KernelIdeal.Frame
public import proofs.«01_k».proof.Proof.Gen.KernelIdeal.Skeleton
public import Idealize.ShloMosaic.Lib.PointwiseCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The box of `X` of the given sizes whose first element stands at `o`. -/
def slc {s : Shape} {α : Type} (X : s.Idx → α) (hs : ∀ a, 0 < s.size a) (o size : Fin s.rank → Nat) : (⟨s.rank, size⟩ : Shape).Idx → α :=
  fun j => X fun a => ⟨(o a + (j a).val) % s.size a, Nat.mod_lt _ (hs a)⟩

theorem pos9 : ∀ a, 0 < S12x4x2x8x128.size a := by decide
theorem pos11 : ∀ a, 0 < S12x2x8x128.size a := by decide
theorem pos10 : ∀ a, 0 < S2x96x128.size a := by decide
theorem pos13 : ∀ a, 0 < S12x8x28x128.size a := by decide
theorem pos5 : ∀ a, 0 < S96x1024.size a := by decide
theorem pos4 : ∀ a, 0 < S96x1.size a := by decide
theorem pos3 : ∀ a, 0 < S1536x256.size a := by decide

/-- A code of each of 8 subspaces for 128 columns: one byte of each word of the loaded codes. -/
def codeW (sh : BitVec 32) (v : Vec F S32x128 .i8) : IVec S8x128 32 :=
  andi (shrui (bitcast S8x128 32 v bitcasts_S32x128_w8_S8x128_w32) (broadcast S8x128 sh)) (broadcast S8x128 255#32)

/-- The table entry that each code names: of its low half `a` or of its high half `b`. -/
def gat {α : Type} (cd : IVec S8x128 32) (a b : S8x128.Idx → α) : S8x128.Idx → α :=
  select (cmpi .slt cd (broadcast S8x128 128#32))
    (dynamicGather 1 a (shapeCast S8x128 (shapeCast S8x128x1 (andi cd (broadcast S8x128 127#32)) shapeCasts_S8x128_S8x128x1) shapeCasts_S8x128x1_S8x128))
    (dynamicGather 1 b (shapeCast S8x128 (shapeCast S8x128x1 (andi cd (broadcast S8x128 127#32)) shapeCasts_S8x128_S8x128x1) shapeCasts_S8x128x1_S8x128))

/-- The 32 decoded rows of one group of subspaces and one word of their centroids. -/
def dec (cd : IVec S8x128 32) (t0 t1 : Vec F S1x1x1x8x128 .i32) : FVec F S32x128 .fp8e4m3 :=
  bitcastToFloat .fp8e4m3 (bitcast S32x128 8 (gat cd (shapeCast S8x128 t0 shapeCasts_S1x1x1x8x128_S8x128) (shapeCast S8x128 t1 shapeCasts_S1x1x1x8x128_S8x128)) bitcasts_S8x128_w32_S32x128_w8)

/-- The squared lengths of the centroids that the codes of one group name. -/
def nrm (cd : IVec S8x128 32) (u0 u1 : Vec F S1x1x8x128 .f32) : FVec F S8x128 .f32 :=
  gat cd (shapeCast S8x128 u0 shapeCasts_S1x1x8x128_S8x128) (shapeCast S8x128 u1 shapeCasts_S1x1x8x128_S8x128)

/-- The 1536 decoded rows of 128 columns, from the codes `C` (32 subspaces each) and the word table `T`. -/
def hd (C : Nat → Vec F S32x128 .i8) (T : Nat → Nat → Nat → Vec F S1x1x1x8x128 .i32) : FVec F S1536x128 .fp8e4m3 :=
  concatenate S1536x128 0 (⟨S32x128, dec (codeW 0#32 (C 0)) (T 0 0 0) (T 0 0 1)⟩ :: ⟨S32x128, dec (codeW 0#32 (C 0)) (T 0 1 0) (T 0 1 1)⟩ :: ⟨S32x128, dec (codeW 0#32 (C 0)) (T 0 2 0) (T 0 2 1)⟩ :: ⟨S32x128, dec (codeW 0#32 (C 0)) (T 0 3 0) (T 0 3 1)⟩ :: ⟨S32x128, dec (codeW 8#32 (C 0)) (T 1 0 0) (T 1 0 1)⟩ :: ⟨S32x128, dec (codeW 8#32 (C 0)) (T 1 1 0) (T 1 1 1)⟩ :: ⟨S32x128, dec (codeW 8#32 (C 0)) (T 1 2 0) (T 1 2 1)⟩ :: ⟨S32x128, dec (codeW 8#32 (C 0)) (T 1 3 0) (T 1 3 1)⟩ :: ⟨S32x128, dec (codeW 16#32 (C 0)) (T 2 0 0) (T 2 0 1)⟩ :: ⟨S32x128, dec (codeW 16#32 (C 0)) (T 2 1 0) (T 2 1 1)⟩ :: ⟨S32x128, dec (codeW 16#32 (C 0)) (T 2 2 0) (T 2 2 1)⟩ :: ⟨S32x128, dec (codeW 16#32 (C 0)) (T 2 3 0) (T 2 3 1)⟩ :: ⟨S32x128, dec (codeW 24#32 (C 0)) (T 3 0 0) (T 3 0 1)⟩ :: ⟨S32x128, dec (codeW 24#32 (C 0)) (T 3 1 0) (T 3 1 1)⟩ :: ⟨S32x128, dec (codeW 24#32 (C 0)) (T 3 2 0) (T 3 2 1)⟩ :: ⟨S32x128, dec (codeW 24#32 (C 0)) (T 3 3 0) (T 3 3 1)⟩ :: ⟨S32x128, dec (codeW 0#32 (C 1)) (T 4 0 0) (T 4 0 1)⟩ :: ⟨S32x128, dec (codeW 0#32 (C 1)) (T 4 1 0) (T 4 1 1)⟩ :: ⟨S32x128, dec (codeW 0#32 (C 1)) (T 4 2 0) (T 4 2 1)⟩ :: ⟨S32x128, dec (codeW 0#32 (C 1)) (T 4 3 0) (T 4 3 1)⟩ :: ⟨S32x128, dec (codeW 8#32 (C 1)) (T 5 0 0) (T 5 0 1)⟩ :: ⟨S32x128, dec (codeW 8#32 (C 1)) (T 5 1 0) (T 5 1 1)⟩ :: ⟨S32x128, dec (codeW 8#32 (C 1)) (T 5 2 0) (T 5 2 1)⟩ :: ⟨S32x128, dec (codeW 8#32 (C 1)) (T 5 3 0) (T 5 3 1)⟩ :: ⟨S32x128, dec (codeW 16#32 (C 1)) (T 6 0 0) (T 6 0 1)⟩ :: ⟨S32x128, dec (codeW 16#32 (C 1)) (T 6 1 0) (T 6 1 1)⟩ :: ⟨S32x128, dec (codeW 16#32 (C 1)) (T 6 2 0) (T 6 2 1)⟩ :: ⟨S32x128, dec (codeW 16#32 (C 1)) (T 6 3 0) (T 6 3 1)⟩ :: ⟨S32x128, dec (codeW 24#32 (C 1)) (T 7 0 0) (T 7 0 1)⟩ :: ⟨S32x128, dec (codeW 24#32 (C 1)) (T 7 1 0) (T 7 1 1)⟩ :: ⟨S32x128, dec (codeW 24#32 (C 1)) (T 7 2 0) (T 7 2 1)⟩ :: ⟨S32x128, dec (codeW 24#32 (C 1)) (T 7 3 0) (T 7 3 1)⟩ :: ⟨S32x128, dec (codeW 0#32 (C 2)) (T 8 0 0) (T 8 0 1)⟩ :: ⟨S32x128, dec (codeW 0#32 (C 2)) (T 8 1 0) (T 8 1 1)⟩ :: ⟨S32x128, dec (codeW 0#32 (C 2)) (T 8 2 0) (T 8 2 1)⟩ :: ⟨S32x128, dec (codeW 0#32 (C 2)) (T 8 3 0) (T 8 3 1)⟩ :: ⟨S32x128, dec (codeW 8#32 (C 2)) (T 9 0 0) (T 9 0 1)⟩ :: ⟨S32x128, dec (codeW 8#32 (C 2)) (T 9 1 0) (T 9 1 1)⟩ :: ⟨S32x128, dec (codeW 8#32 (C 2)) (T 9 2 0) (T 9 2 1)⟩ :: ⟨S32x128, dec (codeW 8#32 (C 2)) (T 9 3 0) (T 9 3 1)⟩ :: ⟨S32x128, dec (codeW 16#32 (C 2)) (T 10 0 0) (T 10 0 1)⟩ :: ⟨S32x128, dec (codeW 16#32 (C 2)) (T 10 1 0) (T 10 1 1)⟩ :: ⟨S32x128, dec (codeW 16#32 (C 2)) (T 10 2 0) (T 10 2 1)⟩ :: ⟨S32x128, dec (codeW 16#32 (C 2)) (T 10 3 0) (T 10 3 1)⟩ :: ⟨S32x128, dec (codeW 24#32 (C 2)) (T 11 0 0) (T 11 0 1)⟩ :: ⟨S32x128, dec (codeW 24#32 (C 2)) (T 11 1 0) (T 11 1 1)⟩ :: ⟨S32x128, dec (codeW 24#32 (C 2)) (T 11 2 0) (T 11 2 1)⟩ :: ⟨S32x128, dec (codeW 24#32 (C 2)) (T 11 3 0) (T 11 3 1)⟩ :: []) concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S1536x128_d0

/-- The summed squared lengths of 128 columns, over the subspaces of each residue mod 8. -/
def hs (C : Nat → Vec F S32x128 .i8) (U : Nat → Nat → Vec F S1x1x8x128 .f32) : FVec F S8x128 .f32 :=
  (addf (addf (addf (addf (addf (addf (addf (addf (addf (addf (addf (addf (broadcast S8x128 (Scalar.ofBits .f32 0x00000000#32 : F .f32)) (nrm (codeW 0#32 (C 0)) (U 0 0) (U 0 1))) (nrm (codeW 8#32 (C 0)) (U 1 0) (U 1 1))) (nrm (codeW 16#32 (C 0)) (U 2 0) (U 2 1))) (nrm (codeW 24#32 (C 0)) (U 3 0) (U 3 1))) (nrm (codeW 0#32 (C 1)) (U 4 0) (U 4 1))) (nrm (codeW 8#32 (C 1)) (U 5 0) (U 5 1))) (nrm (codeW 16#32 (C 1)) (U 6 0) (U 6 1))) (nrm (codeW 24#32 (C 1)) (U 7 0) (U 7 1))) (nrm (codeW 0#32 (C 2)) (U 8 0) (U 8 1))) (nrm (codeW 8#32 (C 2)) (U 9 0) (U 9 1))) (nrm (codeW 16#32 (C 2)) (U 10 0) (U 10 1))) (nrm (codeW 24#32 (C 2)) (U 11 0) (U 11 1)))

/-- The summed squared lengths of the centroids that 128 columns name. -/
def hn (C : Nat → Vec F S32x128 .i8) (U : Nat → Nat → Vec F S1x1x8x128 .f32) : FVec F S1x128 .f32 :=
  shapeCast S1x128 (multiReduction .add [0] S128 (hs C U) 0x00000000#32 reduces_S8x128_S128 (.inl rfl) rfl) shapeCasts_S128_S1x128

/-- The scores of 256 columns. -/
def chunk (xp : Vec F S224x1536 .bf16) (xn : Vec F S224x128 .f32) (T : Nat → Nat → Nat → Vec F S1x1x1x8x128 .i32)
    (U : Nat → Nat → Vec F S1x1x8x128 .f32) (C C' : Nat → Vec F S32x128 .i8) : FVec F S224x256 .bf16 :=
  truncf .bf16 (addf (addf (matmul dot_S224x1536_S1536x256_S224x256_1_0_0_1_n_n none (shapeCast S224x1536 xp shapeCasts_S224x1536_S224x1536)
      (concatenate S1536x256 1 [⟨S1536x128, hd C T⟩, ⟨S1536x128, hd C' T⟩] concatenates_S1536x128_S1536x128_S1536x256_d1)
      (constant S224x256 .f32 0x00000000#32))
    (broadcastTo S224x256 (concatenate S1x256 1 [⟨S1x128, hn C U⟩, ⟨S1x128, hn C' U⟩] concatenates_S1x128_S1x128_S1x256_d1) broadcasts_S1x256_S224x256))
    (concatenate S224x256 1 [⟨S224x128, xn⟩, ⟨S224x128, xn⟩] concatenates_S224x128_S224x128_S224x256_d1)) bitsLt_bf16_f32

/-- The word table's load of group `g`, word `w`, half `h`. -/
def ldT (TBL : Vec F S12x4x2x8x128 .i32) (g w h : Nat) : Vec F S1x1x1x8x128 .i32 := slc TBL pos9 ![g, w, h, 0, 0] S1x1x1x8x128.size
/-- The squared lengths' load of group `g`, half `h`. -/
def ldU (CNT : Vec F S12x2x8x128 .f32) (g h : Nat) : Vec F S1x1x8x128 .f32 := slc CNT pos11 ![g, h, 0, 0] S1x1x8x128.size
/-- The codes' load of 32 subspaces from column `n` on. -/
def ldC (x4 : Vec F S96x1024 .i8) (n s : Nat) : Vec F S32x128 .i8 := slc x4 pos5 ![s * 32, n] S32x128.size

/-- The scores of the `c`-th 256 columns of a block. -/
def chunkAt (xp : Vec F S224x1536 .bf16) (xn : Vec F S224x128 .f32) (TBL : Vec F S12x4x2x8x128 .i32) (CNT : Vec F S12x2x8x128 .f32)
    (x4 : Vec F S96x1024 .i8) (n n' : Nat) : FVec F S224x256 .bf16 :=
  chunk xp xn (ldT TBL) (ldU CNT) (ldC x4 n) (ldC x4 n')

/-- One row of `x`, for each of 8 subspaces with the other subspaces' lanes zeroed. -/
def lrow (r : Vec F S1x1x1x128 .f32) : FVec F S8x128 .f32 :=
  select k0_pay1230 (broadcastTo S8x128 (shapeCast S1x128 (shapeCast S1x128 r shapeCasts_S1x1x1x128_S1x128) shapeCasts_S1x128_S1x128) broadcasts_S1x128_S8x128)
    (broadcast S8x128 (Scalar.ofBits .f32 0x00000000#32 : F .f32))

/-- The squared length of each subspace of one row of `x`. -/
def lnorm (r : Vec F S1x1x1x128 .f32) : FVec F S8x1 .f32 :=
  shapeCast S8x1 (multiReduction .add [1] S8 (mulf (lrow r) (lrow r)) 0x00000000#32 reduces_S8x128_S8 (.inl rfl) rfl) shapeCasts_S8_S8x1

/-- The products of 28 rows of `x`, subspace by subspace, with the codebook. -/
def ldot (R : Nat → Vec F S1x1x1x128 .f32) (ct : Vec F S128x256 .i8) : FVec F S224x256 .f32 :=
  matmul dot_S224x128_S128x256_S224x256_1_0_0_1_n_n none
    (truncf .bf16 (concatenate S224x128 0 [⟨S8x128, lrow (R 0)⟩, ⟨S8x128, lrow (R 1)⟩, ⟨S8x128, lrow (R 2)⟩, ⟨S8x128, lrow (R 3)⟩, ⟨S8x128, lrow (R 4)⟩, ⟨S8x128, lrow (R 5)⟩, ⟨S8x128, lrow (R 6)⟩, ⟨S8x128, lrow (R 7)⟩, ⟨S8x128, lrow (R 8)⟩, ⟨S8x128, lrow (R 9)⟩, ⟨S8x128, lrow (R 10)⟩, ⟨S8x128, lrow (R 11)⟩, ⟨S8x128, lrow (R 12)⟩, ⟨S8x128, lrow (R 13)⟩, ⟨S8x128, lrow (R 14)⟩, ⟨S8x128, lrow (R 15)⟩, ⟨S8x128, lrow (R 16)⟩, ⟨S8x128, lrow (R 17)⟩, ⟨S8x128, lrow (R 18)⟩, ⟨S8x128, lrow (R 19)⟩, ⟨S8x128, lrow (R 20)⟩, ⟨S8x128, lrow (R 21)⟩, ⟨S8x128, lrow (R 22)⟩, ⟨S8x128, lrow (R 23)⟩, ⟨S8x128, lrow (R 24)⟩, ⟨S8x128, lrow (R 25)⟩, ⟨S8x128, lrow (R 26)⟩, ⟨S8x128, lrow (R 27)⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S224x128_d0) bitsLt_bf16_f32)
    (bitcastToFloat .fp8e4m3 (shapeCast S128x256 ct shapeCasts_S128x256_S128x256)) (constant S224x256 .f32 0x00000000#32)

/-- The table's row `q` of the 28 that one grid point writes. -/
def trow (R : Nat → Vec F S1x1x1x128 .f32) (ct : Vec F S128x256 .i8) (sc : Vec F S8x1 .f32) (c0 c1 : Vec F S1x8x128 .f32) (q o : Nat)
    (h : S224x256.Slices ![o, 0] S8x256) : FVec F S1x8x256 .f32 :=
  shapeCast S1x8x256 (subf (addf (broadcastTo S8x256 (lnorm (R q)) broadcasts_S8x1_S8x256)
      (concatenate S8x256 1 [⟨S8x128, shapeCast S8x128 c0 shapeCasts_S1x8x128_S8x128⟩, ⟨S8x128, shapeCast S8x128 c1 shapeCasts_S1x8x128_S8x128⟩] concatenates_S8x128_S8x128_S8x256_d1))
    (mulf (broadcast S8x256 (Scalar.ofBits .f32 0x40000000#32 : F .f32))
      (mulf (extractStridedSlice S8x256 ![o, 0] (ldot R ct) h) (broadcastTo S8x256 (shapeCast S8x1 sc shapeCasts_S8x1_S8x1) broadcasts_S8x1_S8x256)))) shapeCasts_S8x256_S1x8x256

/-- The load of row `q` of the part of `x` that the grid point `n` takes. -/
def ldX (XF : Vec F S12x8x28x128 .f32) (n q : Nat) : Vec F S1x1x1x128 .f32 := slc XF pos13 ![n / 8, n % 8, q, 0] S1x1x1x128.size

/-- The table's row `q` at grid point `n`. -/
def trowAt (XF : Vec F S12x8x28x128 .f32) (x2 : Vec F S1536x256 .i8) (x3 : Vec F S96x1 .f32) (CN : Vec F S2x96x128 .f32) (n q o : Nat)
    (h : S224x256.Slices ![o, 0] S8x256) : FVec F S1x8x256 .f32 :=
  trow (ldX XF n) (slc x2 pos3 ![n / 8 * 128, 0] S128x256.size) (slc x3 pos4 ![n / 8 * 8, 0] S8x1.size)
    (slc CN pos10 ![0, n / 8 * 8, 0] S1x8x128.size) (slc CN pos10 ![1, n / 8 * 8, 0] S1x8x128.size) q o h

/-- The grid point `n`. -/
def pt (n : Fin 96) : grid0.Coords := fun a => ⟨n.val, by have h := n.isLt; fin_cases a; exact h⟩

theorem off1_eq (i : grid0.Coords) : k0_off1 i = ![(i 0).val / 8, (i 0).val % 8, 0, 0] :=
  (by decide +kernel : ∀ n : Fin 96, k0_off1 (pt n) = ![n.val / 8, n.val % 8, 0, 0]) (i 0)
instance (i : grid0.Coords) : ClosedOff (k0_off1 i) := ⟨_, off1_eq i⟩
theorem off2_eq (i : grid0.Coords) : k0_off2 i = ![(i 0).val / 8, (i 0).val % 8, 1, 0] :=
  (by decide +kernel : ∀ n : Fin 96, k0_off2 (pt n) = ![n.val / 8, n.val % 8, 1, 0]) (i 0)
instance (i : grid0.Coords) : ClosedOff (k0_off2 i) := ⟨_, off2_eq i⟩
theorem off3_eq (i : grid0.Coords) : k0_off3 i = ![(i 0).val / 8, (i 0).val % 8, 2, 0] :=
  (by decide +kernel : ∀ n : Fin 96, k0_off3 (pt n) = ![n.val / 8, n.val % 8, 2, 0]) (i 0)
instance (i : grid0.Coords) : ClosedOff (k0_off3 i) := ⟨_, off3_eq i⟩
theorem off4_eq (i : grid0.Coords) : k0_off4 i = ![(i 0).val / 8, (i 0).val % 8, 3, 0] :=
  (by decide +kernel : ∀ n : Fin 96, k0_off4 (pt n) = ![n.val / 8, n.val % 8, 3, 0]) (i 0)
instance (i : grid0.Coords) : ClosedOff (k0_off4 i) := ⟨_, off4_eq i⟩
theorem off5_eq (i : grid0.Coords) : k0_off5 i = ![(i 0).val / 8, (i 0).val % 8, 4, 0] :=
  (by decide +kernel : ∀ n : Fin 96, k0_off5 (pt n) = ![n.val / 8, n.val % 8, 4, 0]) (i 0)
instance (i : grid0.Coords) : ClosedOff (k0_off5 i) := ⟨_, off5_eq i⟩
theorem off6_eq (i : grid0.Coords) : k0_off6 i = ![(i 0).val / 8, (i 0).val % 8, 5, 0] :=
  (by decide +kernel : ∀ n : Fin 96, k0_off6 (pt n) = ![n.val / 8, n.val % 8, 5, 0]) (i 0)
instance (i : grid0.Coords) : ClosedOff (k0_off6 i) := ⟨_, off6_eq i⟩
theorem off7_eq (i : grid0.Coords) : k0_off7 i = ![(i 0).val / 8, (i 0).val % 8, 6, 0] :=
  (by decide +kernel : ∀ n : Fin 96, k0_off7 (pt n) = ![n.val / 8, n.val % 8, 6, 0]) (i 0)
instance (i : grid0.Coords) : ClosedOff (k0_off7 i) := ⟨_, off7_eq i⟩
theorem off8_eq (i : grid0.Coords) : k0_off8 i = ![(i 0).val / 8, (i 0).val % 8, 7, 0] :=
  (by decide +kernel : ∀ n : Fin 96, k0_off8 (pt n) = ![n.val / 8, n.val % 8, 7, 0]) (i 0)
instance (i : grid0.Coords) : ClosedOff (k0_off8 i) := ⟨_, off8_eq i⟩
theorem off9_eq (i : grid0.Coords) : k0_off9 i = ![(i 0).val / 8, (i 0).val % 8, 8, 0] :=
  (by decide +kernel : ∀ n : Fin 96, k0_off9 (pt n) = ![n.val / 8, n.val % 8, 8, 0]) (i 0)
instance (i : grid0.Coords) : ClosedOff (k0_off9 i) := ⟨_, off9_eq i⟩
theorem off10_eq (i : grid0.Coords) : k0_off10 i = ![(i 0).val / 8, (i 0).val % 8, 9, 0] :=
  (by decide +kernel : ∀ n : Fin 96, k0_off10 (pt n) = ![n.val / 8, n.val % 8, 9, 0]) (i 0)
instance (i : grid0.Coords) : ClosedOff (k0_off10 i) := ⟨_, off10_eq i⟩
theorem off11_eq (i : grid0.Coords) : k0_off11 i = ![(i 0).val / 8, (i 0).val % 8, 10, 0] :=
  (by decide +kernel : ∀ n : Fin 96, k0_off11 (pt n) = ![n.val / 8, n.val % 8, 10, 0]) (i 0)
instance (i : grid0.Coords) : ClosedOff (k0_off11 i) := ⟨_, off11_eq i⟩
theorem off12_eq (i : grid0.Coords) : k0_off12 i = ![(i 0).val / 8, (i 0).val % 8, 11, 0] :=
  (by decide +kernel : ∀ n : Fin 96, k0_off12 (pt n) = ![n.val / 8, n.val % 8, 11, 0]) (i 0)
instance (i : grid0.Coords) : ClosedOff (k0_off12 i) := ⟨_, off12_eq i⟩
theorem off13_eq (i : grid0.Coords) : k0_off13 i = ![(i 0).val / 8, (i 0).val % 8, 12, 0] :=
  (by decide +kernel : ∀ n : Fin 96, k0_off13 (pt n) = ![n.val / 8, n.val % 8, 12, 0]) (i 0)
instance (i : grid0.Coords) : ClosedOff (k0_off13 i) := ⟨_, off13_eq i⟩
theorem off14_eq (i : grid0.Coords) : k0_off14 i = ![(i 0).val / 8, (i 0).val % 8, 13, 0] :=
  (by decide +kernel : ∀ n : Fin 96, k0_off14 (pt n) = ![n.val / 8, n.val % 8, 13, 0]) (i 0)
instance (i : grid0.Coords) : ClosedOff (k0_off14 i) := ⟨_, off14_eq i⟩
theorem off15_eq (i : grid0.Coords) : k0_off15 i = ![(i 0).val / 8, (i 0).val % 8, 14, 0] :=
  (by decide +kernel : ∀ n : Fin 96, k0_off15 (pt n) = ![n.val / 8, n.val % 8, 14, 0]) (i 0)
instance (i : grid0.Coords) : ClosedOff (k0_off15 i) := ⟨_, off15_eq i⟩
theorem off16_eq (i : grid0.Coords) : k0_off16 i = ![(i 0).val / 8, (i 0).val % 8, 15, 0] :=
  (by decide +kernel : ∀ n : Fin 96, k0_off16 (pt n) = ![n.val / 8, n.val % 8, 15, 0]) (i 0)
instance (i : grid0.Coords) : ClosedOff (k0_off16 i) := ⟨_, off16_eq i⟩
theorem off17_eq (i : grid0.Coords) : k0_off17 i = ![(i 0).val / 8, (i 0).val % 8, 16, 0] :=
  (by decide +kernel : ∀ n : Fin 96, k0_off17 (pt n) = ![n.val / 8, n.val % 8, 16, 0]) (i 0)
instance (i : grid0.Coords) : ClosedOff (k0_off17 i) := ⟨_, off17_eq i⟩
theorem off18_eq (i : grid0.Coords) : k0_off18 i = ![(i 0).val / 8, (i 0).val % 8, 17, 0] :=
  (by decide +kernel : ∀ n : Fin 96, k0_off18 (pt n) = ![n.val / 8, n.val % 8, 17, 0]) (i 0)
instance (i : grid0.Coords) : ClosedOff (k0_off18 i) := ⟨_, off18_eq i⟩
theorem off19_eq (i : grid0.Coords) : k0_off19 i = ![(i 0).val / 8, (i 0).val % 8, 18, 0] :=
  (by decide +kernel : ∀ n : Fin 96, k0_off19 (pt n) = ![n.val / 8, n.val % 8, 18, 0]) (i 0)
instance (i : grid0.Coords) : ClosedOff (k0_off19 i) := ⟨_, off19_eq i⟩
theorem off20_eq (i : grid0.Coords) : k0_off20 i = ![(i 0).val / 8, (i 0).val % 8, 19, 0] :=
  (by decide +kernel : ∀ n : Fin 96, k0_off20 (pt n) = ![n.val / 8, n.val % 8, 19, 0]) (i 0)
instance (i : grid0.Coords) : ClosedOff (k0_off20 i) := ⟨_, off20_eq i⟩
theorem off21_eq (i : grid0.Coords) : k0_off21 i = ![(i 0).val / 8, (i 0).val % 8, 20, 0] :=
  (by decide +kernel : ∀ n : Fin 96, k0_off21 (pt n) = ![n.val / 8, n.val % 8, 20, 0]) (i 0)
instance (i : grid0.Coords) : ClosedOff (k0_off21 i) := ⟨_, off21_eq i⟩
theorem off22_eq (i : grid0.Coords) : k0_off22 i = ![(i 0).val / 8, (i 0).val % 8, 21, 0] :=
  (by decide +kernel : ∀ n : Fin 96, k0_off22 (pt n) = ![n.val / 8, n.val % 8, 21, 0]) (i 0)
instance (i : grid0.Coords) : ClosedOff (k0_off22 i) := ⟨_, off22_eq i⟩
theorem off23_eq (i : grid0.Coords) : k0_off23 i = ![(i 0).val / 8, (i 0).val % 8, 22, 0] :=
  (by decide +kernel : ∀ n : Fin 96, k0_off23 (pt n) = ![n.val / 8, n.val % 8, 22, 0]) (i 0)
instance (i : grid0.Coords) : ClosedOff (k0_off23 i) := ⟨_, off23_eq i⟩
theorem off24_eq (i : grid0.Coords) : k0_off24 i = ![(i 0).val / 8, (i 0).val % 8, 23, 0] :=
  (by decide +kernel : ∀ n : Fin 96, k0_off24 (pt n) = ![n.val / 8, n.val % 8, 23, 0]) (i 0)
instance (i : grid0.Coords) : ClosedOff (k0_off24 i) := ⟨_, off24_eq i⟩
theorem off25_eq (i : grid0.Coords) : k0_off25 i = ![(i 0).val / 8, (i 0).val % 8, 24, 0] :=
  (by decide +kernel : ∀ n : Fin 96, k0_off25 (pt n) = ![n.val / 8, n.val % 8, 24, 0]) (i 0)
instance (i : grid0.Coords) : ClosedOff (k0_off25 i) := ⟨_, off25_eq i⟩
theorem off26_eq (i : grid0.Coords) : k0_off26 i = ![(i 0).val / 8, (i 0).val % 8, 25, 0] :=
  (by decide +kernel : ∀ n : Fin 96, k0_off26 (pt n) = ![n.val / 8, n.val % 8, 25, 0]) (i 0)
instance (i : grid0.Coords) : ClosedOff (k0_off26 i) := ⟨_, off26_eq i⟩
theorem off27_eq (i : grid0.Coords) : k0_off27 i = ![(i 0).val / 8, (i 0).val % 8, 26, 0] :=
  (by decide +kernel : ∀ n : Fin 96, k0_off27 (pt n) = ![n.val / 8, n.val % 8, 26, 0]) (i 0)
instance (i : grid0.Coords) : ClosedOff (k0_off27 i) := ⟨_, off27_eq i⟩
theorem off28_eq (i : grid0.Coords) : k0_off28 i = ![(i 0).val / 8, (i 0).val % 8, 27, 0] :=
  (by decide +kernel : ∀ n : Fin 96, k0_off28 (pt n) = ![n.val / 8, n.val % 8, 27, 0]) (i 0)
instance (i : grid0.Coords) : ClosedOff (k0_off28 i) := ⟨_, off28_eq i⟩
theorem off29_eq (i : grid0.Coords) : k0_off29 i = ![(i 0).val / 8 * 128, 0] :=
  (by decide +kernel : ∀ n : Fin 96, k0_off29 (pt n) = ![n.val / 8 * 128, 0]) (i 0)
instance (i : grid0.Coords) : ClosedOff (k0_off29 i) := ⟨_, off29_eq i⟩
theorem off30_eq (i : grid0.Coords) : k0_off30 i = ![(i 0).val / 8 * 8, 0] :=
  (by decide +kernel : ∀ n : Fin 96, k0_off30 (pt n) = ![n.val / 8 * 8, 0]) (i 0)
instance (i : grid0.Coords) : ClosedOff (k0_off30 i) := ⟨_, off30_eq i⟩
theorem off31_eq (i : grid0.Coords) : k0_off31 i = ![0, (i 0).val / 8 * 8, 0] :=
  (by decide +kernel : ∀ n : Fin 96, k0_off31 (pt n) = ![0, n.val / 8 * 8, 0]) (i 0)
instance (i : grid0.Coords) : ClosedOff (k0_off31 i) := ⟨_, off31_eq i⟩
theorem off32_eq (i : grid0.Coords) : k0_off32 i = ![1, (i 0).val / 8 * 8, 0] :=
  (by decide +kernel : ∀ n : Fin 96, k0_off32 (pt n) = ![1, n.val / 8 * 8, 0]) (i 0)
instance (i : grid0.Coords) : ClosedOff (k0_off32 i) := ⟨_, off32_eq i⟩

theorem readAt_slc {κ : Kind} {sp : Space} {s : Shape} {e : EltTy} (M : Memref sig κ sp s e) (h : M.IsWhole) (X : s.Idx → Elt F e) (hs : ∀ a, 0 < s.size a)
    (o size : Fin s.rank → Nat) (inb : ∀ a, o a + size a ≤ s.size a) :
    M.view.readAt (Elt F) (Rect.unit o size inb).toLoadRect (h.unread X) = slc X hs o size := by
  funext j
  show M.view.read (Elt F) (h.unread X) _ = _
  rw [h.read_unread]
  unfold slc
  congr 1
  funext a
  apply Fin.ext
  show o a + 1 * (j a).val = (o a + (j a).val) % s.size a
  have h1 : (j a).val < size a := (j a).isLt
  have h2 := inb a
  rw [Nat.mod_eq_of_lt (by omega)]; omega

theorem readAt_slc_of {κ : Kind} {sp : Space} {s : Shape} {e : EltTy} (M : Memref sig κ sp s e) (h : M.IsWhole) (X : s.Idx → Elt F e) (hs : ∀ a, 0 < s.size a)
    (o o' size : Fin s.rank → Nat) (inb : ∀ a, o a + size a ≤ s.size a) (ho : o = o') :
    M.view.readAt (Elt F) (Rect.unit o size inb).toLoadRect (h.unread X) = slc X hs o' size := by
  subst ho; exact readAt_slc M h X hs o size inb

theorem readAt_all2 {κ : Kind} {sp : Space} {m n : Nat} {e : EltTy} (M : Memref sig κ sp ⟨2, ![m, n]⟩ e) (h : M.IsWhole) (X : (⟨2, ![m, n]⟩ : Shape).Idx → Elt F e)
    (inb : ∀ a, (![0, 0] : Fin 2 → Nat) a + (![m, n] : Fin 2 → Nat) a ≤ (![m, n] : Fin 2 → Nat) a) :
    M.view.readAt (Elt F) (Rect.unit ![0, 0] ![m, n] inb).toLoadRect (h.unread X) = X := by
  funext j
  show M.view.read (Elt F) (h.unread X) _ = _
  rw [h.read_unread]
  congr 1
  funext a
  apply Fin.ext
  fin_cases a
  · show 0 + 1 * (j 0).val = (j 0).val; omega
  · show 0 + 1 * (j 1).val = (j 1).val; omega

/-- What one grid point leaves in the block of scores. -/
def scB (x0 : Vec F S224x1536 .bf16) (x4 : Vec F S96x1024 .i8) (TBL : Vec F S12x4x2x8x128 .i32) (CNT : Vec F S12x2x8x128 .f32) (XN : Vec F S224x128 .f32) : Vec F S224x1024 .bf16 :=
  fun j => chunkAt x0 XN TBL CNT x4 ((j 1).val / 256 * 256) ((j 1).val / 256 * 256 + 128) (ix2 (j 0) ⟨(j 1).val % 256, Nat.mod_lt _ (by decide)⟩)

theorem scB_piece (x0 : Vec F S224x1536 .bf16) (x4 : Vec F S96x1024 .i8) (TBL : Vec F S12x4x2x8x128 .i32) (CNT : Vec F S12x2x8x128 .f32) (XN : Vec F S224x128 .f32)
    (c n n' : Nat) (hn : n = c * 256) (hn' : n' = c * 256 + 128) (inb : ∀ a, (![0, n] : Fin 2 → Nat) a + S224x256.size a ≤ S224x1024.size a) (x : S224x256.Idx) :
    chunkAt x0 XN TBL CNT x4 n n' x = scB x0 x4 TBL CNT XN ((Rect.unit (s := S224x1024) ![0, n] S224x256.size inb).emb x) := by
  have h1 : (x 1).val < 256 := (x 1).isLt
  have e1 : (((Rect.unit (s := S224x1024) ![0, n] S224x256.size inb).emb x) 1).val = n + 1 * (x 1).val := rfl
  unfold scB
  have ed : (((Rect.unit (s := S224x1024) ![0, n] S224x256.size inb).emb x) 1).val / 256 = c := by rw [e1]; omega
  have em : (((Rect.unit (s := S224x1024) ![0, n] S224x256.size inb).emb x) 1).val % 256 = (x 1).val := by rw [e1]; omega
  simp only [ed, em, hn, hn']
  congr 1
  funext a
  fin_cases a
  · apply Fin.ext; show (x 0).val = 0 + 1 * (x 0).val; omega
  · rfl

theorem slices_T (o : Nat) (h : o ≤ 216) : S224x256.Slices ![o, 0] S8x256 := ⟨rfl, fun a => by fin_cases a <;> (simp [S224x256, S8x256]; try omega)⟩

/-- What one grid point leaves in the block of the table. -/
def tB (x2 : Vec F S1536x256 .i8) (x3 : Vec F S96x1 .f32) (CN : Vec F S2x96x128 .f32) (XF : Vec F S12x8x28x128 .f32) (n : Nat) : Vec F S28x8x256 .f32 :=
  fun j => trowAt XF x2 x3 CN n (j 0).val ((j 0).val * 8) (slices_T _ (by have h : (j 0).val < 28 := (j 0).isLt; omega)) (ix3 (0 : Fin 1) (j 1) (j 2))

theorem tB_piece (x2 : Vec F S1536x256 .i8) (x3 : Vec F S96x1 .f32) (CN : Vec F S2x96x128 .f32) (XF : Vec F S12x8x28x128 .f32) (n q o : Nat) (ho : o = q * 8) (h : S224x256.Slices ![o, 0] S8x256)
    (inb : ∀ a, (![q, 0, 0] : Fin 3 → Nat) a + S1x8x256.size a ≤ S28x8x256.size a) (x : S1x8x256.Idx) :
    trowAt XF x2 x3 CN n q o h x = tB x2 x3 CN XF n ((Rect.unit (s := S28x8x256) ![q, 0, 0] S1x8x256.size inb).emb x) := by
  subst ho
  have h0 : (x 0).val < 1 := (x 0).isLt
  have e0 : (((Rect.unit (s := S28x8x256) ![q, 0, 0] S1x8x256.size inb).emb x) 0).val = q + 1 * (x 0).val := rfl
  have e0' : (((Rect.unit (s := S28x8x256) ![q, 0, 0] S1x8x256.size inb).emb x) 0).val = q := by rw [e0]; omega
  unfold tB
  simp only [e0']
  congr 1
  funext a
  fin_cases a
  · apply Fin.ext; show (x 0).val = 0; omega
  · apply Fin.ext; show (x 1).val = 0 + 1 * (x 1).val; omega
  · apply Fin.ext; show (x 2).val = 0 + 1 * (x 2).val; omega

end Cert.KernelIdeal.Gen

end
-- ==== Proof.KCut.lean ====
/- The body's first region, which the first grid point alone runs, and the rest of it, as two programs. -/
module

public import proofs.«01_k».proof.Proof.KSpec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region that fills the scratch buffers. -/
def initP (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) PUnit := do
  let ⟨v7505, v7508, v7523⟩ : Σ' (v7505 : FVec F S96x256 .f32) (v7508 : IVec S384x256 32), IVec S8x128 32 ← k0_part1 i arg1 harg1 arg2 harg2 arg3 harg3 arg4 harg4 arg5 harg5 arg6 harg6 arg7 harg7 arg8 harg8 arg9 harg9 arg10 harg10 arg11 harg11 arg12 harg12 arg13 harg13
  let v7546 : IVec S1x1x1x8x128 32 ← k0_part2 i arg1 harg1 arg2 harg2 arg3 harg3 arg4 harg4 arg5 harg5 arg6 harg6 arg7 harg7 arg8 harg8 arg9 harg9 arg10 harg10 arg11 harg11 arg12 harg12 arg13 harg13 v7523
  let v7567 : Vec F S1x8x128 .i32 ← k0_part3 i arg1 harg1 arg2 harg2 arg3 harg3 arg4 harg4 arg5 harg5 arg6 harg6 arg7 harg7 arg8 harg8 arg9 harg9 arg10 harg10 arg11 harg11 arg12 harg12 arg13 harg13 v7546
  let v7588 : FVec F S8x128 .f32 ← k0_part4 i arg1 harg1 arg2 harg2 arg3 harg3 arg4 harg4 arg5 harg5 arg6 harg6 arg7 harg7 arg8 harg8 arg9 harg9 arg10 harg10 arg11 harg11 arg12 harg12 arg13 harg13 v7567
  let v7611 : IVec S1x1x1x8x128 32 ← k0_part5 i arg1 harg1 arg2 harg2 arg3 harg3 arg4 harg4 arg5 harg5 arg6 harg6 arg7 harg7 arg8 harg8 arg9 harg9 arg10 harg10 arg11 harg11 arg12 harg12 arg13 harg13 v7588
  let v7632 : Vec F S1x8x128 .i32 ← k0_part6 i arg1 harg1 arg2 harg2 arg3 harg3 arg4 harg4 arg5 harg5 arg6 harg6 arg7 harg7 arg8 harg8 arg9 harg9 arg10 harg10 arg11 harg11 arg12 harg12 arg13 harg13 v7611
  let v7653 : IVec S8x128 32 ← k0_part7 i arg1 harg1 arg2 harg2 arg3 harg3 arg4 harg4 arg5 harg5 arg6 harg6 arg7 harg7 arg8 harg8 arg9 harg9 arg10 harg10 arg11 harg11 arg12 harg12 arg13 harg13 v7632
  k0_part8 i arg1 harg1 arg2 harg2 arg3 harg3 arg4 harg4 arg5 harg5 arg6 harg6 arg7 harg7 arg8 harg8 arg9 harg9 arg10 harg10 arg11 harg11 arg12 harg12 arg13 harg13 v7653
  let v7698 : IVec S8x128 32 ← k0_part9 i arg1 harg1 arg2 harg2 arg3 harg3 arg4 harg4 arg5 harg5 arg6 harg6 arg7 harg7 arg8 harg8 arg9 harg9 arg10 harg10 arg11 harg11 arg12 harg12 arg13 harg13
  let v7718 : IVec S8x128 32 ← k0_part10 i arg1 harg1 arg2 harg2 arg3 harg3 arg4 harg4 arg5 harg5 arg6 harg6 arg7 harg7 arg8 harg8 arg9 harg9 arg10 harg10 arg11 harg11 arg12 harg12 arg13 harg13 v7698
  k0_part11 i arg1 harg1 arg2 harg2 arg3 harg3 arg4 harg4 arg5 harg5 arg6 harg6 arg7 harg7 arg8 harg8 arg9 harg9 arg10 harg10 arg11 harg11 arg12 harg12 arg13 harg13 v7718
  let v7763 : FVec F S8x128 .f32 ← k0_part12 i arg1 harg1 arg2 harg2 arg3 harg3 arg4 harg4 arg5 harg5 arg6 harg6 arg7 harg7 arg8 harg8 arg9 harg9 arg10 harg10 arg11 harg11 arg12 harg12 arg13 harg13
  let v7783 : IVec S8x128 32 ← k0_part13 i arg1 harg1 arg2 harg2 arg3 harg3 arg4 harg4 arg5 harg5 arg6 harg6 arg7 harg7 arg8 harg8 arg9 harg9 arg10 harg10 arg11 harg11 arg12 harg12 arg13 harg13 v7763
  k0_part14 i arg1 harg1 arg2 harg2 arg3 harg3 arg4 harg4 arg5 harg5 arg6 harg6 arg7 harg7 arg8 harg8 arg9 harg9 arg10 harg10 arg11 harg11 arg12 harg12 arg13 harg13 v7783
  let v7830 : Vec F S1x8x128 .i32 ← k0_part15 i arg1 harg1 arg2 harg2 arg3 harg3 arg4 harg4 arg5 harg5 arg6 harg6 arg7 harg7 arg8 harg8 arg9 harg9 arg10 harg10 arg11 harg11 arg12 harg12 arg13 harg13 v7505 v7508
  let v7851 : IVec S8x128 32 ← k0_part16 i arg1 harg1 arg2 harg2 arg3 harg3 arg4 harg4 arg5 harg5 arg6 harg6 arg7 harg7 arg8 harg8 arg9 harg9 arg10 harg10 arg11 harg11 arg12 harg12 arg13 harg13 v7830
  k0_part17 i arg1 harg1 arg2 harg2 arg3 harg3 arg4 harg4 arg5 harg5 arg6 harg6 arg7 harg7 arg8 harg8 arg9 harg9 arg10 harg10 arg11 harg11 arg12 harg12 arg13 harg13 v7851
  let v7895 : Vec F S1x8x128 .f32 ← k0_part18 i arg1 harg1 arg2 harg2 arg3 harg3 arg4 harg4 arg5 harg5 arg6 harg6 arg7 harg7 arg8 harg8 arg9 harg9 arg10 harg10 arg11 harg11 arg12 harg12 arg13 harg13
  let v7916 : IVec S8x128 32 ← k0_part19 i arg1 harg1 arg2 harg2 arg3 harg3 arg4 harg4 arg5 harg5 arg6 harg6 arg7 harg7 arg8 harg8 arg9 harg9 arg10 harg10 arg11 harg11 arg12 harg12 arg13 harg13 v7895
  k0_part20 i arg1 harg1 arg2 harg2 arg3 harg3 arg4 harg4 arg5 harg5 arg6 harg6 arg7 harg7 arg8 harg8 arg9 harg9 arg10 harg10 arg11 harg11 arg12 harg12 arg13 harg13 v7916
  let v7961 : IVec S8x128 32 ← k0_part21 i arg1 harg1 arg2 harg2 arg3 harg3 arg4 harg4 arg5 harg5 arg6 harg6 arg7 harg7 arg8 harg8 arg9 harg9 arg10 harg10 arg11 harg11 arg12 harg12 arg13 harg13
  let v7981 : IVec S8x128 32 ← k0_part22 i arg1 harg1 arg2 harg2 arg3 harg3 arg4 harg4 arg5 harg5 arg6 harg6 arg7 harg7 arg8 harg8 arg9 harg9 arg10 harg10 arg11 harg11 arg12 harg12 arg13 harg13 v7961
  k0_part23 i arg1 harg1 arg2 harg2 arg3 harg3 arg4 harg4 arg5 harg5 arg6 harg6 arg7 harg7 arg8 harg8 arg9 harg9 arg10 harg10 arg11 harg11 arg12 harg12 arg13 harg13 v7981
  let v8026 : IVec S8x128 32 ← k0_part24 i arg1 harg1 arg2 harg2 arg3 harg3 arg4 harg4 arg5 harg5 arg6 harg6 arg7 harg7 arg8 harg8 arg9 harg9 arg10 harg10 arg11 harg11 arg12 harg12 arg13 harg13
  let ⟨v8046, v8047⟩ : Σ' (v8046 : FVec F S8x128 .f32), Vec F S1x1x8x128 .f32 ← k0_part25 i arg1 harg1 arg2 harg2 arg3 harg3 arg4 harg4 arg5 harg5 arg6 harg6 arg7 harg7 arg8 harg8 arg9 harg9 arg10 harg10 arg11 harg11 arg12 harg12 arg13 harg13 v8026
  k0_part26 i arg1 harg1 arg2 harg2 arg3 harg3 arg4 harg4 arg5 harg5 arg6 harg6 arg7 harg7 arg8 harg8 arg9 harg9 arg10 harg10 arg11 harg11 arg12 harg12 arg13 harg13 v8046 v8047
  let v8091 : IVec S8x128 32 ← k0_part27 i arg1 harg1 arg2 harg2 arg3 harg3 arg4 harg4 arg5 harg5 arg6 harg6 arg7 harg7 arg8 harg8 arg9 harg9 arg10 harg10 arg11 harg11 arg12 harg12 arg13 harg13
  let ⟨v8111, v8112⟩ : Σ' (v8111 : IVec S8x128 32), Vec F S1x1x1x8x128 .i32 ← k0_part28 i arg1 harg1 arg2 harg2 arg3 harg3 arg4 harg4 arg5 harg5 arg6 harg6 arg7 harg7 arg8 harg8 arg9 harg9 arg10 harg10 arg11 harg11 arg12 harg12 arg13 harg13 v8091
  let ⟨v8126, v8138⟩ : Σ' (v8126 : FVec F S224x1536 .f32), FVec F S1x1x28x128 .f32 ← k0_part29 i arg1 harg1 arg2 harg2 arg3 harg3 arg4 harg4 arg5 harg5 arg6 harg6 arg7 harg7 arg8 harg8 arg9 harg9 arg10 harg10 arg11 harg11 arg12 harg12 arg13 harg13 v8111 v8112
  let v8163 : FVec F S28x128 .f32 ← k0_part30 i arg1 harg1 arg2 harg2 arg3 harg3 arg4 harg4 arg5 harg5 arg6 harg6 arg7 harg7 arg8 harg8 arg9 harg9 arg10 harg10 arg11 harg11 arg12 harg12 arg13 harg13 v8126 v8138
  let v8191 : FVec F S28x128 .f32 ← k0_part31 i arg1 harg1 arg2 harg2 arg3 harg3 arg4 harg4 arg5 harg5 arg6 harg6 arg7 harg7 arg8 harg8 arg9 harg9 arg10 harg10 arg11 harg11 arg12 harg12 arg13 harg13 v8126 v8163
  let v8218 : FVec F S1x1x28x128 .f32 ← k0_part32 i arg1 harg1 arg2 harg2 arg3 harg3 arg4 harg4 arg5 harg5 arg6 harg6 arg7 harg7 arg8 harg8 arg9 harg9 arg10 harg10 arg11 harg11 arg12 harg12 arg13 harg13 v8126 v8191
  let v8243 : FVec F S28x128 .f32 ← k0_part33 i arg1 harg1 arg2 harg2 arg3 harg3 arg4 harg4 arg5 harg5 arg6 harg6 arg7 harg7 arg8 harg8 arg9 harg9 arg10 harg10 arg11 harg11 arg12 harg12 arg13 harg13 v8126 v8218
  let v8271 : FVec F S28x128 .f32 ← k0_part34 i arg1 harg1 arg2 harg2 arg3 harg3 arg4 harg4 arg5 harg5 arg6 harg6 arg7 harg7 arg8 harg8 arg9 harg9 arg10 harg10 arg11 harg11 arg12 harg12 arg13 harg13 v8126 v8243
  let v8298 : FVec F S1x1x28x128 .f32 ← k0_part35 i arg1 harg1 arg2 harg2 arg3 harg3 arg4 harg4 arg5 harg5 arg6 harg6 arg7 harg7 arg8 harg8 arg9 harg9 arg10 harg10 arg11 harg11 arg12 harg12 arg13 harg13 v8126 v8271
  let v8323 : FVec F S28x128 .f32 ← k0_part36 i arg1 harg1 arg2 harg2 arg3 harg3 arg4 harg4 arg5 harg5 arg6 harg6 arg7 harg7 arg8 harg8 arg9 harg9 arg10 harg10 arg11 harg11 arg12 harg12 arg13 harg13 v8126 v8298
  let v8351 : FVec F S28x128 .f32 ← k0_part37 i arg1 harg1 arg2 harg2 arg3 harg3 arg4 harg4 arg5 harg5 arg6 harg6 arg7 harg7 arg8 harg8 arg9 harg9 arg10 harg10 arg11 harg11 arg12 harg12 arg13 harg13 v8126 v8323
  let v8378 : FVec F S1x1x28x128 .f32 ← k0_part38 i arg1 harg1 arg2 harg2 arg3 harg3 arg4 harg4 arg5 harg5 arg6 harg6 arg7 harg7 arg8 harg8 arg9 harg9 arg10 harg10 arg11 harg11 arg12 harg12 arg13 harg13 v8126 v8351
  let v8403 : FVec F S28x128 .f32 ← k0_part39 i arg1 harg1 arg2 harg2 arg3 harg3 arg4 harg4 arg5 harg5 arg6 harg6 arg7 harg7 arg8 harg8 arg9 harg9 arg10 harg10 arg11 harg11 arg12 harg12 arg13 harg13 v8126 v8378
  let v8431 : FVec F S28x128 .f32 ← k0_part40 i arg1 harg1 arg2 harg2 arg3 harg3 arg4 harg4 arg5 harg5 arg6 harg6 arg7 harg7 arg8 harg8 arg9 harg9 arg10 harg10 arg11 harg11 arg12 harg12 arg13 harg13 v8126 v8403
  let v8458 : FVec F S1x1x28x128 .f32 ← k0_part41 i arg1 harg1 arg2 harg2 arg3 harg3 arg4 harg4 arg5 harg5 arg6 harg6 arg7 harg7 arg8 harg8 arg9 harg9 arg10 harg10 arg11 harg11 arg12 harg12 arg13 harg13 v8126 v8431
  let v8483 : FVec F S28x128 .f32 ← k0_part42 i arg1 harg1 arg2 harg2 arg3 harg3 arg4 harg4 arg5 harg5 arg6 harg6 arg7 harg7 arg8 harg8 arg9 harg9 arg10 harg10 arg11 harg11 arg12 harg12 arg13 harg13 v8126 v8458
  let v8511 : FVec F S224x1536 .f32 ← k0_part43 i arg1 harg1 arg2 harg2 arg3 harg3 arg4 harg4 arg5 harg5 arg6 harg6 arg7 harg7 arg8 harg8 arg9 harg9 arg10 harg10 arg11 harg11 arg12 harg12 arg13 harg13 v8126 v8483
  let v8516 : Vec F S224x128 .f32 ← Prog.lift (.load arg12 (Rect.unit (s := S224x128) ![0, 0] S224x128.size inb_S224x128_S224x128_0_0).toLoadRect (View.loadsAt_vmem h_S224x128))
  Prog.lift (.store arg12 (Rect.unit (s := S224x128) ![0, 0] S224x128.size inb_S224x128_S224x128_0_0) (k0_pay251 v8511) Finset.univ (View.stores_vmem_bits_univ h_S224x128 rfl) (.inl rfl))
  pure ⟨⟩

/-- The printed `k0_part44` behind that region. -/
def tail44 (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) (Σ' (arg0 : BitVec 32) (v3 : FVec F S8x128 .f32) (v11 : IVec S8x128 32) (v13 : IVec S8x128 1) (v25 : FVec F S32x128 .fp8e4m3), IVec S8x128 32) := do
  let arg0 : BitVec 32 := BitVec.ofNat 32 (i 0).val
  let v4 : Vec F S32x128 .i8 ← Prog.lift (.load arg5 (Rect.unit (s := S96x1024) ![0, 0] S32x128.size inb_S96x1024_S32x128_0_0).toLoadRect (View.loadsAt_vmem h_S32x128))
  let v14 : Vec F S1x1x1x8x128 .i32 ← Prog.lift (.load arg9 (Rect.unit (s := S12x4x2x8x128) ![0, 0, 0, 0, 0] S1x1x1x8x128.size inb_S12x4x2x8x128_S1x1x1x8x128_0_0_0_0_0).toLoadRect (View.loadsAt_vmem h_S1x1x1x8x128))
  let v19 : Vec F S1x1x1x8x128 .i32 ← Prog.lift (.load arg9 (Rect.unit (s := S12x4x2x8x128) ![0, 0, 1, 0, 0] S1x1x1x8x128.size inb_S12x4x2x8x128_S1x1x1x8x128_0_0_1_0_0).toLoadRect (View.loadsAt_vmem h_S1x1x1x8x128))
  let v26 : Vec F S1x1x1x8x128 .i32 ← Prog.lift (.load arg9 (Rect.unit (s := S12x4x2x8x128) ![0, 1, 0, 0, 0] S1x1x1x8x128.size inb_S12x4x2x8x128_S1x1x1x8x128_0_1_0_0_0).toLoadRect (View.loadsAt_vmem h_S1x1x1x8x128))
  pure ⟨arg0, k0_pay252 (F := F), k0_pay254 v4, k0_pay255 v4, k0_pay256 v4 v14 v19, k0_pay257 v4 v26⟩

/-- The printed `k0_part260` behind that region. -/
def tail260 (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) (Σ' (arg0 : BitVec 32) (v1725 : FVec F S32x128 .fp8e4m3) (v1737 : FVec F S32x128 .fp8e4m3) (v1749 : FVec F S32x128 .fp8e4m3) (v1761 : FVec F S32x128 .fp8e4m3) (v1795 : FVec F S32x128 .fp8e4m3) (v1807 : FVec F S32x128 .fp8e4m3) (v1819 : FVec F S32x128 .fp8e4m3) (v1831 : FVec F S32x128 .fp8e4m3) (v1865 : FVec F S32x128 .fp8e4m3) (v1877 : FVec F S32x128 .fp8e4m3) (v1889 : FVec F S32x128 .fp8e4m3) (v1901 : FVec F S32x128 .fp8e4m3) (v1935 : FVec F S32x128 .fp8e4m3) (v1947 : FVec F S32x128 .fp8e4m3) (v1959 : FVec F S32x128 .fp8e4m3) (v1971 : FVec F S32x128 .fp8e4m3) (v1983 : FVec F S8x128 .f32) (v1991 : IVec S8x128 32) (v1993 : IVec S8x128 1) (v2005 : FVec F S32x128 .fp8e4m3) (v2017 : FVec F S32x128 .fp8e4m3), FVec F S32x128 .fp8e4m3) := do
  let ⟨arg0, v3, v11, v13, v25, v30⟩ : Σ' (arg0 : BitVec 32) (v3 : FVec F S8x128 .f32) (v11 : IVec S8x128 32) (v13 : IVec S8x128 1) (v25 : FVec F S32x128 .fp8e4m3), IVec S8x128 32 ← tail44 i arg1 harg1 arg2 harg2 arg3 harg3 arg4 harg4 arg5 harg5 arg6 harg6 arg7 harg7 arg8 harg8 arg9 harg9 arg10 harg10 arg11 harg11 arg12 harg12 arg13 harg13
  let ⟨v37, v49, v61, v63, v64⟩ : Σ' (v37 : FVec F S32x128 .fp8e4m3) (v49 : FVec F S32x128 .fp8e4m3) (v61 : FVec F S32x128 .fp8e4m3) (v63 : FVec F S8x128 .f32), IVec S8x128x1 32 ← k0_part45 i arg1 harg1 arg2 harg2 arg3 harg3 arg4 harg4 arg5 harg5 arg6 harg6 arg7 harg7 arg8 harg8 arg9 harg9 arg10 harg10 arg11 harg11 arg12 harg12 arg13 harg13 v11 v13 v30
  let ⟨v73, v81, v83, v95, v97, v99⟩ : Σ' (v73 : FVec F S8x128 .f32) (v81 : IVec S8x128 32) (v83 : IVec S8x128 1) (v95 : FVec F S32x128 .fp8e4m3) (v97 : IVec S8x128 32), IVec S8x128 32 ← k0_part46 i arg1 harg1 arg2 harg2 arg3 harg3 arg4 harg4 arg5 harg5 arg6 harg6 arg7 harg7 arg8 harg8 arg9 harg9 arg10 harg10 arg11 harg11 arg12 harg12 arg13 harg13 v3 v11 v13 v63 v64
  let ⟨v107, v119, v131⟩ : Σ' (v107 : FVec F S32x128 .fp8e4m3) (v119 : FVec F S32x128 .fp8e4m3), FVec F S32x128 .fp8e4m3 ← k0_part47 i arg1 harg1 arg2 harg2 arg3 harg3 arg4 harg4 arg5 harg5 arg6 harg6 arg7 harg7 arg8 harg8 arg9 harg9 arg10 harg10 arg11 harg11 arg12 harg12 arg13 harg13 v81 v83 v97 v99
  let ⟨v143, v151, v153, v165⟩ : Σ' (v143 : FVec F S8x128 .f32) (v151 : IVec S8x128 32) (v153 : IVec S8x128 1), FVec F S32x128 .fp8e4m3 ← k0_part48 i arg1 harg1 arg2 harg2 arg3 harg3 arg4 harg4 arg5 harg5 arg6 harg6 arg7 harg7 arg8 harg8 arg9 harg9 arg10 harg10 arg11 harg11 arg12 harg12 arg13 harg13 v73 v81 v83
  let ⟨v177, v189, v200⟩ : Σ' (v177 : FVec F S32x128 .fp8e4m3) (v189 : FVec F S32x128 .fp8e4m3), IVec S8x128 32 ← k0_part49 i arg1 harg1 arg2 harg2 arg3 harg3 arg4 harg4 arg5 harg5 arg6 harg6 arg7 harg7 arg8 harg8 arg9 harg9 arg10 harg10 arg11 harg11 arg12 harg12 arg13 harg13 v151 v153
  let ⟨v201, v213, v221, v223, v235⟩ : Σ' (v201 : FVec F S32x128 .fp8e4m3) (v213 : FVec F S8x128 .f32) (v221 : IVec S8x128 32) (v223 : IVec S8x128 1), FVec F S32x128 .fp8e4m3 ← k0_part50 i arg1 harg1 arg2 harg2 arg3 harg3 arg4 harg4 arg5 harg5 arg6 harg6 arg7 harg7 arg8 harg8 arg9 harg9 arg10 harg10 arg11 harg11 arg12 harg12 arg13 harg13 v143 v151 v153 v200
  let ⟨v247, v259, v264, v266⟩ : Σ' (v247 : FVec F S32x128 .fp8e4m3) (v259 : FVec F S32x128 .fp8e4m3) (v264 : IVec S8x128 32), IVec S8x128 32 ← k0_part51 i arg1 harg1 arg2 harg2 arg3 harg3 arg4 harg4 arg5 harg5 arg6 harg6 arg7 harg7 arg8 harg8 arg9 harg9 arg10 harg10 arg11 harg11 arg12 harg12 arg13 harg13 v221 v223
  let ⟨v271, v283, v291, v293, v298, v300, v302⟩ : Σ' (v271 : FVec F S32x128 .fp8e4m3) (v283 : FVec F S8x128 .f32) (v291 : IVec S8x128 32) (v293 : IVec S8x128 1) (v298 : IVec S8x128 32) (v300 : IVec S8x128 32), IVec S8x128 32 ← k0_part52 i arg1 harg1 arg2 harg2 arg3 harg3 arg4 harg4 arg5 harg5 arg6 harg6 arg7 harg7 arg8 harg8 arg9 harg9 arg10 harg10 arg11 harg11 arg12 harg12 arg13 harg13 v213 v221 v223 v264 v266
  let ⟨v305, v317, v329, v334⟩ : Σ' (v305 : FVec F S32x128 .fp8e4m3) (v317 : FVec F S32x128 .fp8e4m3) (v329 : FVec F S32x128 .fp8e4m3), IVec S8x128 32 ← k0_part53 i arg1 harg1 arg2 harg2 arg3 harg3 arg4 harg4 arg5 harg5 arg6 harg6 arg7 harg7 arg8 harg8 arg9 harg9 arg10 harg10 arg11 harg11 arg12 harg12 arg13 harg13 v291 v293 v298 v300 v302
  let ⟨v341, v353, v361, v363, v368⟩ : Σ' (v341 : FVec F S32x128 .fp8e4m3) (v353 : FVec F S8x128 .f32) (v361 : IVec S8x128 32) (v363 : IVec S8x128 1), IVec S8x128 32 ← k0_part54 i arg1 harg1 arg2 harg2 arg3 harg3 arg4 harg4 arg5 harg5 arg6 harg6 arg7 harg7 arg8 harg8 arg9 harg9 arg10 harg10 arg11 harg11 arg12 harg12 arg13 harg13 v283 v291 v293 v334
  let ⟨v375, v387, v399, v401, v403⟩ : Σ' (v375 : FVec F S32x128 .fp8e4m3) (v387 : FVec F S32x128 .fp8e4m3) (v399 : FVec F S32x128 .fp8e4m3) (v401 : IVec S8x128 32), IVec S8x128 32 ← k0_part55 i arg1 harg1 arg2 harg2 arg3 harg3 arg4 harg4 arg5 harg5 arg6 harg6 arg7 harg7 arg8 harg8 arg9 harg9 arg10 harg10 arg11 harg11 arg12 harg12 arg13 harg13 v361 v363 v368
  let ⟨v411, v423, v431, v433, v438⟩ : Σ' (v411 : FVec F S32x128 .fp8e4m3) (v423 : FVec F S8x128 .f32) (v431 : IVec S8x128 32) (v433 : IVec S8x128 1), IVec S8x128 32 ← k0_part56 i arg1 harg1 arg2 harg2 arg3 harg3 arg4 harg4 arg5 harg5 arg6 harg6 arg7 harg7 arg8 harg8 arg9 harg9 arg10 harg10 arg11 harg11 arg12 harg12 arg13 harg13 v353 v361 v363 v401 v403
  let ⟨v445, v457, v469⟩ : Σ' (v445 : FVec F S32x128 .fp8e4m3) (v457 : FVec F S32x128 .fp8e4m3), FVec F S32x128 .fp8e4m3 ← k0_part57 i arg1 harg1 arg2 harg2 arg3 harg3 arg4 harg4 arg5 harg5 arg6 harg6 arg7 harg7 arg8 harg8 arg9 harg9 arg10 harg10 arg11 harg11 arg12 harg12 arg13 harg13 v431 v433 v438
  let ⟨v481, v493, v501, v503, v505⟩ : Σ' (v481 : FVec F S32x128 .fp8e4m3) (v493 : FVec F S8x128 .f32) (v501 : IVec S8x128 32) (v503 : IVec S8x128 1), IVec S8x128 32 ← k0_part58 i arg1 harg1 arg2 harg2 arg3 harg3 arg4 harg4 arg5 harg5 arg6 harg6 arg7 harg7 arg8 harg8 arg9 harg9 arg10 harg10 arg11 harg11 arg12 harg12 arg13 harg13 v423 v431 v433
  let ⟨v515, v527, v539⟩ : Σ' (v515 : FVec F S32x128 .fp8e4m3) (v527 : FVec F S32x128 .fp8e4m3), FVec F S32x128 .fp8e4m3 ← k0_part59 i arg1 harg1 arg2 harg2 arg3 harg3 arg4 harg4 arg5 harg5 arg6 harg6 arg7 harg7 arg8 harg8 arg9 harg9 arg10 harg10 arg11 harg11 arg12 harg12 arg13 harg13 v501 v503 v505
  let ⟨v551, v563, v571, v573⟩ : Σ' (v551 : FVec F S32x128 .fp8e4m3) (v563 : FVec F S8x128 .f32) (v571 : IVec S8x128 32), IVec S8x128 1 ← k0_part60 i arg1 harg1 arg2 harg2 arg3 harg3 arg4 harg4 arg5 harg5 arg6 harg6 arg7 harg7 arg8 harg8 arg9 harg9 arg10 harg10 arg11 harg11 arg12 harg12 arg13 harg13 v493 v501 v503
  let ⟨v585, v597, v602, v604, v606⟩ : Σ' (v585 : FVec F S32x128 .fp8e4m3) (v597 : FVec F S32x128 .fp8e4m3) (v602 : IVec S8x128 32) (v604 : IVec S8x128 32), IVec S8x128 32 ← k0_part61 i arg1 harg1 arg2 harg2 arg3 harg3 arg4 harg4 arg5 harg5 arg6 harg6 arg7 harg7 arg8 harg8 arg9 harg9 arg10 harg10 arg11 harg11 arg12 harg12 arg13 harg13 v571 v573
  let ⟨v609, v621, v633, v639, v641, v642⟩ : Σ' (v609 : FVec F S32x128 .fp8e4m3) (v621 : FVec F S32x128 .fp8e4m3) (v633 : FVec F S8x128 .f32) (v639 : IVec S8x128 32) (v641 : IVec S8x128 32), IVec S8x128 32 ← k0_part62 i arg1 harg1 arg2 harg2 arg3 harg3 arg4 harg4 arg5 harg5 arg6 harg6 arg7 harg7 arg8 harg8 arg9 harg9 arg10 harg10 arg11 harg11 arg12 harg12 arg13 harg13 v563 v571 v573 v602 v604 v606
  let ⟨v643, v655, v667, v672⟩ : Σ' (v643 : IVec S8x128 1) (v655 : FVec F S32x128 .fp8e4m3) (v667 : FVec F S32x128 .fp8e4m3), IVec S8x128 32 ← k0_part63 i arg1 harg1 arg2 harg2 arg3 harg3 arg4 harg4 arg5 harg5 arg6 harg6 arg7 harg7 arg8 harg8 arg9 harg9 arg10 harg10 arg11 harg11 arg12 harg12 arg13 harg13 v639 v641 v642
  let ⟨v679, v691, v703, v709, c127_i32_527⟩ : Σ' (v679 : FVec F S32x128 .fp8e4m3) (v691 : FVec F S32x128 .fp8e4m3) (v703 : FVec F S8x128 .f32) (v709 : IVec S8x128 32), BitVec 32 ← k0_part64 i arg1 harg1 arg2 harg2 arg3 harg3 arg4 harg4 arg5 harg5 arg6 harg6 arg7 harg7 arg8 harg8 arg9 harg9 arg10 harg10 arg11 harg11 arg12 harg12 arg13 harg13 v633 v641 v643 v672
  let ⟨v711, v713, v725, v737, v742⟩ : Σ' (v711 : IVec S8x128 32) (v713 : IVec S8x128 1) (v725 : FVec F S32x128 .fp8e4m3) (v737 : FVec F S32x128 .fp8e4m3), IVec S8x128 32 ← k0_part65 i arg1 harg1 arg2 harg2 arg3 harg3 arg4 harg4 arg5 harg5 arg6 harg6 arg7 harg7 arg8 harg8 arg9 harg9 arg10 harg10 arg11 harg11 arg12 harg12 arg13 harg13 v709 c127_i32_527
  let ⟨v749, v761, v773, v777⟩ : Σ' (v749 : FVec F S32x128 .fp8e4m3) (v761 : FVec F S32x128 .fp8e4m3) (v773 : FVec F S8x128 .f32), IVec S8x128 32 ← k0_part66 i arg1 harg1 arg2 harg2 arg3 harg3 arg4 harg4 arg5 harg5 arg6 harg6 arg7 harg7 arg8 harg8 arg9 harg9 arg10 harg10 arg11 harg11 arg12 harg12 arg13 harg13 v703 v711 v713 v742
  let ⟨v781, v783, v795, v807, v809⟩ : Σ' (v781 : IVec S8x128 32) (v783 : IVec S8x128 1) (v795 : FVec F S32x128 .fp8e4m3) (v807 : FVec F S32x128 .fp8e4m3), IVec S8x128 32 ← k0_part67 i arg1 harg1 arg2 harg2 arg3 harg3 arg4 harg4 arg5 harg5 arg6 harg6 arg7 harg7 arg8 harg8 arg9 harg9 arg10 harg10 arg11 harg11 arg12 harg12 arg13 harg13 v777
  let ⟨v844, v845⟩ : Σ' (v844 : FVec F S1536x128 .fp8e4m3), FVec F S128 .f32 ← k0_part68 i arg1 harg1 arg2 harg2 arg3 harg3 arg4 harg4 arg5 harg5 arg6 harg6 arg7 harg7 arg8 harg8 arg9 harg9 arg10 harg10 arg11 harg11 arg12 harg12 arg13 harg13 v25 v37 v49 v61 v95 v107 v119 v131 v165 v177 v189 v201 v235 v247 v259 v271 v305 v317 v329 v341 v375 v387 v399 v411 v445 v457 v469 v481 v515 v527 v539 v551 v585 v597 v609 v621 v655 v667 v679 v691 v725 v737 v749 v761 v773 v781 v783 v795 v807 v809
  let ⟨v846, v847, v855, v857, v869, v874, v876, v878⟩ : Σ' (v846 : FVec F S1x128 .f32) (v847 : FVec F S8x128 .f32) (v855 : IVec S8x128 32) (v857 : IVec S8x128 1) (v869 : FVec F S32x128 .fp8e4m3) (v874 : IVec S8x128 32) (v876 : IVec S8x128 32), IVec S8x128 32 ← k0_part69 i arg1 harg1 arg2 harg2 arg3 harg3 arg4 harg4 arg5 harg5 arg6 harg6 arg7 harg7 arg8 harg8 arg9 harg9 arg10 harg10 arg11 harg11 arg12 harg12 arg13 harg13 v845
  let ⟨v881, v893, v905, v910⟩ : Σ' (v881 : FVec F S32x128 .fp8e4m3) (v893 : FVec F S32x128 .fp8e4m3) (v905 : FVec F S32x128 .fp8e4m3), FVec F S8x128 .f32 ← k0_part70 i arg1 harg1 arg2 harg2 arg3 harg3 arg4 harg4 arg5 harg5 arg6 harg6 arg7 harg7 arg8 harg8 arg9 harg9 arg10 harg10 arg11 harg11 arg12 harg12 arg13 harg13 v855 v857 v874 v876 v878
  let ⟨v917, v925, v927, v939, v944⟩ : Σ' (v917 : FVec F S8x128 .f32) (v925 : IVec S8x128 32) (v927 : IVec S8x128 1) (v939 : FVec F S32x128 .fp8e4m3), IVec S8x128 32 ← k0_part71 i arg1 harg1 arg2 harg2 arg3 harg3 arg4 harg4 arg5 harg5 arg6 harg6 arg7 harg7 arg8 harg8 arg9 harg9 arg10 harg10 arg11 harg11 arg12 harg12 arg13 harg13 v847 v855 v857 v910
  let ⟨v951, v963, v975, v980⟩ : Σ' (v951 : FVec F S32x128 .fp8e4m3) (v963 : FVec F S32x128 .fp8e4m3) (v975 : FVec F S32x128 .fp8e4m3), FVec F S8x128 .f32 ← k0_part72 i arg1 harg1 arg2 harg2 arg3 harg3 arg4 harg4 arg5 harg5 arg6 harg6 arg7 harg7 arg8 harg8 arg9 harg9 arg10 harg10 arg11 harg11 arg12 harg12 arg13 harg13 v925 v927 v944
  let ⟨v987, v995, v997, v1009, v1014⟩ : Σ' (v987 : FVec F S8x128 .f32) (v995 : IVec S8x128 32) (v997 : IVec S8x128 1) (v1009 : FVec F S32x128 .fp8e4m3), IVec S8x128 32 ← k0_part73 i arg1 harg1 arg2 harg2 arg3 harg3 arg4 harg4 arg5 harg5 arg6 harg6 arg7 harg7 arg8 harg8 arg9 harg9 arg10 harg10 arg11 harg11 arg12 harg12 arg13 harg13 v917 v925 v927 v980
  let ⟨v1021, v1033, v1045, v1046⟩ : Σ' (v1021 : FVec F S32x128 .fp8e4m3) (v1033 : FVec F S32x128 .fp8e4m3) (v1045 : FVec F S32x128 .fp8e4m3), Vec F S1x1x8x128 .f32 ← k0_part74 i arg1 harg1 arg2 harg2 arg3 harg3 arg4 harg4 arg5 harg5 arg6 harg6 arg7 harg7 arg8 harg8 arg9 harg9 arg10 harg10 arg11 harg11 arg12 harg12 arg13 harg13 v995 v997 v1014
  let ⟨v1057, v1065, v1067, v1079, v1081⟩ : Σ' (v1057 : FVec F S8x128 .f32) (v1065 : IVec S8x128 32) (v1067 : IVec S8x128 1) (v1079 : FVec F S32x128 .fp8e4m3), IVec S8x128 32 ← k0_part75 i arg1 harg1 arg2 harg2 arg3 harg3 arg4 harg4 arg5 harg5 arg6 harg6 arg7 harg7 arg8 harg8 arg9 harg9 arg10 harg10 arg11 harg11 arg12 harg12 arg13 harg13 v987 v995 v997 v1046
  let ⟨v1091, v1103, v1115⟩ : Σ' (v1091 : FVec F S32x128 .fp8e4m3) (v1103 : FVec F S32x128 .fp8e4m3), FVec F S32x128 .fp8e4m3 ← k0_part76 i arg1 harg1 arg2 harg2 arg3 harg3 arg4 harg4 arg5 harg5 arg6 harg6 arg7 harg7 arg8 harg8 arg9 harg9 arg10 harg10 arg11 harg11 arg12 harg12 arg13 harg13 v1065 v1067 v1081
  let ⟨v1127, v1135, v1137, v1149⟩ : Σ' (v1127 : FVec F S8x128 .f32) (v1135 : IVec S8x128 32) (v1137 : IVec S8x128 1), FVec F S32x128 .fp8e4m3 ← k0_part77 i arg1 harg1 arg2 harg2 arg3 harg3 arg4 harg4 arg5 harg5 arg6 harg6 arg7 harg7 arg8 harg8 arg9 harg9 arg10 harg10 arg11 harg11 arg12 harg12 arg13 harg13 v1057 v1065 v1067
  let ⟨v1161, v1173, v1178, v1180, v1182⟩ : Σ' (v1161 : FVec F S32x128 .fp8e4m3) (v1173 : FVec F S32x128 .fp8e4m3) (v1178 : IVec S8x128 32) (v1180 : IVec S8x128 32), IVec S8x128 32 ← k0_part78 i arg1 harg1 arg2 harg2 arg3 harg3 arg4 harg4 arg5 harg5 arg6 harg6 arg7 harg7 arg8 harg8 arg9 harg9 arg10 harg10 arg11 harg11 arg12 harg12 arg13 harg13 v1135 v1137
  let ⟨v1185, v1197, v1205, v1207, v1218⟩ : Σ' (v1185 : FVec F S32x128 .fp8e4m3) (v1197 : FVec F S8x128 .f32) (v1205 : IVec S8x128 32) (v1207 : IVec S8x128 1), IVec S8x128 32 ← k0_part79 i arg1 harg1 arg2 harg2 arg3 harg3 arg4 harg4 arg5 harg5 arg6 harg6 arg7 harg7 arg8 harg8 arg9 harg9 arg10 harg10 arg11 harg11 arg12 harg12 arg13 harg13 v1127 v1135 v1137 v1178 v1180 v1182
  let ⟨v1219, v1231, v1243, v1248⟩ : Σ' (v1219 : FVec F S32x128 .fp8e4m3) (v1231 : FVec F S32x128 .fp8e4m3) (v1243 : FVec F S32x128 .fp8e4m3), IVec S8x128 32 ← k0_part80 i arg1 harg1 arg2 harg2 arg3 harg3 arg4 harg4 arg5 harg5 arg6 harg6 arg7 harg7 arg8 harg8 arg9 harg9 arg10 harg10 arg11 harg11 arg12 harg12 arg13 harg13 v1205 v1207 v1218
  let ⟨v1255, v1267, v1275, v1277, v1282, v1284⟩ : Σ' (v1255 : FVec F S32x128 .fp8e4m3) (v1267 : FVec F S8x128 .f32) (v1275 : IVec S8x128 32) (v1277 : IVec S8x128 1) (v1282 : IVec S8x128 32), IVec S8x128 32 ← k0_part81 i arg1 harg1 arg2 harg2 arg3 harg3 arg4 harg4 arg5 harg5 arg6 harg6 arg7 harg7 arg8 harg8 arg9 harg9 arg10 harg10 arg11 harg11 arg12 harg12 arg13 harg13 v1197 v1205 v1207 v1248
  let ⟨v1289, v1301, v1313, v1318⟩ : Σ' (v1289 : FVec F S32x128 .fp8e4m3) (v1301 : FVec F S32x128 .fp8e4m3) (v1313 : FVec F S32x128 .fp8e4m3), IVec S8x128 32 ← k0_part82 i arg1 harg1 arg2 harg2 arg3 harg3 arg4 harg4 arg5 harg5 arg6 harg6 arg7 harg7 arg8 harg8 arg9 harg9 arg10 harg10 arg11 harg11 arg12 harg12 arg13 harg13 v1275 v1277 v1282 v1284
  let ⟨v1325, v1337, v1345, v1347, v1352⟩ : Σ' (v1325 : FVec F S32x128 .fp8e4m3) (v1337 : FVec F S8x128 .f32) (v1345 : IVec S8x128 32) (v1347 : IVec S8x128 1), IVec S8x128 32 ← k0_part83 i arg1 harg1 arg2 harg2 arg3 harg3 arg4 harg4 arg5 harg5 arg6 harg6 arg7 harg7 arg8 harg8 arg9 harg9 arg10 harg10 arg11 harg11 arg12 harg12 arg13 harg13 v1267 v1275 v1277 v1318
  let ⟨v1359, v1371, v1383, v1385⟩ : Σ' (v1359 : FVec F S32x128 .fp8e4m3) (v1371 : FVec F S32x128 .fp8e4m3) (v1383 : FVec F S32x128 .fp8e4m3), IVec S8x128 32 ← k0_part84 i arg1 harg1 arg2 harg2 arg3 harg3 arg4 harg4 arg5 harg5 arg6 harg6 arg7 harg7 arg8 harg8 arg9 harg9 arg10 harg10 arg11 harg11 arg12 harg12 arg13 harg13 v1345 v1347 v1352
  let ⟨v1395, v1407, v1415, v1417, v1419, v1421⟩ : Σ' (v1395 : FVec F S32x128 .fp8e4m3) (v1407 : FVec F S8x128 .f32) (v1415 : IVec S8x128 32) (v1417 : IVec S8x128 1) (v1419 : IVec S8x128 32), IVec S8x128 32 ← k0_part85 i arg1 harg1 arg2 harg2 arg3 harg3 arg4 harg4 arg5 harg5 arg6 harg6 arg7 harg7 arg8 harg8 arg9 harg9 arg10 harg10 arg11 harg11 arg12 harg12 arg13 harg13 v1337 v1345 v1347 v1385
  let ⟨v1429, v1441, v1453⟩ : Σ' (v1429 : FVec F S32x128 .fp8e4m3) (v1441 : FVec F S32x128 .fp8e4m3), FVec F S32x128 .fp8e4m3 ← k0_part86 i arg1 harg1 arg2 harg2 arg3 harg3 arg4 harg4 arg5 harg5 arg6 harg6 arg7 harg7 arg8 harg8 arg9 harg9 arg10 harg10 arg11 harg11 arg12 harg12 arg13 harg13 v1415 v1417 v1419 v1421
  let ⟨v1465, v1477, v1485, v1487⟩ : Σ' (v1465 : FVec F S32x128 .fp8e4m3) (v1477 : FVec F S8x128 .f32) (v1485 : IVec S8x128 32), IVec S8x128 1 ← k0_part87 i arg1 harg1 arg2 harg2 arg3 harg3 arg4 harg4 arg5 harg5 arg6 harg6 arg7 harg7 arg8 harg8 arg9 harg9 arg10 harg10 arg11 harg11 arg12 harg12 arg13 harg13 v1407 v1415 v1417
  let ⟨v1499, v1511, v1522⟩ : Σ' (v1499 : FVec F S32x128 .fp8e4m3) (v1511 : FVec F S32x128 .fp8e4m3), IVec S8x128 32 ← k0_part88 i arg1 harg1 arg2 harg2 arg3 harg3 arg4 harg4 arg5 harg5 arg6 harg6 arg7 harg7 arg8 harg8 arg9 harg9 arg10 harg10 arg11 harg11 arg12 harg12 arg13 harg13 v1485 v1487
  let ⟨v1523, v1535, v1547, v1555, v1557⟩ : Σ' (v1523 : FVec F S32x128 .fp8e4m3) (v1535 : FVec F S32x128 .fp8e4m3) (v1547 : FVec F S8x128 .f32) (v1555 : IVec S8x128 32), IVec S8x128 1 ← k0_part89 i arg1 harg1 arg2 harg2 arg3 harg3 arg4 harg4 arg5 harg5 arg6 harg6 arg7 harg7 arg8 harg8 arg9 harg9 arg10 harg10 arg11 harg11 arg12 harg12 arg13 harg13 v1477 v1485 v1487 v1522
  let ⟨v1569, v1581, v1586, v1588⟩ : Σ' (v1569 : FVec F S32x128 .fp8e4m3) (v1581 : FVec F S32x128 .fp8e4m3) (v1586 : IVec S8x128 32), IVec S8x128 32 ← k0_part90 i arg1 harg1 arg2 harg2 arg3 harg3 arg4 harg4 arg5 harg5 arg6 harg6 arg7 harg7 arg8 harg8 arg9 harg9 arg10 harg10 arg11 harg11 arg12 harg12 arg13 harg13 v1555 v1557
  let ⟨v1593, v1605, v1617, v1623, v1625⟩ : Σ' (v1593 : FVec F S32x128 .fp8e4m3) (v1605 : FVec F S32x128 .fp8e4m3) (v1617 : FVec F S8x128 .f32) (v1623 : IVec S8x128 32), IVec S8x128 32 ← k0_part91 i arg1 harg1 arg2 harg2 arg3 harg3 arg4 harg4 arg5 harg5 arg6 harg6 arg7 harg7 arg8 harg8 arg9 harg9 arg10 harg10 arg11 harg11 arg12 harg12 arg13 harg13 v1547 v1555 v1557 v1586 v1588
  let ⟨v1627, v1639, v1651, v1656⟩ : Σ' (v1627 : IVec S8x128 1) (v1639 : FVec F S32x128 .fp8e4m3) (v1651 : FVec F S32x128 .fp8e4m3), IVec S8x128 32 ← k0_part92 i arg1 harg1 arg2 harg2 arg3 harg3 arg4 harg4 arg5 harg5 arg6 harg6 arg7 harg7 arg8 harg8 arg9 harg9 arg10 harg10 arg11 harg11 arg12 harg12 arg13 harg13 v1623 v1625
  let ⟨v1691, v1692, v1693⟩ : Σ' (v1691 : FVec F S1536x256 .fp8e4m3) (v1692 : FVec F S1x256 .f32), Vec F S224x1536 .bf16 ← k0_part93 i arg1 harg1 arg2 harg2 arg3 harg3 arg4 harg4 arg5 harg5 arg6 harg6 arg7 harg7 arg8 harg8 arg9 harg9 arg10 harg10 arg11 harg11 arg12 harg12 arg13 harg13 v844 v846 v869 v881 v893 v905 v939 v951 v963 v975 v1009 v1021 v1033 v1045 v1079 v1091 v1103 v1115 v1149 v1161 v1173 v1185 v1219 v1231 v1243 v1255 v1289 v1301 v1313 v1325 v1359 v1371 v1383 v1395 v1429 v1441 v1453 v1465 v1499 v1511 v1523 v1535 v1569 v1581 v1593 v1605 v1617 v1625 v1627 v1639 v1651 v1656
  let ⟨v1703, v1711, v1713, v1725⟩ : Σ' (v1703 : FVec F S8x128 .f32) (v1711 : IVec S8x128 32) (v1713 : IVec S8x128 1), FVec F S32x128 .fp8e4m3 ← k0_part94 i arg1 harg1 arg2 harg2 arg3 harg3 arg4 harg4 arg5 harg5 arg6 harg6 arg7 harg7 arg8 harg8 arg9 harg9 arg10 harg10 arg11 harg11 arg12 harg12 arg13 harg13 v1691 v1692 v1693
  let ⟨v1737, v1749, v1760⟩ : Σ' (v1737 : FVec F S32x128 .fp8e4m3) (v1749 : FVec F S32x128 .fp8e4m3), IVec S8x128 32 ← k0_part95 i arg1 harg1 arg2 harg2 arg3 harg3 arg4 harg4 arg5 harg5 arg6 harg6 arg7 harg7 arg8 harg8 arg9 harg9 arg10 harg10 arg11 harg11 arg12 harg12 arg13 harg13 v1711 v1713
  let ⟨v1761, v1773, v1781, v1783, v1795⟩ : Σ' (v1761 : FVec F S32x128 .fp8e4m3) (v1773 : FVec F S8x128 .f32) (v1781 : IVec S8x128 32) (v1783 : IVec S8x128 1), FVec F S32x128 .fp8e4m3 ← k0_part96 i arg1 harg1 arg2 harg2 arg3 harg3 arg4 harg4 arg5 harg5 arg6 harg6 arg7 harg7 arg8 harg8 arg9 harg9 arg10 harg10 arg11 harg11 arg12 harg12 arg13 harg13 v1703 v1711 v1713 v1760
  let ⟨v1807, v1819, v1824, v1826⟩ : Σ' (v1807 : FVec F S32x128 .fp8e4m3) (v1819 : FVec F S32x128 .fp8e4m3) (v1824 : IVec S8x128 32), IVec S8x128 32 ← k0_part97 i arg1 harg1 arg2 harg2 arg3 harg3 arg4 harg4 arg5 harg5 arg6 harg6 arg7 harg7 arg8 harg8 arg9 harg9 arg10 harg10 arg11 harg11 arg12 harg12 arg13 harg13 v1781 v1783
  let ⟨v1831, v1843, v1851, v1853, v1858, v1860, v1862⟩ : Σ' (v1831 : FVec F S32x128 .fp8e4m3) (v1843 : FVec F S8x128 .f32) (v1851 : IVec S8x128 32) (v1853 : IVec S8x128 1) (v1858 : IVec S8x128 32) (v1860 : IVec S8x128 32), IVec S8x128 32 ← k0_part98 i arg1 harg1 arg2 harg2 arg3 harg3 arg4 harg4 arg5 harg5 arg6 harg6 arg7 harg7 arg8 harg8 arg9 harg9 arg10 harg10 arg11 harg11 arg12 harg12 arg13 harg13 v1773 v1781 v1783 v1824 v1826
  let ⟨v1865, v1877, v1889, v1894⟩ : Σ' (v1865 : FVec F S32x128 .fp8e4m3) (v1877 : FVec F S32x128 .fp8e4m3) (v1889 : FVec F S32x128 .fp8e4m3), IVec S8x128 32 ← k0_part99 i arg1 harg1 arg2 harg2 arg3 harg3 arg4 harg4 arg5 harg5 arg6 harg6 arg7 harg7 arg8 harg8 arg9 harg9 arg10 harg10 arg11 harg11 arg12 harg12 arg13 harg13 v1851 v1853 v1858 v1860 v1862
  let ⟨v1901, v1913, v1921, v1923, v1928⟩ : Σ' (v1901 : FVec F S32x128 .fp8e4m3) (v1913 : FVec F S8x128 .f32) (v1921 : IVec S8x128 32) (v1923 : IVec S8x128 1), IVec S8x128 32 ← k0_part100 i arg1 harg1 arg2 harg2 arg3 harg3 arg4 harg4 arg5 harg5 arg6 harg6 arg7 harg7 arg8 harg8 arg9 harg9 arg10 harg10 arg11 harg11 arg12 harg12 arg13 harg13 v1843 v1851 v1853 v1894
  let ⟨v1935, v1947, v1959, v1961, v1963⟩ : Σ' (v1935 : FVec F S32x128 .fp8e4m3) (v1947 : FVec F S32x128 .fp8e4m3) (v1959 : FVec F S32x128 .fp8e4m3) (v1961 : IVec S8x128 32), IVec S8x128 32 ← k0_part101 i arg1 harg1 arg2 harg2 arg3 harg3 arg4 harg4 arg5 harg5 arg6 harg6 arg7 harg7 arg8 harg8 arg9 harg9 arg10 harg10 arg11 harg11 arg12 harg12 arg13 harg13 v1921 v1923 v1928
  let ⟨v1971, v1983, v1991, v1993, v1998⟩ : Σ' (v1971 : FVec F S32x128 .fp8e4m3) (v1983 : FVec F S8x128 .f32) (v1991 : IVec S8x128 32) (v1993 : IVec S8x128 1), IVec S8x128 32 ← k0_part102 i arg1 harg1 arg2 harg2 arg3 harg3 arg4 harg4 arg5 harg5 arg6 harg6 arg7 harg7 arg8 harg8 arg9 harg9 arg10 harg10 arg11 harg11 arg12 harg12 arg13 harg13 v1913 v1921 v1923 v1961 v1963
  let ⟨v2005, v2017, v2029⟩ : Σ' (v2005 : FVec F S32x128 .fp8e4m3) (v2017 : FVec F S32x128 .fp8e4m3), FVec F S32x128 .fp8e4m3 ← k0_part103 i arg1 harg1 arg2 harg2 arg3 harg3 arg4 harg4 arg5 harg5 arg6 harg6 arg7 harg7 arg8 harg8 arg9 harg9 arg10 harg10 arg11 harg11 arg12 harg12 arg13 harg13 v1991 v1993 v1998
  pure ⟨arg0, v1725, v1737, v1749, v1761, v1795, v1807, v1819, v1831, v1865, v1877, v1889, v1901, v1935, v1947, v1959, v1971, v1983, v1991, v1993, v2005, v2017, v2029⟩

/-- The body behind that region. -/
def tailP (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) PUnit := do
  let ⟨arg0, v1725, v1737, v1749, v1761, v1795, v1807, v1819, v1831, v1865, v1877, v1889, v1901, v1935, v1947, v1959, v1971, v1983, v1991, v1993, v2005, v2017, v2029⟩ : Σ' (arg0 : BitVec 32) (v1725 : FVec F S32x128 .fp8e4m3) (v1737 : FVec F S32x128 .fp8e4m3) (v1749 : FVec F S32x128 .fp8e4m3) (v1761 : FVec F S32x128 .fp8e4m3) (v1795 : FVec F S32x128 .fp8e4m3) (v1807 : FVec F S32x128 .fp8e4m3) (v1819 : FVec F S32x128 .fp8e4m3) (v1831 : FVec F S32x128 .fp8e4m3) (v1865 : FVec F S32x128 .fp8e4m3) (v1877 : FVec F S32x128 .fp8e4m3) (v1889 : FVec F S32x128 .fp8e4m3) (v1901 : FVec F S32x128 .fp8e4m3) (v1935 : FVec F S32x128 .fp8e4m3) (v1947 : FVec F S32x128 .fp8e4m3) (v1959 : FVec F S32x128 .fp8e4m3) (v1971 : FVec F S32x128 .fp8e4m3) (v1983 : FVec F S8x128 .f32) (v1991 : IVec S8x128 32) (v1993 : IVec S8x128 1) (v2005 : FVec F S32x128 .fp8e4m3) (v2017 : FVec F S32x128 .fp8e4m3), FVec F S32x128 .fp8e4m3 ← tail260 i arg1 harg1 arg2 harg2 arg3 harg3 arg4 harg4 arg5 harg5 arg6 harg6 arg7 harg7 arg8 harg8 arg9 harg9 arg10 harg10 arg11 harg11 arg12 harg12 arg13 harg13
  let ⟨v3425, v3437, v3449, v3461, v3495, v3507, v3519, v3531, v3565, v3577, v3589, v3601, v3635, v3647, v3659, v3671, v3705, v3717, v3729, v3741, v3775, v3787, v3799, v3811, v3845, v3857, v3869, v3881, v3915, v3927, v3939, v3951, v3985, v3997, v4009, v4021, v4033, v4041, v4043, v4055, v4066⟩ : Σ' (v3425 : FVec F S32x128 .fp8e4m3) (v3437 : FVec F S32x128 .fp8e4m3) (v3449 : FVec F S32x128 .fp8e4m3) (v3461 : FVec F S32x128 .fp8e4m3) (v3495 : FVec F S32x128 .fp8e4m3) (v3507 : FVec F S32x128 .fp8e4m3) (v3519 : FVec F S32x128 .fp8e4m3) (v3531 : FVec F S32x128 .fp8e4m3) (v3565 : FVec F S32x128 .fp8e4m3) (v3577 : FVec F S32x128 .fp8e4m3) (v3589 : FVec F S32x128 .fp8e4m3) (v3601 : FVec F S32x128 .fp8e4m3) (v3635 : FVec F S32x128 .fp8e4m3) (v3647 : FVec F S32x128 .fp8e4m3) (v3659 : FVec F S32x128 .fp8e4m3) (v3671 : FVec F S32x128 .fp8e4m3) (v3705 : FVec F S32x128 .fp8e4m3) (v3717 : FVec F S32x128 .fp8e4m3) (v3729 : FVec F S32x128 .fp8e4m3) (v3741 : FVec F S32x128 .fp8e4m3) (v3775 : FVec F S32x128 .fp8e4m3) (v3787 : FVec F S32x128 .fp8e4m3) (v3799 : FVec F S32x128 .fp8e4m3) (v3811 : FVec F S32x128 .fp8e4m3) (v3845 : FVec F S32x128 .fp8e4m3) (v3857 : FVec F S32x128 .fp8e4m3) (v3869 : FVec F S32x128 .fp8e4m3) (v3881 : FVec F S32x128 .fp8e4m3) (v3915 : FVec F S32x128 .fp8e4m3) (v3927 : FVec F S32x128 .fp8e4m3) (v3939 : FVec F S32x128 .fp8e4m3) (v3951 : FVec F S32x128 .fp8e4m3) (v3985 : FVec F S32x128 .fp8e4m3) (v3997 : FVec F S32x128 .fp8e4m3) (v4009 : FVec F S32x128 .fp8e4m3) (v4021 : FVec F S32x128 .fp8e4m3) (v4033 : FVec F S8x128 .f32) (v4041 : IVec S8x128 32) (v4043 : IVec S8x128 1) (v4055 : FVec F S32x128 .fp8e4m3), IVec S8x128 32 ← k0_part261 i arg1 harg1 arg2 harg2 arg3 harg3 arg4 harg4 arg5 harg5 arg6 harg6 arg7 harg7 arg8 harg8 arg9 harg9 arg10 harg10 arg11 harg11 arg12 harg12 arg13 harg13 v1725 v1737 v1749 v1761 v1795 v1807 v1819 v1831 v1865 v1877 v1889 v1901 v1935 v1947 v1959 v1971 v1983 v1991 v1993 v2005 v2017 v2029
  let ⟨v5944, v5946, v5969, v5981, v5993, v6005, v6039, v6051, v6063, v6075, v6087, v6095, v6097, v6099, v6101⟩ : Σ' (v5944 : FVec F S1536x128 .fp8e4m3) (v5946 : FVec F S1x128 .f32) (v5969 : FVec F S32x128 .fp8e4m3) (v5981 : FVec F S32x128 .fp8e4m3) (v5993 : FVec F S32x128 .fp8e4m3) (v6005 : FVec F S32x128 .fp8e4m3) (v6039 : FVec F S32x128 .fp8e4m3) (v6051 : FVec F S32x128 .fp8e4m3) (v6063 : FVec F S32x128 .fp8e4m3) (v6075 : FVec F S32x128 .fp8e4m3) (v6087 : FVec F S8x128 .f32) (v6095 : IVec S8x128 32) (v6097 : IVec S8x128 1) (v6099 : IVec S8x128 32), IVec S8x128 32 ← k0_part262 i arg1 harg1 arg2 harg2 arg3 harg3 arg4 harg4 arg5 harg5 arg6 harg6 arg7 harg7 arg8 harg8 arg9 harg9 arg10 harg10 arg11 harg11 arg12 harg12 arg13 harg13 v3425 v3437 v3449 v3461 v3495 v3507 v3519 v3531 v3565 v3577 v3589 v3601 v3635 v3647 v3659 v3671 v3705 v3717 v3729 v3741 v3775 v3787 v3799 v3811 v3845 v3857 v3869 v3881 v3915 v3927 v3939 v3951 v3985 v3997 v4009 v4021 v4033 v4041 v4043 v4055 v4066
  let ⟨v7166, v7173, v7178, v7185, v7474, v7476⟩ : Σ' (v7166 : FVec F S8x1 .f32) (v7173 : FVec F S224x256 .f32) (v7178 : FVec F S8x1 .f32) (v7185 : FVec F S8x256 .f32) (v7474 : FVec F S8x256 .f32), FVec F S8x256 .f32 ← k0_part263 i arg1 harg1 arg2 harg2 arg3 harg3 arg4 harg4 arg5 harg5 arg6 harg6 arg7 harg7 arg8 harg8 arg9 harg9 arg10 harg10 arg11 harg11 arg12 harg12 arg13 harg13 arg0 v5944 v5946 v5969 v5981 v5993 v6005 v6039 v6051 v6063 v6075 v6087 v6095 v6097 v6099 v6101
  let v7480 : Vec F S1x8x256 .f32 ← Prog.lift (.load arg7 (Rect.unit (s := S28x8x256) ![26, 0, 0] S1x8x256.size inb_S28x8x256_S1x8x256_26_0_0).toLoadRect (View.loadsAt_vmem h_S1x8x256))
  Prog.lift (.store arg7 (Rect.unit (s := S28x8x256) ![26, 0, 0] S1x8x256.size inb_S28x8x256_S1x8x256_26_0_0) (k0_pay1 v7474 v7476) Finset.univ (View.stores_vmem_bits_univ h_S1x8x256 rfl) (.inl rfl))
  let v7491 : Vec F S1x8x256 .f32 ← Prog.lift (.load arg7 (Rect.unit (s := S28x8x256) ![27, 0, 0] S1x8x256.size inb_S28x8x256_S1x8x256_27_0_0).toLoadRect (View.loadsAt_vmem h_S1x8x256))
  Prog.lift (.store arg7 (Rect.unit (s := S28x8x256) ![27, 0, 0] S1x8x256.size inb_S28x8x256_S1x8x256_27_0_0) (k0_pay2 v7166 v7173 v7178 v7185) Finset.univ (View.stores_vmem_bits_univ h_S1x8x256 rfl) (.inl rfl))
  pure ⟨⟩

theorem body_first (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) (hc : (Scalar.cmpi .ne (Scalar.extui (Scalar.cmpi .eq (BitVec.ofNat 32 (i 0).val) 0#32)) 0#32) = 1#1) :
    cc0_adc_scan (F := F) i arg1 harg1 arg2 harg2 arg3 harg3 arg4 harg4 arg5 harg5 arg6 harg6 arg7 harg7 arg8 harg8 arg9 harg9 arg10 harg10 arg11 harg11 arg12 harg12 arg13 harg13 = (initP i arg1 harg1 arg2 harg2 arg3 harg3 arg4 harg4 arg5 harg5 arg6 harg6 arg7 harg7 arg8 harg8 arg9 harg9 arg10 harg10 arg11 harg11 arg12 harg12 arg13 harg13 >>= fun _ => tailP i arg1 harg1 arg2 harg2 arg3 harg3 arg4 harg4 arg5 harg5 arg6 harg6 arg7 harg7 arg8 harg8 arg9 harg9 arg10 harg10 arg11 harg11 arg12 harg12 arg13 harg13) := by
  simp only [cc0_adc_scan_eq_skeleton, cc0_adc_scan_skel, k0_part260_eq_skeleton, k0_part260_skel, k0_part44_eq_skeleton, k0_part44_skel,
    tailP, tail260, tail44, initP, dif_pos hc, Prog.bind_assoc]
  try rfl

theorem body_later (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) (hc : ¬ (Scalar.cmpi .ne (Scalar.extui (Scalar.cmpi .eq (BitVec.ofNat 32 (i 0).val) 0#32)) 0#32) = 1#1) :
    cc0_adc_scan (F := F) i arg1 harg1 arg2 harg2 arg3 harg3 arg4 harg4 arg5 harg5 arg6 harg6 arg7 harg7 arg8 harg8 arg9 harg9 arg10 harg10 arg11 harg11 arg12 harg12 arg13 harg13 = tailP i arg1 harg1 arg2 harg2 arg3 harg3 arg4 harg4 arg5 harg5 arg6 harg6 arg7 harg7 arg8 harg8 arg9 harg9 arg10 harg10 arg11 harg11 arg12 harg12 arg13 harg13 := by
  simp only [cc0_adc_scan_eq_skeleton, cc0_adc_scan_skel, k0_part260_eq_skeleton, k0_part260_skel, k0_part44_eq_skeleton, k0_part44_skel,
    tailP, tail260, tail44, dif_neg hc]
  try rfl

end Cert.KernelIdeal.Gen

end
-- ==== Proof.KInit.lean ====
/- The region that the first grid point alone runs: what it leaves in the scratch buffers. -/
module

public import Idealize.ShloMosaic.Lib.VecWindow
public import proofs.«01_k».proof.Proof.KCut
public import Idealize.ShloMosaic.Lib.Pointwise.Reshape

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem shapeCast_at {s t : Shape} {α : Type} (x : s.Idx → α) (h : s.ShapeCasts t) (j : t.Idx) (y : s.Idx) (hv : (s.rowMajor y : Nat) = (t.rowMajor j : Nat)) :
    shapeCast t x h j = x y := congrArg x (Shape.reshapeEquiv_eq_of_vals h j y _ _ rfl rfl hv)

/-- The codebook's words, cut in two halves of 128 codes. -/
def natV (x2 : Vec F S1536x256 .i8) : Vec F S2x384x128 .i32 := fun j =>
  k0_pay4 x2 (ix2 (j 1) ⟨(j 0).val * 128 + (j 2).val, by have h0 : (j 0).val < 2 := (j 0).isLt; have h2 : (j 2).val < 128 := (j 2).isLt; omega⟩)

/-- The centroids' squared lengths, cut in two halves of 128 codes. -/
def cnV (x2 : Vec F S1536x256 .i8) (x3 : Vec F S96x1 .f32) : Vec F S2x96x128 .f32 := fun j =>
  k0_pay3 x2 x3 (ix2 (j 1) ⟨(j 0).val * 128 + (j 2).val, by have h0 : (j 0).val < 2 := (j 0).isLt; have h2 : (j 2).val < 128 := (j 2).isLt; omega⟩)

/-- The codebook's words by group of subspaces. -/
def tblV (x2 : Vec F S1536x256 .i8) : Vec F S12x4x2x8x128 .i32 := fun j =>
  natV x2 (ix3 (j 2) ⟨((j 0).val / 4 * 32 + (j 0).val % 4) * 4 + (j 1).val + 16 * (j 3).val, by
    have h0 : (j 0).val < 12 := (j 0).isLt; have h1 : (j 1).val < 4 := (j 1).isLt; have h3 : (j 3).val < 8 := (j 3).isLt; omega⟩ (j 4))

/-- The centroids' squared lengths by group of subspaces. -/
def cntV (x2 : Vec F S1536x256 .i8) (x3 : Vec F S96x1 .f32) : Vec F S12x2x8x128 .f32 := fun j =>
  cnV x2 x3 (ix3 (j 1) ⟨(j 0).val / 4 * 32 + (j 0).val % 4 + 4 * (j 2).val, by
    have h0 : (j 0).val < 12 := (j 0).isLt; have h3 : (j 2).val < 8 := (j 2).isLt; omega⟩ (j 3))

/-- `x` cut in 8 groups of 28 rows and 12 groups of 128 columns. -/
def xfV (x1 : Vec F S224x1536 .bf16) : Vec F S12x8x28x128 .f32 := fun j =>
  k0_pay144 x1 (ix2 ⟨(j 1).val * 28 + (j 2).val, by have h1 : (j 1).val < 8 := (j 1).isLt; have h3 : (j 2).val < 28 := (j 2).isLt; omega⟩
    ⟨(j 0).val * 128 + (j 3).val, by have h0 : (j 0).val < 12 := (j 0).isLt; have h2 : (j 3).val < 128 := (j 3).isLt; omega⟩)

/-- The squared lengths of the rows of `x`. -/
def xnV (x1 : Vec F S224x1536 .bf16) : Vec F S224x128 .f32 := k0_pay251 (k0_pay250 (k0_pay144 x1))

theorem cov_eq {κ : Kind} {sp : Space} {s : Shape} {e : EltTy} (v : View sig κ sp s e) (G : s.Idx → Elt F e) (L : List (View.Piece (Elt F) s e)) (B : LoadRect s)
    (hG : ∀ p ∈ L, ∀ x : p.1.shape.Idx, p.2 x = G (p.1.emb x)) (hc : ∀ j : B.shape.Idx, ∃ p ∈ L, B.idx j ∈ p.1.set) :
    v.readCov L B = fun j => G (B.idx j) :=
  funext fun j => View.read_writes_apply_of_pieces v v.junk G L hG _ (hc j)

/-- The first half's store. -/
def nat0 (x2 : Vec F S1536x256 .i8) : View.Piece (Elt F) S2x384x128 .i32 := ⟨Rect.unit (s := S2x384x128) ![0, 0, 0] S1x384x128.size inb_S2x384x128_S1x384x128_0_0_0,
  shapeCast S1x384x128 (extractStridedSlice S384x128 ![0, 0] (k0_pay4 x2) slices_S384x256_o0_0_S384x128) shapeCasts_S384x128_S1x384x128⟩
/-- The second half's store. -/
def nat1 (x2 : Vec F S1536x256 .i8) : View.Piece (Elt F) S2x384x128 .i32 := ⟨Rect.unit (s := S2x384x128) ![1, 0, 0] S1x384x128.size inb_S2x384x128_S1x384x128_1_0_0,
  shapeCast S1x384x128 (extractStridedSlice S384x128 ![0, 128] (k0_pay4 x2) slices_S384x256_o0_128_S384x128) shapeCasts_S384x128_S1x384x128⟩
/-- The first half's store. -/
def cn0 (x2 : Vec F S1536x256 .i8) (x3 : Vec F S96x1 .f32) : View.Piece (Elt F) S2x96x128 .f32 := ⟨Rect.unit (s := S2x96x128) ![0, 0, 0] S1x96x128.size inb_S2x96x128_S1x96x128_0_0_0,
  shapeCast S1x96x128 (extractStridedSlice S96x128 ![0, 0] (k0_pay3 x2 x3) slices_S96x256_o0_0_S96x128) shapeCasts_S96x128_S1x96x128⟩
/-- The second half's store. -/
def cn1 (x2 : Vec F S1536x256 .i8) (x3 : Vec F S96x1 .f32) : View.Piece (Elt F) S2x96x128 .f32 := ⟨Rect.unit (s := S2x96x128) ![1, 0, 0] S1x96x128.size inb_S2x96x128_S1x96x128_1_0_0,
  shapeCast S1x96x128 (extractStridedSlice S96x128 ![0, 128] (k0_pay3 x2 x3) slices_S96x256_o0_128_S96x128) shapeCasts_S96x128_S1x96x128⟩

theorem nat0_eq (x2 : Vec F S1536x256 .i8) (x : (nat0 x2).1.shape.Idx) : (nat0 x2).2 x = natV x2 ((nat0 x2).1.emb x) := by
  revert x
  show ∀ x : S1x384x128.Idx, shapeCast S1x384x128 (extractStridedSlice S384x128 ![0, 0] (k0_pay4 x2) slices_S384x256_o0_0_S384x128) shapeCasts_S384x128_S1x384x128 x
    = natV x2 ((Rect.unit (s := S2x384x128) ![0, 0, 0] S1x384x128.size inb_S2x384x128_S1x384x128_0_0_0).emb x)
  intro x
  have h0 : (x 0).val < 1 := (x 0).isLt
  refine Eq.trans (shapeCast_at _ _ x (ix2 (x 1) (x 2)) (by
    rw [rowMajor_val2 _ 128 rfl, rowMajor_val3 _ 49152 128 rfl rfl]
    show (x 1).val * 128 + (x 2).val = (x 0).val * 49152 + (x 1).val * 128 + (x 2).val
    omega)) ?_
  show k0_pay4 x2 _ = k0_pay4 x2 _
  congr 1
  funext a
  apply Fin.ext
  fin_cases a
  · show 0 + (x 1).val = 0 + 1 * (x 1).val; omega
  · show 0 + (x 2).val = (0 + 1 * (x 0).val) * 128 + (0 + 1 * (x 2).val); omega

theorem nat1_eq (x2 : Vec F S1536x256 .i8) (x : (nat1 x2).1.shape.Idx) : (nat1 x2).2 x = natV x2 ((nat1 x2).1.emb x) := by
  revert x
  show ∀ x : S1x384x128.Idx, shapeCast S1x384x128 (extractStridedSlice S384x128 ![0, 128] (k0_pay4 x2) slices_S384x256_o0_128_S384x128) shapeCasts_S384x128_S1x384x128 x
    = natV x2 ((Rect.unit (s := S2x384x128) ![1, 0, 0] S1x384x128.size inb_S2x384x128_S1x384x128_1_0_0).emb x)
  intro x
  have h0 : (x 0).val < 1 := (x 0).isLt
  refine Eq.trans (shapeCast_at _ _ x (ix2 (x 1) (x 2)) (by
    rw [rowMajor_val2 _ 128 rfl, rowMajor_val3 _ 49152 128 rfl rfl]
    show (x 1).val * 128 + (x 2).val = (x 0).val * 49152 + (x 1).val * 128 + (x 2).val
    omega)) ?_
  show k0_pay4 x2 _ = k0_pay4 x2 _
  congr 1
  funext a
  apply Fin.ext
  fin_cases a
  · show 0 + (x 1).val = 0 + 1 * (x 1).val; omega
  · show 128 + (x 2).val = (1 + 1 * (x 0).val) * 128 + (0 + 1 * (x 2).val); omega

theorem nat_load0 (arg : Memref sig .tc .vmem S2x384x128 .i32) (x2 : Vec F S1536x256 .i8) (o : Nat) (inb : ∀ a, S1x8x128.size a = 0 ∨ (![0, o, 0] : Fin 3 → Nat) a + (![1, 16, 1] : Fin 3 → Nat) a * (S1x8x128.size a - 1) < S2x384x128.size a) :
    arg.view.readCov [nat0 x2] (⟨![0, o, 0], S1x8x128.size, ![1, 16, 1], inb⟩ : LoadRect S2x384x128)
      = fun j => natV x2 ((⟨![0, o, 0], S1x8x128.size, ![1, 16, 1], inb⟩ : LoadRect S2x384x128).idx j) := by
  refine cov_eq arg.view (natV x2) _ _ ?_ ?_
  · exact List.forall_mem_cons.2 ⟨nat0_eq x2, fun p hp => absurd hp List.not_mem_nil⟩
  · intro j
    refine ⟨nat0 x2, List.mem_cons_self, (nat0 x2).1.mem_set.2 fun a => ?_⟩
    have h1 : (j 1).val < 8 := (j 1).isLt
    have h0 : (j 0).val < 1 := (j 0).isLt
    have h2 : (j 2).val < 128 := (j 2).isLt
    have hi := inb 1
    have hi' : o + 16 * 7 < 384 := by rcases hi with hi | hi; exact absurd hi (by decide); exact hi
    fin_cases a
    · exact ⟨0, Nat.one_pos, by show 0 + 1 * (j 0).val = 0 + 1 * 0; omega⟩
    · exact ⟨o + 16 * (j 1).val, by show o + 16 * (j 1).val < 384; omega, by show o + 16 * (j 1).val = 0 + 1 * (o + 16 * (j 1).val); omega⟩
    · exact ⟨(j 2).val, h2, by show 0 + 1 * (j 2).val = 0 + 1 * (j 2).val; rfl⟩

theorem tbl_piece0 (arg : Memref sig .tc .vmem S2x384x128 .i32) (x2 : Vec F S1536x256 .i8) (g w o : Nat) (hg : o = (g / 4 * 32 + g % 4) * 4 + w)
    (inb : ∀ a, S1x8x128.size a = 0 ∨ (![0, o, 0] : Fin 3 → Nat) a + (![1, 16, 1] : Fin 3 → Nat) a * (S1x8x128.size a - 1) < S2x384x128.size a)
    (inb' : ∀ a, (![g, w, 0, 0, 0] : Fin 5 → Nat) a + S1x1x1x8x128.size a ≤ S12x4x2x8x128.size a) (x : S1x1x1x8x128.Idx) :
    shapeCast S1x1x1x8x128 (shapeCast S8x128 (arg.view.readCov [nat0 x2] (⟨![0, o, 0], S1x8x128.size, ![1, 16, 1], inb⟩ : LoadRect S2x384x128)) shapeCasts_S1x8x128_S8x128) shapeCasts_S8x128_S1x1x1x8x128 x
      = tblV x2 ((Rect.unit (s := S12x4x2x8x128) ![g, w, 0, 0, 0] S1x1x1x8x128.size inb').emb x) := by
  rw [nat_load0]
  subst hg
  have h0 : (x 0).val < 1 := (x 0).isLt
  have h1 : (x 1).val < 1 := (x 1).isLt
  have h2 : (x 2).val < 1 := (x 2).isLt
  refine Eq.trans (shapeCast_at _ _ x (ix2 (x 3) (x 4)) (by
    rw [rowMajor_val2 _ 128 rfl, rowMajor_val5 _ 1024 1024 1024 128 rfl rfl rfl rfl]
    show (x 3).val * 128 + (x 4).val = (x 0).val * 1024 + (x 1).val * 1024 + (x 2).val * 1024 + (x 3).val * 128 + (x 4).val
    omega)) (Eq.trans (shapeCast_at _ _ (ix2 (x 3) (x 4)) (ix3 (0 : Fin 1) (x 3) (x 4)) (by
    rw [rowMajor_val3 _ 1024 128 rfl rfl, rowMajor_val2 _ 128 rfl]
    show 0 * 1024 + (x 3).val * 128 + (x 4).val = (x 3).val * 128 + (x 4).val
    omega)) ?_)
  show natV x2 _ = natV x2 _
  congr 1
  funext a
  apply Fin.ext
  fin_cases a
  · show 0 + 1 * 0 = 0 + 1 * (x 2).val; omega
  · show (g / 4 * 32 + g % 4) * 4 + w + 16 * (x 3).val = ((g + 1 * (x 0).val) / 4 * 32 + (g + 1 * (x 0).val) % 4) * 4 + (w + 1 * (x 1).val) + 16 * (0 + 1 * (x 3).val)
    have e0 : g + 1 * (x 0).val = g := by omega
    rw [e0]; omega
  · show 0 + 1 * (x 4).val = 0 + 1 * (x 4).val; rfl

theorem nat_load1 (arg : Memref sig .tc .vmem S2x384x128 .i32) (x2 : Vec F S1536x256 .i8) (o : Nat) (inb : ∀ a, S1x8x128.size a = 0 ∨ (![1, o, 0] : Fin 3 → Nat) a + (![1, 16, 1] : Fin 3 → Nat) a * (S1x8x128.size a - 1) < S2x384x128.size a) :
    arg.view.readCov [nat1 x2, nat0 x2] (⟨![1, o, 0], S1x8x128.size, ![1, 16, 1], inb⟩ : LoadRect S2x384x128)
      = fun j => natV x2 ((⟨![1, o, 0], S1x8x128.size, ![1, 16, 1], inb⟩ : LoadRect S2x384x128).idx j) := by
  refine cov_eq arg.view (natV x2) _ _ ?_ ?_
  · exact List.forall_mem_cons.2 ⟨nat1_eq x2, List.forall_mem_cons.2 ⟨nat0_eq x2, fun p hp => absurd hp List.not_mem_nil⟩⟩
  · intro j
    refine ⟨nat1 x2, List.mem_cons_self, (nat1 x2).1.mem_set.2 fun a => ?_⟩
    have h1 : (j 1).val < 8 := (j 1).isLt
    have h0 : (j 0).val < 1 := (j 0).isLt
    have h2 : (j 2).val < 128 := (j 2).isLt
    have hi := inb 1
    have hi' : o + 16 * 7 < 384 := by rcases hi with hi | hi; exact absurd hi (by decide); exact hi
    fin_cases a
    · exact ⟨0, Nat.one_pos, by show 1 + 1 * (j 0).val = 1 + 1 * 0; omega⟩
    · exact ⟨o + 16 * (j 1).val, by show o + 16 * (j 1).val < 384; omega, by show o + 16 * (j 1).val = 0 + 1 * (o + 16 * (j 1).val); omega⟩
    · exact ⟨(j 2).val, h2, by show 0 + 1 * (j 2).val = 0 + 1 * (j 2).val; rfl⟩

theorem tbl_piece1 (arg : Memref sig .tc .vmem S2x384x128 .i32) (x2 : Vec F S1536x256 .i8) (g w o : Nat) (hg : o = (g / 4 * 32 + g % 4) * 4 + w)
    (inb : ∀ a, S1x8x128.size a = 0 ∨ (![1, o, 0] : Fin 3 → Nat) a + (![1, 16, 1] : Fin 3 → Nat) a * (S1x8x128.size a - 1) < S2x384x128.size a)
    (inb' : ∀ a, (![g, w, 1, 0, 0] : Fin 5 → Nat) a + S1x1x1x8x128.size a ≤ S12x4x2x8x128.size a) (x : S1x1x1x8x128.Idx) :
    shapeCast S1x1x1x8x128 (shapeCast S8x128 (arg.view.readCov [nat1 x2, nat0 x2] (⟨![1, o, 0], S1x8x128.size, ![1, 16, 1], inb⟩ : LoadRect S2x384x128)) shapeCasts_S1x8x128_S8x128) shapeCasts_S8x128_S1x1x1x8x128 x
      = tblV x2 ((Rect.unit (s := S12x4x2x8x128) ![g, w, 1, 0, 0] S1x1x1x8x128.size inb').emb x) := by
  rw [nat_load1]
  subst hg
  have h0 : (x 0).val < 1 := (x 0).isLt
  have h1 : (x 1).val < 1 := (x 1).isLt
  have h2 : (x 2).val < 1 := (x 2).isLt
  refine Eq.trans (shapeCast_at _ _ x (ix2 (x 3) (x 4)) (by
    rw [rowMajor_val2 _ 128 rfl, rowMajor_val5 _ 1024 1024 1024 128 rfl rfl rfl rfl]
    show (x 3).val * 128 + (x 4).val = (x 0).val * 1024 + (x 1).val * 1024 + (x 2).val * 1024 + (x 3).val * 128 + (x 4).val
    omega)) (Eq.trans (shapeCast_at _ _ (ix2 (x 3) (x 4)) (ix3 (0 : Fin 1) (x 3) (x 4)) (by
    rw [rowMajor_val3 _ 1024 128 rfl rfl, rowMajor_val2 _ 128 rfl]
    show 0 * 1024 + (x 3).val * 128 + (x 4).val = (x 3).val * 128 + (x 4).val
    omega)) ?_)
  show natV x2 _ = natV x2 _
  congr 1
  funext a
  apply Fin.ext
  fin_cases a
  · show 1 + 1 * 0 = 1 + 1 * (x 2).val; omega
  · show (g / 4 * 32 + g % 4) * 4 + w + 16 * (x 3).val = ((g + 1 * (x 0).val) / 4 * 32 + (g + 1 * (x 0).val) % 4) * 4 + (w + 1 * (x 1).val) + 16 * (0 + 1 * (x 3).val)
    have e0 : g + 1 * (x 0).val = g := by omega
    rw [e0]; omega
  · show 0 + 1 * (x 4).val = 0 + 1 * (x 4).val; rfl

theorem cn0_eq (x2 : Vec F S1536x256 .i8) (x3 : Vec F S96x1 .f32) (x : (cn0 x2 x3).1.shape.Idx) : (cn0 x2 x3).2 x = cnV x2 x3 ((cn0 x2 x3).1.emb x) := by
  revert x
  show ∀ x : S1x96x128.Idx, shapeCast S1x96x128 (extractStridedSlice S96x128 ![0, 0] (k0_pay3 x2 x3) slices_S96x256_o0_0_S96x128) shapeCasts_S96x128_S1x96x128 x
    = cnV x2 x3 ((Rect.unit (s := S2x96x128) ![0, 0, 0] S1x96x128.size inb_S2x96x128_S1x96x128_0_0_0).emb x)
  intro x
  have h0 : (x 0).val < 1 := (x 0).isLt
  refine Eq.trans (shapeCast_at _ _ x (ix2 (x 1) (x 2)) (by
    rw [rowMajor_val2 _ 128 rfl, rowMajor_val3 _ 12288 128 rfl rfl]
    show (x 1).val * 128 + (x 2).val = (x 0).val * 12288 + (x 1).val * 128 + (x 2).val
    omega)) ?_
  show k0_pay3 x2 x3 _ = k0_pay3 x2 x3 _
  congr 1
  funext a
  apply Fin.ext
  fin_cases a
  · show 0 + (x 1).val = 0 + 1 * (x 1).val; omega
  · show 0 + (x 2).val = (0 + 1 * (x 0).val) * 128 + (0 + 1 * (x 2).val); omega

theorem cn1_eq (x2 : Vec F S1536x256 .i8) (x3 : Vec F S96x1 .f32) (x : (cn1 x2 x3).1.shape.Idx) : (cn1 x2 x3).2 x = cnV x2 x3 ((cn1 x2 x3).1.emb x) := by
  revert x
  show ∀ x : S1x96x128.Idx, shapeCast S1x96x128 (extractStridedSlice S96x128 ![0, 128] (k0_pay3 x2 x3) slices_S96x256_o0_128_S96x128) shapeCasts_S96x128_S1x96x128 x
    = cnV x2 x3 ((Rect.unit (s := S2x96x128) ![1, 0, 0] S1x96x128.size inb_S2x96x128_S1x96x128_1_0_0).emb x)
  intro x
  have h0 : (x 0).val < 1 := (x 0).isLt
  refine Eq.trans (shapeCast_at _ _ x (ix2 (x 1) (x 2)) (by
    rw [rowMajor_val2 _ 128 rfl, rowMajor_val3 _ 12288 128 rfl rfl]
    show (x 1).val * 128 + (x 2).val = (x 0).val * 12288 + (x 1).val * 128 + (x 2).val
    omega)) ?_
  show k0_pay3 x2 x3 _ = k0_pay3 x2 x3 _
  congr 1
  funext a
  apply Fin.ext
  fin_cases a
  · show 0 + (x 1).val = 0 + 1 * (x 1).val; omega
  · show 128 + (x 2).val = (1 + 1 * (x 0).val) * 128 + (0 + 1 * (x 2).val); omega

theorem cn_load0 (arg : Memref sig .tc .vmem S2x96x128 .f32) (x2 : Vec F S1536x256 .i8) (x3 : Vec F S96x1 .f32) (o : Nat) (inb : ∀ a, S1x8x128.size a = 0 ∨ (![0, o, 0] : Fin 3 → Nat) a + (![1, 4, 1] : Fin 3 → Nat) a * (S1x8x128.size a - 1) < S2x96x128.size a) :
    arg.view.readCov [cn0 x2 x3] (⟨![0, o, 0], S1x8x128.size, ![1, 4, 1], inb⟩ : LoadRect S2x96x128)
      = fun j => cnV x2 x3 ((⟨![0, o, 0], S1x8x128.size, ![1, 4, 1], inb⟩ : LoadRect S2x96x128).idx j) := by
  refine cov_eq arg.view (cnV x2 x3) _ _ ?_ ?_
  · exact List.forall_mem_cons.2 ⟨cn0_eq x2 x3, fun p hp => absurd hp List.not_mem_nil⟩
  · intro j
    refine ⟨cn0 x2 x3, List.mem_cons_self, (cn0 x2 x3).1.mem_set.2 fun a => ?_⟩
    have h1 : (j 1).val < 8 := (j 1).isLt
    have h0 : (j 0).val < 1 := (j 0).isLt
    have h2 : (j 2).val < 128 := (j 2).isLt
    have hi := inb 1
    have hi' : o + 4 * 7 < 96 := by rcases hi with hi | hi; exact absurd hi (by decide); exact hi
    fin_cases a
    · exact ⟨0, Nat.one_pos, by show 0 + 1 * (j 0).val = 0 + 1 * 0; omega⟩
    · exact ⟨o + 4 * (j 1).val, by show o + 4 * (j 1).val < 96; omega, by show o + 4 * (j 1).val = 0 + 1 * (o + 4 * (j 1).val); omega⟩
    · exact ⟨(j 2).val, h2, by show 0 + 1 * (j 2).val = 0 + 1 * (j 2).val; rfl⟩

theorem cnt_piece0 (arg : Memref sig .tc .vmem S2x96x128 .f32) (x2 : Vec F S1536x256 .i8) (x3 : Vec F S96x1 .f32) (g o : Nat) (hg : o = g / 4 * 32 + g % 4)
    (inb : ∀ a, S1x8x128.size a = 0 ∨ (![0, o, 0] : Fin 3 → Nat) a + (![1, 4, 1] : Fin 3 → Nat) a * (S1x8x128.size a - 1) < S2x96x128.size a)
    (inb' : ∀ a, (![g, 0, 0, 0] : Fin 4 → Nat) a + S1x1x8x128.size a ≤ S12x2x8x128.size a) (x : S1x1x8x128.Idx) :
    shapeCast S1x1x8x128 (shapeCast S8x128 (arg.view.readCov [cn0 x2 x3] (⟨![0, o, 0], S1x8x128.size, ![1, 4, 1], inb⟩ : LoadRect S2x96x128)) shapeCasts_S1x8x128_S8x128) shapeCasts_S8x128_S1x1x8x128 x
      = cntV x2 x3 ((Rect.unit (s := S12x2x8x128) ![g, 0, 0, 0] S1x1x8x128.size inb').emb x) := by
  rw [cn_load0]
  subst hg
  have h0 : (x 0).val < 1 := (x 0).isLt
  have h1 : (x 1).val < 1 := (x 1).isLt
  refine Eq.trans (shapeCast_at _ _ x (ix2 (x 2) (x 3)) (by
    rw [rowMajor_val2 _ 128 rfl, rowMajor_val4 _ 1024 1024 128 rfl rfl rfl]
    show (x 2).val * 128 + (x 3).val = (x 0).val * 1024 + (x 1).val * 1024 + (x 2).val * 128 + (x 3).val
    omega)) (Eq.trans (shapeCast_at _ _ (ix2 (x 2) (x 3)) (ix3 (0 : Fin 1) (x 2) (x 3)) (by
    rw [rowMajor_val3 _ 1024 128 rfl rfl, rowMajor_val2 _ 128 rfl]
    show 0 * 1024 + (x 2).val * 128 + (x 3).val = (x 2).val * 128 + (x 3).val
    omega)) ?_)
  show cnV x2 x3 _ = cnV x2 x3 _
  congr 1
  funext a
  apply Fin.ext
  fin_cases a
  · show 0 + 1 * 0 = 0 + 1 * (x 1).val; omega
  · show g / 4 * 32 + g % 4 + 4 * (x 2).val = (g + 1 * (x 0).val) / 4 * 32 + (g + 1 * (x 0).val) % 4 + 4 * (0 + 1 * (x 2).val)
    have e0 : g + 1 * (x 0).val = g := by omega
    rw [e0]; omega
  · show 0 + 1 * (x 3).val = 0 + 1 * (x 3).val; rfl

theorem cn_load1 (arg : Memref sig .tc .vmem S2x96x128 .f32) (x2 : Vec F S1536x256 .i8) (x3 : Vec F S96x1 .f32) (o : Nat) (inb : ∀ a, S1x8x128.size a = 0 ∨ (![1, o, 0] : Fin 3 → Nat) a + (![1, 4, 1] : Fin 3 → Nat) a * (S1x8x128.size a - 1) < S2x96x128.size a) :
    arg.view.readCov [cn1 x2 x3, cn0 x2 x3] (⟨![1, o, 0], S1x8x128.size, ![1, 4, 1], inb⟩ : LoadRect S2x96x128)
      = fun j => cnV x2 x3 ((⟨![1, o, 0], S1x8x128.size, ![1, 4, 1], inb⟩ : LoadRect S2x96x128).idx j) := by
  refine cov_eq arg.view (cnV x2 x3) _ _ ?_ ?_
  · exact List.forall_mem_cons.2 ⟨cn1_eq x2 x3, List.forall_mem_cons.2 ⟨cn0_eq x2 x3, fun p hp => absurd hp List.not_mem_nil⟩⟩
  · intro j
    refine ⟨cn1 x2 x3, List.mem_cons_self, (cn1 x2 x3).1.mem_set.2 fun a => ?_⟩
    have h1 : (j 1).val < 8 := (j 1).isLt
    have h0 : (j 0).val < 1 := (j 0).isLt
    have h2 : (j 2).val < 128 := (j 2).isLt
    have hi := inb 1
    have hi' : o + 4 * 7 < 96 := by rcases hi with hi | hi; exact absurd hi (by decide); exact hi
    fin_cases a
    · exact ⟨0, Nat.one_pos, by show 1 + 1 * (j 0).val = 1 + 1 * 0; omega⟩
    · exact ⟨o + 4 * (j 1).val, by show o + 4 * (j 1).val < 96; omega, by show o + 4 * (j 1).val = 0 + 1 * (o + 4 * (j 1).val); omega⟩
    · exact ⟨(j 2).val, h2, by show 0 + 1 * (j 2).val = 0 + 1 * (j 2).val; rfl⟩

theorem cnt_piece1 (arg : Memref sig .tc .vmem S2x96x128 .f32) (x2 : Vec F S1536x256 .i8) (x3 : Vec F S96x1 .f32) (g o : Nat) (hg : o = g / 4 * 32 + g % 4)
    (inb : ∀ a, S1x8x128.size a = 0 ∨ (![1, o, 0] : Fin 3 → Nat) a + (![1, 4, 1] : Fin 3 → Nat) a * (S1x8x128.size a - 1) < S2x96x128.size a)
    (inb' : ∀ a, (![g, 1, 0, 0] : Fin 4 → Nat) a + S1x1x8x128.size a ≤ S12x2x8x128.size a) (x : S1x1x8x128.Idx) :
    shapeCast S1x1x8x128 (shapeCast S8x128 (arg.view.readCov [cn1 x2 x3, cn0 x2 x3] (⟨![1, o, 0], S1x8x128.size, ![1, 4, 1], inb⟩ : LoadRect S2x96x128)) shapeCasts_S1x8x128_S8x128) shapeCasts_S8x128_S1x1x8x128 x
      = cntV x2 x3 ((Rect.unit (s := S12x2x8x128) ![g, 1, 0, 0] S1x1x8x128.size inb').emb x) := by
  rw [cn_load1]
  subst hg
  have h0 : (x 0).val < 1 := (x 0).isLt
  have h1 : (x 1).val < 1 := (x 1).isLt
  refine Eq.trans (shapeCast_at _ _ x (ix2 (x 2) (x 3)) (by
    rw [rowMajor_val2 _ 128 rfl, rowMajor_val4 _ 1024 1024 128 rfl rfl rfl]
    show (x 2).val * 128 + (x 3).val = (x 0).val * 1024 + (x 1).val * 1024 + (x 2).val * 128 + (x 3).val
    omega)) (Eq.trans (shapeCast_at _ _ (ix2 (x 2) (x 3)) (ix3 (0 : Fin 1) (x 2) (x 3)) (by
    rw [rowMajor_val3 _ 1024 128 rfl rfl, rowMajor_val2 _ 128 rfl]
    show 0 * 1024 + (x 2).val * 128 + (x 3).val = (x 2).val * 128 + (x 3).val
    omega)) ?_)
  show cnV x2 x3 _ = cnV x2 x3 _
  congr 1
  funext a
  apply Fin.ext
  fin_cases a
  · show 1 + 1 * 0 = 1 + 1 * (x 1).val; omega
  · show g / 4 * 32 + g % 4 + 4 * (x 2).val = (g + 1 * (x 0).val) / 4 * 32 + (g + 1 * (x 0).val) % 4 + 4 * (0 + 1 * (x 2).val)
    have e0 : g + 1 * (x 0).val = g := by omega
    rw [e0]; omega
  · show 0 + 1 * (x 3).val = 0 + 1 * (x 3).val; rfl

theorem xf_piece (x1 : Vec F S224x1536 .bf16) (G r o o' : Nat) (ho : o = r * 28) (ho' : o' = G * 128) (hs : S224x1536.Slices ![o, o'] S28x128)
    (inb' : ∀ a, (![G, r, 0, 0] : Fin 4 → Nat) a + S1x1x28x128.size a ≤ S12x8x28x128.size a) (x : S1x1x28x128.Idx) :
    shapeCast S1x1x28x128 (extractStridedSlice S28x128 ![o, o'] (k0_pay144 x1) hs) shapeCasts_S28x128_S1x1x28x128 x
      = xfV x1 ((Rect.unit (s := S12x8x28x128) ![G, r, 0, 0] S1x1x28x128.size inb').emb x) := by
  subst ho; subst ho'
  have h0 : (x 0).val < 1 := (x 0).isLt
  have h1 : (x 1).val < 1 := (x 1).isLt
  refine Eq.trans (shapeCast_at _ _ x (ix2 (x 2) (x 3)) (by
    rw [rowMajor_val2 _ 128 rfl, rowMajor_val4 _ 3584 3584 128 rfl rfl rfl]
    show (x 2).val * 128 + (x 3).val = (x 0).val * 3584 + (x 1).val * 3584 + (x 2).val * 128 + (x 3).val
    omega)) ?_
  show k0_pay144 x1 _ = k0_pay144 x1 _
  congr 1
  funext a
  apply Fin.ext
  fin_cases a
  · show r * 28 + (x 2).val = (r + 1 * (x 1).val) * 28 + (0 + 1 * (x 2).val); omega
  · show G * 128 + (x 3).val = (G + 1 * (x 0).val) * 128 + (0 + 1 * (x 3).val); omega

set_option maxHeartbeats 10000000 in
theorem run_init (c : Dev nD) (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole)
  (x1 : Vec F S224x1536 .bf16) (x2 : Vec F S1536x256 .i8) (x3 : Vec F S96x1 .f32)
  (E : Set ℕ) (K : PUnit → sProp 𝕄) :
  iprop(owns (c : Thread nD τ) arg2 fullShare x1 ∗ owns (c : Thread nD τ) arg3 fullShare x2 ∗ owns (c : Thread nD τ) arg4 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
    ∗ (iprop(owns (c : Thread nD τ) arg2 fullShare x1 ∗ owns (c : Thread nD τ) arg3 fullShare x2 ∗ owns (c : Thread nD τ) arg4 fullShare x3 ∗ (∃ d, owns (c : Thread nD τ) arg8 fullShare d) ∗ owns (c : Thread nD τ) arg9 fullShare (tblV x2) ∗ owns (c : Thread nD τ) arg10 fullShare (cnV x2 x3) ∗ owns (c : Thread nD τ) arg11 fullShare (cntV x2 x3) ∗ owns (c : Thread nD τ) arg12 fullShare (xnV x1) ∗ owns (c : Thread nD τ) arg13 fullShare (xfV x1)) -∗ K ⟨⟩))
  ⊢ wp frame (wpE (defs₀ (F := F)) Variants.none c none) E (initP i arg1 harg1 arg2 harg2 arg3 harg3 arg4 harg4 arg5 harg5 arg6 harg6 arg7 harg7 arg8 harg8 arg9 harg9 arg10 harg10 arg11 harg11 arg12 harg12 arg13 harg13) K := by
    unfold initP
    simp only [k0_part260_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part261_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part262_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part263_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf1; obtain rfl := harg3.eq_unread hf2; obtain rfl := harg4.eq_unread hf3
    have hw2 : ∀ inb, arg2.view.readAt (Elt F) (Rect.unit ![0, 0] S224x1536.size inb).toLoadRect (harg2.unread x1) = x1 := fun inb => readAt_all2 arg2 harg2 x1 inb
    have hw3 : ∀ inb, arg3.view.readAt (Elt F) (Rect.unit ![0, 0] S1536x256.size inb).toLoadRect (harg3.unread x2) = x2 := fun inb => readAt_all2 arg3 harg3 x2 inb
    have hw4 : ∀ inb, arg4.view.readAt (Elt F) (Rect.unit ![0, 0] S96x1.size inb).toLoadRect (harg4.unread x3) = x3 := fun inb => readAt_all2 arg4 harg4 x3 inb
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _, _; isplitr; swap; · iexact HS0
      ipureintro; rfl
    isplitl [HS1]
    · iexists _; isplitr; swap; · iexact HS1
      ipureintro; funext y
      refine View.read_writes_apply_of_pieces _ _ (tblV x2) _ ?_ y (View.cover_of_tiledL (s := S12x4x2x8x128) _ S1x1x1x8x128.size (by sl_kernel_rfl) y)
      exact List.forall_mem_cons.2 ⟨fun x => tbl_piece1 arg8 x2 11 3 271 rfl inb_S2x384x128_S1x8x128_1_271_0_s_1_16_1 inb_S12x4x2x8x128_S1x1x1x8x128_11_3_1_0_0 x, List.forall_mem_cons.2 ⟨fun x => tbl_piece1 arg8 x2 11 2 270 rfl inb_S2x384x128_S1x8x128_1_270_0_s_1_16_1 inb_S12x4x2x8x128_S1x1x1x8x128_11_2_1_0_0 x, List.forall_mem_cons.2 ⟨fun x => tbl_piece1 arg8 x2 11 1 269 rfl inb_S2x384x128_S1x8x128_1_269_0_s_1_16_1 inb_S12x4x2x8x128_S1x1x1x8x128_11_1_1_0_0 x, List.forall_mem_cons.2 ⟨fun x => tbl_piece1 arg8 x2 11 0 268 rfl inb_S2x384x128_S1x8x128_1_268_0_s_1_16_1 inb_S12x4x2x8x128_S1x1x1x8x128_11_0_1_0_0 x, List.forall_mem_cons.2 ⟨fun x => tbl_piece1 arg8 x2 10 3 267 rfl inb_S2x384x128_S1x8x128_1_267_0_s_1_16_1 inb_S12x4x2x8x128_S1x1x1x8x128_10_3_1_0_0 x, List.forall_mem_cons.2 ⟨fun x => tbl_piece1 arg8 x2 10 2 266 rfl inb_S2x384x128_S1x8x128_1_266_0_s_1_16_1 inb_S12x4x2x8x128_S1x1x1x8x128_10_2_1_0_0 x, List.forall_mem_cons.2 ⟨fun x => tbl_piece1 arg8 x2 10 1 265 rfl inb_S2x384x128_S1x8x128_1_265_0_s_1_16_1 inb_S12x4x2x8x128_S1x1x1x8x128_10_1_1_0_0 x, List.forall_mem_cons.2 ⟨fun x => tbl_piece1 arg8 x2 10 0 264 rfl inb_S2x384x128_S1x8x128_1_264_0_s_1_16_1 inb_S12x4x2x8x128_S1x1x1x8x128_10_0_1_0_0 x, List.forall_mem_cons.2 ⟨fun x => tbl_piece1 arg8 x2 9 3 263 rfl inb_S2x384x128_S1x8x128_1_263_0_s_1_16_1 inb_S12x4x2x8x128_S1x1x1x8x128_9_3_1_0_0 x, List.forall_mem_cons.2 ⟨fun x => tbl_piece1 arg8 x2 9 2 262 rfl inb_S2x384x128_S1x8x128_1_262_0_s_1_16_1 inb_S12x4x2x8x128_S1x1x1x8x128_9_2_1_0_0 x, List.forall_mem_cons.2 ⟨fun x => tbl_piece1 arg8 x2 9 1 261 rfl inb_S2x384x128_S1x8x128_1_261_0_s_1_16_1 inb_S12x4x2x8x128_S1x1x1x8x128_9_1_1_0_0 x, List.forall_mem_cons.2 ⟨fun x => tbl_piece1 arg8 x2 9 0 260 rfl inb_S2x384x128_S1x8x128_1_260_0_s_1_16_1 inb_S12x4x2x8x128_S1x1x1x8x128_9_0_1_0_0 x, List.forall_mem_cons.2 ⟨fun x => tbl_piece1 arg8 x2 8 3 259 rfl inb_S2x384x128_S1x8x128_1_259_0_s_1_16_1 inb_S12x4x2x8x128_S1x1x1x8x128_8_3_1_0_0 x, List.forall_mem_cons.2 ⟨fun x => tbl_piece1 arg8 x2 8 2 258 rfl inb_S2x384x128_S1x8x128_1_258_0_s_1_16_1 inb_S12x4x2x8x128_S1x1x1x8x128_8_2_1_0_0 x, List.forall_mem_cons.2 ⟨fun x => tbl_piece1 arg8 x2 8 1 257 rfl inb_S2x384x128_S1x8x128_1_257_0_s_1_16_1 inb_S12x4x2x8x128_S1x1x1x8x128_8_1_1_0_0 x, List.forall_mem_cons.2 ⟨fun x => tbl_piece1 arg8 x2 8 0 256 rfl inb_S2x384x128_S1x8x128_1_256_0_s_1_16_1 inb_S12x4x2x8x128_S1x1x1x8x128_8_0_1_0_0 x, List.forall_mem_cons.2 ⟨fun x => tbl_piece1 arg8 x2 7 3 143 rfl inb_S2x384x128_S1x8x128_1_143_0_s_1_16_1 inb_S12x4x2x8x128_S1x1x1x8x128_7_3_1_0_0 x, List.forall_mem_cons.2 ⟨fun x => tbl_piece1 arg8 x2 7 2 142 rfl inb_S2x384x128_S1x8x128_1_142_0_s_1_16_1 inb_S12x4x2x8x128_S1x1x1x8x128_7_2_1_0_0 x, List.forall_mem_cons.2 ⟨fun x => tbl_piece1 arg8 x2 7 1 141 rfl inb_S2x384x128_S1x8x128_1_141_0_s_1_16_1 inb_S12x4x2x8x128_S1x1x1x8x128_7_1_1_0_0 x, List.forall_mem_cons.2 ⟨fun x => tbl_piece1 arg8 x2 7 0 140 rfl inb_S2x384x128_S1x8x128_1_140_0_s_1_16_1 inb_S12x4x2x8x128_S1x1x1x8x128_7_0_1_0_0 x, List.forall_mem_cons.2 ⟨fun x => tbl_piece1 arg8 x2 6 3 139 rfl inb_S2x384x128_S1x8x128_1_139_0_s_1_16_1 inb_S12x4x2x8x128_S1x1x1x8x128_6_3_1_0_0 x, List.forall_mem_cons.2 ⟨fun x => tbl_piece1 arg8 x2 6 2 138 rfl inb_S2x384x128_S1x8x128_1_138_0_s_1_16_1 inb_S12x4x2x8x128_S1x1x1x8x128_6_2_1_0_0 x, List.forall_mem_cons.2 ⟨fun x => tbl_piece1 arg8 x2 6 1 137 rfl inb_S2x384x128_S1x8x128_1_137_0_s_1_16_1 inb_S12x4x2x8x128_S1x1x1x8x128_6_1_1_0_0 x, List.forall_mem_cons.2 ⟨fun x => tbl_piece1 arg8 x2 6 0 136 rfl inb_S2x384x128_S1x8x128_1_136_0_s_1_16_1 inb_S12x4x2x8x128_S1x1x1x8x128_6_0_1_0_0 x, List.forall_mem_cons.2 ⟨fun x => tbl_piece1 arg8 x2 5 3 135 rfl inb_S2x384x128_S1x8x128_1_135_0_s_1_16_1 inb_S12x4x2x8x128_S1x1x1x8x128_5_3_1_0_0 x, List.forall_mem_cons.2 ⟨fun x => tbl_piece1 arg8 x2 5 2 134 rfl inb_S2x384x128_S1x8x128_1_134_0_s_1_16_1 inb_S12x4x2x8x128_S1x1x1x8x128_5_2_1_0_0 x, List.forall_mem_cons.2 ⟨fun x => tbl_piece1 arg8 x2 5 1 133 rfl inb_S2x384x128_S1x8x128_1_133_0_s_1_16_1 inb_S12x4x2x8x128_S1x1x1x8x128_5_1_1_0_0 x, List.forall_mem_cons.2 ⟨fun x => tbl_piece1 arg8 x2 5 0 132 rfl inb_S2x384x128_S1x8x128_1_132_0_s_1_16_1 inb_S12x4x2x8x128_S1x1x1x8x128_5_0_1_0_0 x, List.forall_mem_cons.2 ⟨fun x => tbl_piece1 arg8 x2 4 3 131 rfl inb_S2x384x128_S1x8x128_1_131_0_s_1_16_1 inb_S12x4x2x8x128_S1x1x1x8x128_4_3_1_0_0 x, List.forall_mem_cons.2 ⟨fun x => tbl_piece1 arg8 x2 4 2 130 rfl inb_S2x384x128_S1x8x128_1_130_0_s_1_16_1 inb_S12x4x2x8x128_S1x1x1x8x128_4_2_1_0_0 x, List.forall_mem_cons.2 ⟨fun x => tbl_piece1 arg8 x2 4 1 129 rfl inb_S2x384x128_S1x8x128_1_129_0_s_1_16_1 inb_S12x4x2x8x128_S1x1x1x8x128_4_1_1_0_0 x, List.forall_mem_cons.2 ⟨fun x => tbl_piece1 arg8 x2 4 0 128 rfl inb_S2x384x128_S1x8x128_1_128_0_s_1_16_1 inb_S12x4x2x8x128_S1x1x1x8x128_4_0_1_0_0 x, List.forall_mem_cons.2 ⟨fun x => tbl_piece1 arg8 x2 3 3 15 rfl inb_S2x384x128_S1x8x128_1_15_0_s_1_16_1 inb_S12x4x2x8x128_S1x1x1x8x128_3_3_1_0_0 x, List.forall_mem_cons.2 ⟨fun x => tbl_piece1 arg8 x2 3 2 14 rfl inb_S2x384x128_S1x8x128_1_14_0_s_1_16_1 inb_S12x4x2x8x128_S1x1x1x8x128_3_2_1_0_0 x, List.forall_mem_cons.2 ⟨fun x => tbl_piece1 arg8 x2 3 1 13 rfl inb_S2x384x128_S1x8x128_1_13_0_s_1_16_1 inb_S12x4x2x8x128_S1x1x1x8x128_3_1_1_0_0 x, List.forall_mem_cons.2 ⟨fun x => tbl_piece1 arg8 x2 3 0 12 rfl inb_S2x384x128_S1x8x128_1_12_0_s_1_16_1 inb_S12x4x2x8x128_S1x1x1x8x128_3_0_1_0_0 x, List.forall_mem_cons.2 ⟨fun x => tbl_piece1 arg8 x2 2 3 11 rfl inb_S2x384x128_S1x8x128_1_11_0_s_1_16_1 inb_S12x4x2x8x128_S1x1x1x8x128_2_3_1_0_0 x, List.forall_mem_cons.2 ⟨fun x => tbl_piece1 arg8 x2 2 2 10 rfl inb_S2x384x128_S1x8x128_1_10_0_s_1_16_1 inb_S12x4x2x8x128_S1x1x1x8x128_2_2_1_0_0 x, List.forall_mem_cons.2 ⟨fun x => tbl_piece1 arg8 x2 2 1 9 rfl inb_S2x384x128_S1x8x128_1_9_0_s_1_16_1 inb_S12x4x2x8x128_S1x1x1x8x128_2_1_1_0_0 x, List.forall_mem_cons.2 ⟨fun x => tbl_piece1 arg8 x2 2 0 8 rfl inb_S2x384x128_S1x8x128_1_8_0_s_1_16_1 inb_S12x4x2x8x128_S1x1x1x8x128_2_0_1_0_0 x, List.forall_mem_cons.2 ⟨fun x => tbl_piece1 arg8 x2 1 3 7 rfl inb_S2x384x128_S1x8x128_1_7_0_s_1_16_1 inb_S12x4x2x8x128_S1x1x1x8x128_1_3_1_0_0 x, List.forall_mem_cons.2 ⟨fun x => tbl_piece1 arg8 x2 1 2 6 rfl inb_S2x384x128_S1x8x128_1_6_0_s_1_16_1 inb_S12x4x2x8x128_S1x1x1x8x128_1_2_1_0_0 x, List.forall_mem_cons.2 ⟨fun x => tbl_piece1 arg8 x2 1 1 5 rfl inb_S2x384x128_S1x8x128_1_5_0_s_1_16_1 inb_S12x4x2x8x128_S1x1x1x8x128_1_1_1_0_0 x, List.forall_mem_cons.2 ⟨fun x => tbl_piece1 arg8 x2 1 0 4 rfl inb_S2x384x128_S1x8x128_1_4_0_s_1_16_1 inb_S12x4x2x8x128_S1x1x1x8x128_1_0_1_0_0 x, List.forall_mem_cons.2 ⟨fun x => tbl_piece1 arg8 x2 0 3 3 rfl inb_S2x384x128_S1x8x128_1_3_0_s_1_16_1 inb_S12x4x2x8x128_S1x1x1x8x128_0_3_1_0_0 x, List.forall_mem_cons.2 ⟨fun x => tbl_piece1 arg8 x2 0 2 2 rfl inb_S2x384x128_S1x8x128_1_2_0_s_1_16_1 inb_S12x4x2x8x128_S1x1x1x8x128_0_2_1_0_0 x, List.forall_mem_cons.2 ⟨fun x => tbl_piece1 arg8 x2 0 1 1 rfl inb_S2x384x128_S1x8x128_1_1_0_s_1_16_1 inb_S12x4x2x8x128_S1x1x1x8x128_0_1_1_0_0 x, List.forall_mem_cons.2 ⟨fun x => tbl_piece1 arg8 x2 0 0 0 rfl inb_S2x384x128_S1x8x128_1_0_0_s_1_16_1 inb_S12x4x2x8x128_S1x1x1x8x128_0_0_1_0_0 x, List.forall_mem_cons.2 ⟨fun x => tbl_piece0 arg8 x2 11 3 271 rfl inb_S2x384x128_S1x8x128_0_271_0_s_1_16_1 inb_S12x4x2x8x128_S1x1x1x8x128_11_3_0_0_0 x, List.forall_mem_cons.2 ⟨fun x => tbl_piece0 arg8 x2 11 2 270 rfl inb_S2x384x128_S1x8x128_0_270_0_s_1_16_1 inb_S12x4x2x8x128_S1x1x1x8x128_11_2_0_0_0 x, List.forall_mem_cons.2 ⟨fun x => tbl_piece0 arg8 x2 11 1 269 rfl inb_S2x384x128_S1x8x128_0_269_0_s_1_16_1 inb_S12x4x2x8x128_S1x1x1x8x128_11_1_0_0_0 x, List.forall_mem_cons.2 ⟨fun x => tbl_piece0 arg8 x2 11 0 268 rfl inb_S2x384x128_S1x8x128_0_268_0_s_1_16_1 inb_S12x4x2x8x128_S1x1x1x8x128_11_0_0_0_0 x, List.forall_mem_cons.2 ⟨fun x => tbl_piece0 arg8 x2 10 3 267 rfl inb_S2x384x128_S1x8x128_0_267_0_s_1_16_1 inb_S12x4x2x8x128_S1x1x1x8x128_10_3_0_0_0 x, List.forall_mem_cons.2 ⟨fun x => tbl_piece0 arg8 x2 10 2 266 rfl inb_S2x384x128_S1x8x128_0_266_0_s_1_16_1 inb_S12x4x2x8x128_S1x1x1x8x128_10_2_0_0_0 x, List.forall_mem_cons.2 ⟨fun x => tbl_piece0 arg8 x2 10 1 265 rfl inb_S2x384x128_S1x8x128_0_265_0_s_1_16_1 inb_S12x4x2x8x128_S1x1x1x8x128_10_1_0_0_0 x, List.forall_mem_cons.2 ⟨fun x => tbl_piece0 arg8 x2 10 0 264 rfl inb_S2x384x128_S1x8x128_0_264_0_s_1_16_1 inb_S12x4x2x8x128_S1x1x1x8x128_10_0_0_0_0 x, List.forall_mem_cons.2 ⟨fun x => tbl_piece0 arg8 x2 9 3 263 rfl inb_S2x384x128_S1x8x128_0_263_0_s_1_16_1 inb_S12x4x2x8x128_S1x1x1x8x128_9_3_0_0_0 x, List.forall_mem_cons.2 ⟨fun x => tbl_piece0 arg8 x2 9 2 262 rfl inb_S2x384x128_S1x8x128_0_262_0_s_1_16_1 inb_S12x4x2x8x128_S1x1x1x8x128_9_2_0_0_0 x, List.forall_mem_cons.2 ⟨fun x => tbl_piece0 arg8 x2 9 1 261 rfl inb_S2x384x128_S1x8x128_0_261_0_s_1_16_1 inb_S12x4x2x8x128_S1x1x1x8x128_9_1_0_0_0 x, List.forall_mem_cons.2 ⟨fun x => tbl_piece0 arg8 x2 9 0 260 rfl inb_S2x384x128_S1x8x128_0_260_0_s_1_16_1 inb_S12x4x2x8x128_S1x1x1x8x128_9_0_0_0_0 x, List.forall_mem_cons.2 ⟨fun x => tbl_piece0 arg8 x2 8 3 259 rfl inb_S2x384x128_S1x8x128_0_259_0_s_1_16_1 inb_S12x4x2x8x128_S1x1x1x8x128_8_3_0_0_0 x, List.forall_mem_cons.2 ⟨fun x => tbl_piece0 arg8 x2 8 2 258 rfl inb_S2x384x128_S1x8x128_0_258_0_s_1_16_1 inb_S12x4x2x8x128_S1x1x1x8x128_8_2_0_0_0 x, List.forall_mem_cons.2 ⟨fun x => tbl_piece0 arg8 x2 8 1 257 rfl inb_S2x384x128_S1x8x128_0_257_0_s_1_16_1 inb_S12x4x2x8x128_S1x1x1x8x128_8_1_0_0_0 x, List.forall_mem_cons.2 ⟨fun x => tbl_piece0 arg8 x2 8 0 256 rfl inb_S2x384x128_S1x8x128_0_256_0_s_1_16_1 inb_S12x4x2x8x128_S1x1x1x8x128_8_0_0_0_0 x, List.forall_mem_cons.2 ⟨fun x => tbl_piece0 arg8 x2 7 3 143 rfl inb_S2x384x128_S1x8x128_0_143_0_s_1_16_1 inb_S12x4x2x8x128_S1x1x1x8x128_7_3_0_0_0 x, List.forall_mem_cons.2 ⟨fun x => tbl_piece0 arg8 x2 7 2 142 rfl inb_S2x384x128_S1x8x128_0_142_0_s_1_16_1 inb_S12x4x2x8x128_S1x1x1x8x128_7_2_0_0_0 x, List.forall_mem_cons.2 ⟨fun x => tbl_piece0 arg8 x2 7 1 141 rfl inb_S2x384x128_S1x8x128_0_141_0_s_1_16_1 inb_S12x4x2x8x128_S1x1x1x8x128_7_1_0_0_0 x, List.forall_mem_cons.2 ⟨fun x => tbl_piece0 arg8 x2 7 0 140 rfl inb_S2x384x128_S1x8x128_0_140_0_s_1_16_1 inb_S12x4x2x8x128_S1x1x1x8x128_7_0_0_0_0 x, List.forall_mem_cons.2 ⟨fun x => tbl_piece0 arg8 x2 6 3 139 rfl inb_S2x384x128_S1x8x128_0_139_0_s_1_16_1 inb_S12x4x2x8x128_S1x1x1x8x128_6_3_0_0_0 x, List.forall_mem_cons.2 ⟨fun x => tbl_piece0 arg8 x2 6 2 138 rfl inb_S2x384x128_S1x8x128_0_138_0_s_1_16_1 inb_S12x4x2x8x128_S1x1x1x8x128_6_2_0_0_0 x, List.forall_mem_cons.2 ⟨fun x => tbl_piece0 arg8 x2 6 1 137 rfl inb_S2x384x128_S1x8x128_0_137_0_s_1_16_1 inb_S12x4x2x8x128_S1x1x1x8x128_6_1_0_0_0 x, List.forall_mem_cons.2 ⟨fun x => tbl_piece0 arg8 x2 6 0 136 rfl inb_S2x384x128_S1x8x128_0_136_0_s_1_16_1 inb_S12x4x2x8x128_S1x1x1x8x128_6_0_0_0_0 x, List.forall_mem_cons.2 ⟨fun x => tbl_piece0 arg8 x2 5 3 135 rfl inb_S2x384x128_S1x8x128_0_135_0_s_1_16_1 inb_S12x4x2x8x128_S1x1x1x8x128_5_3_0_0_0 x, List.forall_mem_cons.2 ⟨fun x => tbl_piece0 arg8 x2 5 2 134 rfl inb_S2x384x128_S1x8x128_0_134_0_s_1_16_1 inb_S12x4x2x8x128_S1x1x1x8x128_5_2_0_0_0 x, List.forall_mem_cons.2 ⟨fun x => tbl_piece0 arg8 x2 5 1 133 rfl inb_S2x384x128_S1x8x128_0_133_0_s_1_16_1 inb_S12x4x2x8x128_S1x1x1x8x128_5_1_0_0_0 x, List.forall_mem_cons.2 ⟨fun x => tbl_piece0 arg8 x2 5 0 132 rfl inb_S2x384x128_S1x8x128_0_132_0_s_1_16_1 inb_S12x4x2x8x128_S1x1x1x8x128_5_0_0_0_0 x, List.forall_mem_cons.2 ⟨fun x => tbl_piece0 arg8 x2 4 3 131 rfl inb_S2x384x128_S1x8x128_0_131_0_s_1_16_1 inb_S12x4x2x8x128_S1x1x1x8x128_4_3_0_0_0 x, List.forall_mem_cons.2 ⟨fun x => tbl_piece0 arg8 x2 4 2 130 rfl inb_S2x384x128_S1x8x128_0_130_0_s_1_16_1 inb_S12x4x2x8x128_S1x1x1x8x128_4_2_0_0_0 x, List.forall_mem_cons.2 ⟨fun x => tbl_piece0 arg8 x2 4 1 129 rfl inb_S2x384x128_S1x8x128_0_129_0_s_1_16_1 inb_S12x4x2x8x128_S1x1x1x8x128_4_1_0_0_0 x, List.forall_mem_cons.2 ⟨fun x => tbl_piece0 arg8 x2 4 0 128 rfl inb_S2x384x128_S1x8x128_0_128_0_s_1_16_1 inb_S12x4x2x8x128_S1x1x1x8x128_4_0_0_0_0 x, List.forall_mem_cons.2 ⟨fun x => tbl_piece0 arg8 x2 3 3 15 rfl inb_S2x384x128_S1x8x128_0_15_0_s_1_16_1 inb_S12x4x2x8x128_S1x1x1x8x128_3_3_0_0_0 x, List.forall_mem_cons.2 ⟨fun x => tbl_piece0 arg8 x2 3 2 14 rfl inb_S2x384x128_S1x8x128_0_14_0_s_1_16_1 inb_S12x4x2x8x128_S1x1x1x8x128_3_2_0_0_0 x, List.forall_mem_cons.2 ⟨fun x => tbl_piece0 arg8 x2 3 1 13 rfl inb_S2x384x128_S1x8x128_0_13_0_s_1_16_1 inb_S12x4x2x8x128_S1x1x1x8x128_3_1_0_0_0 x, List.forall_mem_cons.2 ⟨fun x => tbl_piece0 arg8 x2 3 0 12 rfl inb_S2x384x128_S1x8x128_0_12_0_s_1_16_1 inb_S12x4x2x8x128_S1x1x1x8x128_3_0_0_0_0 x, List.forall_mem_cons.2 ⟨fun x => tbl_piece0 arg8 x2 2 3 11 rfl inb_S2x384x128_S1x8x128_0_11_0_s_1_16_1 inb_S12x4x2x8x128_S1x1x1x8x128_2_3_0_0_0 x, List.forall_mem_cons.2 ⟨fun x => tbl_piece0 arg8 x2 2 2 10 rfl inb_S2x384x128_S1x8x128_0_10_0_s_1_16_1 inb_S12x4x2x8x128_S1x1x1x8x128_2_2_0_0_0 x, List.forall_mem_cons.2 ⟨fun x => tbl_piece0 arg8 x2 2 1 9 rfl inb_S2x384x128_S1x8x128_0_9_0_s_1_16_1 inb_S12x4x2x8x128_S1x1x1x8x128_2_1_0_0_0 x, List.forall_mem_cons.2 ⟨fun x => tbl_piece0 arg8 x2 2 0 8 rfl inb_S2x384x128_S1x8x128_0_8_0_s_1_16_1 inb_S12x4x2x8x128_S1x1x1x8x128_2_0_0_0_0 x, List.forall_mem_cons.2 ⟨fun x => tbl_piece0 arg8 x2 1 3 7 rfl inb_S2x384x128_S1x8x128_0_7_0_s_1_16_1 inb_S12x4x2x8x128_S1x1x1x8x128_1_3_0_0_0 x, List.forall_mem_cons.2 ⟨fun x => tbl_piece0 arg8 x2 1 2 6 rfl inb_S2x384x128_S1x8x128_0_6_0_s_1_16_1 inb_S12x4x2x8x128_S1x1x1x8x128_1_2_0_0_0 x, List.forall_mem_cons.2 ⟨fun x => tbl_piece0 arg8 x2 1 1 5 rfl inb_S2x384x128_S1x8x128_0_5_0_s_1_16_1 inb_S12x4x2x8x128_S1x1x1x8x128_1_1_0_0_0 x, List.forall_mem_cons.2 ⟨fun x => tbl_piece0 arg8 x2 1 0 4 rfl inb_S2x384x128_S1x8x128_0_4_0_s_1_16_1 inb_S12x4x2x8x128_S1x1x1x8x128_1_0_0_0_0 x, List.forall_mem_cons.2 ⟨fun x => tbl_piece0 arg8 x2 0 3 3 rfl inb_S2x384x128_S1x8x128_0_3_0_s_1_16_1 inb_S12x4x2x8x128_S1x1x1x8x128_0_3_0_0_0 x, List.forall_mem_cons.2 ⟨fun x => tbl_piece0 arg8 x2 0 2 2 rfl inb_S2x384x128_S1x8x128_0_2_0_s_1_16_1 inb_S12x4x2x8x128_S1x1x1x8x128_0_2_0_0_0 x, List.forall_mem_cons.2 ⟨fun x => tbl_piece0 arg8 x2 0 1 1 rfl inb_S2x384x128_S1x8x128_0_1_0_s_1_16_1 inb_S12x4x2x8x128_S1x1x1x8x128_0_1_0_0_0 x, List.forall_mem_cons.2 ⟨fun x => tbl_piece0 arg8 x2 0 0 0 rfl inb_S2x384x128_S1x8x128_0_0_0_s_1_16_1 inb_S12x4x2x8x128_S1x1x1x8x128_0_0_0_0_0 x, fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
    isplitl [HS2]
    · iexists _; isplitr; swap; · iexact HS2
      ipureintro; funext y
      refine View.read_writes_apply_of_pieces _ _ (cnV x2 x3) _ ?_ y (View.cover_of_tiledL (s := S2x96x128) _ S1x96x128.size (by sl_kernel_rfl) y)
      exact List.forall_mem_cons.2 ⟨cn1_eq x2 x3, List.forall_mem_cons.2 ⟨cn0_eq x2 x3, fun p hp => absurd hp List.not_mem_nil⟩⟩
    isplitl [HS3]
    · iexists _; isplitr; swap; · iexact HS3
      ipureintro; funext y
      refine View.read_writes_apply_of_pieces _ _ (cntV x2 x3) _ ?_ y (View.cover_of_tiledL (s := S12x2x8x128) _ S1x1x8x128.size (by sl_kernel_rfl) y)
      exact List.forall_mem_cons.2 ⟨fun x => cnt_piece1 arg10 x2 x3 11 67 rfl inb_S2x96x128_S1x8x128_1_67_0_s_1_4_1 inb_S12x2x8x128_S1x1x8x128_11_1_0_0 x, List.forall_mem_cons.2 ⟨fun x => cnt_piece1 arg10 x2 x3 10 66 rfl inb_S2x96x128_S1x8x128_1_66_0_s_1_4_1 inb_S12x2x8x128_S1x1x8x128_10_1_0_0 x, List.forall_mem_cons.2 ⟨fun x => cnt_piece1 arg10 x2 x3 9 65 rfl inb_S2x96x128_S1x8x128_1_65_0_s_1_4_1 inb_S12x2x8x128_S1x1x8x128_9_1_0_0 x, List.forall_mem_cons.2 ⟨fun x => cnt_piece1 arg10 x2 x3 8 64 rfl inb_S2x96x128_S1x8x128_1_64_0_s_1_4_1 inb_S12x2x8x128_S1x1x8x128_8_1_0_0 x, List.forall_mem_cons.2 ⟨fun x => cnt_piece1 arg10 x2 x3 7 35 rfl inb_S2x96x128_S1x8x128_1_35_0_s_1_4_1 inb_S12x2x8x128_S1x1x8x128_7_1_0_0 x, List.forall_mem_cons.2 ⟨fun x => cnt_piece1 arg10 x2 x3 6 34 rfl inb_S2x96x128_S1x8x128_1_34_0_s_1_4_1 inb_S12x2x8x128_S1x1x8x128_6_1_0_0 x, List.forall_mem_cons.2 ⟨fun x => cnt_piece1 arg10 x2 x3 5 33 rfl inb_S2x96x128_S1x8x128_1_33_0_s_1_4_1 inb_S12x2x8x128_S1x1x8x128_5_1_0_0 x, List.forall_mem_cons.2 ⟨fun x => cnt_piece1 arg10 x2 x3 4 32 rfl inb_S2x96x128_S1x8x128_1_32_0_s_1_4_1 inb_S12x2x8x128_S1x1x8x128_4_1_0_0 x, List.forall_mem_cons.2 ⟨fun x => cnt_piece1 arg10 x2 x3 3 3 rfl inb_S2x96x128_S1x8x128_1_3_0_s_1_4_1 inb_S12x2x8x128_S1x1x8x128_3_1_0_0 x, List.forall_mem_cons.2 ⟨fun x => cnt_piece1 arg10 x2 x3 2 2 rfl inb_S2x96x128_S1x8x128_1_2_0_s_1_4_1 inb_S12x2x8x128_S1x1x8x128_2_1_0_0 x, List.forall_mem_cons.2 ⟨fun x => cnt_piece1 arg10 x2 x3 1 1 rfl inb_S2x96x128_S1x8x128_1_1_0_s_1_4_1 inb_S12x2x8x128_S1x1x8x128_1_1_0_0 x, List.forall_mem_cons.2 ⟨fun x => cnt_piece1 arg10 x2 x3 0 0 rfl inb_S2x96x128_S1x8x128_1_0_0_s_1_4_1 inb_S12x2x8x128_S1x1x8x128_0_1_0_0 x, List.forall_mem_cons.2 ⟨fun x => cnt_piece0 arg10 x2 x3 11 67 rfl inb_S2x96x128_S1x8x128_0_67_0_s_1_4_1 inb_S12x2x8x128_S1x1x8x128_11_0_0_0 x, List.forall_mem_cons.2 ⟨fun x => cnt_piece0 arg10 x2 x3 10 66 rfl inb_S2x96x128_S1x8x128_0_66_0_s_1_4_1 inb_S12x2x8x128_S1x1x8x128_10_0_0_0 x, List.forall_mem_cons.2 ⟨fun x => cnt_piece0 arg10 x2 x3 9 65 rfl inb_S2x96x128_S1x8x128_0_65_0_s_1_4_1 inb_S12x2x8x128_S1x1x8x128_9_0_0_0 x, List.forall_mem_cons.2 ⟨fun x => cnt_piece0 arg10 x2 x3 8 64 rfl inb_S2x96x128_S1x8x128_0_64_0_s_1_4_1 inb_S12x2x8x128_S1x1x8x128_8_0_0_0 x, List.forall_mem_cons.2 ⟨fun x => cnt_piece0 arg10 x2 x3 7 35 rfl inb_S2x96x128_S1x8x128_0_35_0_s_1_4_1 inb_S12x2x8x128_S1x1x8x128_7_0_0_0 x, List.forall_mem_cons.2 ⟨fun x => cnt_piece0 arg10 x2 x3 6 34 rfl inb_S2x96x128_S1x8x128_0_34_0_s_1_4_1 inb_S12x2x8x128_S1x1x8x128_6_0_0_0 x, List.forall_mem_cons.2 ⟨fun x => cnt_piece0 arg10 x2 x3 5 33 rfl inb_S2x96x128_S1x8x128_0_33_0_s_1_4_1 inb_S12x2x8x128_S1x1x8x128_5_0_0_0 x, List.forall_mem_cons.2 ⟨fun x => cnt_piece0 arg10 x2 x3 4 32 rfl inb_S2x96x128_S1x8x128_0_32_0_s_1_4_1 inb_S12x2x8x128_S1x1x8x128_4_0_0_0 x, List.forall_mem_cons.2 ⟨fun x => cnt_piece0 arg10 x2 x3 3 3 rfl inb_S2x96x128_S1x8x128_0_3_0_s_1_4_1 inb_S12x2x8x128_S1x1x8x128_3_0_0_0 x, List.forall_mem_cons.2 ⟨fun x => cnt_piece0 arg10 x2 x3 2 2 rfl inb_S2x96x128_S1x8x128_0_2_0_s_1_4_1 inb_S12x2x8x128_S1x1x8x128_2_0_0_0 x, List.forall_mem_cons.2 ⟨fun x => cnt_piece0 arg10 x2 x3 1 1 rfl inb_S2x96x128_S1x8x128_0_1_0_s_1_4_1 inb_S12x2x8x128_S1x1x8x128_1_0_0_0 x, List.forall_mem_cons.2 ⟨fun x => cnt_piece0 arg10 x2 x3 0 0 rfl inb_S2x96x128_S1x8x128_0_0_0_s_1_4_1 inb_S12x2x8x128_S1x1x8x128_0_0_0_0 x, fun p hp => absurd hp List.not_mem_nil⟩⟩⟩⟩⟩⟩⟩⟩⟩⟩⟩⟩⟩⟩⟩⟩⟩⟩⟩⟩⟩⟩⟩⟩
    isplitl [HS4]
    · iexists _; isplitr; swap; · iexact HS4
      ipureintro; exact View.read_writes_full _ _ _ _ _
    iexists _; isplitr; swap; · iexact HS5
    ipureintro; funext y
    refine View.read_writes_apply_of_pieces _ _ (xfV x1) _ ?_ y (View.cover_of_tiledL (s := S12x8x28x128) _ S1x1x28x128.size (by sl_kernel_rfl) y)
    exact List.forall_mem_cons.2 ⟨fun x => xf_piece x1 11 7 196 1408 rfl rfl slices_S224x1536_o196_1408_S28x128 inb_S12x8x28x128_S1x1x28x128_11_7_0_0 x, List.forall_mem_cons.2 ⟨fun x => xf_piece x1 11 6 168 1408 rfl rfl slices_S224x1536_o168_1408_S28x128 inb_S12x8x28x128_S1x1x28x128_11_6_0_0 x, List.forall_mem_cons.2 ⟨fun x => xf_piece x1 11 5 140 1408 rfl rfl slices_S224x1536_o140_1408_S28x128 inb_S12x8x28x128_S1x1x28x128_11_5_0_0 x, List.forall_mem_cons.2 ⟨fun x => xf_piece x1 11 4 112 1408 rfl rfl slices_S224x1536_o112_1408_S28x128 inb_S12x8x28x128_S1x1x28x128_11_4_0_0 x, List.forall_mem_cons.2 ⟨fun x => xf_piece x1 11 3 84 1408 rfl rfl slices_S224x1536_o84_1408_S28x128 inb_S12x8x28x128_S1x1x28x128_11_3_0_0 x, List.forall_mem_cons.2 ⟨fun x => xf_piece x1 11 2 56 1408 rfl rfl slices_S224x1536_o56_1408_S28x128 inb_S12x8x28x128_S1x1x28x128_11_2_0_0 x, List.forall_mem_cons.2 ⟨fun x => xf_piece x1 11 1 28 1408 rfl rfl slices_S224x1536_o28_1408_S28x128 inb_S12x8x28x128_S1x1x28x128_11_1_0_0 x, List.forall_mem_cons.2 ⟨fun x => xf_piece x1 11 0 0 1408 rfl rfl slices_S224x1536_o0_1408_S28x128 inb_S12x8x28x128_S1x1x28x128_11_0_0_0 x, List.forall_mem_cons.2 ⟨fun x => xf_piece x1 10 7 196 1280 rfl rfl slices_S224x1536_o196_1280_S28x128 inb_S12x8x28x128_S1x1x28x128_10_7_0_0 x, List.forall_mem_cons.2 ⟨fun x => xf_piece x1 10 6 168 1280 rfl rfl slices_S224x1536_o168_1280_S28x128 inb_S12x8x28x128_S1x1x28x128_10_6_0_0 x, List.forall_mem_cons.2 ⟨fun x => xf_piece x1 10 5 140 1280 rfl rfl slices_S224x1536_o140_1280_S28x128 inb_S12x8x28x128_S1x1x28x128_10_5_0_0 x, List.forall_mem_cons.2 ⟨fun x => xf_piece x1 10 4 112 1280 rfl rfl slices_S224x1536_o112_1280_S28x128 inb_S12x8x28x128_S1x1x28x128_10_4_0_0 x, List.forall_mem_cons.2 ⟨fun x => xf_piece x1 10 3 84 1280 rfl rfl slices_S224x1536_o84_1280_S28x128 inb_S12x8x28x128_S1x1x28x128_10_3_0_0 x, List.forall_mem_cons.2 ⟨fun x => xf_piece x1 10 2 56 1280 rfl rfl slices_S224x1536_o56_1280_S28x128 inb_S12x8x28x128_S1x1x28x128_10_2_0_0 x, List.forall_mem_cons.2 ⟨fun x => xf_piece x1 10 1 28 1280 rfl rfl slices_S224x1536_o28_1280_S28x128 inb_S12x8x28x128_S1x1x28x128_10_1_0_0 x, List.forall_mem_cons.2 ⟨fun x => xf_piece x1 10 0 0 1280 rfl rfl slices_S224x1536_o0_1280_S28x128 inb_S12x8x28x128_S1x1x28x128_10_0_0_0 x, List.forall_mem_cons.2 ⟨fun x => xf_piece x1 9 7 196 1152 rfl rfl slices_S224x1536_o196_1152_S28x128 inb_S12x8x28x128_S1x1x28x128_9_7_0_0 x, List.forall_mem_cons.2 ⟨fun x => xf_piece x1 9 6 168 1152 rfl rfl slices_S224x1536_o168_1152_S28x128 inb_S12x8x28x128_S1x1x28x128_9_6_0_0 x, List.forall_mem_cons.2 ⟨fun x => xf_piece x1 9 5 140 1152 rfl rfl slices_S224x1536_o140_1152_S28x128 inb_S12x8x28x128_S1x1x28x128_9_5_0_0 x, List.forall_mem_cons.2 ⟨fun x => xf_piece x1 9 4 112 1152 rfl rfl slices_S224x1536_o112_1152_S28x128 inb_S12x8x28x128_S1x1x28x128_9_4_0_0 x, List.forall_mem_cons.2 ⟨fun x => xf_piece x1 9 3 84 1152 rfl rfl slices_S224x1536_o84_1152_S28x128 inb_S12x8x28x128_S1x1x28x128_9_3_0_0 x, List.forall_mem_cons.2 ⟨fun x => xf_piece x1 9 2 56 1152 rfl rfl slices_S224x1536_o56_1152_S28x128 inb_S12x8x28x128_S1x1x28x128_9_2_0_0 x, List.forall_mem_cons.2 ⟨fun x => xf_piece x1 9 1 28 1152 rfl rfl slices_S224x1536_o28_1152_S28x128 inb_S12x8x28x128_S1x1x28x128_9_1_0_0 x, List.forall_mem_cons.2 ⟨fun x => xf_piece x1 9 0 0 1152 rfl rfl slices_S224x1536_o0_1152_S28x128 inb_S12x8x28x128_S1x1x28x128_9_0_0_0 x, List.forall_mem_cons.2 ⟨fun x => xf_piece x1 8 7 196 1024 rfl rfl slices_S224x1536_o196_1024_S28x128 inb_S12x8x28x128_S1x1x28x128_8_7_0_0 x, List.forall_mem_cons.2 ⟨fun x => xf_piece x1 8 6 168 1024 rfl rfl slices_S224x1536_o168_1024_S28x128 inb_S12x8x28x128_S1x1x28x128_8_6_0_0 x, List.forall_mem_cons.2 ⟨fun x => xf_piece x1 8 5 140 1024 rfl rfl slices_S224x1536_o140_1024_S28x128 inb_S12x8x28x128_S1x1x28x128_8_5_0_0 x, List.forall_mem_cons.2 ⟨fun x => xf_piece x1 8 4 112 1024 rfl rfl slices_S224x1536_o112_1024_S28x128 inb_S12x8x28x128_S1x1x28x128_8_4_0_0 x, List.forall_mem_cons.2 ⟨fun x => xf_piece x1 8 3 84 1024 rfl rfl slices_S224x1536_o84_1024_S28x128 inb_S12x8x28x128_S1x1x28x128_8_3_0_0 x, List.forall_mem_cons.2 ⟨fun x => xf_piece x1 8 2 56 1024 rfl rfl slices_S224x1536_o56_1024_S28x128 inb_S12x8x28x128_S1x1x28x128_8_2_0_0 x, List.forall_mem_cons.2 ⟨fun x => xf_piece x1 8 1 28 1024 rfl rfl slices_S224x1536_o28_1024_S28x128 inb_S12x8x28x128_S1x1x28x128_8_1_0_0 x, List.forall_mem_cons.2 ⟨fun x => xf_piece x1 8 0 0 1024 rfl rfl slices_S224x1536_o0_1024_S28x128 inb_S12x8x28x128_S1x1x28x128_8_0_0_0 x, List.forall_mem_cons.2 ⟨fun x => xf_piece x1 7 7 196 896 rfl rfl slices_S224x1536_o196_896_S28x128 inb_S12x8x28x128_S1x1x28x128_7_7_0_0 x, List.forall_mem_cons.2 ⟨fun x => xf_piece x1 7 6 168 896 rfl rfl slices_S224x1536_o168_896_S28x128 inb_S12x8x28x128_S1x1x28x128_7_6_0_0 x, List.forall_mem_cons.2 ⟨fun x => xf_piece x1 7 5 140 896 rfl rfl slices_S224x1536_o140_896_S28x128 inb_S12x8x28x128_S1x1x28x128_7_5_0_0 x, List.forall_mem_cons.2 ⟨fun x => xf_piece x1 7 4 112 896 rfl rfl slices_S224x1536_o112_896_S28x128 inb_S12x8x28x128_S1x1x28x128_7_4_0_0 x, List.forall_mem_cons.2 ⟨fun x => xf_piece x1 7 3 84 896 rfl rfl slices_S224x1536_o84_896_S28x128 inb_S12x8x28x128_S1x1x28x128_7_3_0_0 x, List.forall_mem_cons.2 ⟨fun x => xf_piece x1 7 2 56 896 rfl rfl slices_S224x1536_o56_896_S28x128 inb_S12x8x28x128_S1x1x28x128_7_2_0_0 x, List.forall_mem_cons.2 ⟨fun x => xf_piece x1 7 1 28 896 rfl rfl slices_S224x1536_o28_896_S28x128 inb_S12x8x28x128_S1x1x28x128_7_1_0_0 x, List.forall_mem_cons.2 ⟨fun x => xf_piece x1 7 0 0 896 rfl rfl slices_S224x1536_o0_896_S28x128 inb_S12x8x28x128_S1x1x28x128_7_0_0_0 x, List.forall_mem_cons.2 ⟨fun x => xf_piece x1 6 7 196 768 rfl rfl slices_S224x1536_o196_768_S28x128 inb_S12x8x28x128_S1x1x28x128_6_7_0_0 x, List.forall_mem_cons.2 ⟨fun x => xf_piece x1 6 6 168 768 rfl rfl slices_S224x1536_o168_768_S28x128 inb_S12x8x28x128_S1x1x28x128_6_6_0_0 x, List.forall_mem_cons.2 ⟨fun x => xf_piece x1 6 5 140 768 rfl rfl slices_S224x1536_o140_768_S28x128 inb_S12x8x28x128_S1x1x28x128_6_5_0_0 x, List.forall_mem_cons.2 ⟨fun x => xf_piece x1 6 4 112 768 rfl rfl slices_S224x1536_o112_768_S28x128 inb_S12x8x28x128_S1x1x28x128_6_4_0_0 x, List.forall_mem_cons.2 ⟨fun x => xf_piece x1 6 3 84 768 rfl rfl slices_S224x1536_o84_768_S28x128 inb_S12x8x28x128_S1x1x28x128_6_3_0_0 x, List.forall_mem_cons.2 ⟨fun x => xf_piece x1 6 2 56 768 rfl rfl slices_S224x1536_o56_768_S28x128 inb_S12x8x28x128_S1x1x28x128_6_2_0_0 x, List.forall_mem_cons.2 ⟨fun x => xf_piece x1 6 1 28 768 rfl rfl slices_S224x1536_o28_768_S28x128 inb_S12x8x28x128_S1x1x28x128_6_1_0_0 x, List.forall_mem_cons.2 ⟨fun x => xf_piece x1 6 0 0 768 rfl rfl slices_S224x1536_o0_768_S28x128 inb_S12x8x28x128_S1x1x28x128_6_0_0_0 x, List.forall_mem_cons.2 ⟨fun x => xf_piece x1 5 7 196 640 rfl rfl slices_S224x1536_o196_640_S28x128 inb_S12x8x28x128_S1x1x28x128_5_7_0_0 x, List.forall_mem_cons.2 ⟨fun x => xf_piece x1 5 6 168 640 rfl rfl slices_S224x1536_o168_640_S28x128 inb_S12x8x28x128_S1x1x28x128_5_6_0_0 x, List.forall_mem_cons.2 ⟨fun x => xf_piece x1 5 5 140 640 rfl rfl slices_S224x1536_o140_640_S28x128 inb_S12x8x28x128_S1x1x28x128_5_5_0_0 x, List.forall_mem_cons.2 ⟨fun x => xf_piece x1 5 4 112 640 rfl rfl slices_S224x1536_o112_640_S28x128 inb_S12x8x28x128_S1x1x28x128_5_4_0_0 x, List.forall_mem_cons.2 ⟨fun x => xf_piece x1 5 3 84 640 rfl rfl slices_S224x1536_o84_640_S28x128 inb_S12x8x28x128_S1x1x28x128_5_3_0_0 x, List.forall_mem_cons.2 ⟨fun x => xf_piece x1 5 2 56 640 rfl rfl slices_S224x1536_o56_640_S28x128 inb_S12x8x28x128_S1x1x28x128_5_2_0_0 x, List.forall_mem_cons.2 ⟨fun x => xf_piece x1 5 1 28 640 rfl rfl slices_S224x1536_o28_640_S28x128 inb_S12x8x28x128_S1x1x28x128_5_1_0_0 x, List.forall_mem_cons.2 ⟨fun x => xf_piece x1 5 0 0 640 rfl rfl slices_S224x1536_o0_640_S28x128 inb_S12x8x28x128_S1x1x28x128_5_0_0_0 x, List.forall_mem_cons.2 ⟨fun x => xf_piece x1 4 7 196 512 rfl rfl slices_S224x1536_o196_512_S28x128 inb_S12x8x28x128_S1x1x28x128_4_7_0_0 x, List.forall_mem_cons.2 ⟨fun x => xf_piece x1 4 6 168 512 rfl rfl slices_S224x1536_o168_512_S28x128 inb_S12x8x28x128_S1x1x28x128_4_6_0_0 x, List.forall_mem_cons.2 ⟨fun x => xf_piece x1 4 5 140 512 rfl rfl slices_S224x1536_o140_512_S28x128 inb_S12x8x28x128_S1x1x28x128_4_5_0_0 x, List.forall_mem_cons.2 ⟨fun x => xf_piece x1 4 4 112 512 rfl rfl slices_S224x1536_o112_512_S28x128 inb_S12x8x28x128_S1x1x28x128_4_4_0_0 x, List.forall_mem_cons.2 ⟨fun x => xf_piece x1 4 3 84 512 rfl rfl slices_S224x1536_o84_512_S28x128 inb_S12x8x28x128_S1x1x28x128_4_3_0_0 x, List.forall_mem_cons.2 ⟨fun x => xf_piece x1 4 2 56 512 rfl rfl slices_S224x1536_o56_512_S28x128 inb_S12x8x28x128_S1x1x28x128_4_2_0_0 x, List.forall_mem_cons.2 ⟨fun x => xf_piece x1 4 1 28 512 rfl rfl slices_S224x1536_o28_512_S28x128 inb_S12x8x28x128_S1x1x28x128_4_1_0_0 x, List.forall_mem_cons.2 ⟨fun x => xf_piece x1 4 0 0 512 rfl rfl slices_S224x1536_o0_512_S28x128 inb_S12x8x28x128_S1x1x28x128_4_0_0_0 x, List.forall_mem_cons.2 ⟨fun x => xf_piece x1 3 7 196 384 rfl rfl slices_S224x1536_o196_384_S28x128 inb_S12x8x28x128_S1x1x28x128_3_7_0_0 x, List.forall_mem_cons.2 ⟨fun x => xf_piece x1 3 6 168 384 rfl rfl slices_S224x1536_o168_384_S28x128 inb_S12x8x28x128_S1x1x28x128_3_6_0_0 x, List.forall_mem_cons.2 ⟨fun x => xf_piece x1 3 5 140 384 rfl rfl slices_S224x1536_o140_384_S28x128 inb_S12x8x28x128_S1x1x28x128_3_5_0_0 x, List.forall_mem_cons.2 ⟨fun x => xf_piece x1 3 4 112 384 rfl rfl slices_S224x1536_o112_384_S28x128 inb_S12x8x28x128_S1x1x28x128_3_4_0_0 x, List.forall_mem_cons.2 ⟨fun x => xf_piece x1 3 3 84 384 rfl rfl slices_S224x1536_o84_384_S28x128 inb_S12x8x28x128_S1x1x28x128_3_3_0_0 x, List.forall_mem_cons.2 ⟨fun x => xf_piece x1 3 2 56 384 rfl rfl slices_S224x1536_o56_384_S28x128 inb_S12x8x28x128_S1x1x28x128_3_2_0_0 x, List.forall_mem_cons.2 ⟨fun x => xf_piece x1 3 1 28 384 rfl rfl slices_S224x1536_o28_384_S28x128 inb_S12x8x28x128_S1x1x28x128_3_1_0_0 x, List.forall_mem_cons.2 ⟨fun x => xf_piece x1 3 0 0 384 rfl rfl slices_S224x1536_o0_384_S28x128 inb_S12x8x28x128_S1x1x28x128_3_0_0_0 x, List.forall_mem_cons.2 ⟨fun x => xf_piece x1 2 7 196 256 rfl rfl slices_S224x1536_o196_256_S28x128 inb_S12x8x28x128_S1x1x28x128_2_7_0_0 x, List.forall_mem_cons.2 ⟨fun x => xf_piece x1 2 6 168 256 rfl rfl slices_S224x1536_o168_256_S28x128 inb_S12x8x28x128_S1x1x28x128_2_6_0_0 x, List.forall_mem_cons.2 ⟨fun x => xf_piece x1 2 5 140 256 rfl rfl slices_S224x1536_o140_256_S28x128 inb_S12x8x28x128_S1x1x28x128_2_5_0_0 x, List.forall_mem_cons.2 ⟨fun x => xf_piece x1 2 4 112 256 rfl rfl slices_S224x1536_o112_256_S28x128 inb_S12x8x28x128_S1x1x28x128_2_4_0_0 x, List.forall_mem_cons.2 ⟨fun x => xf_piece x1 2 3 84 256 rfl rfl slices_S224x1536_o84_256_S28x128 inb_S12x8x28x128_S1x1x28x128_2_3_0_0 x, List.forall_mem_cons.2 ⟨fun x => xf_piece x1 2 2 56 256 rfl rfl slices_S224x1536_o56_256_S28x128 inb_S12x8x28x128_S1x1x28x128_2_2_0_0 x, List.forall_mem_cons.2 ⟨fun x => xf_piece x1 2 1 28 256 rfl rfl slices_S224x1536_o28_256_S28x128 inb_S12x8x28x128_S1x1x28x128_2_1_0_0 x, List.forall_mem_cons.2 ⟨fun x => xf_piece x1 2 0 0 256 rfl rfl slices_S224x1536_o0_256_S28x128 inb_S12x8x28x128_S1x1x28x128_2_0_0_0 x, List.forall_mem_cons.2 ⟨fun x => xf_piece x1 1 7 196 128 rfl rfl slices_S224x1536_o196_128_S28x128 inb_S12x8x28x128_S1x1x28x128_1_7_0_0 x, List.forall_mem_cons.2 ⟨fun x => xf_piece x1 1 6 168 128 rfl rfl slices_S224x1536_o168_128_S28x128 inb_S12x8x28x128_S1x1x28x128_1_6_0_0 x, List.forall_mem_cons.2 ⟨fun x => xf_piece x1 1 5 140 128 rfl rfl slices_S224x1536_o140_128_S28x128 inb_S12x8x28x128_S1x1x28x128_1_5_0_0 x, List.forall_mem_cons.2 ⟨fun x => xf_piece x1 1 4 112 128 rfl rfl slices_S224x1536_o112_128_S28x128 inb_S12x8x28x128_S1x1x28x128_1_4_0_0 x, List.forall_mem_cons.2 ⟨fun x => xf_piece x1 1 3 84 128 rfl rfl slices_S224x1536_o84_128_S28x128 inb_S12x8x28x128_S1x1x28x128_1_3_0_0 x, List.forall_mem_cons.2 ⟨fun x => xf_piece x1 1 2 56 128 rfl rfl slices_S224x1536_o56_128_S28x128 inb_S12x8x28x128_S1x1x28x128_1_2_0_0 x, List.forall_mem_cons.2 ⟨fun x => xf_piece x1 1 1 28 128 rfl rfl slices_S224x1536_o28_128_S28x128 inb_S12x8x28x128_S1x1x28x128_1_1_0_0 x, List.forall_mem_cons.2 ⟨fun x => xf_piece x1 1 0 0 128 rfl rfl slices_S224x1536_o0_128_S28x128 inb_S12x8x28x128_S1x1x28x128_1_0_0_0 x, List.forall_mem_cons.2 ⟨fun x => xf_piece x1 0 7 196 0 rfl rfl slices_S224x1536_o196_0_S28x128 inb_S12x8x28x128_S1x1x28x128_0_7_0_0 x, List.forall_mem_cons.2 ⟨fun x => xf_piece x1 0 6 168 0 rfl rfl slices_S224x1536_o168_0_S28x128 inb_S12x8x28x128_S1x1x28x128_0_6_0_0 x, List.forall_mem_cons.2 ⟨fun x => xf_piece x1 0 5 140 0 rfl rfl slices_S224x1536_o140_0_S28x128 inb_S12x8x28x128_S1x1x28x128_0_5_0_0 x, List.forall_mem_cons.2 ⟨fun x => xf_piece x1 0 4 112 0 rfl rfl slices_S224x1536_o112_0_S28x128 inb_S12x8x28x128_S1x1x28x128_0_4_0_0 x, List.forall_mem_cons.2 ⟨fun x => xf_piece x1 0 3 84 0 rfl rfl slices_S224x1536_o84_0_S28x128 inb_S12x8x28x128_S1x1x28x128_0_3_0_0 x, List.forall_mem_cons.2 ⟨fun x => xf_piece x1 0 2 56 0 rfl rfl slices_S224x1536_o56_0_S28x128 inb_S12x8x28x128_S1x1x28x128_0_2_0_0 x, List.forall_mem_cons.2 ⟨fun x => xf_piece x1 0 1 28 0 rfl rfl slices_S224x1536_o28_0_S28x128 inb_S12x8x28x128_S1x1x28x128_0_1_0_0 x, List.forall_mem_cons.2 ⟨fun x => xf_piece x1 0 0 0 0 rfl rfl slices_S224x1536_o0_0_S28x128 inb_S12x8x28x128_S1x1x28x128_0_0_0_0 x, fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.KernelIdeal.Gen

end
-- ==== Proof.KRun.lean ====
/- One run of the kernel's body at a grid point whose scratch buffers are filled. -/
module

public import proofs.«01_k».proof.Proof.KCut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 10000000 in
theorem run_tail (c : Dev nD) (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole)
  (x0 : Vec F S224x1536 .bf16) (x1 : Vec F S224x1536 .bf16) (x2 : Vec F S1536x256 .i8) (x3 : Vec F S96x1 .f32) (x4 : Vec F S96x1024 .i8)
  (TBL : Vec F S12x4x2x8x128 .i32) (CN : Vec F S2x96x128 .f32) (CNT : Vec F S12x2x8x128 .f32) (XN : Vec F S224x128 .f32) (XF : Vec F S12x8x28x128 .f32)
  (E : Set ℕ) (K : PUnit → sProp 𝕄) :
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare TBL ∗ owns (c : Thread nD τ) arg10 fullShare CN ∗ owns (c : Thread nD τ) arg11 fullShare CNT ∗ owns (c : Thread nD τ) arg12 fullShare XN ∗ owns (c : Thread nD τ) arg13 fullShare XF
    ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (scB x0 x4 TBL CNT XN) ∗ owns (c : Thread nD τ) arg7 fullShare (tB x2 x3 CN XF (i 0).val) ∗ (∃ d, owns (c : Thread nD τ) arg8 fullShare d) ∗ owns (c : Thread nD τ) arg9 fullShare TBL ∗ owns (c : Thread nD τ) arg10 fullShare CN ∗ owns (c : Thread nD τ) arg11 fullShare CNT ∗ owns (c : Thread nD τ) arg12 fullShare XN ∗ owns (c : Thread nD τ) arg13 fullShare XF) -∗ K ⟨⟩))
  ⊢ wp frame (wpE (defs₀ (F := F)) Variants.none c none) E (tailP i arg1 harg1 arg2 harg2 arg3 harg3 arg4 harg4 arg5 harg5 arg6 harg6 arg7 harg7 arg8 harg8 arg9 harg9 arg10 harg10 arg11 harg11 arg12 harg12 arg13 harg13) K := by
    unfold tailP tail260 tail44
    simp only [k0_part260_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part261_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part262_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part263_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs1; obtain rfl := harg10.eq_unread hfs2; obtain rfl := harg11.eq_unread hfs3; obtain rfl := harg12.eq_unread hfs4; obtain rfl := harg13.eq_unread hfs5
    have hw1 : ∀ inb, arg1.view.readAt (Elt F) (Rect.unit ![0, 0] S224x1536.size inb).toLoadRect (harg1.unread x0) = x0 := fun inb => readAt_all2 arg1 harg1 x0 inb
    have hw12 : ∀ inb, arg12.view.readAt (Elt F) (Rect.unit ![0, 0] S224x128.size inb).toLoadRect (harg12.unread XN) = XN := fun inb => readAt_all2 arg12 harg12 XN inb
    have hd1 : ∀ inb, arg13.view.readAt (Elt F) (Rect.unit (s := S12x8x28x128) (k0_off1 i) S1x1x1x128.size inb).toLoadRect (harg13.unread XF) = ldX XF (i 0).val 0 := fun inb => readAt_slc_of arg13 harg13 XF pos13 _ _ _ inb (off1_eq i)
    have hd2 : ∀ inb, arg13.view.readAt (Elt F) (Rect.unit (s := S12x8x28x128) (k0_off2 i) S1x1x1x128.size inb).toLoadRect (harg13.unread XF) = ldX XF (i 0).val 1 := fun inb => readAt_slc_of arg13 harg13 XF pos13 _ _ _ inb (off2_eq i)
    have hd3 : ∀ inb, arg13.view.readAt (Elt F) (Rect.unit (s := S12x8x28x128) (k0_off3 i) S1x1x1x128.size inb).toLoadRect (harg13.unread XF) = ldX XF (i 0).val 2 := fun inb => readAt_slc_of arg13 harg13 XF pos13 _ _ _ inb (off3_eq i)
    have hd4 : ∀ inb, arg13.view.readAt (Elt F) (Rect.unit (s := S12x8x28x128) (k0_off4 i) S1x1x1x128.size inb).toLoadRect (harg13.unread XF) = ldX XF (i 0).val 3 := fun inb => readAt_slc_of arg13 harg13 XF pos13 _ _ _ inb (off4_eq i)
    have hd5 : ∀ inb, arg13.view.readAt (Elt F) (Rect.unit (s := S12x8x28x128) (k0_off5 i) S1x1x1x128.size inb).toLoadRect (harg13.unread XF) = ldX XF (i 0).val 4 := fun inb => readAt_slc_of arg13 harg13 XF pos13 _ _ _ inb (off5_eq i)
    have hd6 : ∀ inb, arg13.view.readAt (Elt F) (Rect.unit (s := S12x8x28x128) (k0_off6 i) S1x1x1x128.size inb).toLoadRect (harg13.unread XF) = ldX XF (i 0).val 5 := fun inb => readAt_slc_of arg13 harg13 XF pos13 _ _ _ inb (off6_eq i)
    have hd7 : ∀ inb, arg13.view.readAt (Elt F) (Rect.unit (s := S12x8x28x128) (k0_off7 i) S1x1x1x128.size inb).toLoadRect (harg13.unread XF) = ldX XF (i 0).val 6 := fun inb => readAt_slc_of arg13 harg13 XF pos13 _ _ _ inb (off7_eq i)
    have hd8 : ∀ inb, arg13.view.readAt (Elt F) (Rect.unit (s := S12x8x28x128) (k0_off8 i) S1x1x1x128.size inb).toLoadRect (harg13.unread XF) = ldX XF (i 0).val 7 := fun inb => readAt_slc_of arg13 harg13 XF pos13 _ _ _ inb (off8_eq i)
    have hd9 : ∀ inb, arg13.view.readAt (Elt F) (Rect.unit (s := S12x8x28x128) (k0_off9 i) S1x1x1x128.size inb).toLoadRect (harg13.unread XF) = ldX XF (i 0).val 8 := fun inb => readAt_slc_of arg13 harg13 XF pos13 _ _ _ inb (off9_eq i)
    have hd10 : ∀ inb, arg13.view.readAt (Elt F) (Rect.unit (s := S12x8x28x128) (k0_off10 i) S1x1x1x128.size inb).toLoadRect (harg13.unread XF) = ldX XF (i 0).val 9 := fun inb => readAt_slc_of arg13 harg13 XF pos13 _ _ _ inb (off10_eq i)
    have hd11 : ∀ inb, arg13.view.readAt (Elt F) (Rect.unit (s := S12x8x28x128) (k0_off11 i) S1x1x1x128.size inb).toLoadRect (harg13.unread XF) = ldX XF (i 0).val 10 := fun inb => readAt_slc_of arg13 harg13 XF pos13 _ _ _ inb (off11_eq i)
    have hd12 : ∀ inb, arg13.view.readAt (Elt F) (Rect.unit (s := S12x8x28x128) (k0_off12 i) S1x1x1x128.size inb).toLoadRect (harg13.unread XF) = ldX XF (i 0).val 11 := fun inb => readAt_slc_of arg13 harg13 XF pos13 _ _ _ inb (off12_eq i)
    have hd13 : ∀ inb, arg13.view.readAt (Elt F) (Rect.unit (s := S12x8x28x128) (k0_off13 i) S1x1x1x128.size inb).toLoadRect (harg13.unread XF) = ldX XF (i 0).val 12 := fun inb => readAt_slc_of arg13 harg13 XF pos13 _ _ _ inb (off13_eq i)
    have hd14 : ∀ inb, arg13.view.readAt (Elt F) (Rect.unit (s := S12x8x28x128) (k0_off14 i) S1x1x1x128.size inb).toLoadRect (harg13.unread XF) = ldX XF (i 0).val 13 := fun inb => readAt_slc_of arg13 harg13 XF pos13 _ _ _ inb (off14_eq i)
    have hd15 : ∀ inb, arg13.view.readAt (Elt F) (Rect.unit (s := S12x8x28x128) (k0_off15 i) S1x1x1x128.size inb).toLoadRect (harg13.unread XF) = ldX XF (i 0).val 14 := fun inb => readAt_slc_of arg13 harg13 XF pos13 _ _ _ inb (off15_eq i)
    have hd16 : ∀ inb, arg13.view.readAt (Elt F) (Rect.unit (s := S12x8x28x128) (k0_off16 i) S1x1x1x128.size inb).toLoadRect (harg13.unread XF) = ldX XF (i 0).val 15 := fun inb => readAt_slc_of arg13 harg13 XF pos13 _ _ _ inb (off16_eq i)
    have hd17 : ∀ inb, arg13.view.readAt (Elt F) (Rect.unit (s := S12x8x28x128) (k0_off17 i) S1x1x1x128.size inb).toLoadRect (harg13.unread XF) = ldX XF (i 0).val 16 := fun inb => readAt_slc_of arg13 harg13 XF pos13 _ _ _ inb (off17_eq i)
    have hd18 : ∀ inb, arg13.view.readAt (Elt F) (Rect.unit (s := S12x8x28x128) (k0_off18 i) S1x1x1x128.size inb).toLoadRect (harg13.unread XF) = ldX XF (i 0).val 17 := fun inb => readAt_slc_of arg13 harg13 XF pos13 _ _ _ inb (off18_eq i)
    have hd19 : ∀ inb, arg13.view.readAt (Elt F) (Rect.unit (s := S12x8x28x128) (k0_off19 i) S1x1x1x128.size inb).toLoadRect (harg13.unread XF) = ldX XF (i 0).val 18 := fun inb => readAt_slc_of arg13 harg13 XF pos13 _ _ _ inb (off19_eq i)
    have hd20 : ∀ inb, arg13.view.readAt (Elt F) (Rect.unit (s := S12x8x28x128) (k0_off20 i) S1x1x1x128.size inb).toLoadRect (harg13.unread XF) = ldX XF (i 0).val 19 := fun inb => readAt_slc_of arg13 harg13 XF pos13 _ _ _ inb (off20_eq i)
    have hd21 : ∀ inb, arg13.view.readAt (Elt F) (Rect.unit (s := S12x8x28x128) (k0_off21 i) S1x1x1x128.size inb).toLoadRect (harg13.unread XF) = ldX XF (i 0).val 20 := fun inb => readAt_slc_of arg13 harg13 XF pos13 _ _ _ inb (off21_eq i)
    have hd22 : ∀ inb, arg13.view.readAt (Elt F) (Rect.unit (s := S12x8x28x128) (k0_off22 i) S1x1x1x128.size inb).toLoadRect (harg13.unread XF) = ldX XF (i 0).val 21 := fun inb => readAt_slc_of arg13 harg13 XF pos13 _ _ _ inb (off22_eq i)
    have hd23 : ∀ inb, arg13.view.readAt (Elt F) (Rect.unit (s := S12x8x28x128) (k0_off23 i) S1x1x1x128.size inb).toLoadRect (harg13.unread XF) = ldX XF (i 0).val 22 := fun inb => readAt_slc_of arg13 harg13 XF pos13 _ _ _ inb (off23_eq i)
    have hd24 : ∀ inb, arg13.view.readAt (Elt F) (Rect.unit (s := S12x8x28x128) (k0_off24 i) S1x1x1x128.size inb).toLoadRect (harg13.unread XF) = ldX XF (i 0).val 23 := fun inb => readAt_slc_of arg13 harg13 XF pos13 _ _ _ inb (off24_eq i)
    have hd25 : ∀ inb, arg13.view.readAt (Elt F) (Rect.unit (s := S12x8x28x128) (k0_off25 i) S1x1x1x128.size inb).toLoadRect (harg13.unread XF) = ldX XF (i 0).val 24 := fun inb => readAt_slc_of arg13 harg13 XF pos13 _ _ _ inb (off25_eq i)
    have hd26 : ∀ inb, arg13.view.readAt (Elt F) (Rect.unit (s := S12x8x28x128) (k0_off26 i) S1x1x1x128.size inb).toLoadRect (harg13.unread XF) = ldX XF (i 0).val 25 := fun inb => readAt_slc_of arg13 harg13 XF pos13 _ _ _ inb (off26_eq i)
    have hd27 : ∀ inb, arg13.view.readAt (Elt F) (Rect.unit (s := S12x8x28x128) (k0_off27 i) S1x1x1x128.size inb).toLoadRect (harg13.unread XF) = ldX XF (i 0).val 26 := fun inb => readAt_slc_of arg13 harg13 XF pos13 _ _ _ inb (off27_eq i)
    have hd28 : ∀ inb, arg13.view.readAt (Elt F) (Rect.unit (s := S12x8x28x128) (k0_off28 i) S1x1x1x128.size inb).toLoadRect (harg13.unread XF) = ldX XF (i 0).val 27 := fun inb => readAt_slc_of arg13 harg13 XF pos13 _ _ _ inb (off28_eq i)
    have hd29 : ∀ inb, arg3.view.readAt (Elt F) (Rect.unit (s := S1536x256) (k0_off29 i) S128x256.size inb).toLoadRect (harg3.unread x2) = slc x2 pos3 ![(i 0).val / 8 * 128, 0] S128x256.size := fun inb => readAt_slc_of arg3 harg3 x2 pos3 _ _ _ inb (off29_eq i)
    have hd30 : ∀ inb, arg4.view.readAt (Elt F) (Rect.unit (s := S96x1) (k0_off30 i) S8x1.size inb).toLoadRect (harg4.unread x3) = slc x3 pos4 ![(i 0).val / 8 * 8, 0] S8x1.size := fun inb => readAt_slc_of arg4 harg4 x3 pos4 _ _ _ inb (off30_eq i)
    have hd31 : ∀ inb, arg10.view.readAt (Elt F) (Rect.unit (s := S2x96x128) (k0_off31 i) S1x8x128.size inb).toLoadRect (harg10.unread CN) = slc CN pos10 ![0, (i 0).val / 8 * 8, 0] S1x8x128.size := fun inb => readAt_slc_of arg10 harg10 CN pos10 _ _ _ inb (off31_eq i)
    have hd32 : ∀ inb, arg10.view.readAt (Elt F) (Rect.unit (s := S2x96x128) (k0_off32 i) S1x8x128.size inb).toLoadRect (harg10.unread CN) = slc CN pos10 ![1, (i 0).val / 8 * 8, 0] S1x8x128.size := fun inb => readAt_slc_of arg10 harg10 CN pos10 _ _ _ inb (off32_eq i)
    have hw5 : ∀ (o : Fin S96x1024.rank → Nat) inb, arg5.view.readAt (Elt F) (Rect.unit (s := S96x1024) o S32x128.size inb).toLoadRect (harg5.unread x4) = slc x4 pos5 o S32x128.size := fun o inb => readAt_slc arg5 harg5 x4 pos5 o _ inb
    have hw9 : ∀ (o : Fin S12x4x2x8x128.rank → Nat) inb, arg9.view.readAt (Elt F) (Rect.unit (s := S12x4x2x8x128) o S1x1x1x8x128.size inb).toLoadRect (harg9.unread TBL) = slc TBL pos9 o S1x1x1x8x128.size := fun o inb => readAt_slc arg9 harg9 TBL pos9 o _ inb
    have hw11 : ∀ (o : Fin S12x2x8x128.rank → Nat) inb, arg11.view.readAt (Elt F) (Rect.unit (s := S12x2x8x128) o S1x1x8x128.size inb).toLoadRect (harg11.unread CNT) = slc CNT pos11 o S1x1x8x128.size := fun o inb => readAt_slc arg11 harg11 CNT pos11 o _ inb
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; funext y
      refine View.read_writes_apply_of_pieces _ _ (scB x0 x4 TBL CNT XN) _ ?_ y (View.cover_of_tiledL (s := S224x1024) _ S224x256.size (by sl_kernel_rfl) y)
      refine List.forall_mem_cons.2 ⟨fun x => scB_piece x0 x4 TBL CNT XN 3 768 896 rfl rfl inb_S224x1024_S224x256_0_768 x, List.forall_mem_cons.2 ⟨fun x => scB_piece x0 x4 TBL CNT XN 2 512 640 rfl rfl inb_S224x1024_S224x256_0_512 x, List.forall_mem_cons.2 ⟨fun x => scB_piece x0 x4 TBL CNT XN 1 256 384 rfl rfl inb_S224x1024_S224x256_0_256 x, List.forall_mem_cons.2 ⟨fun x => scB_piece x0 x4 TBL CNT XN 0 0 128 rfl rfl inb_S224x1024_S224x256_0_0 x, fun p hp => absurd hp List.not_mem_nil⟩⟩⟩⟩
    isplitl [H6]
    · iexists _; isplitr; swap; · iexact H6
      ipureintro; funext y
      refine View.read_writes_apply_of_pieces _ _ (tB x2 x3 CN XF (i 0).val) _ ?_ y (View.cover_of_tiledL (s := S28x8x256) _ S1x8x256.size (by sl_kernel_rfl) y)
      refine List.forall_mem_cons.2 ⟨fun x => tB_piece x2 x3 CN XF (i 0).val 27 216 rfl slices_S224x256_o216_0_S8x256 inb_S28x8x256_S1x8x256_27_0_0 x, List.forall_mem_cons.2 ⟨fun x => tB_piece x2 x3 CN XF (i 0).val 26 208 rfl slices_S224x256_o208_0_S8x256 inb_S28x8x256_S1x8x256_26_0_0 x, List.forall_mem_cons.2 ⟨fun x => tB_piece x2 x3 CN XF (i 0).val 25 200 rfl slices_S224x256_o200_0_S8x256 inb_S28x8x256_S1x8x256_25_0_0 x, List.forall_mem_cons.2 ⟨fun x => tB_piece x2 x3 CN XF (i 0).val 24 192 rfl slices_S224x256_o192_0_S8x256 inb_S28x8x256_S1x8x256_24_0_0 x, List.forall_mem_cons.2 ⟨fun x => tB_piece x2 x3 CN XF (i 0).val 23 184 rfl slices_S224x256_o184_0_S8x256 inb_S28x8x256_S1x8x256_23_0_0 x, List.forall_mem_cons.2 ⟨fun x => tB_piece x2 x3 CN XF (i 0).val 22 176 rfl slices_S224x256_o176_0_S8x256 inb_S28x8x256_S1x8x256_22_0_0 x, List.forall_mem_cons.2 ⟨fun x => tB_piece x2 x3 CN XF (i 0).val 21 168 rfl slices_S224x256_o168_0_S8x256 inb_S28x8x256_S1x8x256_21_0_0 x, List.forall_mem_cons.2 ⟨fun x => tB_piece x2 x3 CN XF (i 0).val 20 160 rfl slices_S224x256_o160_0_S8x256 inb_S28x8x256_S1x8x256_20_0_0 x, List.forall_mem_cons.2 ⟨fun x => tB_piece x2 x3 CN XF (i 0).val 19 152 rfl slices_S224x256_o152_0_S8x256 inb_S28x8x256_S1x8x256_19_0_0 x, List.forall_mem_cons.2 ⟨fun x => tB_piece x2 x3 CN XF (i 0).val 18 144 rfl slices_S224x256_o144_0_S8x256 inb_S28x8x256_S1x8x256_18_0_0 x, List.forall_mem_cons.2 ⟨fun x => tB_piece x2 x3 CN XF (i 0).val 17 136 rfl slices_S224x256_o136_0_S8x256 inb_S28x8x256_S1x8x256_17_0_0 x, List.forall_mem_cons.2 ⟨fun x => tB_piece x2 x3 CN XF (i 0).val 16 128 rfl slices_S224x256_o128_0_S8x256 inb_S28x8x256_S1x8x256_16_0_0 x, List.forall_mem_cons.2 ⟨fun x => tB_piece x2 x3 CN XF (i 0).val 15 120 rfl slices_S224x256_o120_0_S8x256 inb_S28x8x256_S1x8x256_15_0_0 x, List.forall_mem_cons.2 ⟨fun x => tB_piece x2 x3 CN XF (i 0).val 14 112 rfl slices_S224x256_o112_0_S8x256 inb_S28x8x256_S1x8x256_14_0_0 x, List.forall_mem_cons.2 ⟨fun x => tB_piece x2 x3 CN XF (i 0).val 13 104 rfl slices_S224x256_o104_0_S8x256 inb_S28x8x256_S1x8x256_13_0_0 x, List.forall_mem_cons.2 ⟨fun x => tB_piece x2 x3 CN XF (i 0).val 12 96 rfl slices_S224x256_o96_0_S8x256 inb_S28x8x256_S1x8x256_12_0_0 x, List.forall_mem_cons.2 ⟨fun x => tB_piece x2 x3 CN XF (i 0).val 11 88 rfl slices_S224x256_o88_0_S8x256 inb_S28x8x256_S1x8x256_11_0_0 x, List.forall_mem_cons.2 ⟨fun x => tB_piece x2 x3 CN XF (i 0).val 10 80 rfl slices_S224x256_o80_0_S8x256 inb_S28x8x256_S1x8x256_10_0_0 x, List.forall_mem_cons.2 ⟨fun x => tB_piece x2 x3 CN XF (i 0).val 9 72 rfl slices_S224x256_o72_0_S8x256 inb_S28x8x256_S1x8x256_9_0_0 x, List.forall_mem_cons.2 ⟨fun x => tB_piece x2 x3 CN XF (i 0).val 8 64 rfl slices_S224x256_o64_0_S8x256 inb_S28x8x256_S1x8x256_8_0_0 x, List.forall_mem_cons.2 ⟨fun x => tB_piece x2 x3 CN XF (i 0).val 7 56 rfl slices_S224x256_o56_0_S8x256 inb_S28x8x256_S1x8x256_7_0_0 x, List.forall_mem_cons.2 ⟨fun x => tB_piece x2 x3 CN XF (i 0).val 6 48 rfl slices_S224x256_o48_0_S8x256 inb_S28x8x256_S1x8x256_6_0_0 x, List.forall_mem_cons.2 ⟨fun x => tB_piece x2 x3 CN XF (i 0).val 5 40 rfl slices_S224x256_o40_0_S8x256 inb_S28x8x256_S1x8x256_5_0_0 x, List.forall_mem_cons.2 ⟨fun x => tB_piece x2 x3 CN XF (i 0).val 4 32 rfl slices_S224x256_o32_0_S8x256 inb_S28x8x256_S1x8x256_4_0_0 x, List.forall_mem_cons.2 ⟨fun x => tB_piece x2 x3 CN XF (i 0).val 3 24 rfl slices_S224x256_o24_0_S8x256 inb_S28x8x256_S1x8x256_3_0_0 x, List.forall_mem_cons.2 ⟨fun x => tB_piece x2 x3 CN XF (i 0).val 2 16 rfl slices_S224x256_o16_0_S8x256 inb_S28x8x256_S1x8x256_2_0_0 x, List.forall_mem_cons.2 ⟨fun x => tB_piece x2 x3 CN XF (i 0).val 1 8 rfl slices_S224x256_o8_0_S8x256 inb_S28x8x256_S1x8x256_1_0_0 x, List.forall_mem_cons.2 ⟨fun x => tB_piece x2 x3 CN XF (i 0).val 0 0 rfl slices_S224x256_o0_0_S8x256 inb_S28x8x256_S1x8x256_0_0_0 x, fun p hp => absurd hp List.not_mem_nil⟩⟩⟩⟩⟩⟩⟩⟩⟩⟩⟩⟩⟩⟩⟩⟩⟩⟩⟩⟩⟩⟩⟩⟩⟩⟩⟩⟩
    isplitl [HS0]
    · iexists _, _; isplitr; swap; · iexact HS0
      ipureintro; rfl
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    isplitl [HS4]
    · iexists _; isplitr; · ipureintro; exact harg12.read_unread _
      iexact HS4
    iexists _; isplitr; · ipureintro; exact harg13.read_unread _
    iexact HS5

end Cert.KernelIdeal.Gen

end
-- ==== Proof.KFrame.lean ====
/- The grid loop: what every point leaves in the scratch buffers and in the two results, and the run of the whole program. -/
module

public import proofs.«01_k».proof.Proof.KInit
public import proofs.«01_k».proof.Proof.KRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sg0 (t : Fin cfg0.N) : Memref sig .tc .vmem S224x1536 .bf16 := win0_0.stage (cfg0.slots t 0)
abbrev sg1 (t : Fin cfg0.N) : Memref sig .tc .vmem S224x1536 .bf16 := win0_1.stage (cfg0.slots t 1)
abbrev sg2 (t : Fin cfg0.N) : Memref sig .tc .vmem S1536x256 .i8 := win0_2.stage (cfg0.slots t 2)
abbrev sg3 (t : Fin cfg0.N) : Memref sig .tc .vmem S96x1 .f32 := win0_3.stage (cfg0.slots t 3)
abbrev sg4 (t : Fin cfg0.N) : Memref sig .tc .vmem S96x1024 .i8 := win0_4.stage (cfg0.slots t 4)
abbrev sg5 (t : Fin cfg0.N) : Memref sig .tc .vmem S224x1024 .bf16 := win0_5.stage (cfg0.slots t 5)
abbrev sg6 (t : Fin cfg0.N) : Memref sig .tc .vmem S28x8x256 .f32 := win0_6.stage (cfg0.slots t 6)
abbrev sq0 : Memref sig .tc .vmem S2x384x128 .i32 := Memref.whole cc0_scratch0
abbrev sq1 : Memref sig .tc .vmem S12x4x2x8x128 .i32 := Memref.whole cc0_scratch1
abbrev sq2 : Memref sig .tc .vmem S2x96x128 .f32 := Memref.whole cc0_scratch2
abbrev sq3 : Memref sig .tc .vmem S12x2x8x128 .f32 := Memref.whole cc0_scratch3
abbrev sq4 : Memref sig .tc .vmem S224x128 .f32 := Memref.whole cc0_scratch4
abbrev sq5 : Memref sig .tc .vmem S12x8x28x128 .f32 := Memref.whole cc0_scratch5

/-- The body's branch is taken at the first point only. -/
theorem cond_iff : ∀ t : Fin cfg0.N, (Scalar.cmpi .ne (Scalar.extui (Scalar.cmpi .eq (BitVec.ofNat 32 (grid0.coords t 0).val) 0#32)) 0#32) = 1#1 ↔ t.val = 0 :=
  (fun t => by
    have ht : t.val < 96 := Nat.lt_of_lt_of_eq t.isLt N_0
    have e0 : (grid0.coords t 0).val = t.val / 1 % 96 := Pipeline.Grid.coords_val t 0 (by decide) rfl
    simp only [e0]
    word_cmp
   : ∀ t : Fin grid0.N, (Scalar.cmpi .ne (Scalar.extui (Scalar.cmpi .eq (BitVec.ofNat 32 (grid0.coords t 0).val) 0#32)) 0#32) = 1#1 ↔ t.val = 0)

/-- The invariant before the first point: every scratch buffer at some contents. -/
theorem PhiA_own (c : Dev nD) :
    (Pipeline.ΦA spec0 c : sProp 𝕄) = iprop(iprop((∃ d, owns (c : Thread nD τ) sq0 fullShare d) ∗ (∃ d, owns (c : Thread nD τ) sq1 fullShare d) ∗ (∃ d, owns (c : Thread nD τ) sq2 fullShare d) ∗ (∃ d, owns (c : Thread nD τ) sq3 fullShare d) ∗ (∃ d, owns (c : Thread nD τ) sq4 fullShare d) ∗ (∃ d, owns (c : Thread nD τ) sq5 fullShare d)) ∗ (∃ r, prngReg c r)) := by
  unfold Pipeline.ΦA; rw [scopedRest0_eq]; simp only [sq0, sq1, sq2, sq3, sq4, sq5, owns_whole]; try rfl

theorem N_pos : 0 < cfg0.N := by rw [show cfg0.N = 96 from N_0]; decide

/-- The first grid point. -/
def tz : Fin cfg0.N := ⟨0, N_pos⟩

/-- The whole query array, the codebook bytes and the scales: the same block at every point. -/
abbrev X1 (c : Dev nD) : Vec F S224x1536 .bf16 := iblk m c 1 tz
abbrev X2 (c : Dev nD) : Vec F S1536x256 .i8 := iblk m c 2 tz
abbrev X3 (c : Dev nD) : Vec F S96x1 .f32 := iblk m c 3 tz

theorem X1_eq (c : Dev nD) (t : Fin cfg0.N) : iblk m c 1 t = X1 m c := rfl
theorem X2_eq (c : Dev nD) (t : Fin cfg0.N) : iblk m c 2 t = X2 m c := rfl
theorem X3_eq (c : Dev nD) (t : Fin cfg0.N) : iblk m c 3 t = X3 m c := rfl

/-- The invariant after a point: the tables filled from the constant inputs. -/
def PhiT (c : Dev nD) : sProp 𝕄 :=
  iprop(iprop((∃ d, owns (c : Thread nD τ) sq0 fullShare d) ∗ owns (c : Thread nD τ) sq1 fullShare (tblV (X2 m c)) ∗ owns (c : Thread nD τ) sq2 fullShare (cnV (X2 m c) (X3 m c)) ∗ owns (c : Thread nD τ) sq3 fullShare (cntV (X2 m c) (X3 m c)) ∗ owns (c : Thread nD τ) sq4 fullShare (xnV (X1 m c)) ∗ owns (c : Thread nD τ) sq5 fullShare (xfV (X1 m c))) ∗ (∃ r, prngReg c r))

/-- The scores block and the table block of point `t`. -/
def outS (c : Dev nD) (t : Fin cfg0.N) : Vec F S224x1024 .bf16 := scB (iblk m c 0 t) (iblk m c 4 t) (tblV (X2 m c)) (cntV (X2 m c) (X3 m c)) (xnV (X1 m c))
def outT (c : Dev nD) (t : Fin cfg0.N) : Vec F S28x8x256 .f32 := tB (X2 m c) (X3 m c) (cnV (X2 m c) (X3 m c)) (xfV (X1 m c)) (grid0.coords t 0).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outS m c t
    | ⟨6, _⟩ => outT m c t
  Φ t := if t.val = 0 then Pipeline.ΦA spec0 c else PhiT m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outS m c t := by dsimp only [dats]
theorem after0_6 (c : Dev nD) (t : Fin cfg0.N) : (dats m 0 c).after 6 t = outT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem Phi_zero (c : Dev nD) (t : Fin (cfg0.N + 1)) (h : t.val = 0) : (dats m 0 c).Φ t = Pipeline.ΦA spec0 c := by
  dsimp only [dats]; exact if_pos h
theorem Phi_pos (c : Dev nD) (t : Fin (cfg0.N + 1)) (h : ¬t.val = 0) : (dats m 0 c).Φ t = PhiT m c := by
  dsimp only [dats]; exact if_neg h

def bodyPre (c : Dev nD) (t : Fin cfg0.N) : sProp 𝕄 :=
  iprop((dats m 0 c).Φ t.castSucc ∗ (dats m 0 c).owesAt () t.castSucc ∗ (∃ d, owns (c : Thread nD τ) (sg0 t) fullShare ((dats m 0 c).before 0 t d)) ∗ (∃ d, owns (c : Thread nD τ) (sg1 t) fullShare ((dats m 0 c).before 1 t d)) ∗ (∃ d, owns (c : Thread nD τ) (sg2 t) fullShare ((dats m 0 c).before 2 t d)) ∗ (∃ d, owns (c : Thread nD τ) (sg3 t) fullShare ((dats m 0 c).before 3 t d)) ∗ (∃ d, owns (c : Thread nD τ) (sg4 t) fullShare ((dats m 0 c).before 4 t d)) ∗ (∃ d, owns (c : Thread nD τ) (sg5 t) fullShare ((dats m 0 c).before 5 t d)) ∗ (∃ d, owns (c : Thread nD τ) (sg6 t) fullShare ((dats m 0 c).before 6 t d)))

def bodyPost (c : Dev nD) (t : Fin cfg0.N) : sProp 𝕄 :=
  iprop((dats m 0 c).Φ t.succ ∗ (dats m 0 c).owesAt () t.succ ∗ owns (c : Thread nD τ) (sg0 t) fullShare ((dats m 0 c).after 0 t) ∗ owns (c : Thread nD τ) (sg1 t) fullShare ((dats m 0 c).after 1 t) ∗ owns (c : Thread nD τ) (sg2 t) fullShare ((dats m 0 c).after 2 t) ∗ owns (c : Thread nD τ) (sg3 t) fullShare ((dats m 0 c).after 3 t) ∗ owns (c : Thread nD τ) (sg4 t) fullShare ((dats m 0 c).after 4 t) ∗ owns (c : Thread nD τ) (sg5 t) fullShare ((dats m 0 c).after 5 t) ∗ owns (c : Thread nD τ) (sg6 t) fullShare ((dats m 0 c).after 6 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, X1_eq m c t, X2_eq m c t, X3_eq m c t,
    Phi_pos m c t.succ (Nat.succ_ne_zero _)]
  by_cases h0 : t.val = 0
  · rw [Phi_zero m c t.castSucc h0, PhiA_own, body_first (hc := (cond_iff t).mpr h0), wp_bind]
    unfold PhiT outS outT
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
    iapply (run_init c (grid0.coords t) _ _ _ _ _ _ _ _ _ _ _ _ _ _ _ _ _ _ _ _ _ _ _ _ _ _ (X1 m c) (X2 m c) (X3 m c) Set.univ _)
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H1, H2, H3, HS0, HS1, HS2, HS3, HS4, HS5⟩
    iapply (run_tail c (grid0.coords t) _ _ _ _ _ _ _ _ _ _ _ _ _ _ _ _ _ _ _ _ _ _ _ _ _ _ (iblk m c 0 t) (X1 m c) (X2 m c) (X3 m c) (iblk m c 4 t) (tblV (X2 m c)) (cnV (X2 m c) (X3 m c)) (cntV (X2 m c) (X3 m c)) (xnV (X1 m c)) (xfV (X1 m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos m c t.castSucc h0, body_later (hc := fun h => h0 ((cond_iff t).mp h))]
    unfold PhiT outS outT
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
    iapply (run_tail c (grid0.coords t) _ _ _ _ _ _ _ _ _ _ _ _ _ _ _ _ _ _ _ _ _ _ _ _ _ _ (iblk m c 0 t) (X1 m c) (X2 m c) (X3 m c) (iblk m c 4 t) (tblV (X2 m c)) (cnV (X2 m c) (X3 m c)) (cntV (X2 m c) (X3 m c)) (xnV (X1 m c)) (xfV (X1 m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_out (c : Dev nD) : PhiT m c ⊢ (Pipeline.ΦA spec0 c : sProp 𝕄) := by
  rw [PhiA_own]
  unfold PhiT
  iintro ⟨⟨HS0, HS1, HS2, HS3, HS4, HS5⟩, Hg⟩
  isplitl [HS0 HS1 HS2 HS3 HS4 HS5]
  · isplitl [HS0]
    · iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl]) (hout := fun c => by rw [Phi_pos m c (Fin.last _) (by rw [Fin.val_last]; exact N_pos.ne')]; exact Phi_out m c)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 1).trans (((dats m 0 c).arrAt_in 1 rfl _).trans ((A_eq m c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans ((A_eq m c 4).trans (V_main_arg3 m c)))⟩, h.2⟩) (run_main_quiescent m ρ)

end Cert.KernelIdeal.Gen

end
-- ==== Proof.BSpec.lean ====
/- The values one grid point computes, written as functions of the blocks and scratch buffers it reads. -/
module

public import proofs.«01_k».proof.Proof.Gen.Kernel.Frame
public import proofs.«01_k».proof.Proof.Gen.Kernel.Skeleton
public import Idealize.ShloMosaic.Lib.PointwiseCore

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The box of `X` of the given sizes whose first element stands at `o`. -/
def slc {s : Shape} {α : Type} (X : s.Idx → α) (hs : ∀ a, 0 < s.size a) (o size : Fin s.rank → Nat) : (⟨s.rank, size⟩ : Shape).Idx → α :=
  fun j => X fun a => ⟨(o a + (j a).val) % s.size a, Nat.mod_lt _ (hs a)⟩

theorem pos9 : ∀ a, 0 < S12x4x2x8x128.size a := by decide
theorem pos11 : ∀ a, 0 < S12x2x8x128.size a := by decide
theorem pos10 : ∀ a, 0 < S2x96x128.size a := by decide
theorem pos13 : ∀ a, 0 < S12x8x28x128.size a := by decide
theorem pos5 : ∀ a, 0 < S96x1024.size a := by decide
theorem pos4 : ∀ a, 0 < S96x1.size a := by decide
theorem pos3 : ∀ a, 0 < S1536x256.size a := by decide

/-- A code of each of 8 subspaces for 128 columns: one byte of each word of the loaded codes. -/
def codeW (sh : BitVec 32) (v : Vec F S32x128 .i8) : IVec S8x128 32 :=
  andi (shrui (bitcast S8x128 32 v bitcasts_S32x128_w8_S8x128_w32) (broadcast S8x128 sh)) (broadcast S8x128 255#32)

/-- The table entry that each code names: of its low half `a` or of its high half `b`. -/
def gat {α : Type} (cd : IVec S8x128 32) (a b : S8x128.Idx → α) : S8x128.Idx → α :=
  select (cmpi .slt cd (broadcast S8x128 128#32))
    (dynamicGather 1 a (shapeCast S8x128 (shapeCast S8x128x1 (andi cd (broadcast S8x128 127#32)) shapeCasts_S8x128_S8x128x1) shapeCasts_S8x128x1_S8x128))
    (dynamicGather 1 b (shapeCast S8x128 (shapeCast S8x128x1 (andi cd (broadcast S8x128 127#32)) shapeCasts_S8x128_S8x128x1) shapeCasts_S8x128x1_S8x128))

/-- The 32 decoded rows of one group of subspaces and one word of their centroids. -/
def dec (cd : IVec S8x128 32) (t0 t1 : Vec F S1x1x1x8x128 .i32) : FVec F S32x128 .fp8e4m3 :=
  bitcastToFloat .fp8e4m3 (bitcast S32x128 8 (gat cd (shapeCast S8x128 t0 shapeCasts_S1x1x1x8x128_S8x128) (shapeCast S8x128 t1 shapeCasts_S1x1x1x8x128_S8x128)) bitcasts_S8x128_w32_S32x128_w8)

/-- The squared lengths of the centroids that the codes of one group name. -/
def nrm (cd : IVec S8x128 32) (u0 u1 : Vec F S1x1x8x128 .f32) : FVec F S8x128 .f32 :=
  gat cd (shapeCast S8x128 u0 shapeCasts_S1x1x8x128_S8x128) (shapeCast S8x128 u1 shapeCasts_S1x1x8x128_S8x128)

/-- The 1536 decoded rows of 128 columns, from the codes `C` (32 subspaces each) and the word table `T`. -/
def hd (C : Nat → Vec F S32x128 .i8) (T : Nat → Nat → Nat → Vec F S1x1x1x8x128 .i32) : FVec F S1536x128 .fp8e4m3 :=
  concatenate S1536x128 0 (⟨S32x128, dec (codeW 0#32 (C 0)) (T 0 0 0) (T 0 0 1)⟩ :: ⟨S32x128, dec (codeW 0#32 (C 0)) (T 0 1 0) (T 0 1 1)⟩ :: ⟨S32x128, dec (codeW 0#32 (C 0)) (T 0 2 0) (T 0 2 1)⟩ :: ⟨S32x128, dec (codeW 0#32 (C 0)) (T 0 3 0) (T 0 3 1)⟩ :: ⟨S32x128, dec (codeW 8#32 (C 0)) (T 1 0 0) (T 1 0 1)⟩ :: ⟨S32x128, dec (codeW 8#32 (C 0)) (T 1 1 0) (T 1 1 1)⟩ :: ⟨S32x128, dec (codeW 8#32 (C 0)) (T 1 2 0) (T 1 2 1)⟩ :: ⟨S32x128, dec (codeW 8#32 (C 0)) (T 1 3 0) (T 1 3 1)⟩ :: ⟨S32x128, dec (codeW 16#32 (C 0)) (T 2 0 0) (T 2 0 1)⟩ :: ⟨S32x128, dec (codeW 16#32 (C 0)) (T 2 1 0) (T 2 1 1)⟩ :: ⟨S32x128, dec (codeW 16#32 (C 0)) (T 2 2 0) (T 2 2 1)⟩ :: ⟨S32x128, dec (codeW 16#32 (C 0)) (T 2 3 0) (T 2 3 1)⟩ :: ⟨S32x128, dec (codeW 24#32 (C 0)) (T 3 0 0) (T 3 0 1)⟩ :: ⟨S32x128, dec (codeW 24#32 (C 0)) (T 3 1 0) (T 3 1 1)⟩ :: ⟨S32x128, dec (codeW 24#32 (C 0)) (T 3 2 0) (T 3 2 1)⟩ :: ⟨S32x128, dec (codeW 24#32 (C 0)) (T 3 3 0) (T 3 3 1)⟩ :: ⟨S32x128, dec (codeW 0#32 (C 1)) (T 4 0 0) (T 4 0 1)⟩ :: ⟨S32x128, dec (codeW 0#32 (C 1)) (T 4 1 0) (T 4 1 1)⟩ :: ⟨S32x128, dec (codeW 0#32 (C 1)) (T 4 2 0) (T 4 2 1)⟩ :: ⟨S32x128, dec (codeW 0#32 (C 1)) (T 4 3 0) (T 4 3 1)⟩ :: ⟨S32x128, dec (codeW 8#32 (C 1)) (T 5 0 0) (T 5 0 1)⟩ :: ⟨S32x128, dec (codeW 8#32 (C 1)) (T 5 1 0) (T 5 1 1)⟩ :: ⟨S32x128, dec (codeW 8#32 (C 1)) (T 5 2 0) (T 5 2 1)⟩ :: ⟨S32x128, dec (codeW 8#32 (C 1)) (T 5 3 0) (T 5 3 1)⟩ :: ⟨S32x128, dec (codeW 16#32 (C 1)) (T 6 0 0) (T 6 0 1)⟩ :: ⟨S32x128, dec (codeW 16#32 (C 1)) (T 6 1 0) (T 6 1 1)⟩ :: ⟨S32x128, dec (codeW 16#32 (C 1)) (T 6 2 0) (T 6 2 1)⟩ :: ⟨S32x128, dec (codeW 16#32 (C 1)) (T 6 3 0) (T 6 3 1)⟩ :: ⟨S32x128, dec (codeW 24#32 (C 1)) (T 7 0 0) (T 7 0 1)⟩ :: ⟨S32x128, dec (codeW 24#32 (C 1)) (T 7 1 0) (T 7 1 1)⟩ :: ⟨S32x128, dec (codeW 24#32 (C 1)) (T 7 2 0) (T 7 2 1)⟩ :: ⟨S32x128, dec (codeW 24#32 (C 1)) (T 7 3 0) (T 7 3 1)⟩ :: ⟨S32x128, dec (codeW 0#32 (C 2)) (T 8 0 0) (T 8 0 1)⟩ :: ⟨S32x128, dec (codeW 0#32 (C 2)) (T 8 1 0) (T 8 1 1)⟩ :: ⟨S32x128, dec (codeW 0#32 (C 2)) (T 8 2 0) (T 8 2 1)⟩ :: ⟨S32x128, dec (codeW 0#32 (C 2)) (T 8 3 0) (T 8 3 1)⟩ :: ⟨S32x128, dec (codeW 8#32 (C 2)) (T 9 0 0) (T 9 0 1)⟩ :: ⟨S32x128, dec (codeW 8#32 (C 2)) (T 9 1 0) (T 9 1 1)⟩ :: ⟨S32x128, dec (codeW 8#32 (C 2)) (T 9 2 0) (T 9 2 1)⟩ :: ⟨S32x128, dec (codeW 8#32 (C 2)) (T 9 3 0) (T 9 3 1)⟩ :: ⟨S32x128, dec (codeW 16#32 (C 2)) (T 10 0 0) (T 10 0 1)⟩ :: ⟨S32x128, dec (codeW 16#32 (C 2)) (T 10 1 0) (T 10 1 1)⟩ :: ⟨S32x128, dec (codeW 16#32 (C 2)) (T 10 2 0) (T 10 2 1)⟩ :: ⟨S32x128, dec (codeW 16#32 (C 2)) (T 10 3 0) (T 10 3 1)⟩ :: ⟨S32x128, dec (codeW 24#32 (C 2)) (T 11 0 0) (T 11 0 1)⟩ :: ⟨S32x128, dec (codeW 24#32 (C 2)) (T 11 1 0) (T 11 1 1)⟩ :: ⟨S32x128, dec (codeW 24#32 (C 2)) (T 11 2 0) (T 11 2 1)⟩ :: ⟨S32x128, dec (codeW 24#32 (C 2)) (T 11 3 0) (T 11 3 1)⟩ :: []) concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S1536x128_d0

/-- The summed squared lengths of 128 columns, over the subspaces of each residue mod 8. -/
def hs (C : Nat → Vec F S32x128 .i8) (U : Nat → Nat → Vec F S1x1x8x128 .f32) : FVec F S8x128 .f32 :=
  (addf (addf (addf (addf (addf (addf (addf (addf (addf (addf (addf (addf (broadcast S8x128 (Scalar.ofBits .f32 0x00000000#32 : F .f32)) (nrm (codeW 0#32 (C 0)) (U 0 0) (U 0 1))) (nrm (codeW 8#32 (C 0)) (U 1 0) (U 1 1))) (nrm (codeW 16#32 (C 0)) (U 2 0) (U 2 1))) (nrm (codeW 24#32 (C 0)) (U 3 0) (U 3 1))) (nrm (codeW 0#32 (C 1)) (U 4 0) (U 4 1))) (nrm (codeW 8#32 (C 1)) (U 5 0) (U 5 1))) (nrm (codeW 16#32 (C 1)) (U 6 0) (U 6 1))) (nrm (codeW 24#32 (C 1)) (U 7 0) (U 7 1))) (nrm (codeW 0#32 (C 2)) (U 8 0) (U 8 1))) (nrm (codeW 8#32 (C 2)) (U 9 0) (U 9 1))) (nrm (codeW 16#32 (C 2)) (U 10 0) (U 10 1))) (nrm (codeW 24#32 (C 2)) (U 11 0) (U 11 1)))

/-- The summed squared lengths of the centroids that 128 columns name. -/
def hn (C : Nat → Vec F S32x128 .i8) (U : Nat → Nat → Vec F S1x1x8x128 .f32) : FVec F S1x128 .f32 :=
  shapeCast S1x128 (multiReduction .add [0] S128 (hs C U) 0x00000000#32 reduces_S8x128_S128 (.inl rfl) rfl) shapeCasts_S128_S1x128

/-- The scores of 256 columns. -/
def chunk (xp : Vec F S224x1536 .bf16) (xn : Vec F S224x128 .f32) (T : Nat → Nat → Nat → Vec F S1x1x1x8x128 .i32)
    (U : Nat → Nat → Vec F S1x1x8x128 .f32) (C C' : Nat → Vec F S32x128 .i8) : FVec F S224x256 .bf16 :=
  truncf .bf16 (addf (addf (matmul dot_S224x1536_S1536x256_S224x256_1_0_0_1_n_n none (shapeCast S224x1536 xp shapeCasts_S224x1536_S224x1536)
      (concatenate S1536x256 1 [⟨S1536x128, hd C T⟩, ⟨S1536x128, hd C' T⟩] concatenates_S1536x128_S1536x128_S1536x256_d1)
      (constant S224x256 .f32 0x00000000#32))
    (broadcastTo S224x256 (concatenate S1x256 1 [⟨S1x128, hn C U⟩, ⟨S1x128, hn C' U⟩] concatenates_S1x128_S1x128_S1x256_d1) broadcasts_S1x256_S224x256))
    (concatenate S224x256 1 [⟨S224x128, xn⟩, ⟨S224x128, xn⟩] concatenates_S224x128_S224x128_S224x256_d1)) bitsLt_bf16_f32

/-- The word table's load of group `g`, word `w`, half `h`. -/
def ldT (TBL : Vec F S12x4x2x8x128 .i32) (g w h : Nat) : Vec F S1x1x1x8x128 .i32 := slc TBL pos9 ![g, w, h, 0, 0] S1x1x1x8x128.size
/-- The squared lengths' load of group `g`, half `h`. -/
def ldU (CNT : Vec F S12x2x8x128 .f32) (g h : Nat) : Vec F S1x1x8x128 .f32 := slc CNT pos11 ![g, h, 0, 0] S1x1x8x128.size
/-- The codes' load of 32 subspaces from column `n` on. -/
def ldC (x4 : Vec F S96x1024 .i8) (n s : Nat) : Vec F S32x128 .i8 := slc x4 pos5 ![s * 32, n] S32x128.size

/-- The scores of the `c`-th 256 columns of a block. -/
def chunkAt (xp : Vec F S224x1536 .bf16) (xn : Vec F S224x128 .f32) (TBL : Vec F S12x4x2x8x128 .i32) (CNT : Vec F S12x2x8x128 .f32)
    (x4 : Vec F S96x1024 .i8) (n n' : Nat) : FVec F S224x256 .bf16 :=
  chunk xp xn (ldT TBL) (ldU CNT) (ldC x4 n) (ldC x4 n')

/-- One row of `x`, for each of 8 subspaces with the other subspaces' lanes zeroed. -/
def lrow (r : Vec F S1x1x1x128 .f32) : FVec F S8x128 .f32 :=
  select k0_pay1230 (broadcastTo S8x128 (shapeCast S1x128 (shapeCast S1x128 r shapeCasts_S1x1x1x128_S1x128) shapeCasts_S1x128_S1x128) broadcasts_S1x128_S8x128)
    (broadcast S8x128 (Scalar.ofBits .f32 0x00000000#32 : F .f32))

/-- The squared length of each subspace of one row of `x`. -/
def lnorm (r : Vec F S1x1x1x128 .f32) : FVec F S8x1 .f32 :=
  shapeCast S8x1 (multiReduction .add [1] S8 (mulf (lrow r) (lrow r)) 0x00000000#32 reduces_S8x128_S8 (.inl rfl) rfl) shapeCasts_S8_S8x1

/-- The products of 28 rows of `x`, subspace by subspace, with the codebook. -/
def ldot (R : Nat → Vec F S1x1x1x128 .f32) (ct : Vec F S128x256 .i8) : FVec F S224x256 .f32 :=
  matmul dot_S224x128_S128x256_S224x256_1_0_0_1_n_n none
    (truncf .bf16 (concatenate S224x128 0 [⟨S8x128, lrow (R 0)⟩, ⟨S8x128, lrow (R 1)⟩, ⟨S8x128, lrow (R 2)⟩, ⟨S8x128, lrow (R 3)⟩, ⟨S8x128, lrow (R 4)⟩, ⟨S8x128, lrow (R 5)⟩, ⟨S8x128, lrow (R 6)⟩, ⟨S8x128, lrow (R 7)⟩, ⟨S8x128, lrow (R 8)⟩, ⟨S8x128, lrow (R 9)⟩, ⟨S8x128, lrow (R 10)⟩, ⟨S8x128, lrow (R 11)⟩, ⟨S8x128, lrow (R 12)⟩, ⟨S8x128, lrow (R 13)⟩, ⟨S8x128, lrow (R 14)⟩, ⟨S8x128, lrow (R 15)⟩, ⟨S8x128, lrow (R 16)⟩, ⟨S8x128, lrow (R 17)⟩, ⟨S8x128, lrow (R 18)⟩, ⟨S8x128, lrow (R 19)⟩, ⟨S8x128, lrow (R 20)⟩, ⟨S8x128, lrow (R 21)⟩, ⟨S8x128, lrow (R 22)⟩, ⟨S8x128, lrow (R 23)⟩, ⟨S8x128, lrow (R 24)⟩, ⟨S8x128, lrow (R 25)⟩, ⟨S8x128, lrow (R 26)⟩, ⟨S8x128, lrow (R 27)⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S224x128_d0) bitsLt_bf16_f32)
    (bitcastToFloat .fp8e4m3 (shapeCast S128x256 ct shapeCasts_S128x256_S128x256)) (constant S224x256 .f32 0x00000000#32)

/-- The table's row `q` of the 28 that one grid point writes. -/
def trow (R : Nat → Vec F S1x1x1x128 .f32) (ct : Vec F S128x256 .i8) (sc : Vec F S8x1 .f32) (c0 c1 : Vec F S1x8x128 .f32) (q o : Nat)
    (h : S224x256.Slices ![o, 0] S8x256) : FVec F S1x8x256 .f32 :=
  shapeCast S1x8x256 (subf (addf (broadcastTo S8x256 (lnorm (R q)) broadcasts_S8x1_S8x256)
      (concatenate S8x256 1 [⟨S8x128, shapeCast S8x128 c0 shapeCasts_S1x8x128_S8x128⟩, ⟨S8x128, shapeCast S8x128 c1 shapeCasts_S1x8x128_S8x128⟩] concatenates_S8x128_S8x128_S8x256_d1))
    (mulf (broadcast S8x256 (Scalar.ofBits .f32 0x40000000#32 : F .f32))
      (mulf (extractStridedSlice S8x256 ![o, 0] (ldot R ct) h) (broadcastTo S8x256 (shapeCast S8x1 sc shapeCasts_S8x1_S8x1) broadcasts_S8x1_S8x256)))) shapeCasts_S8x256_S1x8x256

/-- The load of row `q` of the part of `x` that the grid point `n` takes. -/
def ldX (XF : Vec F S12x8x28x128 .f32) (n q : Nat) : Vec F S1x1x1x128 .f32 := slc XF pos13 ![n / 8, n % 8, q, 0] S1x1x1x128.size

/-- The table's row `q` at grid point `n`. -/
def trowAt (XF : Vec F S12x8x28x128 .f32) (x2 : Vec F S1536x256 .i8) (x3 : Vec F S96x1 .f32) (CN : Vec F S2x96x128 .f32) (n q o : Nat)
    (h : S224x256.Slices ![o, 0] S8x256) : FVec F S1x8x256 .f32 :=
  trow (ldX XF n) (slc x2 pos3 ![n / 8 * 128, 0] S128x256.size) (slc x3 pos4 ![n / 8 * 8, 0] S8x1.size)
    (slc CN pos10 ![0, n / 8 * 8, 0] S1x8x128.size) (slc CN pos10 ![1, n / 8 * 8, 0] S1x8x128.size) q o h

/-- The grid point `n`. -/
def pt (n : Fin 96) : grid0.Coords := fun a => ⟨n.val, by have h := n.isLt; fin_cases a; exact h⟩

theorem off1_eq (i : grid0.Coords) : k0_off1 i = ![(i 0).val / 8, (i 0).val % 8, 0, 0] :=
  (by decide +kernel : ∀ n : Fin 96, k0_off1 (pt n) = ![n.val / 8, n.val % 8, 0, 0]) (i 0)
instance (i : grid0.Coords) : ClosedOff (k0_off1 i) := ⟨_, off1_eq i⟩
theorem off2_eq (i : grid0.Coords) : k0_off2 i = ![(i 0).val / 8, (i 0).val % 8, 1, 0] :=
  (by decide +kernel : ∀ n : Fin 96, k0_off2 (pt n) = ![n.val / 8, n.val % 8, 1, 0]) (i 0)
instance (i : grid0.Coords) : ClosedOff (k0_off2 i) := ⟨_, off2_eq i⟩
theorem off3_eq (i : grid0.Coords) : k0_off3 i = ![(i 0).val / 8, (i 0).val % 8, 2, 0] :=
  (by decide +kernel : ∀ n : Fin 96, k0_off3 (pt n) = ![n.val / 8, n.val % 8, 2, 0]) (i 0)
instance (i : grid0.Coords) : ClosedOff (k0_off3 i) := ⟨_, off3_eq i⟩
theorem off4_eq (i : grid0.Coords) : k0_off4 i = ![(i 0).val / 8, (i 0).val % 8, 3, 0] :=
  (by decide +kernel : ∀ n : Fin 96, k0_off4 (pt n) = ![n.val / 8, n.val % 8, 3, 0]) (i 0)
instance (i : grid0.Coords) : ClosedOff (k0_off4 i) := ⟨_, off4_eq i⟩
theorem off5_eq (i : grid0.Coords) : k0_off5 i = ![(i 0).val / 8, (i 0).val % 8, 4, 0] :=
  (by decide +kernel : ∀ n : Fin 96, k0_off5 (pt n) = ![n.val / 8, n.val % 8, 4, 0]) (i 0)
instance (i : grid0.Coords) : ClosedOff (k0_off5 i) := ⟨_, off5_eq i⟩
theorem off6_eq (i : grid0.Coords) : k0_off6 i = ![(i 0).val / 8, (i 0).val % 8, 5, 0] :=
  (by decide +kernel : ∀ n : Fin 96, k0_off6 (pt n) = ![n.val / 8, n.val % 8, 5, 0]) (i 0)
instance (i : grid0.Coords) : ClosedOff (k0_off6 i) := ⟨_, off6_eq i⟩
theorem off7_eq (i : grid0.Coords) : k0_off7 i = ![(i 0).val / 8, (i 0).val % 8, 6, 0] :=
  (by decide +kernel : ∀ n : Fin 96, k0_off7 (pt n) = ![n.val / 8, n.val % 8, 6, 0]) (i 0)
instance (i : grid0.Coords) : ClosedOff (k0_off7 i) := ⟨_, off7_eq i⟩
theorem off8_eq (i : grid0.Coords) : k0_off8 i = ![(i 0).val / 8, (i 0).val % 8, 7, 0] :=
  (by decide +kernel : ∀ n : Fin 96, k0_off8 (pt n) = ![n.val / 8, n.val % 8, 7, 0]) (i 0)
instance (i : grid0.Coords) : ClosedOff (k0_off8 i) := ⟨_, off8_eq i⟩
theorem off9_eq (i : grid0.Coords) : k0_off9 i = ![(i 0).val / 8, (i 0).val % 8, 8, 0] :=
  (by decide +kernel : ∀ n : Fin 96, k0_off9 (pt n) = ![n.val / 8, n.val % 8, 8, 0]) (i 0)
instance (i : grid0.Coords) : ClosedOff (k0_off9 i) := ⟨_, off9_eq i⟩
theorem off10_eq (i : grid0.Coords) : k0_off10 i = ![(i 0).val / 8, (i 0).val % 8, 9, 0] :=
  (by decide +kernel : ∀ n : Fin 96, k0_off10 (pt n) = ![n.val / 8, n.val % 8, 9, 0]) (i 0)
instance (i : grid0.Coords) : ClosedOff (k0_off10 i) := ⟨_, off10_eq i⟩
theorem off11_eq (i : grid0.Coords) : k0_off11 i = ![(i 0).val / 8, (i 0).val % 8, 10, 0] :=
  (by decide +kernel : ∀ n : Fin 96, k0_off11 (pt n) = ![n.val / 8, n.val % 8, 10, 0]) (i 0)
instance (i : grid0.Coords) : ClosedOff (k0_off11 i) := ⟨_, off11_eq i⟩
theorem off12_eq (i : grid0.Coords) : k0_off12 i = ![(i 0).val / 8, (i 0).val % 8, 11, 0] :=
  (by decide +kernel : ∀ n : Fin 96, k0_off12 (pt n) = ![n.val / 8, n.val % 8, 11, 0]) (i 0)
instance (i : grid0.Coords) : ClosedOff (k0_off12 i) := ⟨_, off12_eq i⟩
theorem off13_eq (i : grid0.Coords) : k0_off13 i = ![(i 0).val / 8, (i 0).val % 8, 12, 0] :=
  (by decide +kernel : ∀ n : Fin 96, k0_off13 (pt n) = ![n.val / 8, n.val % 8, 12, 0]) (i 0)
instance (i : grid0.Coords) : ClosedOff (k0_off13 i) := ⟨_, off13_eq i⟩
theorem off14_eq (i : grid0.Coords) : k0_off14 i = ![(i 0).val / 8, (i 0).val % 8, 13, 0] :=
  (by decide +kernel : ∀ n : Fin 96, k0_off14 (pt n) = ![n.val / 8, n.val % 8, 13, 0]) (i 0)
instance (i : grid0.Coords) : ClosedOff (k0_off14 i) := ⟨_, off14_eq i⟩
theorem off15_eq (i : grid0.Coords) : k0_off15 i = ![(i 0).val / 8, (i 0).val % 8, 14, 0] :=
  (by decide +kernel : ∀ n : Fin 96, k0_off15 (pt n) = ![n.val / 8, n.val % 8, 14, 0]) (i 0)
instance (i : grid0.Coords) : ClosedOff (k0_off15 i) := ⟨_, off15_eq i⟩
theorem off16_eq (i : grid0.Coords) : k0_off16 i = ![(i 0).val / 8, (i 0).val % 8, 15, 0] :=
  (by decide +kernel : ∀ n : Fin 96, k0_off16 (pt n) = ![n.val / 8, n.val % 8, 15, 0]) (i 0)
instance (i : grid0.Coords) : ClosedOff (k0_off16 i) := ⟨_, off16_eq i⟩
theorem off17_eq (i : grid0.Coords) : k0_off17 i = ![(i 0).val / 8, (i 0).val % 8, 16, 0] :=
  (by decide +kernel : ∀ n : Fin 96, k0_off17 (pt n) = ![n.val / 8, n.val % 8, 16, 0]) (i 0)
instance (i : grid0.Coords) : ClosedOff (k0_off17 i) := ⟨_, off17_eq i⟩
theorem off18_eq (i : grid0.Coords) : k0_off18 i = ![(i 0).val / 8, (i 0).val % 8, 17, 0] :=
  (by decide +kernel : ∀ n : Fin 96, k0_off18 (pt n) = ![n.val / 8, n.val % 8, 17, 0]) (i 0)
instance (i : grid0.Coords) : ClosedOff (k0_off18 i) := ⟨_, off18_eq i⟩
theorem off19_eq (i : grid0.Coords) : k0_off19 i = ![(i 0).val / 8, (i 0).val % 8, 18, 0] :=
  (by decide +kernel : ∀ n : Fin 96, k0_off19 (pt n) = ![n.val / 8, n.val % 8, 18, 0]) (i 0)
instance (i : grid0.Coords) : ClosedOff (k0_off19 i) := ⟨_, off19_eq i⟩
theorem off20_eq (i : grid0.Coords) : k0_off20 i = ![(i 0).val / 8, (i 0).val % 8, 19, 0] :=
  (by decide +kernel : ∀ n : Fin 96, k0_off20 (pt n) = ![n.val / 8, n.val % 8, 19, 0]) (i 0)
instance (i : grid0.Coords) : ClosedOff (k0_off20 i) := ⟨_, off20_eq i⟩
theorem off21_eq (i : grid0.Coords) : k0_off21 i = ![(i 0).val / 8, (i 0).val % 8, 20, 0] :=
  (by decide +kernel : ∀ n : Fin 96, k0_off21 (pt n) = ![n.val / 8, n.val % 8, 20, 0]) (i 0)
instance (i : grid0.Coords) : ClosedOff (k0_off21 i) := ⟨_, off21_eq i⟩
theorem off22_eq (i : grid0.Coords) : k0_off22 i = ![(i 0).val / 8, (i 0).val % 8, 21, 0] :=
  (by decide +kernel : ∀ n : Fin 96, k0_off22 (pt n) = ![n.val / 8, n.val % 8, 21, 0]) (i 0)
instance (i : grid0.Coords) : ClosedOff (k0_off22 i) := ⟨_, off22_eq i⟩
theorem off23_eq (i : grid0.Coords) : k0_off23 i = ![(i 0).val / 8, (i 0).val % 8, 22, 0] :=
  (by decide +kernel : ∀ n : Fin 96, k0_off23 (pt n) = ![n.val / 8, n.val % 8, 22, 0]) (i 0)
instance (i : grid0.Coords) : ClosedOff (k0_off23 i) := ⟨_, off23_eq i⟩
theorem off24_eq (i : grid0.Coords) : k0_off24 i = ![(i 0).val / 8, (i 0).val % 8, 23, 0] :=
  (by decide +kernel : ∀ n : Fin 96, k0_off24 (pt n) = ![n.val / 8, n.val % 8, 23, 0]) (i 0)
instance (i : grid0.Coords) : ClosedOff (k0_off24 i) := ⟨_, off24_eq i⟩
theorem off25_eq (i : grid0.Coords) : k0_off25 i = ![(i 0).val / 8, (i 0).val % 8, 24, 0] :=
  (by decide +kernel : ∀ n : Fin 96, k0_off25 (pt n) = ![n.val / 8, n.val % 8, 24, 0]) (i 0)
instance (i : grid0.Coords) : ClosedOff (k0_off25 i) := ⟨_, off25_eq i⟩
theorem off26_eq (i : grid0.Coords) : k0_off26 i = ![(i 0).val / 8, (i 0).val % 8, 25, 0] :=
  (by decide +kernel : ∀ n : Fin 96, k0_off26 (pt n) = ![n.val / 8, n.val % 8, 25, 0]) (i 0)
instance (i : grid0.Coords) : ClosedOff (k0_off26 i) := ⟨_, off26_eq i⟩
theorem off27_eq (i : grid0.Coords) : k0_off27 i = ![(i 0).val / 8, (i 0).val % 8, 26, 0] :=
  (by decide +kernel : ∀ n : Fin 96, k0_off27 (pt n) = ![n.val / 8, n.val % 8, 26, 0]) (i 0)
instance (i : grid0.Coords) : ClosedOff (k0_off27 i) := ⟨_, off27_eq i⟩
theorem off28_eq (i : grid0.Coords) : k0_off28 i = ![(i 0).val / 8, (i 0).val % 8, 27, 0] :=
  (by decide +kernel : ∀ n : Fin 96, k0_off28 (pt n) = ![n.val / 8, n.val % 8, 27, 0]) (i 0)
instance (i : grid0.Coords) : ClosedOff (k0_off28 i) := ⟨_, off28_eq i⟩
theorem off29_eq (i : grid0.Coords) : k0_off29 i = ![(i 0).val / 8 * 128, 0] :=
  (by decide +kernel : ∀ n : Fin 96, k0_off29 (pt n) = ![n.val / 8 * 128, 0]) (i 0)
instance (i : grid0.Coords) : ClosedOff (k0_off29 i) := ⟨_, off29_eq i⟩
theorem off30_eq (i : grid0.Coords) : k0_off30 i = ![(i 0).val / 8 * 8, 0] :=
  (by decide +kernel : ∀ n : Fin 96, k0_off30 (pt n) = ![n.val / 8 * 8, 0]) (i 0)
instance (i : grid0.Coords) : ClosedOff (k0_off30 i) := ⟨_, off30_eq i⟩
theorem off31_eq (i : grid0.Coords) : k0_off31 i = ![0, (i 0).val / 8 * 8, 0] :=
  (by decide +kernel : ∀ n : Fin 96, k0_off31 (pt n) = ![0, n.val / 8 * 8, 0]) (i 0)
instance (i : grid0.Coords) : ClosedOff (k0_off31 i) := ⟨_, off31_eq i⟩
theorem off32_eq (i : grid0.Coords) : k0_off32 i = ![1, (i 0).val / 8 * 8, 0] :=
  (by decide +kernel : ∀ n : Fin 96, k0_off32 (pt n) = ![1, n.val / 8 * 8, 0]) (i 0)
instance (i : grid0.Coords) : ClosedOff (k0_off32 i) := ⟨_, off32_eq i⟩

theorem readAt_slc {κ : Kind} {sp : Space} {s : Shape} {e : EltTy} (M : Memref sig κ sp s e) (h : M.IsWhole) (X : s.Idx → Elt F e) (hs : ∀ a, 0 < s.size a)
    (o size : Fin s.rank → Nat) (inb : ∀ a, o a + size a ≤ s.size a) :
    M.view.readAt (Elt F) (Rect.unit o size inb).toLoadRect (h.unread X) = slc X hs o size := by
  funext j
  show M.view.read (Elt F) (h.unread X) _ = _
  rw [h.read_unread]
  unfold slc
  congr 1
  funext a
  apply Fin.ext
  show o a + 1 * (j a).val = (o a + (j a).val) % s.size a
  have h1 : (j a).val < size a := (j a).isLt
  have h2 := inb a
  rw [Nat.mod_eq_of_lt (by omega)]; omega

theorem readAt_slc_of {κ : Kind} {sp : Space} {s : Shape} {e : EltTy} (M : Memref sig κ sp s e) (h : M.IsWhole) (X : s.Idx → Elt F e) (hs : ∀ a, 0 < s.size a)
    (o o' size : Fin s.rank → Nat) (inb : ∀ a, o a + size a ≤ s.size a) (ho : o = o') :
    M.view.readAt (Elt F) (Rect.unit o size inb).toLoadRect (h.unread X) = slc X hs o' size := by
  subst ho; exact readAt_slc M h X hs o size inb

theorem readAt_all2 {κ : Kind} {sp : Space} {m n : Nat} {e : EltTy} (M : Memref sig κ sp ⟨2, ![m, n]⟩ e) (h : M.IsWhole) (X : (⟨2, ![m, n]⟩ : Shape).Idx → Elt F e)
    (inb : ∀ a, (![0, 0] : Fin 2 → Nat) a + (![m, n] : Fin 2 → Nat) a ≤ (![m, n] : Fin 2 → Nat) a) :
    M.view.readAt (Elt F) (Rect.unit ![0, 0] ![m, n] inb).toLoadRect (h.unread X) = X := by
  funext j
  show M.view.read (Elt F) (h.unread X) _ = _
  rw [h.read_unread]
  congr 1
  funext a
  apply Fin.ext
  fin_cases a
  · show 0 + 1 * (j 0).val = (j 0).val; omega
  · show 0 + 1 * (j 1).val = (j 1).val; omega

/-- What one grid point leaves in the block of scores. -/
def scB (x0 : Vec F S224x1536 .bf16) (x4 : Vec F S96x1024 .i8) (TBL : Vec F S12x4x2x8x128 .i32) (CNT : Vec F S12x2x8x128 .f32) (XN : Vec F S224x128 .f32) : Vec F S224x1024 .bf16 :=
  fun j => chunkAt x0 XN TBL CNT x4 ((j 1).val / 256 * 256) ((j 1).val / 256 * 256 + 128) (ix2 (j 0) ⟨(j 1).val % 256, Nat.mod_lt _ (by decide)⟩)

theorem scB_piece (x0 : Vec F S224x1536 .bf16) (x4 : Vec F S96x1024 .i8) (TBL : Vec F S12x4x2x8x128 .i32) (CNT : Vec F S12x2x8x128 .f32) (XN : Vec F S224x128 .f32)
    (c n n' : Nat) (hn : n = c * 256) (hn' : n' = c * 256 + 128) (inb : ∀ a, (![0, n] : Fin 2 → Nat) a + S224x256.size a ≤ S224x1024.size a) (x : S224x256.Idx) :
    chunkAt x0 XN TBL CNT x4 n n' x = scB x0 x4 TBL CNT XN ((Rect.unit (s := S224x1024) ![0, n] S224x256.size inb).emb x) := by
  have h1 : (x 1).val < 256 := (x 1).isLt
  have e1 : (((Rect.unit (s := S224x1024) ![0, n] S224x256.size inb).emb x) 1).val = n + 1 * (x 1).val := rfl
  unfold scB
  have ed : (((Rect.unit (s := S224x1024) ![0, n] S224x256.size inb).emb x) 1).val / 256 = c := by rw [e1]; omega
  have em : (((Rect.unit (s := S224x1024) ![0, n] S224x256.size inb).emb x) 1).val % 256 = (x 1).val := by rw [e1]; omega
  simp only [ed, em, hn, hn']
  congr 1
  funext a
  fin_cases a
  · apply Fin.ext; show (x 0).val = 0 + 1 * (x 0).val; omega
  · rfl

theorem slices_T (o : Nat) (h : o ≤ 216) : S224x256.Slices ![o, 0] S8x256 := ⟨rfl, fun a => by fin_cases a <;> (simp [S224x256, S8x256]; try omega)⟩

/-- What one grid point leaves in the block of the table. -/
def tB (x2 : Vec F S1536x256 .i8) (x3 : Vec F S96x1 .f32) (CN : Vec F S2x96x128 .f32) (XF : Vec F S12x8x28x128 .f32) (n : Nat) : Vec F S28x8x256 .f32 :=
  fun j => trowAt XF x2 x3 CN n (j 0).val ((j 0).val * 8) (slices_T _ (by have h : (j 0).val < 28 := (j 0).isLt; omega)) (ix3 (0 : Fin 1) (j 1) (j 2))

theorem tB_piece (x2 : Vec F S1536x256 .i8) (x3 : Vec F S96x1 .f32) (CN : Vec F S2x96x128 .f32) (XF : Vec F S12x8x28x128 .f32) (n q o : Nat) (ho : o = q * 8) (h : S224x256.Slices ![o, 0] S8x256)
    (inb : ∀ a, (![q, 0, 0] : Fin 3 → Nat) a + S1x8x256.size a ≤ S28x8x256.size a) (x : S1x8x256.Idx) :
    trowAt XF x2 x3 CN n q o h x = tB x2 x3 CN XF n ((Rect.unit (s := S28x8x256) ![q, 0, 0] S1x8x256.size inb).emb x) := by
  subst ho
  have h0 : (x 0).val < 1 := (x 0).isLt
  have e0 : (((Rect.unit (s := S28x8x256) ![q, 0, 0] S1x8x256.size inb).emb x) 0).val = q + 1 * (x 0).val := rfl
  have e0' : (((Rect.unit (s := S28x8x256) ![q, 0, 0] S1x8x256.size inb).emb x) 0).val = q := by rw [e0]; omega
  unfold tB
  simp only [e0']
  congr 1
  funext a
  fin_cases a
  · apply Fin.ext; show (x 0).val = 0; omega
  · apply Fin.ext; show (x 1).val = 0 + 1 * (x 1).val; omega
  · apply Fin.ext; show (x 2).val = 0 + 1 * (x 2).val; omega

end Cert.Kernel.Gen

end
-- ==== Proof.BCut.lean ====
/- The body's first region, which the first grid point alone runs, and the rest of it, as two programs. -/
module

public import proofs.«01_k».proof.Proof.BSpec

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region that fills the scratch buffers. -/
def initP (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) PUnit := do
  let ⟨v7505, v7508, v7523⟩ : Σ' (v7505 : FVec F S96x256 .f32) (v7508 : IVec S384x256 32), IVec S8x128 32 ← k0_part1 i arg1 harg1 arg2 harg2 arg3 harg3 arg4 harg4 arg5 harg5 arg6 harg6 arg7 harg7 arg8 harg8 arg9 harg9 arg10 harg10 arg11 harg11 arg12 harg12 arg13 harg13
  let v7546 : IVec S1x1x1x8x128 32 ← k0_part2 i arg1 harg1 arg2 harg2 arg3 harg3 arg4 harg4 arg5 harg5 arg6 harg6 arg7 harg7 arg8 harg8 arg9 harg9 arg10 harg10 arg11 harg11 arg12 harg12 arg13 harg13 v7523
  let v7567 : Vec F S1x8x128 .i32 ← k0_part3 i arg1 harg1 arg2 harg2 arg3 harg3 arg4 harg4 arg5 harg5 arg6 harg6 arg7 harg7 arg8 harg8 arg9 harg9 arg10 harg10 arg11 harg11 arg12 harg12 arg13 harg13 v7546
  let v7588 : FVec F S8x128 .f32 ← k0_part4 i arg1 harg1 arg2 harg2 arg3 harg3 arg4 harg4 arg5 harg5 arg6 harg6 arg7 harg7 arg8 harg8 arg9 harg9 arg10 harg10 arg11 harg11 arg12 harg12 arg13 harg13 v7567
  let v7611 : IVec S1x1x1x8x128 32 ← k0_part5 i arg1 harg1 arg2 harg2 arg3 harg3 arg4 harg4 arg5 harg5 arg6 harg6 arg7 harg7 arg8 harg8 arg9 harg9 arg10 harg10 arg11 harg11 arg12 harg12 arg13 harg13 v7588
  let v7632 : Vec F S1x8x128 .i32 ← k0_part6 i arg1 harg1 arg2 harg2 arg3 harg3 arg4 harg4 arg5 harg5 arg6 harg6 arg7 harg7 arg8 harg8 arg9 harg9 arg10 harg10 arg11 harg11 arg12 harg12 arg13 harg13 v7611
  let v7653 : IVec S8x128 32 ← k0_part7 i arg1 harg1 arg2 harg2 arg3 harg3 arg4 harg4 arg5 harg5 arg6 harg6 arg7 harg7 arg8 harg8 arg9 harg9 arg10 harg10 arg11 harg11 arg12 harg12 arg13 harg13 v7632
  k0_part8 i arg1 harg1 arg2 harg2 arg3 harg3 arg4 harg4 arg5 harg5 arg6 harg6 arg7 harg7 arg8 harg8 arg9 harg9 arg10 harg10 arg11 harg11 arg12 harg12 arg13 harg13 v7653
  let v7698 : IVec S8x128 32 ← k0_part9 i arg1 harg1 arg2 harg2 arg3 harg3 arg4 harg4 arg5 harg5 arg6 harg6 arg7 harg7 arg8 harg8 arg9 harg9 arg10 harg10 arg11 harg11 arg12 harg12 arg13 harg13
  let v7718 : IVec S8x128 32 ← k0_part10 i arg1 harg1 arg2 harg2 arg3 harg3 arg4 harg4 arg5 harg5 arg6 harg6 arg7 harg7 arg8 harg8 arg9 harg9 arg10 harg10 arg11 harg11 arg12 harg12 arg13 harg13 v7698
  k0_part11 i arg1 harg1 arg2 harg2 arg3 harg3 arg4 harg4 arg5 harg5 arg6 harg6 arg7 harg7 arg8 harg8 arg9 harg9 arg10 harg10 arg11 harg11 arg12 harg12 arg13 harg13 v7718
  let v7763 : FVec F S8x128 .f32 ← k0_part12 i arg1 harg1 arg2 harg2 arg3 harg3 arg4 harg4 arg5 harg5 arg6 harg6 arg7 harg7 arg8 harg8 arg9 harg9 arg10 harg10 arg11 harg11 arg12 harg12 arg13 harg13
  let v7783 : IVec S8x128 32 ← k0_part13 i arg1 harg1 arg2 harg2 arg3 harg3 arg4 harg4 arg5 harg5 arg6 harg6 arg7 harg7 arg8 harg8 arg9 harg9 arg10 harg10 arg11 harg11 arg12 harg12 arg13 harg13 v7763
  k0_part14 i arg1 harg1 arg2 harg2 arg3 harg3 arg4 harg4 arg5 harg5 arg6 harg6 arg7 harg7 arg8 harg8 arg9 harg9 arg10 harg10 arg11 harg11 arg12 harg12 arg13 harg13 v7783
  let v7830 : Vec F S1x8x128 .i32 ← k0_part15 i arg1 harg1 arg2 harg2 arg3 harg3 arg4 harg4 arg5 harg5 arg6 harg6 arg7 harg7 arg8 harg8 arg9 harg9 arg10 harg10 arg11 harg11 arg12 harg12 arg13 harg13 v7505 v7508
  let v7851 : IVec S8x128 32 ← k0_part16 i arg1 harg1 arg2 harg2 arg3 harg3 arg4 harg4 arg5 harg5 arg6 harg6 arg7 harg7 arg8 harg8 arg9 harg9 arg10 harg10 arg11 harg11 arg12 harg12 arg13 harg13 v7830
  k0_part17 i arg1 harg1 arg2 harg2 arg3 harg3 arg4 harg4 arg5 harg5 arg6 harg6 arg7 harg7 arg8 harg8 arg9 harg9 arg10 harg10 arg11 harg11 arg12 harg12 arg13 harg13 v7851
  let v7895 : Vec F S1x8x128 .f32 ← k0_part18 i arg1 harg1 arg2 harg2 arg3 harg3 arg4 harg4 arg5 harg5 arg6 harg6 arg7 harg7 arg8 harg8 arg9 harg9 arg10 harg10 arg11 harg11 arg12 harg12 arg13 harg13
  let v7916 : IVec S8x128 32 ← k0_part19 i arg1 harg1 arg2 harg2 arg3 harg3 arg4 harg4 arg5 harg5 arg6 harg6 arg7 harg7 arg8 harg8 arg9 harg9 arg10 harg10 arg11 harg11 arg12 harg12 arg13 harg13 v7895
  k0_part20 i arg1 harg1 arg2 harg2 arg3 harg3 arg4 harg4 arg5 harg5 arg6 harg6 arg7 harg7 arg8 harg8 arg9 harg9 arg10 harg10 arg11 harg11 arg12 harg12 arg13 harg13 v7916
  let v7961 : IVec S8x128 32 ← k0_part21 i arg1 harg1 arg2 harg2 arg3 harg3 arg4 harg4 arg5 harg5 arg6 harg6 arg7 harg7 arg8 harg8 arg9 harg9 arg10 harg10 arg11 harg11 arg12 harg12 arg13 harg13
  let v7981 : IVec S8x128 32 ← k0_part22 i arg1 harg1 arg2 harg2 arg3 harg3 arg4 harg4 arg5 harg5 arg6 harg6 arg7 harg7 arg8 harg8 arg9 harg9 arg10 harg10 arg11 harg11 arg12 harg12 arg13 harg13 v7961
  k0_part23 i arg1 harg1 arg2 harg2 arg3 harg3 arg4 harg4 arg5 harg5 arg6 harg6 arg7 harg7 arg8 harg8 arg9 harg9 arg10 harg10 arg11 harg11 arg12 harg12 arg13 harg13 v7981
  let v8026 : IVec S8x128 32 ← k0_part24 i arg1 harg1 arg2 harg2 arg3 harg3 arg4 harg4 arg5 harg5 arg6 harg6 arg7 harg7 arg8 harg8 arg9 harg9 arg10 harg10 arg11 harg11 arg12 harg12 arg13 harg13
  let ⟨v8046, v8047⟩ : Σ' (v8046 : FVec F S8x128 .f32), Vec F S1x1x8x128 .f32 ← k0_part25 i arg1 harg1 arg2 harg2 arg3 harg3 arg4 harg4 arg5 harg5 arg6 harg6 arg7 harg7 arg8 harg8 arg9 harg9 arg10 harg10 arg11 harg11 arg12 harg12 arg13 harg13 v8026
  k0_part26 i arg1 harg1 arg2 harg2 arg3 harg3 arg4 harg4 arg5 harg5 arg6 harg6 arg7 harg7 arg8 harg8 arg9 harg9 arg10 harg10 arg11 harg11 arg12 harg12 arg13 harg13 v8046 v8047
  let v8091 : IVec S8x128 32 ← k0_part27 i arg1 harg1 arg2 harg2 arg3 harg3 arg4 harg4 arg5 harg5 arg6 harg6 arg7 harg7 arg8 harg8 arg9 harg9 arg10 harg10 arg11 harg11 arg12 harg12 arg13 harg13
  let ⟨v8111, v8112⟩ : Σ' (v8111 : IVec S8x128 32), Vec F S1x1x1x8x128 .i32 ← k0_part28 i arg1 harg1 arg2 harg2 arg3 harg3 arg4 harg4 arg5 harg5 arg6 harg6 arg7 harg7 arg8 harg8 arg9 harg9 arg10 harg10 arg11 harg11 arg12 harg12 arg13 harg13 v8091
  let ⟨v8126, v8138⟩ : Σ' (v8126 : FVec F S224x1536 .f32), FVec F S1x1x28x128 .f32 ← k0_part29 i arg1 harg1 arg2 harg2 arg3 harg3 arg4 harg4 arg5 harg5 arg6 harg6 arg7 harg7 arg8 harg8 arg9 harg9 arg10 harg10 arg11 harg11 arg12 harg12 arg13 harg13 v8111 v8112
  let v8163 : FVec F S28x128 .f32 ← k0_part30 i arg1 harg1 arg2 harg2 arg3 harg3 arg4 harg4 arg5 harg5 arg6 harg6 arg7 harg7 arg8 harg8 arg9 harg9 arg10 harg10 arg11 harg11 arg12 harg12 arg13 harg13 v8126 v8138
  let v8191 : FVec F S28x128 .f32 ← k0_part31 i arg1 harg1 arg2 harg2 arg3 harg3 arg4 harg4 arg5 harg5 arg6 harg6 arg7 harg7 arg8 harg8 arg9 harg9 arg10 harg10 arg11 harg11 arg12 harg12 arg13 harg13 v8126 v8163
  let v8218 : FVec F S1x1x28x128 .f32 ← k0_part32 i arg1 harg1 arg2 harg2 arg3 harg3 arg4 harg4 arg5 harg5 arg6 harg6 arg7 harg7 arg8 harg8 arg9 harg9 arg10 harg10 arg11 harg11 arg12 harg12 arg13 harg13 v8126 v8191
  let v8243 : FVec F S28x128 .f32 ← k0_part33 i arg1 harg1 arg2 harg2 arg3 harg3 arg4 harg4 arg5 harg5 arg6 harg6 arg7 harg7 arg8 harg8 arg9 harg9 arg10 harg10 arg11 harg11 arg12 harg12 arg13 harg13 v8126 v8218
  let v8271 : FVec F S28x128 .f32 ← k0_part34 i arg1 harg1 arg2 harg2 arg3 harg3 arg4 harg4 arg5 harg5 arg6 harg6 arg7 harg7 arg8 harg8 arg9 harg9 arg10 harg10 arg11 harg11 arg12 harg12 arg13 harg13 v8126 v8243
  let v8298 : FVec F S1x1x28x128 .f32 ← k0_part35 i arg1 harg1 arg2 harg2 arg3 harg3 arg4 harg4 arg5 harg5 arg6 harg6 arg7 harg7 arg8 harg8 arg9 harg9 arg10 harg10 arg11 harg11 arg12 harg12 arg13 harg13 v8126 v8271
  let v8323 : FVec F S28x128 .f32 ← k0_part36 i arg1 harg1 arg2 harg2 arg3 harg3 arg4 harg4 arg5 harg5 arg6 harg6 arg7 harg7 arg8 harg8 arg9 harg9 arg10 harg10 arg11 harg11 arg12 harg12 arg13 harg13 v8126 v8298
  let v8351 : FVec F S28x128 .f32 ← k0_part37 i arg1 harg1 arg2 harg2 arg3 harg3 arg4 harg4 arg5 harg5 arg6 harg6 arg7 harg7 arg8 harg8 arg9 harg9 arg10 harg10 arg11 harg11 arg12 harg12 arg13 harg13 v8126 v8323
  let v8378 : FVec F S1x1x28x128 .f32 ← k0_part38 i arg1 harg1 arg2 harg2 arg3 harg3 arg4 harg4 arg5 harg5 arg6 harg6 arg7 harg7 arg8 harg8 arg9 harg9 arg10 harg10 arg11 harg11 arg12 harg12 arg13 harg13 v8126 v8351
  let v8403 : FVec F S28x128 .f32 ← k0_part39 i arg1 harg1 arg2 harg2 arg3 harg3 arg4 harg4 arg5 harg5 arg6 harg6 arg7 harg7 arg8 harg8 arg9 harg9 arg10 harg10 arg11 harg11 arg12 harg12 arg13 harg13 v8126 v8378
  let v8431 : FVec F S28x128 .f32 ← k0_part40 i arg1 harg1 arg2 harg2 arg3 harg3 arg4 harg4 arg5 harg5 arg6 harg6 arg7 harg7 arg8 harg8 arg9 harg9 arg10 harg10 arg11 harg11 arg12 harg12 arg13 harg13 v8126 v8403
  let v8458 : FVec F S1x1x28x128 .f32 ← k0_part41 i arg1 harg1 arg2 harg2 arg3 harg3 arg4 harg4 arg5 harg5 arg6 harg6 arg7 harg7 arg8 harg8 arg9 harg9 arg10 harg10 arg11 harg11 arg12 harg12 arg13 harg13 v8126 v8431
  let v8483 : FVec F S28x128 .f32 ← k0_part42 i arg1 harg1 arg2 harg2 arg3 harg3 arg4 harg4 arg5 harg5 arg6 harg6 arg7 harg7 arg8 harg8 arg9 harg9 arg10 harg10 arg11 harg11 arg12 harg12 arg13 harg13 v8126 v8458
  let v8511 : FVec F S224x1536 .f32 ← k0_part43 i arg1 harg1 arg2 harg2 arg3 harg3 arg4 harg4 arg5 harg5 arg6 harg6 arg7 harg7 arg8 harg8 arg9 harg9 arg10 harg10 arg11 harg11 arg12 harg12 arg13 harg13 v8126 v8483
  let v8516 : Vec F S224x128 .f32 ← Prog.lift (.load arg12 (Rect.unit (s := S224x128) ![0, 0] S224x128.size inb_S224x128_S224x128_0_0).toLoadRect (View.loadsAt_vmem h_S224x128))
  Prog.lift (.store arg12 (Rect.unit (s := S224x128) ![0, 0] S224x128.size inb_S224x128_S224x128_0_0) (k0_pay251 v8511) Finset.univ (View.stores_vmem_bits_univ h_S224x128 rfl) (.inl rfl))
  pure ⟨⟩

/-- The printed `k0_part44` behind that region. -/
def tail44 (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) (Σ' (arg0 : BitVec 32) (v3 : FVec F S8x128 .f32) (v11 : IVec S8x128 32) (v13 : IVec S8x128 1) (v25 : FVec F S32x128 .fp8e4m3), IVec S8x128 32) := do
  let arg0 : BitVec 32 := BitVec.ofNat 32 (i 0).val
  let v4 : Vec F S32x128 .i8 ← Prog.lift (.load arg5 (Rect.unit (s := S96x1024) ![0, 0] S32x128.size inb_S96x1024_S32x128_0_0).toLoadRect (View.loadsAt_vmem h_S32x128))
  let v14 : Vec F S1x1x1x8x128 .i32 ← Prog.lift (.load arg9 (Rect.unit (s := S12x4x2x8x128) ![0, 0, 0, 0, 0] S1x1x1x8x128.size inb_S12x4x2x8x128_S1x1x1x8x128_0_0_0_0_0).toLoadRect (View.loadsAt_vmem h_S1x1x1x8x128))
  let v19 : Vec F S1x1x1x8x128 .i32 ← Prog.lift (.load arg9 (Rect.unit (s := S12x4x2x8x128) ![0, 0, 1, 0, 0] S1x1x1x8x128.size inb_S12x4x2x8x128_S1x1x1x8x128_0_0_1_0_0).toLoadRect (View.loadsAt_vmem h_S1x1x1x8x128))
  let v26 : Vec F S1x1x1x8x128 .i32 ← Prog.lift (.load arg9 (Rect.unit (s := S12x4x2x8x128) ![0, 1, 0, 0, 0] S1x1x1x8x128.size inb_S12x4x2x8x128_S1x1x1x8x128_0_1_0_0_0).toLoadRect (View.loadsAt_vmem h_S1x1x1x8x128))
  pure ⟨arg0, k0_pay252 (F := F), k0_pay254 v4, k0_pay255 v4, k0_pay256 v4 v14 v19, k0_pay257 v4 v26⟩

/-- The printed `k0_part260` behind that region. -/
def tail260 (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) (Σ' (arg0 : BitVec 32) (v1725 : FVec F S32x128 .fp8e4m3) (v1737 : FVec F S32x128 .fp8e4m3) (v1749 : FVec F S32x128 .fp8e4m3) (v1761 : FVec F S32x128 .fp8e4m3) (v1795 : FVec F S32x128 .fp8e4m3) (v1807 : FVec F S32x128 .fp8e4m3) (v1819 : FVec F S32x128 .fp8e4m3) (v1831 : FVec F S32x128 .fp8e4m3) (v1865 : FVec F S32x128 .fp8e4m3) (v1877 : FVec F S32x128 .fp8e4m3) (v1889 : FVec F S32x128 .fp8e4m3) (v1901 : FVec F S32x128 .fp8e4m3) (v1935 : FVec F S32x128 .fp8e4m3) (v1947 : FVec F S32x128 .fp8e4m3) (v1959 : FVec F S32x128 .fp8e4m3) (v1971 : FVec F S32x128 .fp8e4m3) (v1983 : FVec F S8x128 .f32) (v1991 : IVec S8x128 32) (v1993 : IVec S8x128 1) (v2005 : FVec F S32x128 .fp8e4m3) (v2017 : FVec F S32x128 .fp8e4m3), FVec F S32x128 .fp8e4m3) := do
  let ⟨arg0, v3, v11, v13, v25, v30⟩ : Σ' (arg0 : BitVec 32) (v3 : FVec F S8x128 .f32) (v11 : IVec S8x128 32) (v13 : IVec S8x128 1) (v25 : FVec F S32x128 .fp8e4m3), IVec S8x128 32 ← tail44 i arg1 harg1 arg2 harg2 arg3 harg3 arg4 harg4 arg5 harg5 arg6 harg6 arg7 harg7 arg8 harg8 arg9 harg9 arg10 harg10 arg11 harg11 arg12 harg12 arg13 harg13
  let ⟨v37, v49, v61, v63, v64⟩ : Σ' (v37 : FVec F S32x128 .fp8e4m3) (v49 : FVec F S32x128 .fp8e4m3) (v61 : FVec F S32x128 .fp8e4m3) (v63 : FVec F S8x128 .f32), IVec S8x128x1 32 ← k0_part45 i arg1 harg1 arg2 harg2 arg3 harg3 arg4 harg4 arg5 harg5 arg6 harg6 arg7 harg7 arg8 harg8 arg9 harg9 arg10 harg10 arg11 harg11 arg12 harg12 arg13 harg13 v11 v13 v30
  let ⟨v73, v81, v83, v95, v97, v99⟩ : Σ' (v73 : FVec F S8x128 .f32) (v81 : IVec S8x128 32) (v83 : IVec S8x128 1) (v95 : FVec F S32x128 .fp8e4m3) (v97 : IVec S8x128 32), IVec S8x128 32 ← k0_part46 i arg1 harg1 arg2 harg2 arg3 harg3 arg4 harg4 arg5 harg5 arg6 harg6 arg7 harg7 arg8 harg8 arg9 harg9 arg10 harg10 arg11 harg11 arg12 harg12 arg13 harg13 v3 v11 v13 v63 v64
  let ⟨v107, v119, v131⟩ : Σ' (v107 : FVec F S32x128 .fp8e4m3) (v119 : FVec F S32x128 .fp8e4m3), FVec F S32x128 .fp8e4m3 ← k0_part47 i arg1 harg1 arg2 harg2 arg3 harg3 arg4 harg4 arg5 harg5 arg6 harg6 arg7 harg7 arg8 harg8 arg9 harg9 arg10 harg10 arg11 harg11 arg12 harg12 arg13 harg13 v81 v83 v97 v99
  let ⟨v143, v151, v153, v165⟩ : Σ' (v143 : FVec F S8x128 .f32) (v151 : IVec S8x128 32) (v153 : IVec S8x128 1), FVec F S32x128 .fp8e4m3 ← k0_part48 i arg1 harg1 arg2 harg2 arg3 harg3 arg4 harg4 arg5 harg5 arg6 harg6 arg7 harg7 arg8 harg8 arg9 harg9 arg10 harg10 arg11 harg11 arg12 harg12 arg13 harg13 v73 v81 v83
  let ⟨v177, v189, v200⟩ : Σ' (v177 : FVec F S32x128 .fp8e4m3) (v189 : FVec F S32x128 .fp8e4m3), IVec S8x128 32 ← k0_part49 i arg1 harg1 arg2 harg2 arg3 harg3 arg4 harg4 arg5 harg5 arg6 harg6 arg7 harg7 arg8 harg8 arg9 harg9 arg10 harg10 arg11 harg11 arg12 harg12 arg13 harg13 v151 v153
  let ⟨v201, v213, v221, v223, v235⟩ : Σ' (v201 : FVec F S32x128 .fp8e4m3) (v213 : FVec F S8x128 .f32) (v221 : IVec S8x128 32) (v223 : IVec S8x128 1), FVec F S32x128 .fp8e4m3 ← k0_part50 i arg1 harg1 arg2 harg2 arg3 harg3 arg4 harg4 arg5 harg5 arg6 harg6 arg7 harg7 arg8 harg8 arg9 harg9 arg10 harg10 arg11 harg11 arg12 harg12 arg13 harg13 v143 v151 v153 v200
  let ⟨v247, v259, v264, v266⟩ : Σ' (v247 : FVec F S32x128 .fp8e4m3) (v259 : FVec F S32x128 .fp8e4m3) (v264 : IVec S8x128 32), IVec S8x128 32 ← k0_part51 i arg1 harg1 arg2 harg2 arg3 harg3 arg4 harg4 arg5 harg5 arg6 harg6 arg7 harg7 arg8 harg8 arg9 harg9 arg10 harg10 arg11 harg11 arg12 harg12 arg13 harg13 v221 v223
  let ⟨v271, v283, v291, v293, v298, v300, v302⟩ : Σ' (v271 : FVec F S32x128 .fp8e4m3) (v283 : FVec F S8x128 .f32) (v291 : IVec S8x128 32) (v293 : IVec S8x128 1) (v298 : IVec S8x128 32) (v300 : IVec S8x128 32), IVec S8x128 32 ← k0_part52 i arg1 harg1 arg2 harg2 arg3 harg3 arg4 harg4 arg5 harg5 arg6 harg6 arg7 harg7 arg8 harg8 arg9 harg9 arg10 harg10 arg11 harg11 arg12 harg12 arg13 harg13 v213 v221 v223 v264 v266
  let ⟨v305, v317, v329, v334⟩ : Σ' (v305 : FVec F S32x128 .fp8e4m3) (v317 : FVec F S32x128 .fp8e4m3) (v329 : FVec F S32x128 .fp8e4m3), IVec S8x128 32 ← k0_part53 i arg1 harg1 arg2 harg2 arg3 harg3 arg4 harg4 arg5 harg5 arg6 harg6 arg7 harg7 arg8 harg8 arg9 harg9 arg10 harg10 arg11 harg11 arg12 harg12 arg13 harg13 v291 v293 v298 v300 v302
  let ⟨v341, v353, v361, v363, v368⟩ : Σ' (v341 : FVec F S32x128 .fp8e4m3) (v353 : FVec F S8x128 .f32) (v361 : IVec S8x128 32) (v363 : IVec S8x128 1), IVec S8x128 32 ← k0_part54 i arg1 harg1 arg2 harg2 arg3 harg3 arg4 harg4 arg5 harg5 arg6 harg6 arg7 harg7 arg8 harg8 arg9 harg9 arg10 harg10 arg11 harg11 arg12 harg12 arg13 harg13 v283 v291 v293 v334
  let ⟨v375, v387, v399, v401, v403⟩ : Σ' (v375 : FVec F S32x128 .fp8e4m3) (v387 : FVec F S32x128 .fp8e4m3) (v399 : FVec F S32x128 .fp8e4m3) (v401 : IVec S8x128 32), IVec S8x128 32 ← k0_part55 i arg1 harg1 arg2 harg2 arg3 harg3 arg4 harg4 arg5 harg5 arg6 harg6 arg7 harg7 arg8 harg8 arg9 harg9 arg10 harg10 arg11 harg11 arg12 harg12 arg13 harg13 v361 v363 v368
  let ⟨v411, v423, v431, v433, v438⟩ : Σ' (v411 : FVec F S32x128 .fp8e4m3) (v423 : FVec F S8x128 .f32) (v431 : IVec S8x128 32) (v433 : IVec S8x128 1), IVec S8x128 32 ← k0_part56 i arg1 harg1 arg2 harg2 arg3 harg3 arg4 harg4 arg5 harg5 arg6 harg6 arg7 harg7 arg8 harg8 arg9 harg9 arg10 harg10 arg11 harg11 arg12 harg12 arg13 harg13 v353 v361 v363 v401 v403
  let ⟨v445, v457, v469⟩ : Σ' (v445 : FVec F S32x128 .fp8e4m3) (v457 : FVec F S32x128 .fp8e4m3), FVec F S32x128 .fp8e4m3 ← k0_part57 i arg1 harg1 arg2 harg2 arg3 harg3 arg4 harg4 arg5 harg5 arg6 harg6 arg7 harg7 arg8 harg8 arg9 harg9 arg10 harg10 arg11 harg11 arg12 harg12 arg13 harg13 v431 v433 v438
  let ⟨v481, v493, v501, v503, v505⟩ : Σ' (v481 : FVec F S32x128 .fp8e4m3) (v493 : FVec F S8x128 .f32) (v501 : IVec S8x128 32) (v503 : IVec S8x128 1), IVec S8x128 32 ← k0_part58 i arg1 harg1 arg2 harg2 arg3 harg3 arg4 harg4 arg5 harg5 arg6 harg6 arg7 harg7 arg8 harg8 arg9 harg9 arg10 harg10 arg11 harg11 arg12 harg12 arg13 harg13 v423 v431 v433
  let ⟨v515, v527, v539⟩ : Σ' (v515 : FVec F S32x128 .fp8e4m3) (v527 : FVec F S32x128 .fp8e4m3), FVec F S32x128 .fp8e4m3 ← k0_part59 i arg1 harg1 arg2 harg2 arg3 harg3 arg4 harg4 arg5 harg5 arg6 harg6 arg7 harg7 arg8 harg8 arg9 harg9 arg10 harg10 arg11 harg11 arg12 harg12 arg13 harg13 v501 v503 v505
  let ⟨v551, v563, v571, v573⟩ : Σ' (v551 : FVec F S32x128 .fp8e4m3) (v563 : FVec F S8x128 .f32) (v571 : IVec S8x128 32), IVec S8x128 1 ← k0_part60 i arg1 harg1 arg2 harg2 arg3 harg3 arg4 harg4 arg5 harg5 arg6 harg6 arg7 harg7 arg8 harg8 arg9 harg9 arg10 harg10 arg11 harg11 arg12 harg12 arg13 harg13 v493 v501 v503
  let ⟨v585, v597, v602, v604, v606⟩ : Σ' (v585 : FVec F S32x128 .fp8e4m3) (v597 : FVec F S32x128 .fp8e4m3) (v602 : IVec S8x128 32) (v604 : IVec S8x128 32), IVec S8x128 32 ← k0_part61 i arg1 harg1 arg2 harg2 arg3 harg3 arg4 harg4 arg5 harg5 arg6 harg6 arg7 harg7 arg8 harg8 arg9 harg9 arg10 harg10 arg11 harg11 arg12 harg12 arg13 harg13 v571 v573
  let ⟨v609, v621, v633, v639, v641, v642⟩ : Σ' (v609 : FVec F S32x128 .fp8e4m3) (v621 : FVec F S32x128 .fp8e4m3) (v633 : FVec F S8x128 .f32) (v639 : IVec S8x128 32) (v641 : IVec S8x128 32), IVec S8x128 32 ← k0_part62 i arg1 harg1 arg2 harg2 arg3 harg3 arg4 harg4 arg5 harg5 arg6 harg6 arg7 harg7 arg8 harg8 arg9 harg9 arg10 harg10 arg11 harg11 arg12 harg12 arg13 harg13 v563 v571 v573 v602 v604 v606
  let ⟨v643, v655, v667, v672⟩ : Σ' (v643 : IVec S8x128 1) (v655 : FVec F S32x128 .fp8e4m3) (v667 : FVec F S32x128 .fp8e4m3), IVec S8x128 32 ← k0_part63 i arg1 harg1 arg2 harg2 arg3 harg3 arg4 harg4 arg5 harg5 arg6 harg6 arg7 harg7 arg8 harg8 arg9 harg9 arg10 harg10 arg11 harg11 arg12 harg12 arg13 harg13 v639 v641 v642
  let ⟨v679, v691, v703, v709, c127_i32_527⟩ : Σ' (v679 : FVec F S32x128 .fp8e4m3) (v691 : FVec F S32x128 .fp8e4m3) (v703 : FVec F S8x128 .f32) (v709 : IVec S8x128 32), BitVec 32 ← k0_part64 i arg1 harg1 arg2 harg2 arg3 harg3 arg4 harg4 arg5 harg5 arg6 harg6 arg7 harg7 arg8 harg8 arg9 harg9 arg10 harg10 arg11 harg11 arg12 harg12 arg13 harg13 v633 v641 v643 v672
  let ⟨v711, v713, v725, v737, v742⟩ : Σ' (v711 : IVec S8x128 32) (v713 : IVec S8x128 1) (v725 : FVec F S32x128 .fp8e4m3) (v737 : FVec F S32x128 .fp8e4m3), IVec S8x128 32 ← k0_part65 i arg1 harg1 arg2 harg2 arg3 harg3 arg4 harg4 arg5 harg5 arg6 harg6 arg7 harg7 arg8 harg8 arg9 harg9 arg10 harg10 arg11 harg11 arg12 harg12 arg13 harg13 v709 c127_i32_527
  let ⟨v749, v761, v773, v777⟩ : Σ' (v749 : FVec F S32x128 .fp8e4m3) (v761 : FVec F S32x128 .fp8e4m3) (v773 : FVec F S8x128 .f32), IVec S8x128 32 ← k0_part66 i arg1 harg1 arg2 harg2 arg3 harg3 arg4 harg4 arg5 harg5 arg6 harg6 arg7 harg7 arg8 harg8 arg9 harg9 arg10 harg10 arg11 harg11 arg12 harg12 arg13 harg13 v703 v711 v713 v742
  let ⟨v781, v783, v795, v807, v809⟩ : Σ' (v781 : IVec S8x128 32) (v783 : IVec S8x128 1) (v795 : FVec F S32x128 .fp8e4m3) (v807 : FVec F S32x128 .fp8e4m3), IVec S8x128 32 ← k0_part67 i arg1 harg1 arg2 harg2 arg3 harg3 arg4 harg4 arg5 harg5 arg6 harg6 arg7 harg7 arg8 harg8 arg9 harg9 arg10 harg10 arg11 harg11 arg12 harg12 arg13 harg13 v777
  let ⟨v844, v845⟩ : Σ' (v844 : FVec F S1536x128 .fp8e4m3), FVec F S128 .f32 ← k0_part68 i arg1 harg1 arg2 harg2 arg3 harg3 arg4 harg4 arg5 harg5 arg6 harg6 arg7 harg7 arg8 harg8 arg9 harg9 arg10 harg10 arg11 harg11 arg12 harg12 arg13 harg13 v25 v37 v49 v61 v95 v107 v119 v131 v165 v177 v189 v201 v235 v247 v259 v271 v305 v317 v329 v341 v375 v387 v399 v411 v445 v457 v469 v481 v515 v527 v539 v551 v585 v597 v609 v621 v655 v667 v679 v691 v725 v737 v749 v761 v773 v781 v783 v795 v807 v809
  let ⟨v846, v847, v855, v857, v869, v874, v876, v878⟩ : Σ' (v846 : FVec F S1x128 .f32) (v847 : FVec F S8x128 .f32) (v855 : IVec S8x128 32) (v857 : IVec S8x128 1) (v869 : FVec F S32x128 .fp8e4m3) (v874 : IVec S8x128 32) (v876 : IVec S8x128 32), IVec S8x128 32 ← k0_part69 i arg1 harg1 arg2 harg2 arg3 harg3 arg4 harg4 arg5 harg5 arg6 harg6 arg7 harg7 arg8 harg8 arg9 harg9 arg10 harg10 arg11 harg11 arg12 harg12 arg13 harg13 v845
  let ⟨v881, v893, v905, v910⟩ : Σ' (v881 : FVec F S32x128 .fp8e4m3) (v893 : FVec F S32x128 .fp8e4m3) (v905 : FVec F S32x128 .fp8e4m3), FVec F S8x128 .f32 ← k0_part70 i arg1 harg1 arg2 harg2 arg3 harg3 arg4 harg4 arg5 harg5 arg6 harg6 arg7 harg7 arg8 harg8 arg9 harg9 arg10 harg10 arg11 harg11 arg12 harg12 arg13 harg13 v855 v857 v874 v876 v878
  let ⟨v917, v925, v927, v939, v944⟩ : Σ' (v917 : FVec F S8x128 .f32) (v925 : IVec S8x128 32) (v927 : IVec S8x128 1) (v939 : FVec F S32x128 .fp8e4m3), IVec S8x128 32 ← k0_part71 i arg1 harg1 arg2 harg2 arg3 harg3 arg4 harg4 arg5 harg5 arg6 harg6 arg7 harg7 arg8 harg8 arg9 harg9 arg10 harg10 arg11 harg11 arg12 harg12 arg13 harg13 v847 v855 v857 v910
  let ⟨v951, v963, v975, v980⟩ : Σ' (v951 : FVec F S32x128 .fp8e4m3) (v963 : FVec F S32x128 .fp8e4m3) (v975 : FVec F S32x128 .fp8e4m3), FVec F S8x128 .f32 ← k0_part72 i arg1 harg1 arg2 harg2 arg3 harg3 arg4 harg4 arg5 harg5 arg6 harg6 arg7 harg7 arg8 harg8 arg9 harg9 arg10 harg10 arg11 harg11 arg12 harg12 arg13 harg13 v925 v927 v944
  let ⟨v987, v995, v997, v1009, v1014⟩ : Σ' (v987 : FVec F S8x128 .f32) (v995 : IVec S8x128 32) (v997 : IVec S8x128 1) (v1009 : FVec F S32x128 .fp8e4m3), IVec S8x128 32 ← k0_part73 i arg1 harg1 arg2 harg2 arg3 harg3 arg4 harg4 arg5 harg5 arg6 harg6 arg7 harg7 arg8 harg8 arg9 harg9 arg10 harg10 arg11 harg11 arg12 harg12 arg13 harg13 v917 v925 v927 v980
  let ⟨v1021, v1033, v1045, v1046⟩ : Σ' (v1021 : FVec F S32x128 .fp8e4m3) (v1033 : FVec F S32x128 .fp8e4m3) (v1045 : FVec F S32x128 .fp8e4m3), Vec F S1x1x8x128 .f32 ← k0_part74 i arg1 harg1 arg2 harg2 arg3 harg3 arg4 harg4 arg5 harg5 arg6 harg6 arg7 harg7 arg8 harg8 arg9 harg9 arg10 harg10 arg11 harg11 arg12 harg12 arg13 harg13 v995 v997 v1014
  let ⟨v1057, v1065, v1067, v1079, v1081⟩ : Σ' (v1057 : FVec F S8x128 .f32) (v1065 : IVec S8x128 32) (v1067 : IVec S8x128 1) (v1079 : FVec F S32x128 .fp8e4m3), IVec S8x128 32 ← k0_part75 i arg1 harg1 arg2 harg2 arg3 harg3 arg4 harg4 arg5 harg5 arg6 harg6 arg7 harg7 arg8 harg8 arg9 harg9 arg10 harg10 arg11 harg11 arg12 harg12 arg13 harg13 v987 v995 v997 v1046
  let ⟨v1091, v1103, v1115⟩ : Σ' (v1091 : FVec F S32x128 .fp8e4m3) (v1103 : FVec F S32x128 .fp8e4m3), FVec F S32x128 .fp8e4m3 ← k0_part76 i arg1 harg1 arg2 harg2 arg3 harg3 arg4 harg4 arg5 harg5 arg6 harg6 arg7 harg7 arg8 harg8 arg9 harg9 arg10 harg10 arg11 harg11 arg12 harg12 arg13 harg13 v1065 v1067 v1081
  let ⟨v1127, v1135, v1137, v1149⟩ : Σ' (v1127 : FVec F S8x128 .f32) (v1135 : IVec S8x128 32) (v1137 : IVec S8x128 1), FVec F S32x128 .fp8e4m3 ← k0_part77 i arg1 harg1 arg2 harg2 arg3 harg3 arg4 harg4 arg5 harg5 arg6 harg6 arg7 harg7 arg8 harg8 arg9 harg9 arg10 harg10 arg11 harg11 arg12 harg12 arg13 harg13 v1057 v1065 v1067
  let ⟨v1161, v1173, v1178, v1180, v1182⟩ : Σ' (v1161 : FVec F S32x128 .fp8e4m3) (v1173 : FVec F S32x128 .fp8e4m3) (v1178 : IVec S8x128 32) (v1180 : IVec S8x128 32), IVec S8x128 32 ← k0_part78 i arg1 harg1 arg2 harg2 arg3 harg3 arg4 harg4 arg5 harg5 arg6 harg6 arg7 harg7 arg8 harg8 arg9 harg9 arg10 harg10 arg11 harg11 arg12 harg12 arg13 harg13 v1135 v1137
  let ⟨v1185, v1197, v1205, v1207, v1218⟩ : Σ' (v1185 : FVec F S32x128 .fp8e4m3) (v1197 : FVec F S8x128 .f32) (v1205 : IVec S8x128 32) (v1207 : IVec S8x128 1), IVec S8x128 32 ← k0_part79 i arg1 harg1 arg2 harg2 arg3 harg3 arg4 harg4 arg5 harg5 arg6 harg6 arg7 harg7 arg8 harg8 arg9 harg9 arg10 harg10 arg11 harg11 arg12 harg12 arg13 harg13 v1127 v1135 v1137 v1178 v1180 v1182
  let ⟨v1219, v1231, v1243, v1248⟩ : Σ' (v1219 : FVec F S32x128 .fp8e4m3) (v1231 : FVec F S32x128 .fp8e4m3) (v1243 : FVec F S32x128 .fp8e4m3), IVec S8x128 32 ← k0_part80 i arg1 harg1 arg2 harg2 arg3 harg3 arg4 harg4 arg5 harg5 arg6 harg6 arg7 harg7 arg8 harg8 arg9 harg9 arg10 harg10 arg11 harg11 arg12 harg12 arg13 harg13 v1205 v1207 v1218
  let ⟨v1255, v1267, v1275, v1277, v1282, v1284⟩ : Σ' (v1255 : FVec F S32x128 .fp8e4m3) (v1267 : FVec F S8x128 .f32) (v1275 : IVec S8x128 32) (v1277 : IVec S8x128 1) (v1282 : IVec S8x128 32), IVec S8x128 32 ← k0_part81 i arg1 harg1 arg2 harg2 arg3 harg3 arg4 harg4 arg5 harg5 arg6 harg6 arg7 harg7 arg8 harg8 arg9 harg9 arg10 harg10 arg11 harg11 arg12 harg12 arg13 harg13 v1197 v1205 v1207 v1248
  let ⟨v1289, v1301, v1313, v1318⟩ : Σ' (v1289 : FVec F S32x128 .fp8e4m3) (v1301 : FVec F S32x128 .fp8e4m3) (v1313 : FVec F S32x128 .fp8e4m3), IVec S8x128 32 ← k0_part82 i arg1 harg1 arg2 harg2 arg3 harg3 arg4 harg4 arg5 harg5 arg6 harg6 arg7 harg7 arg8 harg8 arg9 harg9 arg10 harg10 arg11 harg11 arg12 harg12 arg13 harg13 v1275 v1277 v1282 v1284
  let ⟨v1325, v1337, v1345, v1347, v1352⟩ : Σ' (v1325 : FVec F S32x128 .fp8e4m3) (v1337 : FVec F S8x128 .f32) (v1345 : IVec S8x128 32) (v1347 : IVec S8x128 1), IVec S8x128 32 ← k0_part83 i arg1 harg1 arg2 harg2 arg3 harg3 arg4 harg4 arg5 harg5 arg6 harg6 arg7 harg7 arg8 harg8 arg9 harg9 arg10 harg10 arg11 harg11 arg12 harg12 arg13 harg13 v1267 v1275 v1277 v1318
  let ⟨v1359, v1371, v1383, v1385⟩ : Σ' (v1359 : FVec F S32x128 .fp8e4m3) (v1371 : FVec F S32x128 .fp8e4m3) (v1383 : FVec F S32x128 .fp8e4m3), IVec S8x128 32 ← k0_part84 i arg1 harg1 arg2 harg2 arg3 harg3 arg4 harg4 arg5 harg5 arg6 harg6 arg7 harg7 arg8 harg8 arg9 harg9 arg10 harg10 arg11 harg11 arg12 harg12 arg13 harg13 v1345 v1347 v1352
  let ⟨v1395, v1407, v1415, v1417, v1419, v1421⟩ : Σ' (v1395 : FVec F S32x128 .fp8e4m3) (v1407 : FVec F S8x128 .f32) (v1415 : IVec S8x128 32) (v1417 : IVec S8x128 1) (v1419 : IVec S8x128 32), IVec S8x128 32 ← k0_part85 i arg1 harg1 arg2 harg2 arg3 harg3 arg4 harg4 arg5 harg5 arg6 harg6 arg7 harg7 arg8 harg8 arg9 harg9 arg10 harg10 arg11 harg11 arg12 harg12 arg13 harg13 v1337 v1345 v1347 v1385
  let ⟨v1429, v1441, v1453⟩ : Σ' (v1429 : FVec F S32x128 .fp8e4m3) (v1441 : FVec F S32x128 .fp8e4m3), FVec F S32x128 .fp8e4m3 ← k0_part86 i arg1 harg1 arg2 harg2 arg3 harg3 arg4 harg4 arg5 harg5 arg6 harg6 arg7 harg7 arg8 harg8 arg9 harg9 arg10 harg10 arg11 harg11 arg12 harg12 arg13 harg13 v1415 v1417 v1419 v1421
  let ⟨v1465, v1477, v1485, v1487⟩ : Σ' (v1465 : FVec F S32x128 .fp8e4m3) (v1477 : FVec F S8x128 .f32) (v1485 : IVec S8x128 32), IVec S8x128 1 ← k0_part87 i arg1 harg1 arg2 harg2 arg3 harg3 arg4 harg4 arg5 harg5 arg6 harg6 arg7 harg7 arg8 harg8 arg9 harg9 arg10 harg10 arg11 harg11 arg12 harg12 arg13 harg13 v1407 v1415 v1417
  let ⟨v1499, v1511, v1522⟩ : Σ' (v1499 : FVec F S32x128 .fp8e4m3) (v1511 : FVec F S32x128 .fp8e4m3), IVec S8x128 32 ← k0_part88 i arg1 harg1 arg2 harg2 arg3 harg3 arg4 harg4 arg5 harg5 arg6 harg6 arg7 harg7 arg8 harg8 arg9 harg9 arg10 harg10 arg11 harg11 arg12 harg12 arg13 harg13 v1485 v1487
  let ⟨v1523, v1535, v1547, v1555, v1557⟩ : Σ' (v1523 : FVec F S32x128 .fp8e4m3) (v1535 : FVec F S32x128 .fp8e4m3) (v1547 : FVec F S8x128 .f32) (v1555 : IVec S8x128 32), IVec S8x128 1 ← k0_part89 i arg1 harg1 arg2 harg2 arg3 harg3 arg4 harg4 arg5 harg5 arg6 harg6 arg7 harg7 arg8 harg8 arg9 harg9 arg10 harg10 arg11 harg11 arg12 harg12 arg13 harg13 v1477 v1485 v1487 v1522
  let ⟨v1569, v1581, v1586, v1588⟩ : Σ' (v1569 : FVec F S32x128 .fp8e4m3) (v1581 : FVec F S32x128 .fp8e4m3) (v1586 : IVec S8x128 32), IVec S8x128 32 ← k0_part90 i arg1 harg1 arg2 harg2 arg3 harg3 arg4 harg4 arg5 harg5 arg6 harg6 arg7 harg7 arg8 harg8 arg9 harg9 arg10 harg10 arg11 harg11 arg12 harg12 arg13 harg13 v1555 v1557
  let ⟨v1593, v1605, v1617, v1623, v1625⟩ : Σ' (v1593 : FVec F S32x128 .fp8e4m3) (v1605 : FVec F S32x128 .fp8e4m3) (v1617 : FVec F S8x128 .f32) (v1623 : IVec S8x128 32), IVec S8x128 32 ← k0_part91 i arg1 harg1 arg2 harg2 arg3 harg3 arg4 harg4 arg5 harg5 arg6 harg6 arg7 harg7 arg8 harg8 arg9 harg9 arg10 harg10 arg11 harg11 arg12 harg12 arg13 harg13 v1547 v1555 v1557 v1586 v1588
  let ⟨v1627, v1639, v1651, v1656⟩ : Σ' (v1627 : IVec S8x128 1) (v1639 : FVec F S32x128 .fp8e4m3) (v1651 : FVec F S32x128 .fp8e4m3), IVec S8x128 32 ← k0_part92 i arg1 harg1 arg2 harg2 arg3 harg3 arg4 harg4 arg5 harg5 arg6 harg6 arg7 harg7 arg8 harg8 arg9 harg9 arg10 harg10 arg11 harg11 arg12 harg12 arg13 harg13 v1623 v1625
  let ⟨v1691, v1692, v1693⟩ : Σ' (v1691 : FVec F S1536x256 .fp8e4m3) (v1692 : FVec F S1x256 .f32), Vec F S224x1536 .bf16 ← k0_part93 i arg1 harg1 arg2 harg2 arg3 harg3 arg4 harg4 arg5 harg5 arg6 harg6 arg7 harg7 arg8 harg8 arg9 harg9 arg10 harg10 arg11 harg11 arg12 harg12 arg13 harg13 v844 v846 v869 v881 v893 v905 v939 v951 v963 v975 v1009 v1021 v1033 v1045 v1079 v1091 v1103 v1115 v1149 v1161 v1173 v1185 v1219 v1231 v1243 v1255 v1289 v1301 v1313 v1325 v1359 v1371 v1383 v1395 v1429 v1441 v1453 v1465 v1499 v1511 v1523 v1535 v1569 v1581 v1593 v1605 v1617 v1625 v1627 v1639 v1651 v1656
  let ⟨v1703, v1711, v1713, v1725⟩ : Σ' (v1703 : FVec F S8x128 .f32) (v1711 : IVec S8x128 32) (v1713 : IVec S8x128 1), FVec F S32x128 .fp8e4m3 ← k0_part94 i arg1 harg1 arg2 harg2 arg3 harg3 arg4 harg4 arg5 harg5 arg6 harg6 arg7 harg7 arg8 harg8 arg9 harg9 arg10 harg10 arg11 harg11 arg12 harg12 arg13 harg13 v1691 v1692 v1693
  let ⟨v1737, v1749, v1760⟩ : Σ' (v1737 : FVec F S32x128 .fp8e4m3) (v1749 : FVec F S32x128 .fp8e4m3), IVec S8x128 32 ← k0_part95 i arg1 harg1 arg2 harg2 arg3 harg3 arg4 harg4 arg5 harg5 arg6 harg6 arg7 harg7 arg8 harg8 arg9 harg9 arg10 harg10 arg11 harg11 arg12 harg12 arg13 harg13 v1711 v1713
  let ⟨v1761, v1773, v1781, v1783, v1795⟩ : Σ' (v1761 : FVec F S32x128 .fp8e4m3) (v1773 : FVec F S8x128 .f32) (v1781 : IVec S8x128 32) (v1783 : IVec S8x128 1), FVec F S32x128 .fp8e4m3 ← k0_part96 i arg1 harg1 arg2 harg2 arg3 harg3 arg4 harg4 arg5 harg5 arg6 harg6 arg7 harg7 arg8 harg8 arg9 harg9 arg10 harg10 arg11 harg11 arg12 harg12 arg13 harg13 v1703 v1711 v1713 v1760
  let ⟨v1807, v1819, v1824, v1826⟩ : Σ' (v1807 : FVec F S32x128 .fp8e4m3) (v1819 : FVec F S32x128 .fp8e4m3) (v1824 : IVec S8x128 32), IVec S8x128 32 ← k0_part97 i arg1 harg1 arg2 harg2 arg3 harg3 arg4 harg4 arg5 harg5 arg6 harg6 arg7 harg7 arg8 harg8 arg9 harg9 arg10 harg10 arg11 harg11 arg12 harg12 arg13 harg13 v1781 v1783
  let ⟨v1831, v1843, v1851, v1853, v1858, v1860, v1862⟩ : Σ' (v1831 : FVec F S32x128 .fp8e4m3) (v1843 : FVec F S8x128 .f32) (v1851 : IVec S8x128 32) (v1853 : IVec S8x128 1) (v1858 : IVec S8x128 32) (v1860 : IVec S8x128 32), IVec S8x128 32 ← k0_part98 i arg1 harg1 arg2 harg2 arg3 harg3 arg4 harg4 arg5 harg5 arg6 harg6 arg7 harg7 arg8 harg8 arg9 harg9 arg10 harg10 arg11 harg11 arg12 harg12 arg13 harg13 v1773 v1781 v1783 v1824 v1826
  let ⟨v1865, v1877, v1889, v1894⟩ : Σ' (v1865 : FVec F S32x128 .fp8e4m3) (v1877 : FVec F S32x128 .fp8e4m3) (v1889 : FVec F S32x128 .fp8e4m3), IVec S8x128 32 ← k0_part99 i arg1 harg1 arg2 harg2 arg3 harg3 arg4 harg4 arg5 harg5 arg6 harg6 arg7 harg7 arg8 harg8 arg9 harg9 arg10 harg10 arg11 harg11 arg12 harg12 arg13 harg13 v1851 v1853 v1858 v1860 v1862
  let ⟨v1901, v1913, v1921, v1923, v1928⟩ : Σ' (v1901 : FVec F S32x128 .fp8e4m3) (v1913 : FVec F S8x128 .f32) (v1921 : IVec S8x128 32) (v1923 : IVec S8x128 1), IVec S8x128 32 ← k0_part100 i arg1 harg1 arg2 harg2 arg3 harg3 arg4 harg4 arg5 harg5 arg6 harg6 arg7 harg7 arg8 harg8 arg9 harg9 arg10 harg10 arg11 harg11 arg12 harg12 arg13 harg13 v1843 v1851 v1853 v1894
  let ⟨v1935, v1947, v1959, v1961, v1963⟩ : Σ' (v1935 : FVec F S32x128 .fp8e4m3) (v1947 : FVec F S32x128 .fp8e4m3) (v1959 : FVec F S32x128 .fp8e4m3) (v1961 : IVec S8x128 32), IVec S8x128 32 ← k0_part101 i arg1 harg1 arg2 harg2 arg3 harg3 arg4 harg4 arg5 harg5 arg6 harg6 arg7 harg7 arg8 harg8 arg9 harg9 arg10 harg10 arg11 harg11 arg12 harg12 arg13 harg13 v1921 v1923 v1928
  let ⟨v1971, v1983, v1991, v1993, v1998⟩ : Σ' (v1971 : FVec F S32x128 .fp8e4m3) (v1983 : FVec F S8x128 .f32) (v1991 : IVec S8x128 32) (v1993 : IVec S8x128 1), IVec S8x128 32 ← k0_part102 i arg1 harg1 arg2 harg2 arg3 harg3 arg4 harg4 arg5 harg5 arg6 harg6 arg7 harg7 arg8 harg8 arg9 harg9 arg10 harg10 arg11 harg11 arg12 harg12 arg13 harg13 v1913 v1921 v1923 v1961 v1963
  let ⟨v2005, v2017, v2029⟩ : Σ' (v2005 : FVec F S32x128 .fp8e4m3) (v2017 : FVec F S32x128 .fp8e4m3), FVec F S32x128 .fp8e4m3 ← k0_part103 i arg1 harg1 arg2 harg2 arg3 harg3 arg4 harg4 arg5 harg5 arg6 harg6 arg7 harg7 arg8 harg8 arg9 harg9 arg10 harg10 arg11 harg11 arg12 harg12 arg13 harg13 v1991 v1993 v1998
  pure ⟨arg0, v1725, v1737, v1749, v1761, v1795, v1807, v1819, v1831, v1865, v1877, v1889, v1901, v1935, v1947, v1959, v1971, v1983, v1991, v1993, v2005, v2017, v2029⟩

/-- The body behind that region. -/
def tailP (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) :
    Prog (TpuEff nD τ sig (Elt F) Λ₀ .tc) PUnit := do
  let ⟨arg0, v1725, v1737, v1749, v1761, v1795, v1807, v1819, v1831, v1865, v1877, v1889, v1901, v1935, v1947, v1959, v1971, v1983, v1991, v1993, v2005, v2017, v2029⟩ : Σ' (arg0 : BitVec 32) (v1725 : FVec F S32x128 .fp8e4m3) (v1737 : FVec F S32x128 .fp8e4m3) (v1749 : FVec F S32x128 .fp8e4m3) (v1761 : FVec F S32x128 .fp8e4m3) (v1795 : FVec F S32x128 .fp8e4m3) (v1807 : FVec F S32x128 .fp8e4m3) (v1819 : FVec F S32x128 .fp8e4m3) (v1831 : FVec F S32x128 .fp8e4m3) (v1865 : FVec F S32x128 .fp8e4m3) (v1877 : FVec F S32x128 .fp8e4m3) (v1889 : FVec F S32x128 .fp8e4m3) (v1901 : FVec F S32x128 .fp8e4m3) (v1935 : FVec F S32x128 .fp8e4m3) (v1947 : FVec F S32x128 .fp8e4m3) (v1959 : FVec F S32x128 .fp8e4m3) (v1971 : FVec F S32x128 .fp8e4m3) (v1983 : FVec F S8x128 .f32) (v1991 : IVec S8x128 32) (v1993 : IVec S8x128 1) (v2005 : FVec F S32x128 .fp8e4m3) (v2017 : FVec F S32x128 .fp8e4m3), FVec F S32x128 .fp8e4m3 ← tail260 i arg1 harg1 arg2 harg2 arg3 harg3 arg4 harg4 arg5 harg5 arg6 harg6 arg7 harg7 arg8 harg8 arg9 harg9 arg10 harg10 arg11 harg11 arg12 harg12 arg13 harg13
  let ⟨v3425, v3437, v3449, v3461, v3495, v3507, v3519, v3531, v3565, v3577, v3589, v3601, v3635, v3647, v3659, v3671, v3705, v3717, v3729, v3741, v3775, v3787, v3799, v3811, v3845, v3857, v3869, v3881, v3915, v3927, v3939, v3951, v3985, v3997, v4009, v4021, v4033, v4041, v4043, v4055, v4066⟩ : Σ' (v3425 : FVec F S32x128 .fp8e4m3) (v3437 : FVec F S32x128 .fp8e4m3) (v3449 : FVec F S32x128 .fp8e4m3) (v3461 : FVec F S32x128 .fp8e4m3) (v3495 : FVec F S32x128 .fp8e4m3) (v3507 : FVec F S32x128 .fp8e4m3) (v3519 : FVec F S32x128 .fp8e4m3) (v3531 : FVec F S32x128 .fp8e4m3) (v3565 : FVec F S32x128 .fp8e4m3) (v3577 : FVec F S32x128 .fp8e4m3) (v3589 : FVec F S32x128 .fp8e4m3) (v3601 : FVec F S32x128 .fp8e4m3) (v3635 : FVec F S32x128 .fp8e4m3) (v3647 : FVec F S32x128 .fp8e4m3) (v3659 : FVec F S32x128 .fp8e4m3) (v3671 : FVec F S32x128 .fp8e4m3) (v3705 : FVec F S32x128 .fp8e4m3) (v3717 : FVec F S32x128 .fp8e4m3) (v3729 : FVec F S32x128 .fp8e4m3) (v3741 : FVec F S32x128 .fp8e4m3) (v3775 : FVec F S32x128 .fp8e4m3) (v3787 : FVec F S32x128 .fp8e4m3) (v3799 : FVec F S32x128 .fp8e4m3) (v3811 : FVec F S32x128 .fp8e4m3) (v3845 : FVec F S32x128 .fp8e4m3) (v3857 : FVec F S32x128 .fp8e4m3) (v3869 : FVec F S32x128 .fp8e4m3) (v3881 : FVec F S32x128 .fp8e4m3) (v3915 : FVec F S32x128 .fp8e4m3) (v3927 : FVec F S32x128 .fp8e4m3) (v3939 : FVec F S32x128 .fp8e4m3) (v3951 : FVec F S32x128 .fp8e4m3) (v3985 : FVec F S32x128 .fp8e4m3) (v3997 : FVec F S32x128 .fp8e4m3) (v4009 : FVec F S32x128 .fp8e4m3) (v4021 : FVec F S32x128 .fp8e4m3) (v4033 : FVec F S8x128 .f32) (v4041 : IVec S8x128 32) (v4043 : IVec S8x128 1) (v4055 : FVec F S32x128 .fp8e4m3), IVec S8x128 32 ← k0_part261 i arg1 harg1 arg2 harg2 arg3 harg3 arg4 harg4 arg5 harg5 arg6 harg6 arg7 harg7 arg8 harg8 arg9 harg9 arg10 harg10 arg11 harg11 arg12 harg12 arg13 harg13 v1725 v1737 v1749 v1761 v1795 v1807 v1819 v1831 v1865 v1877 v1889 v1901 v1935 v1947 v1959 v1971 v1983 v1991 v1993 v2005 v2017 v2029
  let ⟨v5944, v5946, v5969, v5981, v5993, v6005, v6039, v6051, v6063, v6075, v6087, v6095, v6097, v6099, v6101⟩ : Σ' (v5944 : FVec F S1536x128 .fp8e4m3) (v5946 : FVec F S1x128 .f32) (v5969 : FVec F S32x128 .fp8e4m3) (v5981 : FVec F S32x128 .fp8e4m3) (v5993 : FVec F S32x128 .fp8e4m3) (v6005 : FVec F S32x128 .fp8e4m3) (v6039 : FVec F S32x128 .fp8e4m3) (v6051 : FVec F S32x128 .fp8e4m3) (v6063 : FVec F S32x128 .fp8e4m3) (v6075 : FVec F S32x128 .fp8e4m3) (v6087 : FVec F S8x128 .f32) (v6095 : IVec S8x128 32) (v6097 : IVec S8x128 1) (v6099 : IVec S8x128 32), IVec S8x128 32 ← k0_part262 i arg1 harg1 arg2 harg2 arg3 harg3 arg4 harg4 arg5 harg5 arg6 harg6 arg7 harg7 arg8 harg8 arg9 harg9 arg10 harg10 arg11 harg11 arg12 harg12 arg13 harg13 v3425 v3437 v3449 v3461 v3495 v3507 v3519 v3531 v3565 v3577 v3589 v3601 v3635 v3647 v3659 v3671 v3705 v3717 v3729 v3741 v3775 v3787 v3799 v3811 v3845 v3857 v3869 v3881 v3915 v3927 v3939 v3951 v3985 v3997 v4009 v4021 v4033 v4041 v4043 v4055 v4066
  let ⟨v7166, v7173, v7178, v7185, v7474, v7476⟩ : Σ' (v7166 : FVec F S8x1 .f32) (v7173 : FVec F S224x256 .f32) (v7178 : FVec F S8x1 .f32) (v7185 : FVec F S8x256 .f32) (v7474 : FVec F S8x256 .f32), FVec F S8x256 .f32 ← k0_part263 i arg1 harg1 arg2 harg2 arg3 harg3 arg4 harg4 arg5 harg5 arg6 harg6 arg7 harg7 arg8 harg8 arg9 harg9 arg10 harg10 arg11 harg11 arg12 harg12 arg13 harg13 arg0 v5944 v5946 v5969 v5981 v5993 v6005 v6039 v6051 v6063 v6075 v6087 v6095 v6097 v6099 v6101
  let v7480 : Vec F S1x8x256 .f32 ← Prog.lift (.load arg7 (Rect.unit (s := S28x8x256) ![26, 0, 0] S1x8x256.size inb_S28x8x256_S1x8x256_26_0_0).toLoadRect (View.loadsAt_vmem h_S1x8x256))
  Prog.lift (.store arg7 (Rect.unit (s := S28x8x256) ![26, 0, 0] S1x8x256.size inb_S28x8x256_S1x8x256_26_0_0) (k0_pay1 v7474 v7476) Finset.univ (View.stores_vmem_bits_univ h_S1x8x256 rfl) (.inl rfl))
  let v7491 : Vec F S1x8x256 .f32 ← Prog.lift (.load arg7 (Rect.unit (s := S28x8x256) ![27, 0, 0] S1x8x256.size inb_S28x8x256_S1x8x256_27_0_0).toLoadRect (View.loadsAt_vmem h_S1x8x256))
  Prog.lift (.store arg7 (Rect.unit (s := S28x8x256) ![27, 0, 0] S1x8x256.size inb_S28x8x256_S1x8x256_27_0_0) (k0_pay2 v7166 v7173 v7178 v7185) Finset.univ (View.stores_vmem_bits_univ h_S1x8x256 rfl) (.inl rfl))
  pure ⟨⟩

theorem body_first (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) (hc : (Scalar.cmpi .ne (Scalar.extui (Scalar.cmpi .eq (BitVec.ofNat 32 (i 0).val) 0#32)) 0#32) = 1#1) :
    cc0_adc_scan (F := F) i arg1 harg1 arg2 harg2 arg3 harg3 arg4 harg4 arg5 harg5 arg6 harg6 arg7 harg7 arg8 harg8 arg9 harg9 arg10 harg10 arg11 harg11 arg12 harg12 arg13 harg13 = (initP i arg1 harg1 arg2 harg2 arg3 harg3 arg4 harg4 arg5 harg5 arg6 harg6 arg7 harg7 arg8 harg8 arg9 harg9 arg10 harg10 arg11 harg11 arg12 harg12 arg13 harg13 >>= fun _ => tailP i arg1 harg1 arg2 harg2 arg3 harg3 arg4 harg4 arg5 harg5 arg6 harg6 arg7 harg7 arg8 harg8 arg9 harg9 arg10 harg10 arg11 harg11 arg12 harg12 arg13 harg13) := by
  simp only [cc0_adc_scan_eq_skeleton, cc0_adc_scan_skel, k0_part260_eq_skeleton, k0_part260_skel, k0_part44_eq_skeleton, k0_part44_skel,
    tailP, tail260, tail44, initP, dif_pos hc, Prog.bind_assoc]
  try rfl

theorem body_later (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole) (hc : ¬ (Scalar.cmpi .ne (Scalar.extui (Scalar.cmpi .eq (BitVec.ofNat 32 (i 0).val) 0#32)) 0#32) = 1#1) :
    cc0_adc_scan (F := F) i arg1 harg1 arg2 harg2 arg3 harg3 arg4 harg4 arg5 harg5 arg6 harg6 arg7 harg7 arg8 harg8 arg9 harg9 arg10 harg10 arg11 harg11 arg12 harg12 arg13 harg13 = tailP i arg1 harg1 arg2 harg2 arg3 harg3 arg4 harg4 arg5 harg5 arg6 harg6 arg7 harg7 arg8 harg8 arg9 harg9 arg10 harg10 arg11 harg11 arg12 harg12 arg13 harg13 := by
  simp only [cc0_adc_scan_eq_skeleton, cc0_adc_scan_skel, k0_part260_eq_skeleton, k0_part260_skel, k0_part44_eq_skeleton, k0_part44_skel,
    tailP, tail260, tail44, dif_neg hc]
  try rfl

end Cert.Kernel.Gen

end
-- ==== Proof.BInit.lean ====
/- The region that the first grid point alone runs: what it leaves in the scratch buffers. -/
module

public import Idealize.ShloMosaic.Lib.VecWindow
public import proofs.«01_k».proof.Proof.BCut
public import Idealize.ShloMosaic.Lib.Pointwise.Reshape

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem shapeCast_at {s t : Shape} {α : Type} (x : s.Idx → α) (h : s.ShapeCasts t) (j : t.Idx) (y : s.Idx) (hv : (s.rowMajor y : Nat) = (t.rowMajor j : Nat)) :
    shapeCast t x h j = x y := congrArg x (Shape.reshapeEquiv_eq_of_vals h j y _ _ rfl rfl hv)

/-- The codebook's words, cut in two halves of 128 codes. -/
def natV (x2 : Vec F S1536x256 .i8) : Vec F S2x384x128 .i32 := fun j =>
  k0_pay4 x2 (ix2 (j 1) ⟨(j 0).val * 128 + (j 2).val, by have h0 : (j 0).val < 2 := (j 0).isLt; have h2 : (j 2).val < 128 := (j 2).isLt; omega⟩)

/-- The centroids' squared lengths, cut in two halves of 128 codes. -/
def cnV (x2 : Vec F S1536x256 .i8) (x3 : Vec F S96x1 .f32) : Vec F S2x96x128 .f32 := fun j =>
  k0_pay3 x2 x3 (ix2 (j 1) ⟨(j 0).val * 128 + (j 2).val, by have h0 : (j 0).val < 2 := (j 0).isLt; have h2 : (j 2).val < 128 := (j 2).isLt; omega⟩)

/-- The codebook's words by group of subspaces. -/
def tblV (x2 : Vec F S1536x256 .i8) : Vec F S12x4x2x8x128 .i32 := fun j =>
  natV x2 (ix3 (j 2) ⟨((j 0).val / 4 * 32 + (j 0).val % 4) * 4 + (j 1).val + 16 * (j 3).val, by
    have h0 : (j 0).val < 12 := (j 0).isLt; have h1 : (j 1).val < 4 := (j 1).isLt; have h3 : (j 3).val < 8 := (j 3).isLt; omega⟩ (j 4))

/-- The centroids' squared lengths by group of subspaces. -/
def cntV (x2 : Vec F S1536x256 .i8) (x3 : Vec F S96x1 .f32) : Vec F S12x2x8x128 .f32 := fun j =>
  cnV x2 x3 (ix3 (j 1) ⟨(j 0).val / 4 * 32 + (j 0).val % 4 + 4 * (j 2).val, by
    have h0 : (j 0).val < 12 := (j 0).isLt; have h3 : (j 2).val < 8 := (j 2).isLt; omega⟩ (j 3))

/-- `x` cut in 8 groups of 28 rows and 12 groups of 128 columns. -/
def xfV (x1 : Vec F S224x1536 .bf16) : Vec F S12x8x28x128 .f32 := fun j =>
  k0_pay144 x1 (ix2 ⟨(j 1).val * 28 + (j 2).val, by have h1 : (j 1).val < 8 := (j 1).isLt; have h3 : (j 2).val < 28 := (j 2).isLt; omega⟩
    ⟨(j 0).val * 128 + (j 3).val, by have h0 : (j 0).val < 12 := (j 0).isLt; have h2 : (j 3).val < 128 := (j 3).isLt; omega⟩)

/-- The squared lengths of the rows of `x`. -/
def xnV (x1 : Vec F S224x1536 .bf16) : Vec F S224x128 .f32 := k0_pay251 (k0_pay250 (k0_pay144 x1))

theorem cov_eq {κ : Kind} {sp : Space} {s : Shape} {e : EltTy} (v : View sig κ sp s e) (G : s.Idx → Elt F e) (L : List (View.Piece (Elt F) s e)) (B : LoadRect s)
    (hG : ∀ p ∈ L, ∀ x : p.1.shape.Idx, p.2 x = G (p.1.emb x)) (hc : ∀ j : B.shape.Idx, ∃ p ∈ L, B.idx j ∈ p.1.set) :
    v.readCov L B = fun j => G (B.idx j) :=
  funext fun j => View.read_writes_apply_of_pieces v v.junk G L hG _ (hc j)

/-- The first half's store. -/
def nat0 (x2 : Vec F S1536x256 .i8) : View.Piece (Elt F) S2x384x128 .i32 := ⟨Rect.unit (s := S2x384x128) ![0, 0, 0] S1x384x128.size inb_S2x384x128_S1x384x128_0_0_0,
  shapeCast S1x384x128 (extractStridedSlice S384x128 ![0, 0] (k0_pay4 x2) slices_S384x256_o0_0_S384x128) shapeCasts_S384x128_S1x384x128⟩
/-- The second half's store. -/
def nat1 (x2 : Vec F S1536x256 .i8) : View.Piece (Elt F) S2x384x128 .i32 := ⟨Rect.unit (s := S2x384x128) ![1, 0, 0] S1x384x128.size inb_S2x384x128_S1x384x128_1_0_0,
  shapeCast S1x384x128 (extractStridedSlice S384x128 ![0, 128] (k0_pay4 x2) slices_S384x256_o0_128_S384x128) shapeCasts_S384x128_S1x384x128⟩
/-- The first half's store. -/
def cn0 (x2 : Vec F S1536x256 .i8) (x3 : Vec F S96x1 .f32) : View.Piece (Elt F) S2x96x128 .f32 := ⟨Rect.unit (s := S2x96x128) ![0, 0, 0] S1x96x128.size inb_S2x96x128_S1x96x128_0_0_0,
  shapeCast S1x96x128 (extractStridedSlice S96x128 ![0, 0] (k0_pay3 x2 x3) slices_S96x256_o0_0_S96x128) shapeCasts_S96x128_S1x96x128⟩
/-- The second half's store. -/
def cn1 (x2 : Vec F S1536x256 .i8) (x3 : Vec F S96x1 .f32) : View.Piece (Elt F) S2x96x128 .f32 := ⟨Rect.unit (s := S2x96x128) ![1, 0, 0] S1x96x128.size inb_S2x96x128_S1x96x128_1_0_0,
  shapeCast S1x96x128 (extractStridedSlice S96x128 ![0, 128] (k0_pay3 x2 x3) slices_S96x256_o0_128_S96x128) shapeCasts_S96x128_S1x96x128⟩

theorem nat0_eq (x2 : Vec F S1536x256 .i8) (x : (nat0 x2).1.shape.Idx) : (nat0 x2).2 x = natV x2 ((nat0 x2).1.emb x) := by
  revert x
  show ∀ x : S1x384x128.Idx, shapeCast S1x384x128 (extractStridedSlice S384x128 ![0, 0] (k0_pay4 x2) slices_S384x256_o0_0_S384x128) shapeCasts_S384x128_S1x384x128 x
    = natV x2 ((Rect.unit (s := S2x384x128) ![0, 0, 0] S1x384x128.size inb_S2x384x128_S1x384x128_0_0_0).emb x)
  intro x
  have h0 : (x 0).val < 1 := (x 0).isLt
  refine Eq.trans (shapeCast_at _ _ x (ix2 (x 1) (x 2)) (by
    rw [rowMajor_val2 _ 128 rfl, rowMajor_val3 _ 49152 128 rfl rfl]
    show (x 1).val * 128 + (x 2).val = (x 0).val * 49152 + (x 1).val * 128 + (x 2).val
    omega)) ?_
  show k0_pay4 x2 _ = k0_pay4 x2 _
  congr 1
  funext a
  apply Fin.ext
  fin_cases a
  · show 0 + (x 1).val = 0 + 1 * (x 1).val; omega
  · show 0 + (x 2).val = (0 + 1 * (x 0).val) * 128 + (0 + 1 * (x 2).val); omega

theorem nat1_eq (x2 : Vec F S1536x256 .i8) (x : (nat1 x2).1.shape.Idx) : (nat1 x2).2 x = natV x2 ((nat1 x2).1.emb x) := by
  revert x
  show ∀ x : S1x384x128.Idx, shapeCast S1x384x128 (extractStridedSlice S384x128 ![0, 128] (k0_pay4 x2) slices_S384x256_o0_128_S384x128) shapeCasts_S384x128_S1x384x128 x
    = natV x2 ((Rect.unit (s := S2x384x128) ![1, 0, 0] S1x384x128.size inb_S2x384x128_S1x384x128_1_0_0).emb x)
  intro x
  have h0 : (x 0).val < 1 := (x 0).isLt
  refine Eq.trans (shapeCast_at _ _ x (ix2 (x 1) (x 2)) (by
    rw [rowMajor_val2 _ 128 rfl, rowMajor_val3 _ 49152 128 rfl rfl]
    show (x 1).val * 128 + (x 2).val = (x 0).val * 49152 + (x 1).val * 128 + (x 2).val
    omega)) ?_
  show k0_pay4 x2 _ = k0_pay4 x2 _
  congr 1
  funext a
  apply Fin.ext
  fin_cases a
  · show 0 + (x 1).val = 0 + 1 * (x 1).val; omega
  · show 128 + (x 2).val = (1 + 1 * (x 0).val) * 128 + (0 + 1 * (x 2).val); omega

theorem nat_load0 (arg : Memref sig .tc .vmem S2x384x128 .i32) (x2 : Vec F S1536x256 .i8) (o : Nat) (inb : ∀ a, S1x8x128.size a = 0 ∨ (![0, o, 0] : Fin 3 → Nat) a + (![1, 16, 1] : Fin 3 → Nat) a * (S1x8x128.size a - 1) < S2x384x128.size a) :
    arg.view.readCov [nat0 x2] (⟨![0, o, 0], S1x8x128.size, ![1, 16, 1], inb⟩ : LoadRect S2x384x128)
      = fun j => natV x2 ((⟨![0, o, 0], S1x8x128.size, ![1, 16, 1], inb⟩ : LoadRect S2x384x128).idx j) := by
  refine cov_eq arg.view (natV x2) _ _ ?_ ?_
  · exact List.forall_mem_cons.2 ⟨nat0_eq x2, fun p hp => absurd hp List.not_mem_nil⟩
  · intro j
    refine ⟨nat0 x2, List.mem_cons_self, (nat0 x2).1.mem_set.2 fun a => ?_⟩
    have h1 : (j 1).val < 8 := (j 1).isLt
    have h0 : (j 0).val < 1 := (j 0).isLt
    have h2 : (j 2).val < 128 := (j 2).isLt
    have hi := inb 1
    have hi' : o + 16 * 7 < 384 := by rcases hi with hi | hi; exact absurd hi (by decide); exact hi
    fin_cases a
    · exact ⟨0, Nat.one_pos, by show 0 + 1 * (j 0).val = 0 + 1 * 0; omega⟩
    · exact ⟨o + 16 * (j 1).val, by show o + 16 * (j 1).val < 384; omega, by show o + 16 * (j 1).val = 0 + 1 * (o + 16 * (j 1).val); omega⟩
    · exact ⟨(j 2).val, h2, by show 0 + 1 * (j 2).val = 0 + 1 * (j 2).val; rfl⟩

theorem tbl_piece0 (arg : Memref sig .tc .vmem S2x384x128 .i32) (x2 : Vec F S1536x256 .i8) (g w o : Nat) (hg : o = (g / 4 * 32 + g % 4) * 4 + w)
    (inb : ∀ a, S1x8x128.size a = 0 ∨ (![0, o, 0] : Fin 3 → Nat) a + (![1, 16, 1] : Fin 3 → Nat) a * (S1x8x128.size a - 1) < S2x384x128.size a)
    (inb' : ∀ a, (![g, w, 0, 0, 0] : Fin 5 → Nat) a + S1x1x1x8x128.size a ≤ S12x4x2x8x128.size a) (x : S1x1x1x8x128.Idx) :
    shapeCast S1x1x1x8x128 (shapeCast S8x128 (arg.view.readCov [nat0 x2] (⟨![0, o, 0], S1x8x128.size, ![1, 16, 1], inb⟩ : LoadRect S2x384x128)) shapeCasts_S1x8x128_S8x128) shapeCasts_S8x128_S1x1x1x8x128 x
      = tblV x2 ((Rect.unit (s := S12x4x2x8x128) ![g, w, 0, 0, 0] S1x1x1x8x128.size inb').emb x) := by
  rw [nat_load0]
  subst hg
  have h0 : (x 0).val < 1 := (x 0).isLt
  have h1 : (x 1).val < 1 := (x 1).isLt
  have h2 : (x 2).val < 1 := (x 2).isLt
  refine Eq.trans (shapeCast_at _ _ x (ix2 (x 3) (x 4)) (by
    rw [rowMajor_val2 _ 128 rfl, rowMajor_val5 _ 1024 1024 1024 128 rfl rfl rfl rfl]
    show (x 3).val * 128 + (x 4).val = (x 0).val * 1024 + (x 1).val * 1024 + (x 2).val * 1024 + (x 3).val * 128 + (x 4).val
    omega)) (Eq.trans (shapeCast_at _ _ (ix2 (x 3) (x 4)) (ix3 (0 : Fin 1) (x 3) (x 4)) (by
    rw [rowMajor_val3 _ 1024 128 rfl rfl, rowMajor_val2 _ 128 rfl]
    show 0 * 1024 + (x 3).val * 128 + (x 4).val = (x 3).val * 128 + (x 4).val
    omega)) ?_)
  show natV x2 _ = natV x2 _
  congr 1
  funext a
  apply Fin.ext
  fin_cases a
  · show 0 + 1 * 0 = 0 + 1 * (x 2).val; omega
  · show (g / 4 * 32 + g % 4) * 4 + w + 16 * (x 3).val = ((g + 1 * (x 0).val) / 4 * 32 + (g + 1 * (x 0).val) % 4) * 4 + (w + 1 * (x 1).val) + 16 * (0 + 1 * (x 3).val)
    have e0 : g + 1 * (x 0).val = g := by omega
    rw [e0]; omega
  · show 0 + 1 * (x 4).val = 0 + 1 * (x 4).val; rfl

theorem nat_load1 (arg : Memref sig .tc .vmem S2x384x128 .i32) (x2 : Vec F S1536x256 .i8) (o : Nat) (inb : ∀ a, S1x8x128.size a = 0 ∨ (![1, o, 0] : Fin 3 → Nat) a + (![1, 16, 1] : Fin 3 → Nat) a * (S1x8x128.size a - 1) < S2x384x128.size a) :
    arg.view.readCov [nat1 x2, nat0 x2] (⟨![1, o, 0], S1x8x128.size, ![1, 16, 1], inb⟩ : LoadRect S2x384x128)
      = fun j => natV x2 ((⟨![1, o, 0], S1x8x128.size, ![1, 16, 1], inb⟩ : LoadRect S2x384x128).idx j) := by
  refine cov_eq arg.view (natV x2) _ _ ?_ ?_
  · exact List.forall_mem_cons.2 ⟨nat1_eq x2, List.forall_mem_cons.2 ⟨nat0_eq x2, fun p hp => absurd hp List.not_mem_nil⟩⟩
  · intro j
    refine ⟨nat1 x2, List.mem_cons_self, (nat1 x2).1.mem_set.2 fun a => ?_⟩
    have h1 : (j 1).val < 8 := (j 1).isLt
    have h0 : (j 0).val < 1 := (j 0).isLt
    have h2 : (j 2).val < 128 := (j 2).isLt
    have hi := inb 1
    have hi' : o + 16 * 7 < 384 := by rcases hi with hi | hi; exact absurd hi (by decide); exact hi
    fin_cases a
    · exact ⟨0, Nat.one_pos, by show 1 + 1 * (j 0).val = 1 + 1 * 0; omega⟩
    · exact ⟨o + 16 * (j 1).val, by show o + 16 * (j 1).val < 384; omega, by show o + 16 * (j 1).val = 0 + 1 * (o + 16 * (j 1).val); omega⟩
    · exact ⟨(j 2).val, h2, by show 0 + 1 * (j 2).val = 0 + 1 * (j 2).val; rfl⟩

theorem tbl_piece1 (arg : Memref sig .tc .vmem S2x384x128 .i32) (x2 : Vec F S1536x256 .i8) (g w o : Nat) (hg : o = (g / 4 * 32 + g % 4) * 4 + w)
    (inb : ∀ a, S1x8x128.size a = 0 ∨ (![1, o, 0] : Fin 3 → Nat) a + (![1, 16, 1] : Fin 3 → Nat) a * (S1x8x128.size a - 1) < S2x384x128.size a)
    (inb' : ∀ a, (![g, w, 1, 0, 0] : Fin 5 → Nat) a + S1x1x1x8x128.size a ≤ S12x4x2x8x128.size a) (x : S1x1x1x8x128.Idx) :
    shapeCast S1x1x1x8x128 (shapeCast S8x128 (arg.view.readCov [nat1 x2, nat0 x2] (⟨![1, o, 0], S1x8x128.size, ![1, 16, 1], inb⟩ : LoadRect S2x384x128)) shapeCasts_S1x8x128_S8x128) shapeCasts_S8x128_S1x1x1x8x128 x
      = tblV x2 ((Rect.unit (s := S12x4x2x8x128) ![g, w, 1, 0, 0] S1x1x1x8x128.size inb').emb x) := by
  rw [nat_load1]
  subst hg
  have h0 : (x 0).val < 1 := (x 0).isLt
  have h1 : (x 1).val < 1 := (x 1).isLt
  have h2 : (x 2).val < 1 := (x 2).isLt
  refine Eq.trans (shapeCast_at _ _ x (ix2 (x 3) (x 4)) (by
    rw [rowMajor_val2 _ 128 rfl, rowMajor_val5 _ 1024 1024 1024 128 rfl rfl rfl rfl]
    show (x 3).val * 128 + (x 4).val = (x 0).val * 1024 + (x 1).val * 1024 + (x 2).val * 1024 + (x 3).val * 128 + (x 4).val
    omega)) (Eq.trans (shapeCast_at _ _ (ix2 (x 3) (x 4)) (ix3 (0 : Fin 1) (x 3) (x 4)) (by
    rw [rowMajor_val3 _ 1024 128 rfl rfl, rowMajor_val2 _ 128 rfl]
    show 0 * 1024 + (x 3).val * 128 + (x 4).val = (x 3).val * 128 + (x 4).val
    omega)) ?_)
  show natV x2 _ = natV x2 _
  congr 1
  funext a
  apply Fin.ext
  fin_cases a
  · show 1 + 1 * 0 = 1 + 1 * (x 2).val; omega
  · show (g / 4 * 32 + g % 4) * 4 + w + 16 * (x 3).val = ((g + 1 * (x 0).val) / 4 * 32 + (g + 1 * (x 0).val) % 4) * 4 + (w + 1 * (x 1).val) + 16 * (0 + 1 * (x 3).val)
    have e0 : g + 1 * (x 0).val = g := by omega
    rw [e0]; omega
  · show 0 + 1 * (x 4).val = 0 + 1 * (x 4).val; rfl

theorem cn0_eq (x2 : Vec F S1536x256 .i8) (x3 : Vec F S96x1 .f32) (x : (cn0 x2 x3).1.shape.Idx) : (cn0 x2 x3).2 x = cnV x2 x3 ((cn0 x2 x3).1.emb x) := by
  revert x
  show ∀ x : S1x96x128.Idx, shapeCast S1x96x128 (extractStridedSlice S96x128 ![0, 0] (k0_pay3 x2 x3) slices_S96x256_o0_0_S96x128) shapeCasts_S96x128_S1x96x128 x
    = cnV x2 x3 ((Rect.unit (s := S2x96x128) ![0, 0, 0] S1x96x128.size inb_S2x96x128_S1x96x128_0_0_0).emb x)
  intro x
  have h0 : (x 0).val < 1 := (x 0).isLt
  refine Eq.trans (shapeCast_at _ _ x (ix2 (x 1) (x 2)) (by
    rw [rowMajor_val2 _ 128 rfl, rowMajor_val3 _ 12288 128 rfl rfl]
    show (x 1).val * 128 + (x 2).val = (x 0).val * 12288 + (x 1).val * 128 + (x 2).val
    omega)) ?_
  show k0_pay3 x2 x3 _ = k0_pay3 x2 x3 _
  congr 1
  funext a
  apply Fin.ext
  fin_cases a
  · show 0 + (x 1).val = 0 + 1 * (x 1).val; omega
  · show 0 + (x 2).val = (0 + 1 * (x 0).val) * 128 + (0 + 1 * (x 2).val); omega

theorem cn1_eq (x2 : Vec F S1536x256 .i8) (x3 : Vec F S96x1 .f32) (x : (cn1 x2 x3).1.shape.Idx) : (cn1 x2 x3).2 x = cnV x2 x3 ((cn1 x2 x3).1.emb x) := by
  revert x
  show ∀ x : S1x96x128.Idx, shapeCast S1x96x128 (extractStridedSlice S96x128 ![0, 128] (k0_pay3 x2 x3) slices_S96x256_o0_128_S96x128) shapeCasts_S96x128_S1x96x128 x
    = cnV x2 x3 ((Rect.unit (s := S2x96x128) ![1, 0, 0] S1x96x128.size inb_S2x96x128_S1x96x128_1_0_0).emb x)
  intro x
  have h0 : (x 0).val < 1 := (x 0).isLt
  refine Eq.trans (shapeCast_at _ _ x (ix2 (x 1) (x 2)) (by
    rw [rowMajor_val2 _ 128 rfl, rowMajor_val3 _ 12288 128 rfl rfl]
    show (x 1).val * 128 + (x 2).val = (x 0).val * 12288 + (x 1).val * 128 + (x 2).val
    omega)) ?_
  show k0_pay3 x2 x3 _ = k0_pay3 x2 x3 _
  congr 1
  funext a
  apply Fin.ext
  fin_cases a
  · show 0 + (x 1).val = 0 + 1 * (x 1).val; omega
  · show 128 + (x 2).val = (1 + 1 * (x 0).val) * 128 + (0 + 1 * (x 2).val); omega

theorem cn_load0 (arg : Memref sig .tc .vmem S2x96x128 .f32) (x2 : Vec F S1536x256 .i8) (x3 : Vec F S96x1 .f32) (o : Nat) (inb : ∀ a, S1x8x128.size a = 0 ∨ (![0, o, 0] : Fin 3 → Nat) a + (![1, 4, 1] : Fin 3 → Nat) a * (S1x8x128.size a - 1) < S2x96x128.size a) :
    arg.view.readCov [cn0 x2 x3] (⟨![0, o, 0], S1x8x128.size, ![1, 4, 1], inb⟩ : LoadRect S2x96x128)
      = fun j => cnV x2 x3 ((⟨![0, o, 0], S1x8x128.size, ![1, 4, 1], inb⟩ : LoadRect S2x96x128).idx j) := by
  refine cov_eq arg.view (cnV x2 x3) _ _ ?_ ?_
  · exact List.forall_mem_cons.2 ⟨cn0_eq x2 x3, fun p hp => absurd hp List.not_mem_nil⟩
  · intro j
    refine ⟨cn0 x2 x3, List.mem_cons_self, (cn0 x2 x3).1.mem_set.2 fun a => ?_⟩
    have h1 : (j 1).val < 8 := (j 1).isLt
    have h0 : (j 0).val < 1 := (j 0).isLt
    have h2 : (j 2).val < 128 := (j 2).isLt
    have hi := inb 1
    have hi' : o + 4 * 7 < 96 := by rcases hi with hi | hi; exact absurd hi (by decide); exact hi
    fin_cases a
    · exact ⟨0, Nat.one_pos, by show 0 + 1 * (j 0).val = 0 + 1 * 0; omega⟩
    · exact ⟨o + 4 * (j 1).val, by show o + 4 * (j 1).val < 96; omega, by show o + 4 * (j 1).val = 0 + 1 * (o + 4 * (j 1).val); omega⟩
    · exact ⟨(j 2).val, h2, by show 0 + 1 * (j 2).val = 0 + 1 * (j 2).val; rfl⟩

theorem cnt_piece0 (arg : Memref sig .tc .vmem S2x96x128 .f32) (x2 : Vec F S1536x256 .i8) (x3 : Vec F S96x1 .f32) (g o : Nat) (hg : o = g / 4 * 32 + g % 4)
    (inb : ∀ a, S1x8x128.size a = 0 ∨ (![0, o, 0] : Fin 3 → Nat) a + (![1, 4, 1] : Fin 3 → Nat) a * (S1x8x128.size a - 1) < S2x96x128.size a)
    (inb' : ∀ a, (![g, 0, 0, 0] : Fin 4 → Nat) a + S1x1x8x128.size a ≤ S12x2x8x128.size a) (x : S1x1x8x128.Idx) :
    shapeCast S1x1x8x128 (shapeCast S8x128 (arg.view.readCov [cn0 x2 x3] (⟨![0, o, 0], S1x8x128.size, ![1, 4, 1], inb⟩ : LoadRect S2x96x128)) shapeCasts_S1x8x128_S8x128) shapeCasts_S8x128_S1x1x8x128 x
      = cntV x2 x3 ((Rect.unit (s := S12x2x8x128) ![g, 0, 0, 0] S1x1x8x128.size inb').emb x) := by
  rw [cn_load0]
  subst hg
  have h0 : (x 0).val < 1 := (x 0).isLt
  have h1 : (x 1).val < 1 := (x 1).isLt
  refine Eq.trans (shapeCast_at _ _ x (ix2 (x 2) (x 3)) (by
    rw [rowMajor_val2 _ 128 rfl, rowMajor_val4 _ 1024 1024 128 rfl rfl rfl]
    show (x 2).val * 128 + (x 3).val = (x 0).val * 1024 + (x 1).val * 1024 + (x 2).val * 128 + (x 3).val
    omega)) (Eq.trans (shapeCast_at _ _ (ix2 (x 2) (x 3)) (ix3 (0 : Fin 1) (x 2) (x 3)) (by
    rw [rowMajor_val3 _ 1024 128 rfl rfl, rowMajor_val2 _ 128 rfl]
    show 0 * 1024 + (x 2).val * 128 + (x 3).val = (x 2).val * 128 + (x 3).val
    omega)) ?_)
  show cnV x2 x3 _ = cnV x2 x3 _
  congr 1
  funext a
  apply Fin.ext
  fin_cases a
  · show 0 + 1 * 0 = 0 + 1 * (x 1).val; omega
  · show g / 4 * 32 + g % 4 + 4 * (x 2).val = (g + 1 * (x 0).val) / 4 * 32 + (g + 1 * (x 0).val) % 4 + 4 * (0 + 1 * (x 2).val)
    have e0 : g + 1 * (x 0).val = g := by omega
    rw [e0]; omega
  · show 0 + 1 * (x 3).val = 0 + 1 * (x 3).val; rfl

theorem cn_load1 (arg : Memref sig .tc .vmem S2x96x128 .f32) (x2 : Vec F S1536x256 .i8) (x3 : Vec F S96x1 .f32) (o : Nat) (inb : ∀ a, S1x8x128.size a = 0 ∨ (![1, o, 0] : Fin 3 → Nat) a + (![1, 4, 1] : Fin 3 → Nat) a * (S1x8x128.size a - 1) < S2x96x128.size a) :
    arg.view.readCov [cn1 x2 x3, cn0 x2 x3] (⟨![1, o, 0], S1x8x128.size, ![1, 4, 1], inb⟩ : LoadRect S2x96x128)
      = fun j => cnV x2 x3 ((⟨![1, o, 0], S1x8x128.size, ![1, 4, 1], inb⟩ : LoadRect S2x96x128).idx j) := by
  refine cov_eq arg.view (cnV x2 x3) _ _ ?_ ?_
  · exact List.forall_mem_cons.2 ⟨cn1_eq x2 x3, List.forall_mem_cons.2 ⟨cn0_eq x2 x3, fun p hp => absurd hp List.not_mem_nil⟩⟩
  · intro j
    refine ⟨cn1 x2 x3, List.mem_cons_self, (cn1 x2 x3).1.mem_set.2 fun a => ?_⟩
    have h1 : (j 1).val < 8 := (j 1).isLt
    have h0 : (j 0).val < 1 := (j 0).isLt
    have h2 : (j 2).val < 128 := (j 2).isLt
    have hi := inb 1
    have hi' : o + 4 * 7 < 96 := by rcases hi with hi | hi; exact absurd hi (by decide); exact hi
    fin_cases a
    · exact ⟨0, Nat.one_pos, by show 1 + 1 * (j 0).val = 1 + 1 * 0; omega⟩
    · exact ⟨o + 4 * (j 1).val, by show o + 4 * (j 1).val < 96; omega, by show o + 4 * (j 1).val = 0 + 1 * (o + 4 * (j 1).val); omega⟩
    · exact ⟨(j 2).val, h2, by show 0 + 1 * (j 2).val = 0 + 1 * (j 2).val; rfl⟩

theorem cnt_piece1 (arg : Memref sig .tc .vmem S2x96x128 .f32) (x2 : Vec F S1536x256 .i8) (x3 : Vec F S96x1 .f32) (g o : Nat) (hg : o = g / 4 * 32 + g % 4)
    (inb : ∀ a, S1x8x128.size a = 0 ∨ (![1, o, 0] : Fin 3 → Nat) a + (![1, 4, 1] : Fin 3 → Nat) a * (S1x8x128.size a - 1) < S2x96x128.size a)
    (inb' : ∀ a, (![g, 1, 0, 0] : Fin 4 → Nat) a + S1x1x8x128.size a ≤ S12x2x8x128.size a) (x : S1x1x8x128.Idx) :
    shapeCast S1x1x8x128 (shapeCast S8x128 (arg.view.readCov [cn1 x2 x3, cn0 x2 x3] (⟨![1, o, 0], S1x8x128.size, ![1, 4, 1], inb⟩ : LoadRect S2x96x128)) shapeCasts_S1x8x128_S8x128) shapeCasts_S8x128_S1x1x8x128 x
      = cntV x2 x3 ((Rect.unit (s := S12x2x8x128) ![g, 1, 0, 0] S1x1x8x128.size inb').emb x) := by
  rw [cn_load1]
  subst hg
  have h0 : (x 0).val < 1 := (x 0).isLt
  have h1 : (x 1).val < 1 := (x 1).isLt
  refine Eq.trans (shapeCast_at _ _ x (ix2 (x 2) (x 3)) (by
    rw [rowMajor_val2 _ 128 rfl, rowMajor_val4 _ 1024 1024 128 rfl rfl rfl]
    show (x 2).val * 128 + (x 3).val = (x 0).val * 1024 + (x 1).val * 1024 + (x 2).val * 128 + (x 3).val
    omega)) (Eq.trans (shapeCast_at _ _ (ix2 (x 2) (x 3)) (ix3 (0 : Fin 1) (x 2) (x 3)) (by
    rw [rowMajor_val3 _ 1024 128 rfl rfl, rowMajor_val2 _ 128 rfl]
    show 0 * 1024 + (x 2).val * 128 + (x 3).val = (x 2).val * 128 + (x 3).val
    omega)) ?_)
  show cnV x2 x3 _ = cnV x2 x3 _
  congr 1
  funext a
  apply Fin.ext
  fin_cases a
  · show 1 + 1 * 0 = 1 + 1 * (x 1).val; omega
  · show g / 4 * 32 + g % 4 + 4 * (x 2).val = (g + 1 * (x 0).val) / 4 * 32 + (g + 1 * (x 0).val) % 4 + 4 * (0 + 1 * (x 2).val)
    have e0 : g + 1 * (x 0).val = g := by omega
    rw [e0]; omega
  · show 0 + 1 * (x 3).val = 0 + 1 * (x 3).val; rfl

theorem xf_piece (x1 : Vec F S224x1536 .bf16) (G r o o' : Nat) (ho : o = r * 28) (ho' : o' = G * 128) (hs : S224x1536.Slices ![o, o'] S28x128)
    (inb' : ∀ a, (![G, r, 0, 0] : Fin 4 → Nat) a + S1x1x28x128.size a ≤ S12x8x28x128.size a) (x : S1x1x28x128.Idx) :
    shapeCast S1x1x28x128 (extractStridedSlice S28x128 ![o, o'] (k0_pay144 x1) hs) shapeCasts_S28x128_S1x1x28x128 x
      = xfV x1 ((Rect.unit (s := S12x8x28x128) ![G, r, 0, 0] S1x1x28x128.size inb').emb x) := by
  subst ho; subst ho'
  have h0 : (x 0).val < 1 := (x 0).isLt
  have h1 : (x 1).val < 1 := (x 1).isLt
  refine Eq.trans (shapeCast_at _ _ x (ix2 (x 2) (x 3)) (by
    rw [rowMajor_val2 _ 128 rfl, rowMajor_val4 _ 3584 3584 128 rfl rfl rfl]
    show (x 2).val * 128 + (x 3).val = (x 0).val * 3584 + (x 1).val * 3584 + (x 2).val * 128 + (x 3).val
    omega)) ?_
  show k0_pay144 x1 _ = k0_pay144 x1 _
  congr 1
  funext a
  apply Fin.ext
  fin_cases a
  · show r * 28 + (x 2).val = (r + 1 * (x 1).val) * 28 + (0 + 1 * (x 2).val); omega
  · show G * 128 + (x 3).val = (G + 1 * (x 0).val) * 128 + (0 + 1 * (x 3).val); omega

set_option maxHeartbeats 10000000 in
theorem run_init (c : Dev nD) (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole)
  (x1 : Vec F S224x1536 .bf16) (x2 : Vec F S1536x256 .i8) (x3 : Vec F S96x1 .f32)
  (E : Set ℕ) (K : PUnit → sProp 𝕄) :
  iprop(owns (c : Thread nD τ) arg2 fullShare x1 ∗ owns (c : Thread nD τ) arg3 fullShare x2 ∗ owns (c : Thread nD τ) arg4 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
    ∗ (iprop(owns (c : Thread nD τ) arg2 fullShare x1 ∗ owns (c : Thread nD τ) arg3 fullShare x2 ∗ owns (c : Thread nD τ) arg4 fullShare x3 ∗ (∃ d, owns (c : Thread nD τ) arg8 fullShare d) ∗ owns (c : Thread nD τ) arg9 fullShare (tblV x2) ∗ owns (c : Thread nD τ) arg10 fullShare (cnV x2 x3) ∗ owns (c : Thread nD τ) arg11 fullShare (cntV x2 x3) ∗ owns (c : Thread nD τ) arg12 fullShare (xnV x1) ∗ owns (c : Thread nD τ) arg13 fullShare (xfV x1)) -∗ K ⟨⟩))
  ⊢ wp frame (wpE (defs₀ (F := F)) Variants.none c none) E (initP i arg1 harg1 arg2 harg2 arg3 harg3 arg4 harg4 arg5 harg5 arg6 harg6 arg7 harg7 arg8 harg8 arg9 harg9 arg10 harg10 arg11 harg11 arg12 harg12 arg13 harg13) K := by
    unfold initP
    simp only [k0_part260_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part261_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part262_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part263_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf1; obtain rfl := harg3.eq_unread hf2; obtain rfl := harg4.eq_unread hf3
    have hw2 : ∀ inb, arg2.view.readAt (Elt F) (Rect.unit ![0, 0] S224x1536.size inb).toLoadRect (harg2.unread x1) = x1 := fun inb => readAt_all2 arg2 harg2 x1 inb
    have hw3 : ∀ inb, arg3.view.readAt (Elt F) (Rect.unit ![0, 0] S1536x256.size inb).toLoadRect (harg3.unread x2) = x2 := fun inb => readAt_all2 arg3 harg3 x2 inb
    have hw4 : ∀ inb, arg4.view.readAt (Elt F) (Rect.unit ![0, 0] S96x1.size inb).toLoadRect (harg4.unread x3) = x3 := fun inb => readAt_all2 arg4 harg4 x3 inb
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _, _; isplitr; swap; · iexact HS0
      ipureintro; rfl
    isplitl [HS1]
    · iexists _; isplitr; swap; · iexact HS1
      ipureintro; funext y
      refine View.read_writes_apply_of_pieces _ _ (tblV x2) _ ?_ y (View.cover_of_tiledL (s := S12x4x2x8x128) _ S1x1x1x8x128.size (by sl_kernel_rfl) y)
      exact List.forall_mem_cons.2 ⟨fun x => tbl_piece1 arg8 x2 11 3 271 rfl inb_S2x384x128_S1x8x128_1_271_0_s_1_16_1 inb_S12x4x2x8x128_S1x1x1x8x128_11_3_1_0_0 x, List.forall_mem_cons.2 ⟨fun x => tbl_piece1 arg8 x2 11 2 270 rfl inb_S2x384x128_S1x8x128_1_270_0_s_1_16_1 inb_S12x4x2x8x128_S1x1x1x8x128_11_2_1_0_0 x, List.forall_mem_cons.2 ⟨fun x => tbl_piece1 arg8 x2 11 1 269 rfl inb_S2x384x128_S1x8x128_1_269_0_s_1_16_1 inb_S12x4x2x8x128_S1x1x1x8x128_11_1_1_0_0 x, List.forall_mem_cons.2 ⟨fun x => tbl_piece1 arg8 x2 11 0 268 rfl inb_S2x384x128_S1x8x128_1_268_0_s_1_16_1 inb_S12x4x2x8x128_S1x1x1x8x128_11_0_1_0_0 x, List.forall_mem_cons.2 ⟨fun x => tbl_piece1 arg8 x2 10 3 267 rfl inb_S2x384x128_S1x8x128_1_267_0_s_1_16_1 inb_S12x4x2x8x128_S1x1x1x8x128_10_3_1_0_0 x, List.forall_mem_cons.2 ⟨fun x => tbl_piece1 arg8 x2 10 2 266 rfl inb_S2x384x128_S1x8x128_1_266_0_s_1_16_1 inb_S12x4x2x8x128_S1x1x1x8x128_10_2_1_0_0 x, List.forall_mem_cons.2 ⟨fun x => tbl_piece1 arg8 x2 10 1 265 rfl inb_S2x384x128_S1x8x128_1_265_0_s_1_16_1 inb_S12x4x2x8x128_S1x1x1x8x128_10_1_1_0_0 x, List.forall_mem_cons.2 ⟨fun x => tbl_piece1 arg8 x2 10 0 264 rfl inb_S2x384x128_S1x8x128_1_264_0_s_1_16_1 inb_S12x4x2x8x128_S1x1x1x8x128_10_0_1_0_0 x, List.forall_mem_cons.2 ⟨fun x => tbl_piece1 arg8 x2 9 3 263 rfl inb_S2x384x128_S1x8x128_1_263_0_s_1_16_1 inb_S12x4x2x8x128_S1x1x1x8x128_9_3_1_0_0 x, List.forall_mem_cons.2 ⟨fun x => tbl_piece1 arg8 x2 9 2 262 rfl inb_S2x384x128_S1x8x128_1_262_0_s_1_16_1 inb_S12x4x2x8x128_S1x1x1x8x128_9_2_1_0_0 x, List.forall_mem_cons.2 ⟨fun x => tbl_piece1 arg8 x2 9 1 261 rfl inb_S2x384x128_S1x8x128_1_261_0_s_1_16_1 inb_S12x4x2x8x128_S1x1x1x8x128_9_1_1_0_0 x, List.forall_mem_cons.2 ⟨fun x => tbl_piece1 arg8 x2 9 0 260 rfl inb_S2x384x128_S1x8x128_1_260_0_s_1_16_1 inb_S12x4x2x8x128_S1x1x1x8x128_9_0_1_0_0 x, List.forall_mem_cons.2 ⟨fun x => tbl_piece1 arg8 x2 8 3 259 rfl inb_S2x384x128_S1x8x128_1_259_0_s_1_16_1 inb_S12x4x2x8x128_S1x1x1x8x128_8_3_1_0_0 x, List.forall_mem_cons.2 ⟨fun x => tbl_piece1 arg8 x2 8 2 258 rfl inb_S2x384x128_S1x8x128_1_258_0_s_1_16_1 inb_S12x4x2x8x128_S1x1x1x8x128_8_2_1_0_0 x, List.forall_mem_cons.2 ⟨fun x => tbl_piece1 arg8 x2 8 1 257 rfl inb_S2x384x128_S1x8x128_1_257_0_s_1_16_1 inb_S12x4x2x8x128_S1x1x1x8x128_8_1_1_0_0 x, List.forall_mem_cons.2 ⟨fun x => tbl_piece1 arg8 x2 8 0 256 rfl inb_S2x384x128_S1x8x128_1_256_0_s_1_16_1 inb_S12x4x2x8x128_S1x1x1x8x128_8_0_1_0_0 x, List.forall_mem_cons.2 ⟨fun x => tbl_piece1 arg8 x2 7 3 143 rfl inb_S2x384x128_S1x8x128_1_143_0_s_1_16_1 inb_S12x4x2x8x128_S1x1x1x8x128_7_3_1_0_0 x, List.forall_mem_cons.2 ⟨fun x => tbl_piece1 arg8 x2 7 2 142 rfl inb_S2x384x128_S1x8x128_1_142_0_s_1_16_1 inb_S12x4x2x8x128_S1x1x1x8x128_7_2_1_0_0 x, List.forall_mem_cons.2 ⟨fun x => tbl_piece1 arg8 x2 7 1 141 rfl inb_S2x384x128_S1x8x128_1_141_0_s_1_16_1 inb_S12x4x2x8x128_S1x1x1x8x128_7_1_1_0_0 x, List.forall_mem_cons.2 ⟨fun x => tbl_piece1 arg8 x2 7 0 140 rfl inb_S2x384x128_S1x8x128_1_140_0_s_1_16_1 inb_S12x4x2x8x128_S1x1x1x8x128_7_0_1_0_0 x, List.forall_mem_cons.2 ⟨fun x => tbl_piece1 arg8 x2 6 3 139 rfl inb_S2x384x128_S1x8x128_1_139_0_s_1_16_1 inb_S12x4x2x8x128_S1x1x1x8x128_6_3_1_0_0 x, List.forall_mem_cons.2 ⟨fun x => tbl_piece1 arg8 x2 6 2 138 rfl inb_S2x384x128_S1x8x128_1_138_0_s_1_16_1 inb_S12x4x2x8x128_S1x1x1x8x128_6_2_1_0_0 x, List.forall_mem_cons.2 ⟨fun x => tbl_piece1 arg8 x2 6 1 137 rfl inb_S2x384x128_S1x8x128_1_137_0_s_1_16_1 inb_S12x4x2x8x128_S1x1x1x8x128_6_1_1_0_0 x, List.forall_mem_cons.2 ⟨fun x => tbl_piece1 arg8 x2 6 0 136 rfl inb_S2x384x128_S1x8x128_1_136_0_s_1_16_1 inb_S12x4x2x8x128_S1x1x1x8x128_6_0_1_0_0 x, List.forall_mem_cons.2 ⟨fun x => tbl_piece1 arg8 x2 5 3 135 rfl inb_S2x384x128_S1x8x128_1_135_0_s_1_16_1 inb_S12x4x2x8x128_S1x1x1x8x128_5_3_1_0_0 x, List.forall_mem_cons.2 ⟨fun x => tbl_piece1 arg8 x2 5 2 134 rfl inb_S2x384x128_S1x8x128_1_134_0_s_1_16_1 inb_S12x4x2x8x128_S1x1x1x8x128_5_2_1_0_0 x, List.forall_mem_cons.2 ⟨fun x => tbl_piece1 arg8 x2 5 1 133 rfl inb_S2x384x128_S1x8x128_1_133_0_s_1_16_1 inb_S12x4x2x8x128_S1x1x1x8x128_5_1_1_0_0 x, List.forall_mem_cons.2 ⟨fun x => tbl_piece1 arg8 x2 5 0 132 rfl inb_S2x384x128_S1x8x128_1_132_0_s_1_16_1 inb_S12x4x2x8x128_S1x1x1x8x128_5_0_1_0_0 x, List.forall_mem_cons.2 ⟨fun x => tbl_piece1 arg8 x2 4 3 131 rfl inb_S2x384x128_S1x8x128_1_131_0_s_1_16_1 inb_S12x4x2x8x128_S1x1x1x8x128_4_3_1_0_0 x, List.forall_mem_cons.2 ⟨fun x => tbl_piece1 arg8 x2 4 2 130 rfl inb_S2x384x128_S1x8x128_1_130_0_s_1_16_1 inb_S12x4x2x8x128_S1x1x1x8x128_4_2_1_0_0 x, List.forall_mem_cons.2 ⟨fun x => tbl_piece1 arg8 x2 4 1 129 rfl inb_S2x384x128_S1x8x128_1_129_0_s_1_16_1 inb_S12x4x2x8x128_S1x1x1x8x128_4_1_1_0_0 x, List.forall_mem_cons.2 ⟨fun x => tbl_piece1 arg8 x2 4 0 128 rfl inb_S2x384x128_S1x8x128_1_128_0_s_1_16_1 inb_S12x4x2x8x128_S1x1x1x8x128_4_0_1_0_0 x, List.forall_mem_cons.2 ⟨fun x => tbl_piece1 arg8 x2 3 3 15 rfl inb_S2x384x128_S1x8x128_1_15_0_s_1_16_1 inb_S12x4x2x8x128_S1x1x1x8x128_3_3_1_0_0 x, List.forall_mem_cons.2 ⟨fun x => tbl_piece1 arg8 x2 3 2 14 rfl inb_S2x384x128_S1x8x128_1_14_0_s_1_16_1 inb_S12x4x2x8x128_S1x1x1x8x128_3_2_1_0_0 x, List.forall_mem_cons.2 ⟨fun x => tbl_piece1 arg8 x2 3 1 13 rfl inb_S2x384x128_S1x8x128_1_13_0_s_1_16_1 inb_S12x4x2x8x128_S1x1x1x8x128_3_1_1_0_0 x, List.forall_mem_cons.2 ⟨fun x => tbl_piece1 arg8 x2 3 0 12 rfl inb_S2x384x128_S1x8x128_1_12_0_s_1_16_1 inb_S12x4x2x8x128_S1x1x1x8x128_3_0_1_0_0 x, List.forall_mem_cons.2 ⟨fun x => tbl_piece1 arg8 x2 2 3 11 rfl inb_S2x384x128_S1x8x128_1_11_0_s_1_16_1 inb_S12x4x2x8x128_S1x1x1x8x128_2_3_1_0_0 x, List.forall_mem_cons.2 ⟨fun x => tbl_piece1 arg8 x2 2 2 10 rfl inb_S2x384x128_S1x8x128_1_10_0_s_1_16_1 inb_S12x4x2x8x128_S1x1x1x8x128_2_2_1_0_0 x, List.forall_mem_cons.2 ⟨fun x => tbl_piece1 arg8 x2 2 1 9 rfl inb_S2x384x128_S1x8x128_1_9_0_s_1_16_1 inb_S12x4x2x8x128_S1x1x1x8x128_2_1_1_0_0 x, List.forall_mem_cons.2 ⟨fun x => tbl_piece1 arg8 x2 2 0 8 rfl inb_S2x384x128_S1x8x128_1_8_0_s_1_16_1 inb_S12x4x2x8x128_S1x1x1x8x128_2_0_1_0_0 x, List.forall_mem_cons.2 ⟨fun x => tbl_piece1 arg8 x2 1 3 7 rfl inb_S2x384x128_S1x8x128_1_7_0_s_1_16_1 inb_S12x4x2x8x128_S1x1x1x8x128_1_3_1_0_0 x, List.forall_mem_cons.2 ⟨fun x => tbl_piece1 arg8 x2 1 2 6 rfl inb_S2x384x128_S1x8x128_1_6_0_s_1_16_1 inb_S12x4x2x8x128_S1x1x1x8x128_1_2_1_0_0 x, List.forall_mem_cons.2 ⟨fun x => tbl_piece1 arg8 x2 1 1 5 rfl inb_S2x384x128_S1x8x128_1_5_0_s_1_16_1 inb_S12x4x2x8x128_S1x1x1x8x128_1_1_1_0_0 x, List.forall_mem_cons.2 ⟨fun x => tbl_piece1 arg8 x2 1 0 4 rfl inb_S2x384x128_S1x8x128_1_4_0_s_1_16_1 inb_S12x4x2x8x128_S1x1x1x8x128_1_0_1_0_0 x, List.forall_mem_cons.2 ⟨fun x => tbl_piece1 arg8 x2 0 3 3 rfl inb_S2x384x128_S1x8x128_1_3_0_s_1_16_1 inb_S12x4x2x8x128_S1x1x1x8x128_0_3_1_0_0 x, List.forall_mem_cons.2 ⟨fun x => tbl_piece1 arg8 x2 0 2 2 rfl inb_S2x384x128_S1x8x128_1_2_0_s_1_16_1 inb_S12x4x2x8x128_S1x1x1x8x128_0_2_1_0_0 x, List.forall_mem_cons.2 ⟨fun x => tbl_piece1 arg8 x2 0 1 1 rfl inb_S2x384x128_S1x8x128_1_1_0_s_1_16_1 inb_S12x4x2x8x128_S1x1x1x8x128_0_1_1_0_0 x, List.forall_mem_cons.2 ⟨fun x => tbl_piece1 arg8 x2 0 0 0 rfl inb_S2x384x128_S1x8x128_1_0_0_s_1_16_1 inb_S12x4x2x8x128_S1x1x1x8x128_0_0_1_0_0 x, List.forall_mem_cons.2 ⟨fun x => tbl_piece0 arg8 x2 11 3 271 rfl inb_S2x384x128_S1x8x128_0_271_0_s_1_16_1 inb_S12x4x2x8x128_S1x1x1x8x128_11_3_0_0_0 x, List.forall_mem_cons.2 ⟨fun x => tbl_piece0 arg8 x2 11 2 270 rfl inb_S2x384x128_S1x8x128_0_270_0_s_1_16_1 inb_S12x4x2x8x128_S1x1x1x8x128_11_2_0_0_0 x, List.forall_mem_cons.2 ⟨fun x => tbl_piece0 arg8 x2 11 1 269 rfl inb_S2x384x128_S1x8x128_0_269_0_s_1_16_1 inb_S12x4x2x8x128_S1x1x1x8x128_11_1_0_0_0 x, List.forall_mem_cons.2 ⟨fun x => tbl_piece0 arg8 x2 11 0 268 rfl inb_S2x384x128_S1x8x128_0_268_0_s_1_16_1 inb_S12x4x2x8x128_S1x1x1x8x128_11_0_0_0_0 x, List.forall_mem_cons.2 ⟨fun x => tbl_piece0 arg8 x2 10 3 267 rfl inb_S2x384x128_S1x8x128_0_267_0_s_1_16_1 inb_S12x4x2x8x128_S1x1x1x8x128_10_3_0_0_0 x, List.forall_mem_cons.2 ⟨fun x => tbl_piece0 arg8 x2 10 2 266 rfl inb_S2x384x128_S1x8x128_0_266_0_s_1_16_1 inb_S12x4x2x8x128_S1x1x1x8x128_10_2_0_0_0 x, List.forall_mem_cons.2 ⟨fun x => tbl_piece0 arg8 x2 10 1 265 rfl inb_S2x384x128_S1x8x128_0_265_0_s_1_16_1 inb_S12x4x2x8x128_S1x1x1x8x128_10_1_0_0_0 x, List.forall_mem_cons.2 ⟨fun x => tbl_piece0 arg8 x2 10 0 264 rfl inb_S2x384x128_S1x8x128_0_264_0_s_1_16_1 inb_S12x4x2x8x128_S1x1x1x8x128_10_0_0_0_0 x, List.forall_mem_cons.2 ⟨fun x => tbl_piece0 arg8 x2 9 3 263 rfl inb_S2x384x128_S1x8x128_0_263_0_s_1_16_1 inb_S12x4x2x8x128_S1x1x1x8x128_9_3_0_0_0 x, List.forall_mem_cons.2 ⟨fun x => tbl_piece0 arg8 x2 9 2 262 rfl inb_S2x384x128_S1x8x128_0_262_0_s_1_16_1 inb_S12x4x2x8x128_S1x1x1x8x128_9_2_0_0_0 x, List.forall_mem_cons.2 ⟨fun x => tbl_piece0 arg8 x2 9 1 261 rfl inb_S2x384x128_S1x8x128_0_261_0_s_1_16_1 inb_S12x4x2x8x128_S1x1x1x8x128_9_1_0_0_0 x, List.forall_mem_cons.2 ⟨fun x => tbl_piece0 arg8 x2 9 0 260 rfl inb_S2x384x128_S1x8x128_0_260_0_s_1_16_1 inb_S12x4x2x8x128_S1x1x1x8x128_9_0_0_0_0 x, List.forall_mem_cons.2 ⟨fun x => tbl_piece0 arg8 x2 8 3 259 rfl inb_S2x384x128_S1x8x128_0_259_0_s_1_16_1 inb_S12x4x2x8x128_S1x1x1x8x128_8_3_0_0_0 x, List.forall_mem_cons.2 ⟨fun x => tbl_piece0 arg8 x2 8 2 258 rfl inb_S2x384x128_S1x8x128_0_258_0_s_1_16_1 inb_S12x4x2x8x128_S1x1x1x8x128_8_2_0_0_0 x, List.forall_mem_cons.2 ⟨fun x => tbl_piece0 arg8 x2 8 1 257 rfl inb_S2x384x128_S1x8x128_0_257_0_s_1_16_1 inb_S12x4x2x8x128_S1x1x1x8x128_8_1_0_0_0 x, List.forall_mem_cons.2 ⟨fun x => tbl_piece0 arg8 x2 8 0 256 rfl inb_S2x384x128_S1x8x128_0_256_0_s_1_16_1 inb_S12x4x2x8x128_S1x1x1x8x128_8_0_0_0_0 x, List.forall_mem_cons.2 ⟨fun x => tbl_piece0 arg8 x2 7 3 143 rfl inb_S2x384x128_S1x8x128_0_143_0_s_1_16_1 inb_S12x4x2x8x128_S1x1x1x8x128_7_3_0_0_0 x, List.forall_mem_cons.2 ⟨fun x => tbl_piece0 arg8 x2 7 2 142 rfl inb_S2x384x128_S1x8x128_0_142_0_s_1_16_1 inb_S12x4x2x8x128_S1x1x1x8x128_7_2_0_0_0 x, List.forall_mem_cons.2 ⟨fun x => tbl_piece0 arg8 x2 7 1 141 rfl inb_S2x384x128_S1x8x128_0_141_0_s_1_16_1 inb_S12x4x2x8x128_S1x1x1x8x128_7_1_0_0_0 x, List.forall_mem_cons.2 ⟨fun x => tbl_piece0 arg8 x2 7 0 140 rfl inb_S2x384x128_S1x8x128_0_140_0_s_1_16_1 inb_S12x4x2x8x128_S1x1x1x8x128_7_0_0_0_0 x, List.forall_mem_cons.2 ⟨fun x => tbl_piece0 arg8 x2 6 3 139 rfl inb_S2x384x128_S1x8x128_0_139_0_s_1_16_1 inb_S12x4x2x8x128_S1x1x1x8x128_6_3_0_0_0 x, List.forall_mem_cons.2 ⟨fun x => tbl_piece0 arg8 x2 6 2 138 rfl inb_S2x384x128_S1x8x128_0_138_0_s_1_16_1 inb_S12x4x2x8x128_S1x1x1x8x128_6_2_0_0_0 x, List.forall_mem_cons.2 ⟨fun x => tbl_piece0 arg8 x2 6 1 137 rfl inb_S2x384x128_S1x8x128_0_137_0_s_1_16_1 inb_S12x4x2x8x128_S1x1x1x8x128_6_1_0_0_0 x, List.forall_mem_cons.2 ⟨fun x => tbl_piece0 arg8 x2 6 0 136 rfl inb_S2x384x128_S1x8x128_0_136_0_s_1_16_1 inb_S12x4x2x8x128_S1x1x1x8x128_6_0_0_0_0 x, List.forall_mem_cons.2 ⟨fun x => tbl_piece0 arg8 x2 5 3 135 rfl inb_S2x384x128_S1x8x128_0_135_0_s_1_16_1 inb_S12x4x2x8x128_S1x1x1x8x128_5_3_0_0_0 x, List.forall_mem_cons.2 ⟨fun x => tbl_piece0 arg8 x2 5 2 134 rfl inb_S2x384x128_S1x8x128_0_134_0_s_1_16_1 inb_S12x4x2x8x128_S1x1x1x8x128_5_2_0_0_0 x, List.forall_mem_cons.2 ⟨fun x => tbl_piece0 arg8 x2 5 1 133 rfl inb_S2x384x128_S1x8x128_0_133_0_s_1_16_1 inb_S12x4x2x8x128_S1x1x1x8x128_5_1_0_0_0 x, List.forall_mem_cons.2 ⟨fun x => tbl_piece0 arg8 x2 5 0 132 rfl inb_S2x384x128_S1x8x128_0_132_0_s_1_16_1 inb_S12x4x2x8x128_S1x1x1x8x128_5_0_0_0_0 x, List.forall_mem_cons.2 ⟨fun x => tbl_piece0 arg8 x2 4 3 131 rfl inb_S2x384x128_S1x8x128_0_131_0_s_1_16_1 inb_S12x4x2x8x128_S1x1x1x8x128_4_3_0_0_0 x, List.forall_mem_cons.2 ⟨fun x => tbl_piece0 arg8 x2 4 2 130 rfl inb_S2x384x128_S1x8x128_0_130_0_s_1_16_1 inb_S12x4x2x8x128_S1x1x1x8x128_4_2_0_0_0 x, List.forall_mem_cons.2 ⟨fun x => tbl_piece0 arg8 x2 4 1 129 rfl inb_S2x384x128_S1x8x128_0_129_0_s_1_16_1 inb_S12x4x2x8x128_S1x1x1x8x128_4_1_0_0_0 x, List.forall_mem_cons.2 ⟨fun x => tbl_piece0 arg8 x2 4 0 128 rfl inb_S2x384x128_S1x8x128_0_128_0_s_1_16_1 inb_S12x4x2x8x128_S1x1x1x8x128_4_0_0_0_0 x, List.forall_mem_cons.2 ⟨fun x => tbl_piece0 arg8 x2 3 3 15 rfl inb_S2x384x128_S1x8x128_0_15_0_s_1_16_1 inb_S12x4x2x8x128_S1x1x1x8x128_3_3_0_0_0 x, List.forall_mem_cons.2 ⟨fun x => tbl_piece0 arg8 x2 3 2 14 rfl inb_S2x384x128_S1x8x128_0_14_0_s_1_16_1 inb_S12x4x2x8x128_S1x1x1x8x128_3_2_0_0_0 x, List.forall_mem_cons.2 ⟨fun x => tbl_piece0 arg8 x2 3 1 13 rfl inb_S2x384x128_S1x8x128_0_13_0_s_1_16_1 inb_S12x4x2x8x128_S1x1x1x8x128_3_1_0_0_0 x, List.forall_mem_cons.2 ⟨fun x => tbl_piece0 arg8 x2 3 0 12 rfl inb_S2x384x128_S1x8x128_0_12_0_s_1_16_1 inb_S12x4x2x8x128_S1x1x1x8x128_3_0_0_0_0 x, List.forall_mem_cons.2 ⟨fun x => tbl_piece0 arg8 x2 2 3 11 rfl inb_S2x384x128_S1x8x128_0_11_0_s_1_16_1 inb_S12x4x2x8x128_S1x1x1x8x128_2_3_0_0_0 x, List.forall_mem_cons.2 ⟨fun x => tbl_piece0 arg8 x2 2 2 10 rfl inb_S2x384x128_S1x8x128_0_10_0_s_1_16_1 inb_S12x4x2x8x128_S1x1x1x8x128_2_2_0_0_0 x, List.forall_mem_cons.2 ⟨fun x => tbl_piece0 arg8 x2 2 1 9 rfl inb_S2x384x128_S1x8x128_0_9_0_s_1_16_1 inb_S12x4x2x8x128_S1x1x1x8x128_2_1_0_0_0 x, List.forall_mem_cons.2 ⟨fun x => tbl_piece0 arg8 x2 2 0 8 rfl inb_S2x384x128_S1x8x128_0_8_0_s_1_16_1 inb_S12x4x2x8x128_S1x1x1x8x128_2_0_0_0_0 x, List.forall_mem_cons.2 ⟨fun x => tbl_piece0 arg8 x2 1 3 7 rfl inb_S2x384x128_S1x8x128_0_7_0_s_1_16_1 inb_S12x4x2x8x128_S1x1x1x8x128_1_3_0_0_0 x, List.forall_mem_cons.2 ⟨fun x => tbl_piece0 arg8 x2 1 2 6 rfl inb_S2x384x128_S1x8x128_0_6_0_s_1_16_1 inb_S12x4x2x8x128_S1x1x1x8x128_1_2_0_0_0 x, List.forall_mem_cons.2 ⟨fun x => tbl_piece0 arg8 x2 1 1 5 rfl inb_S2x384x128_S1x8x128_0_5_0_s_1_16_1 inb_S12x4x2x8x128_S1x1x1x8x128_1_1_0_0_0 x, List.forall_mem_cons.2 ⟨fun x => tbl_piece0 arg8 x2 1 0 4 rfl inb_S2x384x128_S1x8x128_0_4_0_s_1_16_1 inb_S12x4x2x8x128_S1x1x1x8x128_1_0_0_0_0 x, List.forall_mem_cons.2 ⟨fun x => tbl_piece0 arg8 x2 0 3 3 rfl inb_S2x384x128_S1x8x128_0_3_0_s_1_16_1 inb_S12x4x2x8x128_S1x1x1x8x128_0_3_0_0_0 x, List.forall_mem_cons.2 ⟨fun x => tbl_piece0 arg8 x2 0 2 2 rfl inb_S2x384x128_S1x8x128_0_2_0_s_1_16_1 inb_S12x4x2x8x128_S1x1x1x8x128_0_2_0_0_0 x, List.forall_mem_cons.2 ⟨fun x => tbl_piece0 arg8 x2 0 1 1 rfl inb_S2x384x128_S1x8x128_0_1_0_s_1_16_1 inb_S12x4x2x8x128_S1x1x1x8x128_0_1_0_0_0 x, List.forall_mem_cons.2 ⟨fun x => tbl_piece0 arg8 x2 0 0 0 rfl inb_S2x384x128_S1x8x128_0_0_0_s_1_16_1 inb_S12x4x2x8x128_S1x1x1x8x128_0_0_0_0_0 x, fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
    isplitl [HS2]
    · iexists _; isplitr; swap; · iexact HS2
      ipureintro; funext y
      refine View.read_writes_apply_of_pieces _ _ (cnV x2 x3) _ ?_ y (View.cover_of_tiledL (s := S2x96x128) _ S1x96x128.size (by sl_kernel_rfl) y)
      exact List.forall_mem_cons.2 ⟨cn1_eq x2 x3, List.forall_mem_cons.2 ⟨cn0_eq x2 x3, fun p hp => absurd hp List.not_mem_nil⟩⟩
    isplitl [HS3]
    · iexists _; isplitr; swap; · iexact HS3
      ipureintro; funext y
      refine View.read_writes_apply_of_pieces _ _ (cntV x2 x3) _ ?_ y (View.cover_of_tiledL (s := S12x2x8x128) _ S1x1x8x128.size (by sl_kernel_rfl) y)
      exact List.forall_mem_cons.2 ⟨fun x => cnt_piece1 arg10 x2 x3 11 67 rfl inb_S2x96x128_S1x8x128_1_67_0_s_1_4_1 inb_S12x2x8x128_S1x1x8x128_11_1_0_0 x, List.forall_mem_cons.2 ⟨fun x => cnt_piece1 arg10 x2 x3 10 66 rfl inb_S2x96x128_S1x8x128_1_66_0_s_1_4_1 inb_S12x2x8x128_S1x1x8x128_10_1_0_0 x, List.forall_mem_cons.2 ⟨fun x => cnt_piece1 arg10 x2 x3 9 65 rfl inb_S2x96x128_S1x8x128_1_65_0_s_1_4_1 inb_S12x2x8x128_S1x1x8x128_9_1_0_0 x, List.forall_mem_cons.2 ⟨fun x => cnt_piece1 arg10 x2 x3 8 64 rfl inb_S2x96x128_S1x8x128_1_64_0_s_1_4_1 inb_S12x2x8x128_S1x1x8x128_8_1_0_0 x, List.forall_mem_cons.2 ⟨fun x => cnt_piece1 arg10 x2 x3 7 35 rfl inb_S2x96x128_S1x8x128_1_35_0_s_1_4_1 inb_S12x2x8x128_S1x1x8x128_7_1_0_0 x, List.forall_mem_cons.2 ⟨fun x => cnt_piece1 arg10 x2 x3 6 34 rfl inb_S2x96x128_S1x8x128_1_34_0_s_1_4_1 inb_S12x2x8x128_S1x1x8x128_6_1_0_0 x, List.forall_mem_cons.2 ⟨fun x => cnt_piece1 arg10 x2 x3 5 33 rfl inb_S2x96x128_S1x8x128_1_33_0_s_1_4_1 inb_S12x2x8x128_S1x1x8x128_5_1_0_0 x, List.forall_mem_cons.2 ⟨fun x => cnt_piece1 arg10 x2 x3 4 32 rfl inb_S2x96x128_S1x8x128_1_32_0_s_1_4_1 inb_S12x2x8x128_S1x1x8x128_4_1_0_0 x, List.forall_mem_cons.2 ⟨fun x => cnt_piece1 arg10 x2 x3 3 3 rfl inb_S2x96x128_S1x8x128_1_3_0_s_1_4_1 inb_S12x2x8x128_S1x1x8x128_3_1_0_0 x, List.forall_mem_cons.2 ⟨fun x => cnt_piece1 arg10 x2 x3 2 2 rfl inb_S2x96x128_S1x8x128_1_2_0_s_1_4_1 inb_S12x2x8x128_S1x1x8x128_2_1_0_0 x, List.forall_mem_cons.2 ⟨fun x => cnt_piece1 arg10 x2 x3 1 1 rfl inb_S2x96x128_S1x8x128_1_1_0_s_1_4_1 inb_S12x2x8x128_S1x1x8x128_1_1_0_0 x, List.forall_mem_cons.2 ⟨fun x => cnt_piece1 arg10 x2 x3 0 0 rfl inb_S2x96x128_S1x8x128_1_0_0_s_1_4_1 inb_S12x2x8x128_S1x1x8x128_0_1_0_0 x, List.forall_mem_cons.2 ⟨fun x => cnt_piece0 arg10 x2 x3 11 67 rfl inb_S2x96x128_S1x8x128_0_67_0_s_1_4_1 inb_S12x2x8x128_S1x1x8x128_11_0_0_0 x, List.forall_mem_cons.2 ⟨fun x => cnt_piece0 arg10 x2 x3 10 66 rfl inb_S2x96x128_S1x8x128_0_66_0_s_1_4_1 inb_S12x2x8x128_S1x1x8x128_10_0_0_0 x, List.forall_mem_cons.2 ⟨fun x => cnt_piece0 arg10 x2 x3 9 65 rfl inb_S2x96x128_S1x8x128_0_65_0_s_1_4_1 inb_S12x2x8x128_S1x1x8x128_9_0_0_0 x, List.forall_mem_cons.2 ⟨fun x => cnt_piece0 arg10 x2 x3 8 64 rfl inb_S2x96x128_S1x8x128_0_64_0_s_1_4_1 inb_S12x2x8x128_S1x1x8x128_8_0_0_0 x, List.forall_mem_cons.2 ⟨fun x => cnt_piece0 arg10 x2 x3 7 35 rfl inb_S2x96x128_S1x8x128_0_35_0_s_1_4_1 inb_S12x2x8x128_S1x1x8x128_7_0_0_0 x, List.forall_mem_cons.2 ⟨fun x => cnt_piece0 arg10 x2 x3 6 34 rfl inb_S2x96x128_S1x8x128_0_34_0_s_1_4_1 inb_S12x2x8x128_S1x1x8x128_6_0_0_0 x, List.forall_mem_cons.2 ⟨fun x => cnt_piece0 arg10 x2 x3 5 33 rfl inb_S2x96x128_S1x8x128_0_33_0_s_1_4_1 inb_S12x2x8x128_S1x1x8x128_5_0_0_0 x, List.forall_mem_cons.2 ⟨fun x => cnt_piece0 arg10 x2 x3 4 32 rfl inb_S2x96x128_S1x8x128_0_32_0_s_1_4_1 inb_S12x2x8x128_S1x1x8x128_4_0_0_0 x, List.forall_mem_cons.2 ⟨fun x => cnt_piece0 arg10 x2 x3 3 3 rfl inb_S2x96x128_S1x8x128_0_3_0_s_1_4_1 inb_S12x2x8x128_S1x1x8x128_3_0_0_0 x, List.forall_mem_cons.2 ⟨fun x => cnt_piece0 arg10 x2 x3 2 2 rfl inb_S2x96x128_S1x8x128_0_2_0_s_1_4_1 inb_S12x2x8x128_S1x1x8x128_2_0_0_0 x, List.forall_mem_cons.2 ⟨fun x => cnt_piece0 arg10 x2 x3 1 1 rfl inb_S2x96x128_S1x8x128_0_1_0_s_1_4_1 inb_S12x2x8x128_S1x1x8x128_1_0_0_0 x, List.forall_mem_cons.2 ⟨fun x => cnt_piece0 arg10 x2 x3 0 0 rfl inb_S2x96x128_S1x8x128_0_0_0_s_1_4_1 inb_S12x2x8x128_S1x1x8x128_0_0_0_0 x, fun p hp => absurd hp List.not_mem_nil⟩⟩⟩⟩⟩⟩⟩⟩⟩⟩⟩⟩⟩⟩⟩⟩⟩⟩⟩⟩⟩⟩⟩⟩
    isplitl [HS4]
    · iexists _; isplitr; swap; · iexact HS4
      ipureintro; exact View.read_writes_full _ _ _ _ _
    iexists _; isplitr; swap; · iexact HS5
    ipureintro; funext y
    refine View.read_writes_apply_of_pieces _ _ (xfV x1) _ ?_ y (View.cover_of_tiledL (s := S12x8x28x128) _ S1x1x28x128.size (by sl_kernel_rfl) y)
    exact List.forall_mem_cons.2 ⟨fun x => xf_piece x1 11 7 196 1408 rfl rfl slices_S224x1536_o196_1408_S28x128 inb_S12x8x28x128_S1x1x28x128_11_7_0_0 x, List.forall_mem_cons.2 ⟨fun x => xf_piece x1 11 6 168 1408 rfl rfl slices_S224x1536_o168_1408_S28x128 inb_S12x8x28x128_S1x1x28x128_11_6_0_0 x, List.forall_mem_cons.2 ⟨fun x => xf_piece x1 11 5 140 1408 rfl rfl slices_S224x1536_o140_1408_S28x128 inb_S12x8x28x128_S1x1x28x128_11_5_0_0 x, List.forall_mem_cons.2 ⟨fun x => xf_piece x1 11 4 112 1408 rfl rfl slices_S224x1536_o112_1408_S28x128 inb_S12x8x28x128_S1x1x28x128_11_4_0_0 x, List.forall_mem_cons.2 ⟨fun x => xf_piece x1 11 3 84 1408 rfl rfl slices_S224x1536_o84_1408_S28x128 inb_S12x8x28x128_S1x1x28x128_11_3_0_0 x, List.forall_mem_cons.2 ⟨fun x => xf_piece x1 11 2 56 1408 rfl rfl slices_S224x1536_o56_1408_S28x128 inb_S12x8x28x128_S1x1x28x128_11_2_0_0 x, List.forall_mem_cons.2 ⟨fun x => xf_piece x1 11 1 28 1408 rfl rfl slices_S224x1536_o28_1408_S28x128 inb_S12x8x28x128_S1x1x28x128_11_1_0_0 x, List.forall_mem_cons.2 ⟨fun x => xf_piece x1 11 0 0 1408 rfl rfl slices_S224x1536_o0_1408_S28x128 inb_S12x8x28x128_S1x1x28x128_11_0_0_0 x, List.forall_mem_cons.2 ⟨fun x => xf_piece x1 10 7 196 1280 rfl rfl slices_S224x1536_o196_1280_S28x128 inb_S12x8x28x128_S1x1x28x128_10_7_0_0 x, List.forall_mem_cons.2 ⟨fun x => xf_piece x1 10 6 168 1280 rfl rfl slices_S224x1536_o168_1280_S28x128 inb_S12x8x28x128_S1x1x28x128_10_6_0_0 x, List.forall_mem_cons.2 ⟨fun x => xf_piece x1 10 5 140 1280 rfl rfl slices_S224x1536_o140_1280_S28x128 inb_S12x8x28x128_S1x1x28x128_10_5_0_0 x, List.forall_mem_cons.2 ⟨fun x => xf_piece x1 10 4 112 1280 rfl rfl slices_S224x1536_o112_1280_S28x128 inb_S12x8x28x128_S1x1x28x128_10_4_0_0 x, List.forall_mem_cons.2 ⟨fun x => xf_piece x1 10 3 84 1280 rfl rfl slices_S224x1536_o84_1280_S28x128 inb_S12x8x28x128_S1x1x28x128_10_3_0_0 x, List.forall_mem_cons.2 ⟨fun x => xf_piece x1 10 2 56 1280 rfl rfl slices_S224x1536_o56_1280_S28x128 inb_S12x8x28x128_S1x1x28x128_10_2_0_0 x, List.forall_mem_cons.2 ⟨fun x => xf_piece x1 10 1 28 1280 rfl rfl slices_S224x1536_o28_1280_S28x128 inb_S12x8x28x128_S1x1x28x128_10_1_0_0 x, List.forall_mem_cons.2 ⟨fun x => xf_piece x1 10 0 0 1280 rfl rfl slices_S224x1536_o0_1280_S28x128 inb_S12x8x28x128_S1x1x28x128_10_0_0_0 x, List.forall_mem_cons.2 ⟨fun x => xf_piece x1 9 7 196 1152 rfl rfl slices_S224x1536_o196_1152_S28x128 inb_S12x8x28x128_S1x1x28x128_9_7_0_0 x, List.forall_mem_cons.2 ⟨fun x => xf_piece x1 9 6 168 1152 rfl rfl slices_S224x1536_o168_1152_S28x128 inb_S12x8x28x128_S1x1x28x128_9_6_0_0 x, List.forall_mem_cons.2 ⟨fun x => xf_piece x1 9 5 140 1152 rfl rfl slices_S224x1536_o140_1152_S28x128 inb_S12x8x28x128_S1x1x28x128_9_5_0_0 x, List.forall_mem_cons.2 ⟨fun x => xf_piece x1 9 4 112 1152 rfl rfl slices_S224x1536_o112_1152_S28x128 inb_S12x8x28x128_S1x1x28x128_9_4_0_0 x, List.forall_mem_cons.2 ⟨fun x => xf_piece x1 9 3 84 1152 rfl rfl slices_S224x1536_o84_1152_S28x128 inb_S12x8x28x128_S1x1x28x128_9_3_0_0 x, List.forall_mem_cons.2 ⟨fun x => xf_piece x1 9 2 56 1152 rfl rfl slices_S224x1536_o56_1152_S28x128 inb_S12x8x28x128_S1x1x28x128_9_2_0_0 x, List.forall_mem_cons.2 ⟨fun x => xf_piece x1 9 1 28 1152 rfl rfl slices_S224x1536_o28_1152_S28x128 inb_S12x8x28x128_S1x1x28x128_9_1_0_0 x, List.forall_mem_cons.2 ⟨fun x => xf_piece x1 9 0 0 1152 rfl rfl slices_S224x1536_o0_1152_S28x128 inb_S12x8x28x128_S1x1x28x128_9_0_0_0 x, List.forall_mem_cons.2 ⟨fun x => xf_piece x1 8 7 196 1024 rfl rfl slices_S224x1536_o196_1024_S28x128 inb_S12x8x28x128_S1x1x28x128_8_7_0_0 x, List.forall_mem_cons.2 ⟨fun x => xf_piece x1 8 6 168 1024 rfl rfl slices_S224x1536_o168_1024_S28x128 inb_S12x8x28x128_S1x1x28x128_8_6_0_0 x, List.forall_mem_cons.2 ⟨fun x => xf_piece x1 8 5 140 1024 rfl rfl slices_S224x1536_o140_1024_S28x128 inb_S12x8x28x128_S1x1x28x128_8_5_0_0 x, List.forall_mem_cons.2 ⟨fun x => xf_piece x1 8 4 112 1024 rfl rfl slices_S224x1536_o112_1024_S28x128 inb_S12x8x28x128_S1x1x28x128_8_4_0_0 x, List.forall_mem_cons.2 ⟨fun x => xf_piece x1 8 3 84 1024 rfl rfl slices_S224x1536_o84_1024_S28x128 inb_S12x8x28x128_S1x1x28x128_8_3_0_0 x, List.forall_mem_cons.2 ⟨fun x => xf_piece x1 8 2 56 1024 rfl rfl slices_S224x1536_o56_1024_S28x128 inb_S12x8x28x128_S1x1x28x128_8_2_0_0 x, List.forall_mem_cons.2 ⟨fun x => xf_piece x1 8 1 28 1024 rfl rfl slices_S224x1536_o28_1024_S28x128 inb_S12x8x28x128_S1x1x28x128_8_1_0_0 x, List.forall_mem_cons.2 ⟨fun x => xf_piece x1 8 0 0 1024 rfl rfl slices_S224x1536_o0_1024_S28x128 inb_S12x8x28x128_S1x1x28x128_8_0_0_0 x, List.forall_mem_cons.2 ⟨fun x => xf_piece x1 7 7 196 896 rfl rfl slices_S224x1536_o196_896_S28x128 inb_S12x8x28x128_S1x1x28x128_7_7_0_0 x, List.forall_mem_cons.2 ⟨fun x => xf_piece x1 7 6 168 896 rfl rfl slices_S224x1536_o168_896_S28x128 inb_S12x8x28x128_S1x1x28x128_7_6_0_0 x, List.forall_mem_cons.2 ⟨fun x => xf_piece x1 7 5 140 896 rfl rfl slices_S224x1536_o140_896_S28x128 inb_S12x8x28x128_S1x1x28x128_7_5_0_0 x, List.forall_mem_cons.2 ⟨fun x => xf_piece x1 7 4 112 896 rfl rfl slices_S224x1536_o112_896_S28x128 inb_S12x8x28x128_S1x1x28x128_7_4_0_0 x, List.forall_mem_cons.2 ⟨fun x => xf_piece x1 7 3 84 896 rfl rfl slices_S224x1536_o84_896_S28x128 inb_S12x8x28x128_S1x1x28x128_7_3_0_0 x, List.forall_mem_cons.2 ⟨fun x => xf_piece x1 7 2 56 896 rfl rfl slices_S224x1536_o56_896_S28x128 inb_S12x8x28x128_S1x1x28x128_7_2_0_0 x, List.forall_mem_cons.2 ⟨fun x => xf_piece x1 7 1 28 896 rfl rfl slices_S224x1536_o28_896_S28x128 inb_S12x8x28x128_S1x1x28x128_7_1_0_0 x, List.forall_mem_cons.2 ⟨fun x => xf_piece x1 7 0 0 896 rfl rfl slices_S224x1536_o0_896_S28x128 inb_S12x8x28x128_S1x1x28x128_7_0_0_0 x, List.forall_mem_cons.2 ⟨fun x => xf_piece x1 6 7 196 768 rfl rfl slices_S224x1536_o196_768_S28x128 inb_S12x8x28x128_S1x1x28x128_6_7_0_0 x, List.forall_mem_cons.2 ⟨fun x => xf_piece x1 6 6 168 768 rfl rfl slices_S224x1536_o168_768_S28x128 inb_S12x8x28x128_S1x1x28x128_6_6_0_0 x, List.forall_mem_cons.2 ⟨fun x => xf_piece x1 6 5 140 768 rfl rfl slices_S224x1536_o140_768_S28x128 inb_S12x8x28x128_S1x1x28x128_6_5_0_0 x, List.forall_mem_cons.2 ⟨fun x => xf_piece x1 6 4 112 768 rfl rfl slices_S224x1536_o112_768_S28x128 inb_S12x8x28x128_S1x1x28x128_6_4_0_0 x, List.forall_mem_cons.2 ⟨fun x => xf_piece x1 6 3 84 768 rfl rfl slices_S224x1536_o84_768_S28x128 inb_S12x8x28x128_S1x1x28x128_6_3_0_0 x, List.forall_mem_cons.2 ⟨fun x => xf_piece x1 6 2 56 768 rfl rfl slices_S224x1536_o56_768_S28x128 inb_S12x8x28x128_S1x1x28x128_6_2_0_0 x, List.forall_mem_cons.2 ⟨fun x => xf_piece x1 6 1 28 768 rfl rfl slices_S224x1536_o28_768_S28x128 inb_S12x8x28x128_S1x1x28x128_6_1_0_0 x, List.forall_mem_cons.2 ⟨fun x => xf_piece x1 6 0 0 768 rfl rfl slices_S224x1536_o0_768_S28x128 inb_S12x8x28x128_S1x1x28x128_6_0_0_0 x, List.forall_mem_cons.2 ⟨fun x => xf_piece x1 5 7 196 640 rfl rfl slices_S224x1536_o196_640_S28x128 inb_S12x8x28x128_S1x1x28x128_5_7_0_0 x, List.forall_mem_cons.2 ⟨fun x => xf_piece x1 5 6 168 640 rfl rfl slices_S224x1536_o168_640_S28x128 inb_S12x8x28x128_S1x1x28x128_5_6_0_0 x, List.forall_mem_cons.2 ⟨fun x => xf_piece x1 5 5 140 640 rfl rfl slices_S224x1536_o140_640_S28x128 inb_S12x8x28x128_S1x1x28x128_5_5_0_0 x, List.forall_mem_cons.2 ⟨fun x => xf_piece x1 5 4 112 640 rfl rfl slices_S224x1536_o112_640_S28x128 inb_S12x8x28x128_S1x1x28x128_5_4_0_0 x, List.forall_mem_cons.2 ⟨fun x => xf_piece x1 5 3 84 640 rfl rfl slices_S224x1536_o84_640_S28x128 inb_S12x8x28x128_S1x1x28x128_5_3_0_0 x, List.forall_mem_cons.2 ⟨fun x => xf_piece x1 5 2 56 640 rfl rfl slices_S224x1536_o56_640_S28x128 inb_S12x8x28x128_S1x1x28x128_5_2_0_0 x, List.forall_mem_cons.2 ⟨fun x => xf_piece x1 5 1 28 640 rfl rfl slices_S224x1536_o28_640_S28x128 inb_S12x8x28x128_S1x1x28x128_5_1_0_0 x, List.forall_mem_cons.2 ⟨fun x => xf_piece x1 5 0 0 640 rfl rfl slices_S224x1536_o0_640_S28x128 inb_S12x8x28x128_S1x1x28x128_5_0_0_0 x, List.forall_mem_cons.2 ⟨fun x => xf_piece x1 4 7 196 512 rfl rfl slices_S224x1536_o196_512_S28x128 inb_S12x8x28x128_S1x1x28x128_4_7_0_0 x, List.forall_mem_cons.2 ⟨fun x => xf_piece x1 4 6 168 512 rfl rfl slices_S224x1536_o168_512_S28x128 inb_S12x8x28x128_S1x1x28x128_4_6_0_0 x, List.forall_mem_cons.2 ⟨fun x => xf_piece x1 4 5 140 512 rfl rfl slices_S224x1536_o140_512_S28x128 inb_S12x8x28x128_S1x1x28x128_4_5_0_0 x, List.forall_mem_cons.2 ⟨fun x => xf_piece x1 4 4 112 512 rfl rfl slices_S224x1536_o112_512_S28x128 inb_S12x8x28x128_S1x1x28x128_4_4_0_0 x, List.forall_mem_cons.2 ⟨fun x => xf_piece x1 4 3 84 512 rfl rfl slices_S224x1536_o84_512_S28x128 inb_S12x8x28x128_S1x1x28x128_4_3_0_0 x, List.forall_mem_cons.2 ⟨fun x => xf_piece x1 4 2 56 512 rfl rfl slices_S224x1536_o56_512_S28x128 inb_S12x8x28x128_S1x1x28x128_4_2_0_0 x, List.forall_mem_cons.2 ⟨fun x => xf_piece x1 4 1 28 512 rfl rfl slices_S224x1536_o28_512_S28x128 inb_S12x8x28x128_S1x1x28x128_4_1_0_0 x, List.forall_mem_cons.2 ⟨fun x => xf_piece x1 4 0 0 512 rfl rfl slices_S224x1536_o0_512_S28x128 inb_S12x8x28x128_S1x1x28x128_4_0_0_0 x, List.forall_mem_cons.2 ⟨fun x => xf_piece x1 3 7 196 384 rfl rfl slices_S224x1536_o196_384_S28x128 inb_S12x8x28x128_S1x1x28x128_3_7_0_0 x, List.forall_mem_cons.2 ⟨fun x => xf_piece x1 3 6 168 384 rfl rfl slices_S224x1536_o168_384_S28x128 inb_S12x8x28x128_S1x1x28x128_3_6_0_0 x, List.forall_mem_cons.2 ⟨fun x => xf_piece x1 3 5 140 384 rfl rfl slices_S224x1536_o140_384_S28x128 inb_S12x8x28x128_S1x1x28x128_3_5_0_0 x, List.forall_mem_cons.2 ⟨fun x => xf_piece x1 3 4 112 384 rfl rfl slices_S224x1536_o112_384_S28x128 inb_S12x8x28x128_S1x1x28x128_3_4_0_0 x, List.forall_mem_cons.2 ⟨fun x => xf_piece x1 3 3 84 384 rfl rfl slices_S224x1536_o84_384_S28x128 inb_S12x8x28x128_S1x1x28x128_3_3_0_0 x, List.forall_mem_cons.2 ⟨fun x => xf_piece x1 3 2 56 384 rfl rfl slices_S224x1536_o56_384_S28x128 inb_S12x8x28x128_S1x1x28x128_3_2_0_0 x, List.forall_mem_cons.2 ⟨fun x => xf_piece x1 3 1 28 384 rfl rfl slices_S224x1536_o28_384_S28x128 inb_S12x8x28x128_S1x1x28x128_3_1_0_0 x, List.forall_mem_cons.2 ⟨fun x => xf_piece x1 3 0 0 384 rfl rfl slices_S224x1536_o0_384_S28x128 inb_S12x8x28x128_S1x1x28x128_3_0_0_0 x, List.forall_mem_cons.2 ⟨fun x => xf_piece x1 2 7 196 256 rfl rfl slices_S224x1536_o196_256_S28x128 inb_S12x8x28x128_S1x1x28x128_2_7_0_0 x, List.forall_mem_cons.2 ⟨fun x => xf_piece x1 2 6 168 256 rfl rfl slices_S224x1536_o168_256_S28x128 inb_S12x8x28x128_S1x1x28x128_2_6_0_0 x, List.forall_mem_cons.2 ⟨fun x => xf_piece x1 2 5 140 256 rfl rfl slices_S224x1536_o140_256_S28x128 inb_S12x8x28x128_S1x1x28x128_2_5_0_0 x, List.forall_mem_cons.2 ⟨fun x => xf_piece x1 2 4 112 256 rfl rfl slices_S224x1536_o112_256_S28x128 inb_S12x8x28x128_S1x1x28x128_2_4_0_0 x, List.forall_mem_cons.2 ⟨fun x => xf_piece x1 2 3 84 256 rfl rfl slices_S224x1536_o84_256_S28x128 inb_S12x8x28x128_S1x1x28x128_2_3_0_0 x, List.forall_mem_cons.2 ⟨fun x => xf_piece x1 2 2 56 256 rfl rfl slices_S224x1536_o56_256_S28x128 inb_S12x8x28x128_S1x1x28x128_2_2_0_0 x, List.forall_mem_cons.2 ⟨fun x => xf_piece x1 2 1 28 256 rfl rfl slices_S224x1536_o28_256_S28x128 inb_S12x8x28x128_S1x1x28x128_2_1_0_0 x, List.forall_mem_cons.2 ⟨fun x => xf_piece x1 2 0 0 256 rfl rfl slices_S224x1536_o0_256_S28x128 inb_S12x8x28x128_S1x1x28x128_2_0_0_0 x, List.forall_mem_cons.2 ⟨fun x => xf_piece x1 1 7 196 128 rfl rfl slices_S224x1536_o196_128_S28x128 inb_S12x8x28x128_S1x1x28x128_1_7_0_0 x, List.forall_mem_cons.2 ⟨fun x => xf_piece x1 1 6 168 128 rfl rfl slices_S224x1536_o168_128_S28x128 inb_S12x8x28x128_S1x1x28x128_1_6_0_0 x, List.forall_mem_cons.2 ⟨fun x => xf_piece x1 1 5 140 128 rfl rfl slices_S224x1536_o140_128_S28x128 inb_S12x8x28x128_S1x1x28x128_1_5_0_0 x, List.forall_mem_cons.2 ⟨fun x => xf_piece x1 1 4 112 128 rfl rfl slices_S224x1536_o112_128_S28x128 inb_S12x8x28x128_S1x1x28x128_1_4_0_0 x, List.forall_mem_cons.2 ⟨fun x => xf_piece x1 1 3 84 128 rfl rfl slices_S224x1536_o84_128_S28x128 inb_S12x8x28x128_S1x1x28x128_1_3_0_0 x, List.forall_mem_cons.2 ⟨fun x => xf_piece x1 1 2 56 128 rfl rfl slices_S224x1536_o56_128_S28x128 inb_S12x8x28x128_S1x1x28x128_1_2_0_0 x, List.forall_mem_cons.2 ⟨fun x => xf_piece x1 1 1 28 128 rfl rfl slices_S224x1536_o28_128_S28x128 inb_S12x8x28x128_S1x1x28x128_1_1_0_0 x, List.forall_mem_cons.2 ⟨fun x => xf_piece x1 1 0 0 128 rfl rfl slices_S224x1536_o0_128_S28x128 inb_S12x8x28x128_S1x1x28x128_1_0_0_0 x, List.forall_mem_cons.2 ⟨fun x => xf_piece x1 0 7 196 0 rfl rfl slices_S224x1536_o196_0_S28x128 inb_S12x8x28x128_S1x1x28x128_0_7_0_0 x, List.forall_mem_cons.2 ⟨fun x => xf_piece x1 0 6 168 0 rfl rfl slices_S224x1536_o168_0_S28x128 inb_S12x8x28x128_S1x1x28x128_0_6_0_0 x, List.forall_mem_cons.2 ⟨fun x => xf_piece x1 0 5 140 0 rfl rfl slices_S224x1536_o140_0_S28x128 inb_S12x8x28x128_S1x1x28x128_0_5_0_0 x, List.forall_mem_cons.2 ⟨fun x => xf_piece x1 0 4 112 0 rfl rfl slices_S224x1536_o112_0_S28x128 inb_S12x8x28x128_S1x1x28x128_0_4_0_0 x, List.forall_mem_cons.2 ⟨fun x => xf_piece x1 0 3 84 0 rfl rfl slices_S224x1536_o84_0_S28x128 inb_S12x8x28x128_S1x1x28x128_0_3_0_0 x, List.forall_mem_cons.2 ⟨fun x => xf_piece x1 0 2 56 0 rfl rfl slices_S224x1536_o56_0_S28x128 inb_S12x8x28x128_S1x1x28x128_0_2_0_0 x, List.forall_mem_cons.2 ⟨fun x => xf_piece x1 0 1 28 0 rfl rfl slices_S224x1536_o28_0_S28x128 inb_S12x8x28x128_S1x1x28x128_0_1_0_0 x, List.forall_mem_cons.2 ⟨fun x => xf_piece x1 0 0 0 0 rfl rfl slices_S224x1536_o0_0_S28x128 inb_S12x8x28x128_S1x1x28x128_0_0_0_0 x, fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.Kernel.Gen

end
-- ==== Proof.BRun.lean ====
/- One run of the kernel's body at a grid point whose scratch buffers are filled. -/
module

public import proofs.«01_k».proof.Proof.BCut

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 10000000 in
theorem run_tail (c : Dev nD) (i : grid0.Coords) (arg1 : Memref sig .tc .vmem S224x1536 .bf16) (harg1 : arg1.IsWhole) (arg2 : Memref sig .tc .vmem S224x1536 .bf16) (harg2 : arg2.IsWhole) (arg3 : Memref sig .tc .vmem S1536x256 .i8) (harg3 : arg3.IsWhole) (arg4 : Memref sig .tc .vmem S96x1 .f32) (harg4 : arg4.IsWhole) (arg5 : Memref sig .tc .vmem S96x1024 .i8) (harg5 : arg5.IsWhole) (arg6 : Memref sig .tc .vmem S224x1024 .bf16) (harg6 : arg6.IsWhole) (arg7 : Memref sig .tc .vmem S28x8x256 .f32) (harg7 : arg7.IsWhole) (arg8 : Memref sig .tc .vmem S2x384x128 .i32) (harg8 : arg8.IsWhole) (arg9 : Memref sig .tc .vmem S12x4x2x8x128 .i32) (harg9 : arg9.IsWhole) (arg10 : Memref sig .tc .vmem S2x96x128 .f32) (harg10 : arg10.IsWhole) (arg11 : Memref sig .tc .vmem S12x2x8x128 .f32) (harg11 : arg11.IsWhole) (arg12 : Memref sig .tc .vmem S224x128 .f32) (harg12 : arg12.IsWhole) (arg13 : Memref sig .tc .vmem S12x8x28x128 .f32) (harg13 : arg13.IsWhole)
  (x0 : Vec F S224x1536 .bf16) (x1 : Vec F S224x1536 .bf16) (x2 : Vec F S1536x256 .i8) (x3 : Vec F S96x1 .f32) (x4 : Vec F S96x1024 .i8)
  (TBL : Vec F S12x4x2x8x128 .i32) (CN : Vec F S2x96x128 .f32) (CNT : Vec F S12x2x8x128 .f32) (XN : Vec F S224x128 .f32) (XF : Vec F S12x8x28x128 .f32)
  (E : Set ℕ) (K : PUnit → sProp 𝕄) :
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare TBL ∗ owns (c : Thread nD τ) arg10 fullShare CN ∗ owns (c : Thread nD τ) arg11 fullShare CNT ∗ owns (c : Thread nD τ) arg12 fullShare XN ∗ owns (c : Thread nD τ) arg13 fullShare XF
    ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (scB x0 x4 TBL CNT XN) ∗ owns (c : Thread nD τ) arg7 fullShare (tB x2 x3 CN XF (i 0).val) ∗ (∃ d, owns (c : Thread nD τ) arg8 fullShare d) ∗ owns (c : Thread nD τ) arg9 fullShare TBL ∗ owns (c : Thread nD τ) arg10 fullShare CN ∗ owns (c : Thread nD τ) arg11 fullShare CNT ∗ owns (c : Thread nD τ) arg12 fullShare XN ∗ owns (c : Thread nD τ) arg13 fullShare XF) -∗ K ⟨⟩))
  ⊢ wp frame (wpE (defs₀ (F := F)) Variants.none c none) E (tailP i arg1 harg1 arg2 harg2 arg3 harg3 arg4 harg4 arg5 harg5 arg6 harg6 arg7 harg7 arg8 harg8 arg9 harg9 arg10 harg10 arg11 harg11 arg12 harg12 arg13 harg13) K := by
    unfold tailP tail260 tail44
    simp only [k0_part260_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part261_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part262_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part263_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs1; obtain rfl := harg10.eq_unread hfs2; obtain rfl := harg11.eq_unread hfs3; obtain rfl := harg12.eq_unread hfs4; obtain rfl := harg13.eq_unread hfs5
    have hw1 : ∀ inb, arg1.view.readAt (Elt F) (Rect.unit ![0, 0] S224x1536.size inb).toLoadRect (harg1.unread x0) = x0 := fun inb => readAt_all2 arg1 harg1 x0 inb
    have hw12 : ∀ inb, arg12.view.readAt (Elt F) (Rect.unit ![0, 0] S224x128.size inb).toLoadRect (harg12.unread XN) = XN := fun inb => readAt_all2 arg12 harg12 XN inb
    have hd1 : ∀ inb, arg13.view.readAt (Elt F) (Rect.unit (s := S12x8x28x128) (k0_off1 i) S1x1x1x128.size inb).toLoadRect (harg13.unread XF) = ldX XF (i 0).val 0 := fun inb => readAt_slc_of arg13 harg13 XF pos13 _ _ _ inb (off1_eq i)
    have hd2 : ∀ inb, arg13.view.readAt (Elt F) (Rect.unit (s := S12x8x28x128) (k0_off2 i) S1x1x1x128.size inb).toLoadRect (harg13.unread XF) = ldX XF (i 0).val 1 := fun inb => readAt_slc_of arg13 harg13 XF pos13 _ _ _ inb (off2_eq i)
    have hd3 : ∀ inb, arg13.view.readAt (Elt F) (Rect.unit (s := S12x8x28x128) (k0_off3 i) S1x1x1x128.size inb).toLoadRect (harg13.unread XF) = ldX XF (i 0).val 2 := fun inb => readAt_slc_of arg13 harg13 XF pos13 _ _ _ inb (off3_eq i)
    have hd4 : ∀ inb, arg13.view.readAt (Elt F) (Rect.unit (s := S12x8x28x128) (k0_off4 i) S1x1x1x128.size inb).toLoadRect (harg13.unread XF) = ldX XF (i 0).val 3 := fun inb => readAt_slc_of arg13 harg13 XF pos13 _ _ _ inb (off4_eq i)
    have hd5 : ∀ inb, arg13.view.readAt (Elt F) (Rect.unit (s := S12x8x28x128) (k0_off5 i) S1x1x1x128.size inb).toLoadRect (harg13.unread XF) = ldX XF (i 0).val 4 := fun inb => readAt_slc_of arg13 harg13 XF pos13 _ _ _ inb (off5_eq i)
    have hd6 : ∀ inb, arg13.view.readAt (Elt F) (Rect.unit (s := S12x8x28x128) (k0_off6 i) S1x1x1x128.size inb).toLoadRect (harg13.unread XF) = ldX XF (i 0).val 5 := fun inb => readAt_slc_of arg13 harg13 XF pos13 _ _ _ inb (off6_eq i)
    have hd7 : ∀ inb, arg13.view.readAt (Elt F) (Rect.unit (s := S12x8x28x128) (k0_off7 i) S1x1x1x128.size inb).toLoadRect (harg13.unread XF) = ldX XF (i 0).val 6 := fun inb => readAt_slc_of arg13 harg13 XF pos13 _ _ _ inb (off7_eq i)
    have hd8 : ∀ inb, arg13.view.readAt (Elt F) (Rect.unit (s := S12x8x28x128) (k0_off8 i) S1x1x1x128.size inb).toLoadRect (harg13.unread XF) = ldX XF (i 0).val 7 := fun inb => readAt_slc_of arg13 harg13 XF pos13 _ _ _ inb (off8_eq i)
    have hd9 : ∀ inb, arg13.view.readAt (Elt F) (Rect.unit (s := S12x8x28x128) (k0_off9 i) S1x1x1x128.size inb).toLoadRect (harg13.unread XF) = ldX XF (i 0).val 8 := fun inb => readAt_slc_of arg13 harg13 XF pos13 _ _ _ inb (off9_eq i)
    have hd10 : ∀ inb, arg13.view.readAt (Elt F) (Rect.unit (s := S12x8x28x128) (k0_off10 i) S1x1x1x128.size inb).toLoadRect (harg13.unread XF) = ldX XF (i 0).val 9 := fun inb => readAt_slc_of arg13 harg13 XF pos13 _ _ _ inb (off10_eq i)
    have hd11 : ∀ inb, arg13.view.readAt (Elt F) (Rect.unit (s := S12x8x28x128) (k0_off11 i) S1x1x1x128.size inb).toLoadRect (harg13.unread XF) = ldX XF (i 0).val 10 := fun inb => readAt_slc_of arg13 harg13 XF pos13 _ _ _ inb (off11_eq i)
    have hd12 : ∀ inb, arg13.view.readAt (Elt F) (Rect.unit (s := S12x8x28x128) (k0_off12 i) S1x1x1x128.size inb).toLoadRect (harg13.unread XF) = ldX XF (i 0).val 11 := fun inb => readAt_slc_of arg13 harg13 XF pos13 _ _ _ inb (off12_eq i)
    have hd13 : ∀ inb, arg13.view.readAt (Elt F) (Rect.unit (s := S12x8x28x128) (k0_off13 i) S1x1x1x128.size inb).toLoadRect (harg13.unread XF) = ldX XF (i 0).val 12 := fun inb => readAt_slc_of arg13 harg13 XF pos13 _ _ _ inb (off13_eq i)
    have hd14 : ∀ inb, arg13.view.readAt (Elt F) (Rect.unit (s := S12x8x28x128) (k0_off14 i) S1x1x1x128.size inb).toLoadRect (harg13.unread XF) = ldX XF (i 0).val 13 := fun inb => readAt_slc_of arg13 harg13 XF pos13 _ _ _ inb (off14_eq i)
    have hd15 : ∀ inb, arg13.view.readAt (Elt F) (Rect.unit (s := S12x8x28x128) (k0_off15 i) S1x1x1x128.size inb).toLoadRect (harg13.unread XF) = ldX XF (i 0).val 14 := fun inb => readAt_slc_of arg13 harg13 XF pos13 _ _ _ inb (off15_eq i)
    have hd16 : ∀ inb, arg13.view.readAt (Elt F) (Rect.unit (s := S12x8x28x128) (k0_off16 i) S1x1x1x128.size inb).toLoadRect (harg13.unread XF) = ldX XF (i 0).val 15 := fun inb => readAt_slc_of arg13 harg13 XF pos13 _ _ _ inb (off16_eq i)
    have hd17 : ∀ inb, arg13.view.readAt (Elt F) (Rect.unit (s := S12x8x28x128) (k0_off17 i) S1x1x1x128.size inb).toLoadRect (harg13.unread XF) = ldX XF (i 0).val 16 := fun inb => readAt_slc_of arg13 harg13 XF pos13 _ _ _ inb (off17_eq i)
    have hd18 : ∀ inb, arg13.view.readAt (Elt F) (Rect.unit (s := S12x8x28x128) (k0_off18 i) S1x1x1x128.size inb).toLoadRect (harg13.unread XF) = ldX XF (i 0).val 17 := fun inb => readAt_slc_of arg13 harg13 XF pos13 _ _ _ inb (off18_eq i)
    have hd19 : ∀ inb, arg13.view.readAt (Elt F) (Rect.unit (s := S12x8x28x128) (k0_off19 i) S1x1x1x128.size inb).toLoadRect (harg13.unread XF) = ldX XF (i 0).val 18 := fun inb => readAt_slc_of arg13 harg13 XF pos13 _ _ _ inb (off19_eq i)
    have hd20 : ∀ inb, arg13.view.readAt (Elt F) (Rect.unit (s := S12x8x28x128) (k0_off20 i) S1x1x1x128.size inb).toLoadRect (harg13.unread XF) = ldX XF (i 0).val 19 := fun inb => readAt_slc_of arg13 harg13 XF pos13 _ _ _ inb (off20_eq i)
    have hd21 : ∀ inb, arg13.view.readAt (Elt F) (Rect.unit (s := S12x8x28x128) (k0_off21 i) S1x1x1x128.size inb).toLoadRect (harg13.unread XF) = ldX XF (i 0).val 20 := fun inb => readAt_slc_of arg13 harg13 XF pos13 _ _ _ inb (off21_eq i)
    have hd22 : ∀ inb, arg13.view.readAt (Elt F) (Rect.unit (s := S12x8x28x128) (k0_off22 i) S1x1x1x128.size inb).toLoadRect (harg13.unread XF) = ldX XF (i 0).val 21 := fun inb => readAt_slc_of arg13 harg13 XF pos13 _ _ _ inb (off22_eq i)
    have hd23 : ∀ inb, arg13.view.readAt (Elt F) (Rect.unit (s := S12x8x28x128) (k0_off23 i) S1x1x1x128.size inb).toLoadRect (harg13.unread XF) = ldX XF (i 0).val 22 := fun inb => readAt_slc_of arg13 harg13 XF pos13 _ _ _ inb (off23_eq i)
    have hd24 : ∀ inb, arg13.view.readAt (Elt F) (Rect.unit (s := S12x8x28x128) (k0_off24 i) S1x1x1x128.size inb).toLoadRect (harg13.unread XF) = ldX XF (i 0).val 23 := fun inb => readAt_slc_of arg13 harg13 XF pos13 _ _ _ inb (off24_eq i)
    have hd25 : ∀ inb, arg13.view.readAt (Elt F) (Rect.unit (s := S12x8x28x128) (k0_off25 i) S1x1x1x128.size inb).toLoadRect (harg13.unread XF) = ldX XF (i 0).val 24 := fun inb => readAt_slc_of arg13 harg13 XF pos13 _ _ _ inb (off25_eq i)
    have hd26 : ∀ inb, arg13.view.readAt (Elt F) (Rect.unit (s := S12x8x28x128) (k0_off26 i) S1x1x1x128.size inb).toLoadRect (harg13.unread XF) = ldX XF (i 0).val 25 := fun inb => readAt_slc_of arg13 harg13 XF pos13 _ _ _ inb (off26_eq i)
    have hd27 : ∀ inb, arg13.view.readAt (Elt F) (Rect.unit (s := S12x8x28x128) (k0_off27 i) S1x1x1x128.size inb).toLoadRect (harg13.unread XF) = ldX XF (i 0).val 26 := fun inb => readAt_slc_of arg13 harg13 XF pos13 _ _ _ inb (off27_eq i)
    have hd28 : ∀ inb, arg13.view.readAt (Elt F) (Rect.unit (s := S12x8x28x128) (k0_off28 i) S1x1x1x128.size inb).toLoadRect (harg13.unread XF) = ldX XF (i 0).val 27 := fun inb => readAt_slc_of arg13 harg13 XF pos13 _ _ _ inb (off28_eq i)
    have hd29 : ∀ inb, arg3.view.readAt (Elt F) (Rect.unit (s := S1536x256) (k0_off29 i) S128x256.size inb).toLoadRect (harg3.unread x2) = slc x2 pos3 ![(i 0).val / 8 * 128, 0] S128x256.size := fun inb => readAt_slc_of arg3 harg3 x2 pos3 _ _ _ inb (off29_eq i)
    have hd30 : ∀ inb, arg4.view.readAt (Elt F) (Rect.unit (s := S96x1) (k0_off30 i) S8x1.size inb).toLoadRect (harg4.unread x3) = slc x3 pos4 ![(i 0).val / 8 * 8, 0] S8x1.size := fun inb => readAt_slc_of arg4 harg4 x3 pos4 _ _ _ inb (off30_eq i)
    have hd31 : ∀ inb, arg10.view.readAt (Elt F) (Rect.unit (s := S2x96x128) (k0_off31 i) S1x8x128.size inb).toLoadRect (harg10.unread CN) = slc CN pos10 ![0, (i 0).val / 8 * 8, 0] S1x8x128.size := fun inb => readAt_slc_of arg10 harg10 CN pos10 _ _ _ inb (off31_eq i)
    have hd32 : ∀ inb, arg10.view.readAt (Elt F) (Rect.unit (s := S2x96x128) (k0_off32 i) S1x8x128.size inb).toLoadRect (harg10.unread CN) = slc CN pos10 ![1, (i 0).val / 8 * 8, 0] S1x8x128.size := fun inb => readAt_slc_of arg10 harg10 CN pos10 _ _ _ inb (off32_eq i)
    have hw5 : ∀ (o : Fin S96x1024.rank → Nat) inb, arg5.view.readAt (Elt F) (Rect.unit (s := S96x1024) o S32x128.size inb).toLoadRect (harg5.unread x4) = slc x4 pos5 o S32x128.size := fun o inb => readAt_slc arg5 harg5 x4 pos5 o _ inb
    have hw9 : ∀ (o : Fin S12x4x2x8x128.rank → Nat) inb, arg9.view.readAt (Elt F) (Rect.unit (s := S12x4x2x8x128) o S1x1x1x8x128.size inb).toLoadRect (harg9.unread TBL) = slc TBL pos9 o S1x1x1x8x128.size := fun o inb => readAt_slc arg9 harg9 TBL pos9 o _ inb
    have hw11 : ∀ (o : Fin S12x2x8x128.rank → Nat) inb, arg11.view.readAt (Elt F) (Rect.unit (s := S12x2x8x128) o S1x1x8x128.size inb).toLoadRect (harg11.unread CNT) = slc CNT pos11 o S1x1x8x128.size := fun o inb => readAt_slc arg11 harg11 CNT pos11 o _ inb
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; funext y
      refine View.read_writes_apply_of_pieces _ _ (scB x0 x4 TBL CNT XN) _ ?_ y (View.cover_of_tiledL (s := S224x1024) _ S224x256.size (by sl_kernel_rfl) y)
      refine List.forall_mem_cons.2 ⟨fun x => scB_piece x0 x4 TBL CNT XN 3 768 896 rfl rfl inb_S224x1024_S224x256_0_768 x, List.forall_mem_cons.2 ⟨fun x => scB_piece x0 x4 TBL CNT XN 2 512 640 rfl rfl inb_S224x1024_S224x256_0_512 x, List.forall_mem_cons.2 ⟨fun x => scB_piece x0 x4 TBL CNT XN 1 256 384 rfl rfl inb_S224x1024_S224x256_0_256 x, List.forall_mem_cons.2 ⟨fun x => scB_piece x0 x4 TBL CNT XN 0 0 128 rfl rfl inb_S224x1024_S224x256_0_0 x, fun p hp => absurd hp List.not_mem_nil⟩⟩⟩⟩
    isplitl [H6]
    · iexists _; isplitr; swap; · iexact H6
      ipureintro; funext y
      refine View.read_writes_apply_of_pieces _ _ (tB x2 x3 CN XF (i 0).val) _ ?_ y (View.cover_of_tiledL (s := S28x8x256) _ S1x8x256.size (by sl_kernel_rfl) y)
      refine List.forall_mem_cons.2 ⟨fun x => tB_piece x2 x3 CN XF (i 0).val 27 216 rfl slices_S224x256_o216_0_S8x256 inb_S28x8x256_S1x8x256_27_0_0 x, List.forall_mem_cons.2 ⟨fun x => tB_piece x2 x3 CN XF (i 0).val 26 208 rfl slices_S224x256_o208_0_S8x256 inb_S28x8x256_S1x8x256_26_0_0 x, List.forall_mem_cons.2 ⟨fun x => tB_piece x2 x3 CN XF (i 0).val 25 200 rfl slices_S224x256_o200_0_S8x256 inb_S28x8x256_S1x8x256_25_0_0 x, List.forall_mem_cons.2 ⟨fun x => tB_piece x2 x3 CN XF (i 0).val 24 192 rfl slices_S224x256_o192_0_S8x256 inb_S28x8x256_S1x8x256_24_0_0 x, List.forall_mem_cons.2 ⟨fun x => tB_piece x2 x3 CN XF (i 0).val 23 184 rfl slices_S224x256_o184_0_S8x256 inb_S28x8x256_S1x8x256_23_0_0 x, List.forall_mem_cons.2 ⟨fun x => tB_piece x2 x3 CN XF (i 0).val 22 176 rfl slices_S224x256_o176_0_S8x256 inb_S28x8x256_S1x8x256_22_0_0 x, List.forall_mem_cons.2 ⟨fun x => tB_piece x2 x3 CN XF (i 0).val 21 168 rfl slices_S224x256_o168_0_S8x256 inb_S28x8x256_S1x8x256_21_0_0 x, List.forall_mem_cons.2 ⟨fun x => tB_piece x2 x3 CN XF (i 0).val 20 160 rfl slices_S224x256_o160_0_S8x256 inb_S28x8x256_S1x8x256_20_0_0 x, List.forall_mem_cons.2 ⟨fun x => tB_piece x2 x3 CN XF (i 0).val 19 152 rfl slices_S224x256_o152_0_S8x256 inb_S28x8x256_S1x8x256_19_0_0 x, List.forall_mem_cons.2 ⟨fun x => tB_piece x2 x3 CN XF (i 0).val 18 144 rfl slices_S224x256_o144_0_S8x256 inb_S28x8x256_S1x8x256_18_0_0 x, List.forall_mem_cons.2 ⟨fun x => tB_piece x2 x3 CN XF (i 0).val 17 136 rfl slices_S224x256_o136_0_S8x256 inb_S28x8x256_S1x8x256_17_0_0 x, List.forall_mem_cons.2 ⟨fun x => tB_piece x2 x3 CN XF (i 0).val 16 128 rfl slices_S224x256_o128_0_S8x256 inb_S28x8x256_S1x8x256_16_0_0 x, List.forall_mem_cons.2 ⟨fun x => tB_piece x2 x3 CN XF (i 0).val 15 120 rfl slices_S224x256_o120_0_S8x256 inb_S28x8x256_S1x8x256_15_0_0 x, List.forall_mem_cons.2 ⟨fun x => tB_piece x2 x3 CN XF (i 0).val 14 112 rfl slices_S224x256_o112_0_S8x256 inb_S28x8x256_S1x8x256_14_0_0 x, List.forall_mem_cons.2 ⟨fun x => tB_piece x2 x3 CN XF (i 0).val 13 104 rfl slices_S224x256_o104_0_S8x256 inb_S28x8x256_S1x8x256_13_0_0 x, List.forall_mem_cons.2 ⟨fun x => tB_piece x2 x3 CN XF (i 0).val 12 96 rfl slices_S224x256_o96_0_S8x256 inb_S28x8x256_S1x8x256_12_0_0 x, List.forall_mem_cons.2 ⟨fun x => tB_piece x2 x3 CN XF (i 0).val 11 88 rfl slices_S224x256_o88_0_S8x256 inb_S28x8x256_S1x8x256_11_0_0 x, List.forall_mem_cons.2 ⟨fun x => tB_piece x2 x3 CN XF (i 0).val 10 80 rfl slices_S224x256_o80_0_S8x256 inb_S28x8x256_S1x8x256_10_0_0 x, List.forall_mem_cons.2 ⟨fun x => tB_piece x2 x3 CN XF (i 0).val 9 72 rfl slices_S224x256_o72_0_S8x256 inb_S28x8x256_S1x8x256_9_0_0 x, List.forall_mem_cons.2 ⟨fun x => tB_piece x2 x3 CN XF (i 0).val 8 64 rfl slices_S224x256_o64_0_S8x256 inb_S28x8x256_S1x8x256_8_0_0 x, List.forall_mem_cons.2 ⟨fun x => tB_piece x2 x3 CN XF (i 0).val 7 56 rfl slices_S224x256_o56_0_S8x256 inb_S28x8x256_S1x8x256_7_0_0 x, List.forall_mem_cons.2 ⟨fun x => tB_piece x2 x3 CN XF (i 0).val 6 48 rfl slices_S224x256_o48_0_S8x256 inb_S28x8x256_S1x8x256_6_0_0 x, List.forall_mem_cons.2 ⟨fun x => tB_piece x2 x3 CN XF (i 0).val 5 40 rfl slices_S224x256_o40_0_S8x256 inb_S28x8x256_S1x8x256_5_0_0 x, List.forall_mem_cons.2 ⟨fun x => tB_piece x2 x3 CN XF (i 0).val 4 32 rfl slices_S224x256_o32_0_S8x256 inb_S28x8x256_S1x8x256_4_0_0 x, List.forall_mem_cons.2 ⟨fun x => tB_piece x2 x3 CN XF (i 0).val 3 24 rfl slices_S224x256_o24_0_S8x256 inb_S28x8x256_S1x8x256_3_0_0 x, List.forall_mem_cons.2 ⟨fun x => tB_piece x2 x3 CN XF (i 0).val 2 16 rfl slices_S224x256_o16_0_S8x256 inb_S28x8x256_S1x8x256_2_0_0 x, List.forall_mem_cons.2 ⟨fun x => tB_piece x2 x3 CN XF (i 0).val 1 8 rfl slices_S224x256_o8_0_S8x256 inb_S28x8x256_S1x8x256_1_0_0 x, List.forall_mem_cons.2 ⟨fun x => tB_piece x2 x3 CN XF (i 0).val 0 0 rfl slices_S224x256_o0_0_S8x256 inb_S28x8x256_S1x8x256_0_0_0 x, fun p hp => absurd hp List.not_mem_nil⟩⟩⟩⟩⟩⟩⟩⟩⟩⟩⟩⟩⟩⟩⟩⟩⟩⟩⟩⟩⟩⟩⟩⟩⟩⟩⟩⟩
    isplitl [HS0]
    · iexists _, _; isplitr; swap; · iexact HS0
      ipureintro; rfl
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    isplitl [HS4]
    · iexists _; isplitr; · ipureintro; exact harg12.read_unread _
      iexact HS4
    iexists _; isplitr; · ipureintro; exact harg13.read_unread _
    iexact HS5

end Cert.Kernel.Gen

end
-- ==== Proof.BFrame.lean ====
/- The grid loop: what every point leaves in the scratch buffers and in the two results, and the run of the whole program. -/
module

public import proofs.«01_k».proof.Proof.BInit
public import proofs.«01_k».proof.Proof.BRun

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sg0 (t : Fin cfg0.N) : Memref sig .tc .vmem S224x1536 .bf16 := win0_0.stage (cfg0.slots t 0)
abbrev sg1 (t : Fin cfg0.N) : Memref sig .tc .vmem S224x1536 .bf16 := win0_1.stage (cfg0.slots t 1)
abbrev sg2 (t : Fin cfg0.N) : Memref sig .tc .vmem S1536x256 .i8 := win0_2.stage (cfg0.slots t 2)
abbrev sg3 (t : Fin cfg0.N) : Memref sig .tc .vmem S96x1 .f32 := win0_3.stage (cfg0.slots t 3)
abbrev sg4 (t : Fin cfg0.N) : Memref sig .tc .vmem S96x1024 .i8 := win0_4.stage (cfg0.slots t 4)
abbrev sg5 (t : Fin cfg0.N) : Memref sig .tc .vmem S224x1024 .bf16 := win0_5.stage (cfg0.slots t 5)
abbrev sg6 (t : Fin cfg0.N) : Memref sig .tc .vmem S28x8x256 .f32 := win0_6.stage (cfg0.slots t 6)
abbrev sq0 : Memref sig .tc .vmem S2x384x128 .i32 := Memref.whole cc0_scratch0
abbrev sq1 : Memref sig .tc .vmem S12x4x2x8x128 .i32 := Memref.whole cc0_scratch1
abbrev sq2 : Memref sig .tc .vmem S2x96x128 .f32 := Memref.whole cc0_scratch2
abbrev sq3 : Memref sig .tc .vmem S12x2x8x128 .f32 := Memref.whole cc0_scratch3
abbrev sq4 : Memref sig .tc .vmem S224x128 .f32 := Memref.whole cc0_scratch4
abbrev sq5 : Memref sig .tc .vmem S12x8x28x128 .f32 := Memref.whole cc0_scratch5

/-- The body's branch is taken at the first point only. -/
theorem cond_iff : ∀ t : Fin cfg0.N, (Scalar.cmpi .ne (Scalar.extui (Scalar.cmpi .eq (BitVec.ofNat 32 (grid0.coords t 0).val) 0#32)) 0#32) = 1#1 ↔ t.val = 0 :=
  (fun t => by
    have ht : t.val < 96 := Nat.lt_of_lt_of_eq t.isLt N_0
    have e0 : (grid0.coords t 0).val = t.val / 1 % 96 := Pipeline.Grid.coords_val t 0 (by decide) rfl
    simp only [e0]
    word_cmp
   : ∀ t : Fin grid0.N, (Scalar.cmpi .ne (Scalar.extui (Scalar.cmpi .eq (BitVec.ofNat 32 (grid0.coords t 0).val) 0#32)) 0#32) = 1#1 ↔ t.val = 0)

/-- The invariant before the first point: every scratch buffer at some contents. -/
theorem PhiA_own (c : Dev nD) :
    (Pipeline.ΦA spec0 c : sProp 𝕄) = iprop(iprop((∃ d, owns (c : Thread nD τ) sq0 fullShare d) ∗ (∃ d, owns (c : Thread nD τ) sq1 fullShare d) ∗ (∃ d, owns (c : Thread nD τ) sq2 fullShare d) ∗ (∃ d, owns (c : Thread nD τ) sq3 fullShare d) ∗ (∃ d, owns (c : Thread nD τ) sq4 fullShare d) ∗ (∃ d, owns (c : Thread nD τ) sq5 fullShare d)) ∗ (∃ r, prngReg c r)) := by
  unfold Pipeline.ΦA; rw [scopedRest0_eq]; simp only [sq0, sq1, sq2, sq3, sq4, sq5, owns_whole]; try rfl

theorem N_pos : 0 < cfg0.N := by rw [show cfg0.N = 96 from N_0]; decide

/-- The first grid point. -/
def tz : Fin cfg0.N := ⟨0, N_pos⟩

/-- The whole query array, the codebook bytes and the scales: the same block at every point. -/
abbrev X1 (c : Dev nD) : Vec F S224x1536 .bf16 := iblk m c 1 tz
abbrev X2 (c : Dev nD) : Vec F S1536x256 .i8 := iblk m c 2 tz
abbrev X3 (c : Dev nD) : Vec F S96x1 .f32 := iblk m c 3 tz

theorem X1_eq (c : Dev nD) (t : Fin cfg0.N) : iblk m c 1 t = X1 m c := rfl
theorem X2_eq (c : Dev nD) (t : Fin cfg0.N) : iblk m c 2 t = X2 m c := rfl
theorem X3_eq (c : Dev nD) (t : Fin cfg0.N) : iblk m c 3 t = X3 m c := rfl

/-- The invariant after a point: the tables filled from the constant inputs. -/
def PhiT (c : Dev nD) : sProp 𝕄 :=
  iprop(iprop((∃ d, owns (c : Thread nD τ) sq0 fullShare d) ∗ owns (c : Thread nD τ) sq1 fullShare (tblV (X2 m c)) ∗ owns (c : Thread nD τ) sq2 fullShare (cnV (X2 m c) (X3 m c)) ∗ owns (c : Thread nD τ) sq3 fullShare (cntV (X2 m c) (X3 m c)) ∗ owns (c : Thread nD τ) sq4 fullShare (xnV (X1 m c)) ∗ owns (c : Thread nD τ) sq5 fullShare (xfV (X1 m c))) ∗ (∃ r, prngReg c r))

/-- The scores block and the table block of point `t`. -/
def outS (c : Dev nD) (t : Fin cfg0.N) : Vec F S224x1024 .bf16 := scB (iblk m c 0 t) (iblk m c 4 t) (tblV (X2 m c)) (cntV (X2 m c) (X3 m c)) (xnV (X1 m c))
def outT (c : Dev nD) (t : Fin cfg0.N) : Vec F S28x8x256 .f32 := tB (X2 m c) (X3 m c) (cnV (X2 m c) (X3 m c)) (xfV (X1 m c)) (grid0.coords t 0).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outS m c t
    | ⟨6, _⟩ => outT m c t
  Φ t := if t.val = 0 then Pipeline.ΦA spec0 c else PhiT m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outS m c t := by dsimp only [dats]
theorem after0_6 (c : Dev nD) (t : Fin cfg0.N) : (dats m 0 c).after 6 t = outT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem Phi_zero (c : Dev nD) (t : Fin (cfg0.N + 1)) (h : t.val = 0) : (dats m 0 c).Φ t = Pipeline.ΦA spec0 c := by
  dsimp only [dats]; exact if_pos h
theorem Phi_pos (c : Dev nD) (t : Fin (cfg0.N + 1)) (h : ¬t.val = 0) : (dats m 0 c).Φ t = PhiT m c := by
  dsimp only [dats]; exact if_neg h

def bodyPre (c : Dev nD) (t : Fin cfg0.N) : sProp 𝕄 :=
  iprop((dats m 0 c).Φ t.castSucc ∗ (dats m 0 c).owesAt () t.castSucc ∗ (∃ d, owns (c : Thread nD τ) (sg0 t) fullShare ((dats m 0 c).before 0 t d)) ∗ (∃ d, owns (c : Thread nD τ) (sg1 t) fullShare ((dats m 0 c).before 1 t d)) ∗ (∃ d, owns (c : Thread nD τ) (sg2 t) fullShare ((dats m 0 c).before 2 t d)) ∗ (∃ d, owns (c : Thread nD τ) (sg3 t) fullShare ((dats m 0 c).before 3 t d)) ∗ (∃ d, owns (c : Thread nD τ) (sg4 t) fullShare ((dats m 0 c).before 4 t d)) ∗ (∃ d, owns (c : Thread nD τ) (sg5 t) fullShare ((dats m 0 c).before 5 t d)) ∗ (∃ d, owns (c : Thread nD τ) (sg6 t) fullShare ((dats m 0 c).before 6 t d)))

def bodyPost (c : Dev nD) (t : Fin cfg0.N) : sProp 𝕄 :=
  iprop((dats m 0 c).Φ t.succ ∗ (dats m 0 c).owesAt () t.succ ∗ owns (c : Thread nD τ) (sg0 t) fullShare ((dats m 0 c).after 0 t) ∗ owns (c : Thread nD τ) (sg1 t) fullShare ((dats m 0 c).after 1 t) ∗ owns (c : Thread nD τ) (sg2 t) fullShare ((dats m 0 c).after 2 t) ∗ owns (c : Thread nD τ) (sg3 t) fullShare ((dats m 0 c).after 3 t) ∗ owns (c : Thread nD τ) (sg4 t) fullShare ((dats m 0 c).after 4 t) ∗ owns (c : Thread nD τ) (sg5 t) fullShare ((dats m 0 c).after 5 t) ∗ owns (c : Thread nD τ) (sg6 t) fullShare ((dats m 0 c).after 6 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, X1_eq m c t, X2_eq m c t, X3_eq m c t,
    Phi_pos m c t.succ (Nat.succ_ne_zero _)]
  by_cases h0 : t.val = 0
  · rw [Phi_zero m c t.castSucc h0, PhiA_own, body_first (hc := (cond_iff t).mpr h0), wp_bind]
    unfold PhiT outS outT
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
    iapply (run_init c (grid0.coords t) _ _ _ _ _ _ _ _ _ _ _ _ _ _ _ _ _ _ _ _ _ _ _ _ _ _ (X1 m c) (X2 m c) (X3 m c) Set.univ _)
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H1, H2, H3, HS0, HS1, HS2, HS3, HS4, HS5⟩
    iapply (run_tail c (grid0.coords t) _ _ _ _ _ _ _ _ _ _ _ _ _ _ _ _ _ _ _ _ _ _ _ _ _ _ (iblk m c 0 t) (X1 m c) (X2 m c) (X3 m c) (iblk m c 4 t) (tblV (X2 m c)) (cnV (X2 m c) (X3 m c)) (cntV (X2 m c) (X3 m c)) (xnV (X1 m c)) (xfV (X1 m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi_pos m c t.castSucc h0, body_later (hc := fun h => h0 ((cond_iff t).mp h))]
    unfold PhiT outS outT
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
    iapply (run_tail c (grid0.coords t) _ _ _ _ _ _ _ _ _ _ _ _ _ _ _ _ _ _ _ _ _ _ _ _ _ _ (iblk m c 0 t) (X1 m c) (X2 m c) (X3 m c) (iblk m c 4 t) (tblV (X2 m c)) (cnV (X2 m c) (X3 m c)) (cntV (X2 m c) (X3 m c)) (xnV (X1 m c)) (xfV (X1 m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_out (c : Dev nD) : PhiT m c ⊢ (Pipeline.ΦA spec0 c : sProp 𝕄) := by
  rw [PhiA_own]
  unfold PhiT
  iintro ⟨⟨HS0, HS1, HS2, HS3, HS4, HS5⟩, Hg⟩
  isplitl [HS0 HS1 HS2 HS3 HS4 HS5]
  · isplitl [HS0]
    · iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl]) (hout := fun c => by rw [Phi_pos m c (Fin.last _) (by rw [Fin.val_last]; exact N_pos.ne')]; exact Phi_out m c)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 1).trans (((dats m 0 c).arrAt_in 1 rfl _).trans ((A_eq m c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans ((A_eq m c 4).trans (V_main_arg3 m c)))⟩, h.2⟩) (run_main_quiescent m ρ)

end Cert.Kernel.Gen

end
-- ==== Proof.KHost.lean ====
/- The arrays that the host prepares for the kernel, element by element. -/
module

public import proofs.«01_k».proof.Proof.KSpec
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- An element of a reshaped array is the element of the same row-major number. -/
theorem cast_at {s t : Shape} {α : Type} (x : s.Idx → α) (h : s.ShapeCasts t) (j : t.Idx) (y : s.Idx) (hv : (s.rowMajor y : Nat) = (t.rowMajor j : Nat)) :
    shapeCast t x h j = x y := congrArg x (Shape.reshapeEquiv_eq_of_vals h j y _ _ rfl rfl hv)

/-- The subspace, and the dimension within it, that row `r` of the decoded codes belongs to. -/
def rowM (r : Nat) : Nat := r / 512 * 32 + r % 32 / 4 * 4 + r / 128 % 4
def rowD (r : Nat) : Nat := r / 32 % 4 * 4 + r % 4

theorem rowM_lt (r : Nat) (h : r < 1536) : rowM r < 96 := by unfold rowM; omega
theorem rowD_lt (r : Nat) : rowD r < 16 := by unfold rowD; omega

theorem V_ct (c : Dev nD) : V m c main_v1 = shapeCast S1536x256 (transpose S96x16x256 [0, 2, 1] (m ((c : Thread nD τ).loc main_arg1)) transposes_S96x256x16_S96x16x256_0_2_1) shapeCasts_S96x16x256_S1536x256 := by
  show StableHlo.after hostOps0 _ (Proc.devRef .tc main_v1) = _
  after_results
  rfl

theorem V_sc (c : Dev nD) : V m c main_v13 = shapeCast S96x1 (m ((c : Thread nD τ).loc main_arg2)) shapeCasts_S96_S96x1 := by
  show StableHlo.after hostOps0 _ (Proc.devRef .tc main_v13) = _
  after_results
  rfl

theorem V_xp (c : Dev nD) : V m c main_v12 = truncf .bf16 (shapeCast S224x1536 (transpose S224x3x4x4x8x4 [0, 1, 3, 4, 2, 5] (shapeCast S224x3x8x4x4x4
    (mulf (extf .f32 (shapeCast S224x96x16 (m ((c : Thread nD τ).loc main_arg0)) shapeCasts_S224x1536_S224x96x16) bitsLt_bf16_f32 : FVec Ideal S224x96x16 .f32)
      (broadcastInDim S224x96x16 ![0, 1, 2] bcast_S1x96x1_S224x96x16_0_1_2 (broadcastInDim S1x96x1 ![1] bcast_S96_S1x96x1_1 (mulf (broadcastInDim S96 ![] bcast_S_S96 (constant S_ .f32 0xC0000000#32)) (m ((c : Thread nD τ).loc main_arg2))))))
    shapeCasts_S224x96x16_S224x3x8x4x4x4) transposes_S224x3x8x4x4x4_S224x3x4x4x8x4_0_1_3_4_2_5) shapeCasts_S224x3x4x4x8x4_S224x1536) bitsLt_bf16_f32 := by
  show StableHlo.after hostOps0 _ (Proc.devRef .tc main_v12) = _
  after_results
  rfl

/-- The three arguments as plain arrays. -/
abbrev aX (c : Dev nD) : FVec Ideal S224x1536 .bf16 := m ((c : Thread nD τ).loc main_arg0)
abbrev aC (c : Dev nD) : IVec S96x256x16 8 := m ((c : Thread nD τ).loc main_arg1)
abbrev aS (c : Dev nD) : FVec Ideal S96 .f32 := m ((c : Thread nD τ).loc main_arg2)
abbrev aK (c : Dev nD) : IVec S96x98304 8 := m ((c : Thread nD τ).loc main_arg3)

theorem ct_apply (c : Dev nD) (r : Fin 1536) (k : Fin 256) :
    V m c main_v1 (ix2 r k) = aC m c (ix3 ⟨r.val / 16, by omega⟩ k ⟨r.val % 16, by omega⟩) := by
  rw [V_ct]
  refine Eq.trans (cast_at _ _ _ (ix3 ⟨r.val / 16, by omega⟩ ⟨r.val % 16, by omega⟩ k) (by
    rw [rowMajor_val2 _ 256 rfl, rowMajor_val3 _ 4096 256 rfl rfl]
    show r.val / 16 * 4096 + r.val % 16 * 256 + k.val = r.val * 256 + k.val
    omega)) ?_
  rw [Pointwise.transpose_apply]
  congr 1
  funext a
  fin_cases a <;> rfl

theorem sc_apply (c : Dev nD) (i : Fin 96) : V m c main_v13 (ix2 i 0) = aS m c (ix1 i) := by
  rw [V_sc]
  refine cast_at _ _ _ (ix1 i) (by
    rw [rowMajor_val2 _ 1 rfl, rowMajor_val1]
    show i.val = i.val * 1 + 0
    omega)

theorem xp_apply (c : Dev nD) (q : Fin 224) (r : Fin 1536) :
    V m c main_v12 (ix2 q r) = aX m c (ix2 q ⟨rowM r.val * 16 + rowD r.val, by have := rowM_lt r.val r.isLt; have := rowD_lt r.val; omega⟩)
      * (Ideal.ofBits .f32 0xC0000000#32 * aS m c (ix1 ⟨rowM r.val, rowM_lt r.val r.isLt⟩)) := by
  have hr := r.isLt
  rw [V_xp]
  rw [truncf_apply, Ideal.truncf_def]
  refine Eq.trans (cast_at _ _ _ (ix6 q ⟨r.val / 512, by omega⟩ ⟨r.val / 128 % 4, by omega⟩ ⟨r.val / 32 % 4, by omega⟩ ⟨r.val % 32 / 4, by omega⟩ ⟨r.val % 4, by omega⟩) (by
    rw [rowMajor_val2 _ 1536 rfl, rowMajor_val6 _ 1536 512 128 32 4 rfl rfl rfl rfl rfl]
    show q.val * 1536 + r.val / 512 * 512 + r.val / 128 % 4 * 128 + r.val / 32 % 4 * 32 + r.val % 32 / 4 * 4 + r.val % 4 = q.val * 1536 + r.val
    omega)) ?_
  rw [Pointwise.transpose_apply]
  refine Eq.trans (cast_at _ _ _ (ix3 q ⟨rowM r.val, rowM_lt r.val hr⟩ ⟨rowD r.val, rowD_lt r.val⟩) (by
    rw [rowMajor_val3 _ 1536 16 rfl rfl, rowMajor_val6 _ 1536 512 64 16 4 rfl rfl rfl rfl rfl]
    show q.val * 1536 + rowM r.val * 16 + rowD r.val = q.val * 1536 + r.val / 512 * 512 + r.val % 32 / 4 * 64 + r.val / 128 % 4 * 16 + r.val / 32 % 4 * 4 + r.val % 4
    unfold rowM rowD; omega)) ?_
  rw [mulf_apply, Ideal.mulf_def, extf_apply, Ideal.extf_def]
  congr 1
  · refine cast_at (s := S224x1536) _ _ _ _ ?_
    rw [rowMajor_val2 _ 1536 rfl, rowMajor_val3 _ 1536 16 rfl rfl]
    show q.val * 1536 + (rowM r.val * 16 + rowD r.val) = q.val * 1536 + rowM r.val * 16 + rowD r.val
    omega
  · rw [Pointwise.broadcastInDim_apply, Pointwise.broadcastInDim_apply, mulf_apply, Ideal.mulf_def, Pointwise.broadcastInDim_apply]
    congr 1
    refine congrArg (m _) (funext fun a => ?_)
    fin_cases a; rfl

end Cert.KernelIdeal.Gen

end
-- ==== Proof.KPure.lean ====
/- The lane gather and the unpacked codes, element by element. -/
module

public import proofs.«01_k».proof.Proof.KSpec
public import Idealize.ShloMosaic.Lib.Pointwise
public import Idealize.ShloMosaic.Lib.BitcastFour
public import Idealize.ShloMosaic.Lib.BitcastPair

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A byte table word's four bytes: byte `b` of a word. -/
theorem byte_of_word {R r n : Nat} (x : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) :
    bitcast ⟨2, ![R, n]⟩ 8 x h (ix2 p l) = ((x (ix2 a l)) >>> (8 * (p.val % 4))).setWidth 8 := by
  apply BitVec.eq_of_getLsbD_eq
  intro q hq
  rw [bitcast_getLsbD x h _ q hq (by decide)]
  have hrow : (⟨2, ![R, n]⟩ : Shape).row (ix2 p l) = p.val := rfl
  have h1 : (p.val * 8 + q) / 32 = a.val := by omega
  have h2 : (p.val * 8 + q) % 32 = 8 * (p.val % 4) + q := by omega
  rw [BitVec.getLsbD_setWidth, BitVec.getLsbD_ushiftRight]
  simp only [hq, decide_true, Bool.true_and]
  have key : ∀ (i : (⟨2, ![r, n]⟩ : Shape).Idx) (q' : Nat), i = ix2 a l → q' = 8 * (p.val % 4) + q → (x i).getLsbD q' = (x (ix2 a l)).getLsbD (8 * (p.val % 4) + q) := by
    rintro i q' rfl rfl; rfl
  apply key
  · funext c
    apply Fin.ext
    fin_cases c
    · show ((⟨2, ![R, n]⟩ : Shape).row (ix2 p l) * 8 + q) / 32 = a.val
      rw [hrow]; exact h1
    · rfl
  · rw [hrow]; exact h2

/-- The codes of sublane `s`: byte `b` of its word is row `4 s + b`. -/
theorem codeW_apply (v : Vec Ideal S32x128 .i8) (b : Nat) (hb : b < 4) (s : Fin 8) (l : Fin 128) :
    codeW (BitVec.ofNat 32 (8 * b)) v (ix2 s l) = (v (ix2 (⟨4 * s.val + b, by omega⟩ : Fin 32) l) : BitVec 8).setWidth 32 := by
  have hs : (BitVec.ofNat 32 (8 * b)).toNat = 8 * b := by rw [BitVec.toNat_ofNat]; omega
  have e : codeW (F := Ideal) (BitVec.ofNat 32 (8 * b)) v (ix2 s l)
      = ((bitcast S8x128 32 v bitcasts_S32x128_w8_S8x128_w32 (ix2 s l)) >>> (8 * b)) &&& 255#32 := by
    show IntOp.shrui .vector _ (BitVec.ofNat 32 (8 * b)) &&& 255#32 = _
    unfold IntOp.shrui
    rw [if_pos (by rw [hs]; omega), BitVec.ushiftRight_eq', hs]
  rw [e]
  apply BitVec.eq_of_getLsbD_eq
  intro q hq
  rw [BitVec.getLsbD_and, BitVec.getLsbD_ushiftRight, BitVec.getLsbD_setWidth]
  by_cases h8 : q < 8
  · refine Eq.trans (congrArg (· && _) (bitcast_8_32_getLsbD_ix2 (R := 32) (r := 8) (n := 128) v _ s l (8 * b + q) (by omega) ⟨4 * s.val + b, by omega⟩ (by show 4 * s.val + b = _; omega))) ?_
    have : (255#32).getLsbD q = true := by interval_cases q <;> rfl
    rw [this, Bool.and_true, show (8 * b + q) % 8 = q by omega]
    simp only [hq, decide_true, Bool.true_and]
    exact congrArg (fun i => BitVec.getLsbD (v i) q) (funext fun a => by fin_cases a <;> rfl)
  · have h255 : (255#32).getLsbD q = false := by
      rw [show (255#32) = (255#8).setWidth 32 from rfl, BitVec.getLsbD_setWidth]
      rw [BitVec.getLsbD_of_ge _ _ (by omega), Bool.and_false]
    rw [h255, Bool.and_false, BitVec.getLsbD_of_ge _ _ (by omega), Bool.and_false]

/-- The gather of one code: lane `code % 128` of the low or the high half of the table. -/
theorem gat_apply {α : Type} (cd : IVec S8x128 32) (a b : S8x128.Idx → α) (s : Fin 8) (l : Fin 128) (k : Fin 256) (hk : (cd (ix2 s l)).toNat = k.val) :
    gat cd a b (ix2 s l) = if k.val < 128 then a (ix2 s ⟨k.val % 128, by omega⟩) else b (ix2 s ⟨k.val % 128, by omega⟩) := by
  have hk' := k.isLt
  have hcd : cd (ix2 s l) = BitVec.ofNat 32 k.val := by
    apply BitVec.eq_of_toNat_eq; rw [hk, BitVec.toNat_ofNat]; omega
  have hi : ∀ y : S8x128.Idx → α, dynamicGather 1 y (shapeCast S8x128 (shapeCast S8x128x1 (andi cd (broadcast S8x128 127#32)) shapeCasts_S8x128_S8x128x1) shapeCasts_S8x128x1_S8x128) (ix2 s l)
      = y (ix2 s ⟨k.val % 128, by omega⟩) := by
    intro y
    rw [shapeCast_comp, shapeCast_id]
    rw [dynamicGather_apply]
    congr 1
    funext c
    fin_cases c
    · rfl
    · apply Fin.ext
      show (cd (ix2 s l) &&& 127#32).toNat % 128 = k.val % 128
      rw [hcd, BitVec.toNat_and, BitVec.toNat_ofNat, show (127#32).toNat = 2 ^ 7 - 1 from rfl, Nat.and_two_pow_sub_one_eq_mod]
      omega
  unfold gat
  rw [ValueIdx.select_apply, hi, hi]
  have hc : cmpi .slt cd (broadcast S8x128 128#32) (ix2 s l) = if k.val < 128 then 1#1 else 0#1 := by
    show IntOp.cmpi .slt (cd (ix2 s l)) 128#32 = _
    rw [hcd]
    have hd : ∀ k : Fin 256, IntOp.cmpi .slt (BitVec.ofNat 32 k.val) 128#32 = if k.val < 128 then 1#1 else 0#1 := by decide
    exact hd k
  rw [hc]
  by_cases h : k.val < 128 <;> simp [h, Scalar.select]

end Cert.KernelIdeal.Gen

end
-- ==== Proof.KTab.lean ====
/- The kernel's tables, element by element. -/
module

public import proofs.«01_k».proof.Proof.KHost
public import proofs.«01_k».proof.Proof.KPure
public import proofs.«01_k».proof.Proof.KInit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The value of the codebook byte of subspace `i`, code `k`, dimension `d`. -/
def cbE (C : S96x256x16.Idx → BitVec 8) (i : Fin 96) (k : Fin 256) (d : Fin 16) : EReal := Ideal.ofBits .fp8e4m3 (C (ix3 i k d))

/-- The code of column `n` in subspace `i`. -/
def code {n : Nat} (K : (⟨2, ![96, n]⟩ : Shape).Idx → BitVec 8) (i : Fin 96) (j : Fin n) : Fin 256 := ⟨(K (ix2 i j)).toNat, (K (ix2 i j)).isLt⟩

theorem slc_apply {s : Shape} {α : Type} (X : s.Idx → α) (hs : ∀ a, 0 < s.size a) (o size : Fin s.rank → Nat) (j : (⟨s.rank, size⟩ : Shape).Idx)
    (y : s.Idx) (hy : ∀ a, (y a).val = o a + (j a).val) : slc X hs o size j = X y := by
  unfold slc
  congr 1
  funext a
  apply Fin.ext
  simp only [hy]
  rw [Nat.mod_eq_of_lt (by rw [← hy]; exact (y a).isLt)]

theorem pay4_eq (x2 : Vec Ideal S1536x256 .i8) : k0_pay4 x2 = bitcast S384x256 32 x2 bitcasts_S1536x256_w8_S384x256_w32 := by
  unfold k0_pay4
  rw [shapeCast_id]

theorem tbl_byte (x2 : S1536x256.Idx → BitVec 8) (C : S96x256x16.Idx → BitVec 8)
    (h2 : ∀ (r : Fin 1536) (k : Fin 256), x2 (ix2 r k) = C (ix3 ⟨r.val / 16, by omega⟩ k ⟨r.val % 16, by omega⟩))
    (g : Fin 12) (w : Fin 4) (h : Fin 2) (s : Fin 8) (l : Fin 128) (b : Fin 4) :
    ((tblV (F := Ideal) x2 (ix5 g w h s l) : BitVec 32) >>> (8 * b.val)).setWidth 8
      = C (ix3 ⟨g.val / 4 * 32 + g.val % 4 + 4 * s.val, by omega⟩ ⟨h.val * 128 + l.val, by omega⟩ ⟨w.val * 4 + b.val, by omega⟩) := by
  have hb := b.isLt
  apply BitVec.eq_of_getLsbD_eq
  intro q hq
  rw [BitVec.getLsbD_setWidth, BitVec.getLsbD_ushiftRight]
  simp only [hq, decide_true, Bool.true_and]
  have ha : (g.val / 4 * 32 + g.val % 4) * 4 + w.val + 16 * s.val < 384 := by omega
  have hk : h.val * 128 + l.val < 256 := by omega
  have e : tblV (F := Ideal) x2 (ix5 g w h s l) = k0_pay4 (F := Ideal) x2 (ix2 ⟨_, ha⟩ ⟨_, hk⟩) := rfl
  rw [e, pay4_eq]
  refine Eq.trans (bitcast_8_32_getLsbD_ix2 (R := 1536) (r := 384) (n := 256) x2 _ ⟨_, ha⟩ ⟨_, hk⟩ (8 * b.val + q) (by omega)
    ⟨4 * ((g.val / 4 * 32 + g.val % 4) * 4 + w.val + 16 * s.val) + b.val, by omega⟩ (by show 4 * ((g.val / 4 * 32 + g.val % 4) * 4 + w.val + 16 * s.val) + b.val = 4 * ((g.val / 4 * 32 + g.val % 4) * 4 + w.val + 16 * s.val) + (8 * b.val + q) / 8; omega)) ?_
  have e2 := h2 ⟨4 * ((g.val / 4 * 32 + g.val % 4) * 4 + w.val + 16 * s.val) + b.val, by omega⟩ ⟨_, hk⟩
  have : ∀ y : BitVec 8, y.getLsbD ((8 * b.val + q) % 8) = y.getLsbD q := fun y => by rw [show (8 * b.val + q) % 8 = q by omega]
  rw [this]
  refine congrArg (fun y : BitVec 8 => y.getLsbD q) (e2.trans (congrArg C (funext fun a => ?_)))
  fin_cases a
  · apply Fin.ext; show (4 * ((g.val / 4 * 32 + g.val % 4) * 4 + w.val + 16 * s.val) + b.val) / 16 = g.val / 4 * 32 + g.val % 4 + 4 * s.val; omega
  · rfl
  · apply Fin.ext; show (4 * ((g.val / 4 * 32 + g.val % 4) * 4 + w.val + 16 * s.val) + b.val) % 16 = w.val * 4 + b.val; omega

theorem ldT_apply (TBL : Vec Ideal S12x4x2x8x128 .i32) (g : Fin 12) (w : Fin 4) (h : Fin 2) (s : Fin 8) (l : Fin 128) :
    shapeCast S8x128 (ldT TBL g w h) shapeCasts_S1x1x1x8x128_S8x128 (ix2 s l) = TBL (ix5 g w h s l) := by
  refine Eq.trans (cast_at _ _ _ (ix5 (0 : Fin 1) (0 : Fin 1) (0 : Fin 1) s l) (by
    rw [rowMajor_val2 _ 128 rfl, rowMajor_val5 _ 1024 1024 1024 128 rfl rfl rfl rfl]
    show 0 * 1024 + 0 * 1024 + 0 * 1024 + s.val * 128 + l.val = s.val * 128 + l.val
    omega)) ?_
  refine slc_apply _ _ _ _ _ _ (fun a => ?_)
  fin_cases a
  · show g.val = g.val + 0; omega
  · show w.val = w.val + 0; omega
  · show h.val = h.val + 0; omega
  · show s.val = 0 + s.val; omega
  · show l.val = 0 + l.val; omega

theorem ldU_apply (CNT : Vec Ideal S12x2x8x128 .f32) (g : Fin 12) (h : Fin 2) (s : Fin 8) (l : Fin 128) :
    shapeCast S8x128 (ldU CNT g h) shapeCasts_S1x1x8x128_S8x128 (ix2 s l) = CNT (ix4 g h s l) := by
  refine Eq.trans (cast_at _ _ _ (ix4 (0 : Fin 1) (0 : Fin 1) s l) (by
    rw [rowMajor_val2 _ 128 rfl, rowMajor_val4 _ 1024 1024 128 rfl rfl rfl]
    show 0 * 1024 + 0 * 1024 + s.val * 128 + l.val = s.val * 128 + l.val
    omega)) ?_
  refine slc_apply _ _ _ _ _ _ (fun a => ?_)
  fin_cases a
  · show g.val = g.val + 0; omega
  · show h.val = h.val + 0; omega
  · show s.val = 0 + s.val; omega
  · show l.val = 0 + l.val; omega

theorem code_at (x4 : Vec Ideal S96x1024 .i8) (n : Nat) (hn : n + 128 ≤ 1024) (g : Fin 12) (s : Fin 8) (l : Fin 128) :
    (codeW (BitVec.ofNat 32 (8 * (g.val % 4))) (ldC x4 n (g.val / 4)) (ix2 s l)).toNat
      = (code (n := 1024) x4 ⟨g.val / 4 * 32 + g.val % 4 + 4 * s.val, by omega⟩ ⟨n + l.val, by omega⟩).val := by
  rw [codeW_apply _ _ (by omega)]
  have e : ldC x4 n (g.val / 4) (ix2 (⟨4 * s.val + g.val % 4, by omega⟩ : Fin 32) l) = x4 (ix2 ⟨g.val / 4 * 32 + g.val % 4 + 4 * s.val, by omega⟩ ⟨n + l.val, by omega⟩) := by
    refine slc_apply _ _ _ _ _ _ (fun a => ?_)
    fin_cases a
    · show g.val / 4 * 32 + g.val % 4 + 4 * s.val = g.val / 4 * 32 + (4 * s.val + g.val % 4); omega
    · rfl
  rw [e, BitVec.toNat_setWidth, Nat.mod_eq_of_lt (lt_of_lt_of_le (BitVec.isLt _) (by decide))]
  rfl

/-- One decoded row: the codebook's byte that the code names. -/
theorem dec_apply (x2 : S1536x256.Idx → BitVec 8) (C : S96x256x16.Idx → BitVec 8)
    (h2 : ∀ (r : Fin 1536) (k : Fin 256), x2 (ix2 r k) = C (ix3 ⟨r.val / 16, by omega⟩ k ⟨r.val % 16, by omega⟩))
    (x4 : Vec Ideal S96x1024 .i8) (n : Nat) (hn : n + 128 ≤ 1024) (g : Fin 12) (w : Fin 4) (p : Fin 32) (l : Fin 128) :
    dec (codeW (BitVec.ofNat 32 (8 * (g.val % 4))) (ldC x4 n (g.val / 4))) (ldT (tblV (F := Ideal) x2) g w 0) (ldT (tblV (F := Ideal) x2) g w 1) (ix2 p l)
      = cbE C ⟨g.val / 4 * 32 + g.val % 4 + 4 * (p.val / 4), by omega⟩
          (code (n := 1024) x4 ⟨g.val / 4 * 32 + g.val % 4 + 4 * (p.val / 4), by omega⟩ ⟨n + l.val, by omega⟩) ⟨w.val * 4 + p.val % 4, by omega⟩ := by
  unfold dec
  rw [bitcastToFloat_apply, Ideal.ofBits_def]
  unfold cbE
  congr 1
  refine Eq.trans (byte_of_word (R := 32) (r := 8) (n := 128) _ _ p l ⟨p.val / 4, by omega⟩ rfl) ?_
  have hk := code_at x4 n hn g ⟨p.val / 4, by omega⟩ l
  rw [gat_apply _ _ _ _ _ _ hk]
  generalize code (n := 1024) x4 ⟨g.val / 4 * 32 + g.val % 4 + 4 * (p.val / 4), by omega⟩ ⟨n + l.val, by omega⟩ = k
  have e0 := ldT_apply (tblV (F := Ideal) x2) g w 0 ⟨p.val / 4, by omega⟩ ⟨k.val % 128, by omega⟩
  have e1 := ldT_apply (tblV (F := Ideal) x2) g w 1 ⟨p.val / 4, by omega⟩ ⟨k.val % 128, by omega⟩
  have hk := k.isLt
  have t0 := tbl_byte x2 C h2 g w 0 ⟨p.val / 4, by omega⟩ ⟨k.val % 128, by omega⟩ ⟨p.val % 4, by omega⟩
  have t1 := tbl_byte x2 C h2 g w 1 ⟨p.val / 4, by omega⟩ ⟨k.val % 128, by omega⟩ ⟨p.val % 4, by omega⟩
  by_cases h : k.val < 128
  · rw [if_pos h]
    refine Eq.trans (congrArg (fun y : BitVec 32 => (y >>> (8 * (p.val % 4))).setWidth 8) e0) (t0.trans (congrArg C (funext fun a => ?_)))
    fin_cases a
    · rfl
    · apply Fin.ext; show 0 * 128 + k.val % 128 = k.val; omega
    · rfl
  · rw [if_neg h]
    refine Eq.trans (congrArg (fun y : BitVec 32 => (y >>> (8 * (p.val % 4))).setWidth 8) e1) (t1.trans (congrArg C (funext fun a => ?_)))
    fin_cases a
    · rfl
    · apply Fin.ext; show 1 * 128 + k.val % 128 = k.val; omega
    · rfl

/-- One gathered squared length. -/
theorem nrm_apply (x2 : Vec Ideal S1536x256 .i8) (x3 : Vec Ideal S96x1 .f32) (x4 : Vec Ideal S96x1024 .i8) (n : Nat) (hn : n + 128 ≤ 1024) (g : Fin 12) (s : Fin 8) (l : Fin 128) :
    nrm (codeW (BitVec.ofNat 32 (8 * (g.val % 4))) (ldC x4 n (g.val / 4))) (ldU (cntV x2 x3) g 0) (ldU (cntV x2 x3) g 1) (ix2 s l)
      = k0_pay3 x2 x3 (ix2 ⟨g.val / 4 * 32 + g.val % 4 + 4 * s.val, by omega⟩
          (code (n := 1024) x4 ⟨g.val / 4 * 32 + g.val % 4 + 4 * s.val, by omega⟩ ⟨n + l.val, by omega⟩)) := by
  unfold nrm
  have hk := code_at x4 n hn g s l
  rw [gat_apply _ _ _ _ _ _ hk]
  generalize code (n := 1024) x4 ⟨g.val / 4 * 32 + g.val % 4 + 4 * s.val, by omega⟩ ⟨n + l.val, by omega⟩ = k
  have hk := k.isLt
  have e0 := ldU_apply (cntV x2 x3) g 0 s ⟨k.val % 128, by omega⟩
  have e1 := ldU_apply (cntV x2 x3) g 1 s ⟨k.val % 128, by omega⟩
  by_cases h : k.val < 128
  · rw [if_pos h]
    refine e0.trans (congrArg (k0_pay3 x2 x3) (funext fun a => ?_))
    fin_cases a
    · rfl
    · apply Fin.ext; show 0 * 128 + k.val % 128 = k.val; omega
  · rw [if_neg h]
    refine e1.trans (congrArg (k0_pay3 x2 x3) (funext fun a => ?_))
    fin_cases a
    · rfl
    · apply Fin.ext; show 1 * 128 + k.val % 128 = k.val; omega

end Cert.KernelIdeal.Gen

end
-- ==== Proof.KVal.lean ====
/- The values of one grid point, element by element. -/
module

public import proofs.«01_k».proof.Proof.KTab
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The 48 decoded pieces, joined: row `r` of the decoded codes. -/
theorem hd_piece (Cc : Nat → Vec Ideal S32x128 .i8) (T : Nat → Nat → Nat → Vec Ideal S1x1x1x8x128 .i32) (r : Fin 1536) (l : Fin 128) :
    hd Cc T (ix2 r l) = dec (codeW (BitVec.ofNat 32 (8 * (r.val / 128 % 4))) (Cc (r.val / 128 / 4))) (T (r.val / 128) (r.val / 32 % 4) 0) (T (r.val / 128) (r.val / 32 % 4) 1)
      (ix2 ⟨r.val % 32, by omega⟩ l) := by
  have hr := r.isLt
  refine Eq.trans (concatenate_ofFn_apply (t := S1536x128) (s₁ := S32x128) 0 (N := 48) (fun n : Fin 48 =>
      dec (codeW (BitVec.ofNat 32 (8 * (n.val / 4 % 4))) (Cc (n.val / 4 / 4))) (T (n.val / 4) (n.val % 4) 0) (T (n.val / 4) (n.val % 4) 1)) _ rfl 32 rfl
      (ix2 r l) ⟨r.val / 32, by omega⟩ rfl (ix2 ⟨r.val % 32, by omega⟩ l) rfl (fun b hb => ?_)) ?_
  · fin_cases b
    · exact absurd rfl hb
    · rfl
  · show dec (codeW (BitVec.ofNat 32 (8 * (r.val / 32 / 4 % 4))) (Cc (r.val / 32 / 4 / 4))) (T (r.val / 32 / 4) (r.val / 32 % 4) 0) (T (r.val / 32 / 4) (r.val / 32 % 4) 1) _ = _
    rw [show r.val / 32 / 4 = r.val / 128 by omega]

/-- The squared lengths that 8 sublanes gather, over the 12 groups of subspaces. -/
theorem hs_sum (Cc : Nat → Vec Ideal S32x128 .i8) (U : Nat → Nat → Vec Ideal S1x1x8x128 .f32) (s : Fin 8) (l : Fin 128) :
    hs Cc U (ix2 s l) = ∑ g : Fin 12, nrm (codeW (BitVec.ofNat 32 (8 * (g.val % 4))) (Cc (g.val / 4))) (U g 0) (U g 1) (ix2 s l) := by
  have e : hs Cc U (ix2 s l) = (Ideal.ofBits .f32 0x00000000#32 : EReal) + nrm (codeW 0#32 (Cc 0)) (U 0 0) (U 0 1) (ix2 s l) + nrm (codeW 8#32 (Cc 0)) (U 1 0) (U 1 1) (ix2 s l) + nrm (codeW 16#32 (Cc 0)) (U 2 0) (U 2 1) (ix2 s l) + nrm (codeW 24#32 (Cc 0)) (U 3 0) (U 3 1) (ix2 s l) + nrm (codeW 0#32 (Cc 1)) (U 4 0) (U 4 1) (ix2 s l) + nrm (codeW 8#32 (Cc 1)) (U 5 0) (U 5 1) (ix2 s l) + nrm (codeW 16#32 (Cc 1)) (U 6 0) (U 6 1) (ix2 s l) + nrm (codeW 24#32 (Cc 1)) (U 7 0) (U 7 1) (ix2 s l) + nrm (codeW 0#32 (Cc 2)) (U 8 0) (U 8 1) (ix2 s l) + nrm (codeW 8#32 (Cc 2)) (U 9 0) (U 9 1) (ix2 s l) + nrm (codeW 16#32 (Cc 2)) (U 10 0) (U 10 1) (ix2 s l) + nrm (codeW 24#32 (Cc 2)) (U 11 0) (U 11 1) (ix2 s l) := rfl
  rw [e, Ideal.ofBits_zero_f32]
  simp only [Fin.sum_univ_castSucc, Fin.sum_univ_zero]
  rfl

theorem hn_apply (Cc : Nat → Vec Ideal S32x128 .i8) (U : Nat → Nat → Vec Ideal S1x1x8x128 .f32) (l : Fin 128) :
    hn Cc U (ix2 0 l) = ∑ s : Fin 8, hs Cc U (ix2 s l) := by
  unfold hn
  refine Eq.trans (cast_at _ _ _ (ix1 l) (by rw [rowMajor_val2 _ 128 rfl, rowMajor_val1]; show l.val = 0 * 128 + l.val; omega)) ?_
  pointwise

theorem chunk_apply (xp : Vec Ideal S224x1536 .bf16) (xn : Vec Ideal S224x128 .f32) (T : Nat → Nat → Nat → Vec Ideal S1x1x1x8x128 .i32)
    (U : Nat → Nat → Vec Ideal S1x1x8x128 .f32) (Cc C' : Nat → Vec Ideal S32x128 .i8) (q : Fin 224) (j : Fin 256) :
    chunk xp xn T U Cc C' (ix2 q j)
      = (∑ r : Fin 1536, xp (ix2 q r) * hd (if j.val < 128 then Cc else C') T (ix2 r ⟨j.val % 128, by omega⟩))
        + hn (if j.val < 128 then Cc else C') U (ix2 0 ⟨j.val % 128, by omega⟩) + xn (ix2 q ⟨j.val % 128, by omega⟩) := by
  unfold chunk
  pointwise
  have hj := j.isLt
  by_cases hc : j.val < 128
  · simp only [hc, dite_true, if_true]
    have e : (⟨j.val, hc⟩ : Fin 128) = ⟨j.val % 128, by omega⟩ := Fin.ext (by show j.val = j.val % 128; omega)
    simp only [e]
  · simp only [hc, dite_false, if_false]
    have e : (⟨j.val - 128, by omega⟩ : Fin 128) = ⟨j.val % 128, by omega⟩ := Fin.ext (by show j.val - 128 = j.val % 128; omega)
    simp only [e]

/-- Lane `l` of a row belongs to subspace `l / 16`. -/
theorem mask_apply : ∀ (i : Fin 8) (l : Fin 128), k0_pay1230 (ix2 i l) = if l.val / 16 = i.val then 1#1 else 0#1 := by
  decide +kernel

theorem lrow_apply (r : Vec Ideal S1x1x1x128 .f32) (i : Fin 8) (l : Fin 128) :
    lrow r (ix2 i l) = if l.val / 16 = i.val then r (ix4 0 0 0 l) else 0 := by
  unfold lrow
  rw [ValueIdx.select_apply, mask_apply]
  by_cases h : l.val / 16 = i.val
  · simp only [if_pos h]
    pointwise
  · simp only [if_neg h]
    pointwise

theorem lnorm_apply (r : Vec Ideal S1x1x1x128 .f32) (i : Fin 8) : lnorm r (ix2 i 0) = ∑ l : Fin 128, lrow r (ix2 i l) * lrow r (ix2 i l) := by
  unfold lnorm
  refine Eq.trans (cast_at _ _ _ (ix1 i) (by rw [rowMajor_val2 _ 1 rfl, rowMajor_val1]; show i.val = i.val * 1 + 0; omega)) ?_
  pointwise

theorem ldot_apply (R : Nat → Vec Ideal S1x1x1x128 .f32) (ct : Vec Ideal S128x256 .i8) (q : Fin 28) (i : Fin 8) (k : Fin 256) :
    ldot R ct (ix2 ⟨q.val * 8 + i.val, by omega⟩ k) = ∑ l : Fin 128, lrow (R q) (ix2 i l) * Ideal.ofBits .fp8e4m3 (ct (ix2 l k)) := by
  unfold ldot
  have hc : ∀ l : Fin 128, concatenate S224x128 0 [⟨S8x128, lrow (R 0)⟩, ⟨S8x128, lrow (R 1)⟩, ⟨S8x128, lrow (R 2)⟩, ⟨S8x128, lrow (R 3)⟩, ⟨S8x128, lrow (R 4)⟩, ⟨S8x128, lrow (R 5)⟩, ⟨S8x128, lrow (R 6)⟩, ⟨S8x128, lrow (R 7)⟩, ⟨S8x128, lrow (R 8)⟩, ⟨S8x128, lrow (R 9)⟩, ⟨S8x128, lrow (R 10)⟩, ⟨S8x128, lrow (R 11)⟩, ⟨S8x128, lrow (R 12)⟩, ⟨S8x128, lrow (R 13)⟩, ⟨S8x128, lrow (R 14)⟩, ⟨S8x128, lrow (R 15)⟩, ⟨S8x128, lrow (R 16)⟩, ⟨S8x128, lrow (R 17)⟩, ⟨S8x128, lrow (R 18)⟩, ⟨S8x128, lrow (R 19)⟩, ⟨S8x128, lrow (R 20)⟩, ⟨S8x128, lrow (R 21)⟩, ⟨S8x128, lrow (R 22)⟩, ⟨S8x128, lrow (R 23)⟩, ⟨S8x128, lrow (R 24)⟩, ⟨S8x128, lrow (R 25)⟩, ⟨S8x128, lrow (R 26)⟩, ⟨S8x128, lrow (R 27)⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S224x128_d0 (ix2 ⟨q.val * 8 + i.val, by omega⟩ l) = lrow (R q) (ix2 i l) := by
    intro l
    refine concatenate_ofFn_apply (t := S224x128) (s₁ := S8x128) 0 (N := 28) (fun n : Fin 28 => lrow (R n)) _ rfl 8 rfl (ix2 ⟨q.val * 8 + i.val, by omega⟩ l) q
      (by show (q.val * 8 + i.val) / 8 = q.val; omega) (ix2 i l) (by show i.val = (q.val * 8 + i.val) % 8; omega) (fun b hb => ?_)
    fin_cases b
    · exact absurd rfl hb
    · rfl
  revert hc
  generalize concatenate S224x128 0 _ _ = L
  intro hc
  pointwise
  exact Finset.sum_congr rfl fun l _ => by rw [hc l]

theorem trow_apply (R : Nat → Vec Ideal S1x1x1x128 .f32) (ct : Vec Ideal S128x256 .i8) (sc : Vec Ideal S8x1 .f32) (c0 c1 : Vec Ideal S1x8x128 .f32) (q o : Nat)
    (h : S224x256.Slices ![o, 0] S8x256) (hq : q < 28) (ho : o = q * 8) (i : Fin 8) (k : Fin 256) :
    trow R ct sc c0 c1 q o h (ix3 0 i k) = (lnorm (R q) (ix2 i 0) + (if k.val < 128 then c0 else c1) (ix3 0 i ⟨k.val % 128, by omega⟩))
      - Ideal.ofBits .f32 0x40000000#32 * (ldot R ct (ix2 ⟨q * 8 + i.val, by omega⟩ k) * sc (ix2 i 0)) := by
  unfold trow
  pointwise
  subst ho
  have hk := k.isLt
  by_cases hc : k.val < 128
  · simp only [hc, dite_true, if_true]
    have e : (⟨k.val, hc⟩ : Fin 128) = ⟨k.val % 128, by omega⟩ := Fin.ext (by show k.val = k.val % 128; omega)
    rw [e]
  · simp only [hc, dite_false, if_false]
    have e : (⟨k.val - 128, by omega⟩ : Fin 128) = ⟨k.val % 128, by omega⟩ := Fin.ext (by show k.val - 128 = k.val % 128; omega)
    rw [e]

end Cert.KernelIdeal.Gen

end
-- ==== Proof.KOut.lean ====
/- The elements of the blocks that one grid point writes, from the arrays that it reads. -/
module

public import proofs.«01_k».proof.Proof.KVal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The squared length of a centroid, scaled. -/
theorem pay3_apply (x2 : S1536x256.Idx → BitVec 8) (C : S96x256x16.Idx → BitVec 8)
    (h2 : ∀ (r : Fin 1536) (k : Fin 256), x2 (ix2 r k) = C (ix3 ⟨r.val / 16, by omega⟩ k ⟨r.val % 16, by omega⟩)) (x3 : Vec Ideal S96x1 .f32) (i : Fin 96) (k : Fin 256) :
    k0_pay3 (F := Ideal) x2 x3 (ix2 i k) = (x3 (ix2 i 0) * x3 (ix2 i 0)) * ∑ d : Fin 16, cbE C i k d * cbE C i k d := by
  have e : ∀ d : Fin 16, shapeCast S96x16x256 (extf .f32 (bitcastToFloat (F := Ideal) .fp8e4m3 (shapeCast S1536x256 x2 shapeCasts_S1536x256_S1536x256)) bitsLt_fp8e4m3_f32 : FVec Ideal S1536x256 .f32)
      shapeCasts_S1536x256_S96x16x256 (ix3 i d k) = cbE C i k d := by
    intro d
    have hi := i.isLt
    have hd := d.isLt
    refine Eq.trans (cast_at _ _ _ (ix2 ⟨i.val * 16 + d.val, by omega⟩ k) (by
      rw [rowMajor_val2 _ 256 rfl, rowMajor_val3 _ 4096 256 rfl rfl]
      show (i.val * 16 + d.val) * 256 + k.val = i.val * 4096 + d.val * 256 + k.val
      omega)) ?_
    rw [shapeCast_id, extf_apply, Ideal.extf_def, bitcastToFloat_apply, Ideal.ofBits_def]
    unfold cbE
    congr 1
    refine (h2 _ _).trans (congrArg C (funext fun a => ?_))
    fin_cases a
    · apply Fin.ext; show (i.val * 16 + d.val) / 16 = i.val; omega
    · rfl
    · apply Fin.ext; show (i.val * 16 + d.val) % 16 = d.val; omega
  unfold k0_pay3
  revert e
  generalize shapeCast S96x16x256 _ shapeCasts_S1536x256_S96x16x256 = Y
  intro e
  pointwise
  exact congrArg _ (Finset.sum_congr rfl fun d _ => by rw [e d])

theorem pay144_apply (x1 : Vec Ideal S224x1536 .bf16) (q : Fin 224) (c : Fin 1536) : k0_pay144 x1 (ix2 q c) = x1 (ix2 q c) := by
  unfold k0_pay144
  pointwise

theorem xnV_apply (x1 : Vec Ideal S224x1536 .bf16) (q : Fin 224) (l : Fin 128) : xnV x1 (ix2 q l) = ∑ c : Fin 1536, x1 (ix2 q c) * x1 (ix2 q c) := by
  have h := pay144_apply x1 q
  unfold xnV
  revert h
  generalize k0_pay144 x1 = y
  intro h
  unfold k0_pay251 k0_pay250
  pointwise
  exact Finset.sum_congr rfl fun c _ => by rw [h c]

theorem sub_lt (a b : Nat) (ha : a < 12) (hb : b < 8) : a / 4 * 32 + a % 4 + 4 * b < 96 := by omega

theorem hd_apply (x2 : S1536x256.Idx → BitVec 8) (C : S96x256x16.Idx → BitVec 8)
    (h2 : ∀ (r : Fin 1536) (k : Fin 256), x2 (ix2 r k) = C (ix3 ⟨r.val / 16, by omega⟩ k ⟨r.val % 16, by omega⟩))
    (x4 : Vec Ideal S96x1024 .i8) (n : Nat) (hn : n + 128 ≤ 1024) (r : Fin 1536) (l : Fin 128) :
    hd (ldC x4 n) (ldT (tblV (F := Ideal) x2)) (ix2 r l)
      = cbE C ⟨rowM r.val, rowM_lt r.val r.isLt⟩ (code (n := 1024) x4 ⟨rowM r.val, rowM_lt r.val r.isLt⟩ ⟨n + l.val, by omega⟩) ⟨rowD r.val, rowD_lt r.val⟩ := by
  have hr := r.isLt
  rw [hd_piece]
  have e := dec_apply x2 C h2 x4 n hn ⟨r.val / 128, by omega⟩ ⟨r.val / 32 % 4, by omega⟩ ⟨r.val % 32, by omega⟩ l
  have hb : r.val / 128 / 4 * 32 + r.val / 128 % 4 + 4 * (r.val % 32 / 4) < 96 := by
    have h1 : r.val / 128 < 12 := by omega
    have h2 : r.val % 32 / 4 < 8 := by omega
    exact sub_lt _ _ h1 h2
  have hm : (⟨r.val / 128 / 4 * 32 + r.val / 128 % 4 + 4 * (r.val % 32 / 4), hb⟩ : Fin 96) = ⟨rowM r.val, rowM_lt r.val r.isLt⟩ :=
    Fin.ext (by show r.val / 128 / 4 * 32 + r.val / 128 % 4 + 4 * (r.val % 32 / 4) = rowM r.val; unfold rowM; omega)
  have hd' : (⟨r.val / 32 % 4 * 4 + r.val % 32 % 4, by omega⟩ : Fin 16) = ⟨rowD r.val, rowD_lt r.val⟩ :=
    Fin.ext (by show r.val / 32 % 4 * 4 + r.val % 32 % 4 = rowD r.val; unfold rowD; omega)
  refine e.trans ?_
  simp only [hm, hd']

/-- One score that a grid point writes. -/
theorem scB_apply (x0 : Vec Ideal S224x1536 .bf16) (x1 : Vec Ideal S224x1536 .bf16) (x2 : S1536x256.Idx → BitVec 8) (C : S96x256x16.Idx → BitVec 8)
    (h2 : ∀ (r : Fin 1536) (k : Fin 256), x2 (ix2 r k) = C (ix3 ⟨r.val / 16, by omega⟩ k ⟨r.val % 16, by omega⟩)) (x3 : Vec Ideal S96x1 .f32)
    (x4 : Vec Ideal S96x1024 .i8) (q : Fin 224) (j : Fin 1024) :
    scB (F := Ideal) x0 x4 (tblV x2) (cntV x2 x3) (xnV x1) (ix2 q j)
      = (∑ r : Fin 1536, x0 (ix2 q r) * cbE C ⟨rowM r.val, rowM_lt r.val r.isLt⟩ (code (n := 1024) x4 ⟨rowM r.val, rowM_lt r.val r.isLt⟩ j) ⟨rowD r.val, rowD_lt r.val⟩)
        + (∑ s : Fin 8, ∑ g : Fin 12, k0_pay3 (F := Ideal) x2 x3 (ix2 ⟨g.val / 4 * 32 + g.val % 4 + 4 * s.val, by omega⟩
            (code (n := 1024) x4 ⟨g.val / 4 * 32 + g.val % 4 + 4 * s.val, by omega⟩ j)))
        + ∑ c : Fin 1536, x1 (ix2 q c) * x1 (ix2 q c) := by
  have hj := j.isLt
  have e0 : scB (F := Ideal) x0 x4 (tblV x2) (cntV x2 x3) (xnV x1) (ix2 q j)
      = chunkAt (F := Ideal) x0 (xnV x1) (tblV x2) (cntV x2 x3) x4 (j.val / 256 * 256) (j.val / 256 * 256 + 128) (ix2 q ⟨j.val % 256, by omega⟩) := rfl
  rw [e0]
  unfold chunkAt
  rw [chunk_apply, xnV_apply, hn_apply]
  have key : ∀ n : Nat, n + 128 ≤ 1024 → n + j.val % 256 % 128 = j.val →
      (∑ r : Fin 1536, x0 (ix2 q r) * hd (ldC x4 n) (ldT (tblV (F := Ideal) x2)) (ix2 r ⟨j.val % 256 % 128, by omega⟩))
        + ∑ s : Fin 8, hs (ldC x4 n) (ldU (cntV (F := Ideal) x2 x3)) (ix2 s ⟨j.val % 256 % 128, by omega⟩)
      = (∑ r : Fin 1536, x0 (ix2 q r) * cbE C ⟨rowM r.val, rowM_lt r.val r.isLt⟩ (code (n := 1024) x4 ⟨rowM r.val, rowM_lt r.val r.isLt⟩ j) ⟨rowD r.val, rowD_lt r.val⟩)
        + (∑ s : Fin 8, ∑ g : Fin 12, k0_pay3 (F := Ideal) x2 x3 (ix2 ⟨g.val / 4 * 32 + g.val % 4 + 4 * s.val, by omega⟩
            (code (n := 1024) x4 ⟨g.val / 4 * 32 + g.val % 4 + 4 * s.val, by omega⟩ j))) := by
    intro n hn hnj
    have hJ : (⟨n + j.val % 256 % 128, by omega⟩ : Fin 1024) = j := Fin.ext hnj
    congr 1
    · refine Finset.sum_congr rfl fun r _ => ?_
      have e := hd_apply x2 C h2 x4 n hn r ⟨j.val % 256 % 128, by omega⟩
      rw [hJ] at e
      rw [e]
    · refine Finset.sum_congr rfl fun s _ => ?_
      rw [hs_sum]
      refine Finset.sum_congr rfl fun g _ => ?_
      have e := nrm_apply x2 x3 x4 n hn g s ⟨j.val % 256 % 128, by omega⟩
      rw [hJ] at e
      exact e
  congr 1
  by_cases hc : j.val % 256 < 128
  · simp only [hc, if_true]
    exact key _ (by omega) (by omega)
  · simp only [hc, if_false]
    exact key _ (by omega) (by omega)

/-- A sum over 128 lanes of what is 0 outside the 16 lanes of subspace `i` is the sum over those 16. -/
theorem sum_lanes (i : Fin 8) (f : Fin 128 → EReal) :
    (∑ l : Fin 128, if l.val / 16 = i.val then f l else 0) = ∑ d : Fin 16, f ⟨i.val * 16 + d.val, by omega⟩ := by
  rw [← (finProdFinEquiv (m := 8) (n := 16)).sum_comp (fun l : Fin 128 => if l.val / 16 = i.val then f l else 0), Fintype.sum_prod_type]
  rw [Finset.sum_eq_single i]
  · refine Finset.sum_congr rfl fun d _ => ?_
    have hv : ((finProdFinEquiv (m := 8) (n := 16)) (i, d)).val = d.val + 16 * i.val := rfl
    rw [if_pos (by rw [hv]; omega)]
    congr 1
    apply Fin.ext
    rw [hv]; show d.val + 16 * i.val = i.val * 16 + d.val; omega
  · intro b _ hb
    refine Finset.sum_eq_zero fun d _ => ?_
    have hv : ((finProdFinEquiv (m := 8) (n := 16)) (b, d)).val = d.val + 16 * b.val := rfl
    rw [if_neg]
    rw [hv]
    intro h
    apply hb
    apply Fin.ext
    omega
  · intro h; exact absurd (Finset.mem_univ _) h

/-- One table entry that a grid point writes. -/
theorem tB_apply (x1 : Vec Ideal S224x1536 .bf16) (x2 : S1536x256.Idx → BitVec 8) (C : S96x256x16.Idx → BitVec 8)
    (h2 : ∀ (r : Fin 1536) (k : Fin 256), x2 (ix2 r k) = C (ix3 ⟨r.val / 16, by omega⟩ k ⟨r.val % 16, by omega⟩)) (x3 : Vec Ideal S96x1 .f32)
    (n : Nat) (hn : n < 96) (q : Fin 28) (i : Fin 8) (k : Fin 256) :
    tB (F := Ideal) x2 x3 (cnV x2 x3) (xfV x1) n (ix3 q i k)
      = ((∑ d : Fin 16, x1 (ix2 ⟨n % 8 * 28 + q.val, by omega⟩ ⟨(n / 8 * 8 + i.val) * 16 + d.val, by omega⟩) * x1 (ix2 ⟨n % 8 * 28 + q.val, by omega⟩ ⟨(n / 8 * 8 + i.val) * 16 + d.val, by omega⟩))
          + (x3 (ix2 ⟨n / 8 * 8 + i.val, by omega⟩ 0) * x3 (ix2 ⟨n / 8 * 8 + i.val, by omega⟩ 0)) * ∑ d : Fin 16, cbE C ⟨n / 8 * 8 + i.val, by omega⟩ k d * cbE C ⟨n / 8 * 8 + i.val, by omega⟩ k d)
        - Ideal.ofBits .f32 0x40000000#32 * ((∑ d : Fin 16, x1 (ix2 ⟨n % 8 * 28 + q.val, by omega⟩ ⟨(n / 8 * 8 + i.val) * 16 + d.val, by omega⟩) * cbE C ⟨n / 8 * 8 + i.val, by omega⟩ k d)
            * x3 (ix2 ⟨n / 8 * 8 + i.val, by omega⟩ 0)) := by
  have hi := i.isLt
  have hq := q.isLt
  have hk := k.isLt
  have hx : ∀ l : Fin 128, ldX (xfV x1) n q.val (ix4 0 0 0 l) = x1 (ix2 ⟨n % 8 * 28 + q.val, by omega⟩ ⟨n / 8 * 128 + l.val, by omega⟩) := by
    intro l
    refine Eq.trans (slc_apply _ _ _ _ _ (ix4 (⟨n / 8, by omega⟩ : Fin 12) (⟨n % 8, by omega⟩ : Fin 8) (⟨q.val, by omega⟩ : Fin 28) l) (fun a => ?_)) ?_
    · fin_cases a
      · rfl
      · rfl
      · rfl
      · show l.val = 0 + l.val; omega
    · exact pay144_apply x1 _ _
  have hs3 : slc x3 pos4 ![n / 8 * 8, 0] S8x1.size (ix2 i 0) = x3 (ix2 ⟨n / 8 * 8 + i.val, by omega⟩ 0) := by
    refine slc_apply _ _ _ _ _ _ (fun a => ?_)
    fin_cases a <;> rfl
  have hct : ∀ l : Fin 128, Ideal.ofBits .fp8e4m3 ((slc x2 pos3 ![n / 8 * 128, 0] S128x256.size : Vec Ideal S128x256 .i8) (ix2 l k))
      = cbE C ⟨(n / 8 * 128 + l.val) / 16, by omega⟩ k ⟨(n / 8 * 128 + l.val) % 16, by omega⟩ := by
    intro l
    unfold cbE
    congr 1
    refine Eq.trans (slc_apply _ _ _ _ _ (ix2 ⟨n / 8 * 128 + l.val, by omega⟩ k) (fun a => ?_)) (h2 _ _)
    fin_cases a
    · rfl
    · show k.val = 0 + k.val; omega
  have hcn : (if k.val < 128 then (slc (cnV (F := Ideal) x2 x3) pos10 ![0, n / 8 * 8, 0] S1x8x128.size : Vec Ideal S1x8x128 .f32) else slc (cnV (F := Ideal) x2 x3) pos10 ![1, n / 8 * 8, 0] S1x8x128.size) (ix3 0 i ⟨k.val % 128, by omega⟩)
      = k0_pay3 (F := Ideal) x2 x3 (ix2 ⟨n / 8 * 8 + i.val, by omega⟩ k) := by
    by_cases hc : k.val < 128
    · rw [if_pos hc]
      refine Eq.trans (slc_apply _ _ _ _ _ (ix3 (0 : Fin 2) (⟨n / 8 * 8 + i.val, by omega⟩ : Fin 96) (⟨k.val % 128, by omega⟩ : Fin 128)) (fun a => ?_)) ?_
      · fin_cases a
        · rfl
        · rfl
        · show k.val % 128 = 0 + k.val % 128; omega
      · refine congrArg (k0_pay3 (F := Ideal) x2 x3) (funext fun a => ?_)
        fin_cases a
        · rfl
        · apply Fin.ext; show 0 * 128 + k.val % 128 = k.val; omega
    · rw [if_neg hc]
      refine Eq.trans (slc_apply _ _ _ _ _ (ix3 (1 : Fin 2) (⟨n / 8 * 8 + i.val, by omega⟩ : Fin 96) (⟨k.val % 128, by omega⟩ : Fin 128)) (fun a => ?_)) ?_
      · fin_cases a
        · rfl
        · rfl
        · show k.val % 128 = 0 + k.val % 128; omega
      · refine congrArg (k0_pay3 (F := Ideal) x2 x3) (funext fun a => ?_)
        fin_cases a
        · rfl
        · apply Fin.ext; show 1 * 128 + k.val % 128 = k.val; omega
  have e0 : tB (F := Ideal) x2 x3 (cnV x2 x3) (xfV x1) n (ix3 q i k)
      = trowAt (F := Ideal) (xfV x1) x2 x3 (cnV x2 x3) n q.val (q.val * 8) (slices_T _ (by omega)) (ix3 0 i k) := rfl
  rw [e0]
  unfold trowAt
  rw [trow_apply _ _ _ _ _ _ _ _ hq rfl, hcn, hs3, pay3_apply x2 C h2, lnorm_apply, ldot_apply _ _ q]
  have s1 : (∑ l : Fin 128, lrow (ldX (xfV x1) n q.val) (ix2 i l) * lrow (ldX (xfV x1) n q.val) (ix2 i l))
      = ∑ d : Fin 16, x1 (ix2 ⟨n % 8 * 28 + q.val, by omega⟩ ⟨(n / 8 * 8 + i.val) * 16 + d.val, by omega⟩) * x1 (ix2 ⟨n % 8 * 28 + q.val, by omega⟩ ⟨(n / 8 * 8 + i.val) * 16 + d.val, by omega⟩) := by
    refine Eq.trans (Finset.sum_congr rfl fun l _ => ?_) ((sum_lanes i fun l => x1 (ix2 ⟨n % 8 * 28 + q.val, by omega⟩ ⟨n / 8 * 128 + l.val, by omega⟩) * x1 (ix2 ⟨n % 8 * 28 + q.val, by omega⟩ ⟨n / 8 * 128 + l.val, by omega⟩)).trans
      (Finset.sum_congr rfl fun d _ => ?_))
    · rw [lrow_apply, hx]
      by_cases hl : l.val / 16 = i.val
      · simp only [hl, if_true]
      · simp only [hl, if_false, mul_zero]
    · have hE : (⟨n / 8 * 128 + (i.val * 16 + d.val), by omega⟩ : Fin 1536) = ⟨(n / 8 * 8 + i.val) * 16 + d.val, by omega⟩ := Fin.ext (by show n / 8 * 128 + (i.val * 16 + d.val) = (n / 8 * 8 + i.val) * 16 + d.val; omega)
      simp only [hE]
  have s2 : (∑ l : Fin 128, lrow (ldX (xfV x1) n q.val) (ix2 i l) * Ideal.ofBits .fp8e4m3 ((slc x2 pos3 ![n / 8 * 128, 0] S128x256.size : Vec Ideal S128x256 .i8) (ix2 l k)))
      = ∑ d : Fin 16, x1 (ix2 ⟨n % 8 * 28 + q.val, by omega⟩ ⟨(n / 8 * 8 + i.val) * 16 + d.val, by omega⟩) * cbE C ⟨n / 8 * 8 + i.val, by omega⟩ k d := by
    refine Eq.trans (Finset.sum_congr rfl fun l _ => ?_) ((sum_lanes i fun l => x1 (ix2 ⟨n % 8 * 28 + q.val, by omega⟩ ⟨n / 8 * 128 + l.val, by omega⟩) * cbE C ⟨(n / 8 * 128 + l.val) / 16, by omega⟩ k ⟨(n / 8 * 128 + l.val) % 16, by omega⟩).trans
      (Finset.sum_congr rfl fun d _ => ?_))
    · rw [lrow_apply, hx, hct]
      by_cases hl : l.val / 16 = i.val
      · simp only [hl, if_true]
      · simp only [hl, if_false, zero_mul]
    · have hE : (⟨n / 8 * 128 + (i.val * 16 + d.val), by omega⟩ : Fin 1536) = ⟨(n / 8 * 8 + i.val) * 16 + d.val, by omega⟩ := Fin.ext (by show n / 8 * 128 + (i.val * 16 + d.val) = (n / 8 * 8 + i.val) * 16 + d.val; omega)
      have hM : (⟨(n / 8 * 128 + (i.val * 16 + d.val)) / 16, by omega⟩ : Fin 96) = ⟨n / 8 * 8 + i.val, by omega⟩ := Fin.ext (by show (n / 8 * 128 + (i.val * 16 + d.val)) / 16 = n / 8 * 8 + i.val; omega)
      have hD : (⟨(n / 8 * 128 + (i.val * 16 + d.val)) % 16, by omega⟩ : Fin 16) = d := Fin.ext (by show (n / 8 * 128 + (i.val * 16 + d.val)) % 16 = d.val; omega)
      simp only [hE, hM, hD]
  rw [s1, s2]

end Cert.KernelIdeal.Gen

end
-- ==== Proof.KArr.lean ====
/- The blocks that a grid point reads, and the result arrays after the last grid point. -/
module

public import proofs.«01_k».proof.Proof.KOut
public import proofs.«01_k».proof.Proof.KFrame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat)

variable (m : (ℓ : Loc nD τ sig) → Buf (Elt Ideal) ℓ) (c : Dev nD)

theorem lt_N (t : Fin cfg0.N) : t.val < 96 := Nat.lt_of_lt_of_eq t.isLt N_0

/-- The grid point of number `t`. -/
def gp (t : ℕ) (h : t < 96) : Fin cfg0.N := ⟨t, Nat.lt_of_lt_of_eq h N_0.symm⟩

theorem coord_val (t : Fin cfg0.N) : (grid0.coords t 0).val = t.val := by
  have h : (grid0.coords t 0).val = t.val / 1 % 96 := Pipeline.Grid.coords_val t 0 (by decide) rfl
  have := lt_N t
  omega

theorem ix0 : ∀ t : Fin cfg0.N, win0_0.index t 0 = 0 ∧ win0_0.index t 1 = 0 := (by decide +kernel : ∀ t : Fin grid0.N, win0_0.index t 0 = 0 ∧ win0_0.index t 1 = 0)
theorem ix1' : ∀ t : Fin cfg0.N, win0_1.index t 0 = 0 ∧ win0_1.index t 1 = 0 := (by decide +kernel : ∀ t : Fin grid0.N, win0_1.index t 0 = 0 ∧ win0_1.index t 1 = 0)
theorem ix2' : ∀ t : Fin cfg0.N, win0_2.index t 0 = 0 ∧ win0_2.index t 1 = 0 := (by decide +kernel : ∀ t : Fin grid0.N, win0_2.index t 0 = 0 ∧ win0_2.index t 1 = 0)
theorem ix3' : ∀ t : Fin cfg0.N, win0_3.index t 0 = 0 ∧ win0_3.index t 1 = 0 := (by decide +kernel : ∀ t : Fin grid0.N, win0_3.index t 0 = 0 ∧ win0_3.index t 1 = 0)
theorem ix4' : ∀ t : Fin cfg0.N, win0_4.index t 0 = 0 ∧ win0_4.index t 1 = t.val := (by decide +kernel : ∀ t : Fin grid0.N, win0_4.index t 0 = 0 ∧ win0_4.index t 1 = t.val)
theorem ix5' : ∀ t : Fin cfg0.N, win0_5.index t 0 = 0 ∧ win0_5.index t 1 = t.val := (by decide +kernel : ∀ t : Fin grid0.N, win0_5.index t 0 = 0 ∧ win0_5.index t 1 = t.val)
theorem ix6' : ∀ t : Fin cfg0.N, win0_6.index t 0 = t.val % 8 ∧ win0_6.index t 1 = t.val / 8 ∧ win0_6.index t 2 = 0 := (by decide +kernel : ∀ t : Fin grid0.N, win0_6.index t 0 = t.val % 8 ∧ win0_6.index t 1 = t.val / 8 ∧ win0_6.index t 2 = 0)

theorem blk0 (t : Fin cfg0.N) (i : Fin 224) (j : Fin 1536) : (iblk m c 0 t : Vec Ideal S224x1536 .bf16) (ix2 i j) = V m c main_v12 (ix2 i j) := by
  unfold iblk
  rw [View.read_apply]
  refine congrArg (V m c main_v12) (funext fun a => Fin.ext ?_)
  match a with
  | ⟨0, _⟩ => show win0_0.index t 0 * 224 + 1 * i.val = i.val; rw [(ix0 t).1]; omega
  | ⟨1, _⟩ => show win0_0.index t 1 * 1536 + 1 * j.val = j.val; rw [(ix0 t).2]; omega

theorem blk1 (t : Fin cfg0.N) (i : Fin 224) (j : Fin 1536) : (iblk m c 1 t : Vec Ideal S224x1536 .bf16) (ix2 i j) = aX m c (ix2 i j) := by
  refine Eq.trans ?_ (congrFun (V_main_arg0 m c) (ix2 i j))
  unfold iblk
  rw [View.read_apply]
  refine congrArg (V m c main_arg0) (funext fun a => Fin.ext ?_)
  match a with
  | ⟨0, _⟩ => show win0_1.index t 0 * 224 + 1 * i.val = i.val; rw [(ix1' t).1]; omega
  | ⟨1, _⟩ => show win0_1.index t 1 * 1536 + 1 * j.val = j.val; rw [(ix1' t).2]; omega

theorem blk2 (t : Fin cfg0.N) (i : Fin 1536) (j : Fin 256) : (iblk m c 2 t : Vec Ideal S1536x256 .i8) (ix2 i j) = V m c main_v1 (ix2 i j) := by
  unfold iblk
  rw [View.read_apply]
  refine congrArg (V m c main_v1) (funext fun a => Fin.ext ?_)
  match a with
  | ⟨0, _⟩ => show win0_2.index t 0 * 1536 + 1 * i.val = i.val; rw [(ix2' t).1]; omega
  | ⟨1, _⟩ => show win0_2.index t 1 * 256 + 1 * j.val = j.val; rw [(ix2' t).2]; omega

theorem blk3 (t : Fin cfg0.N) (i : Fin 96) (j : Fin 1) : (iblk m c 3 t : Vec Ideal S96x1 .f32) (ix2 i j) = V m c main_v13 (ix2 i j) := by
  unfold iblk
  rw [View.read_apply]
  refine congrArg (V m c main_v13) (funext fun a => Fin.ext ?_)
  match a with
  | ⟨0, _⟩ => show win0_3.index t 0 * 96 + 1 * i.val = i.val; rw [(ix3' t).1]; omega
  | ⟨1, _⟩ => show win0_3.index t 1 * 1 + 1 * j.val = j.val; rw [(ix3' t).2]; omega

theorem blk4 (t : Fin cfg0.N) (i : Fin 96) (j : Fin 1024) : (iblk m c 4 t : Vec Ideal S96x1024 .i8) (ix2 i j) = aK m c (ix2 i ⟨t.val * 1024 + j.val, by have := lt_N t; omega⟩) := by
  refine Eq.trans ?_ (congrFun (V_main_arg3 m c) (ix2 i ⟨t.val * 1024 + j.val, by have := lt_N t; omega⟩))
  unfold iblk
  rw [View.read_apply]
  refine congrArg (V m c main_arg3) (funext fun a => Fin.ext ?_)
  match a with
  | ⟨0, _⟩ => show win0_4.index t 0 * 96 + 1 * i.val = i.val; rw [(ix4' t).1]; omega
  | ⟨1, _⟩ => show win0_4.index t 1 * 1024 + 1 * j.val = t.val * 1024 + j.val; rw [(ix4' t).2]; omega

/-- The scores array as the kernel leaves it. -/
def resS : Vec Ideal S224x98304 .bf16 := fun i =>
  outS m c (gp ((i 1).val / 1024) (by have : (i 1).val < 98304 := (i 1).isLt; omega)) (ix2 (i 0) ⟨(i 1).val % 1024, by omega⟩)

/-- The distance table as the kernel leaves it. -/
def resT : Vec Ideal S224x96x256 .f32 := fun i =>
  outT m c (gp ((i 1).val / 8 * 8 + (i 0).val / 28) (by have : (i 1).val < 96 := (i 1).isLt; have : (i 0).val < 224 := (i 0).isLt; omega))
    (ix3 ⟨(i 0).val % 28, by omega⟩ ⟨(i 1).val % 8, by omega⟩ (i 2))

theorem final_S : (dats m 0 c).arrAt 5 cfg0.N = resS m c :=
  (dats m 0 c).arrAt_eq_of_cover 5 (resS m c)
    (fun t hf => by
      show (cfg0.win 5).cut (grid0.coords t) ((dats m 0 c).after 5 t) = _
      rw [after0_5]
      funext j
      have h0 : (j 0).val < 224 := (j 0).isLt
      have h1 : (j 1).val < 1024 := (j 1).isLt
      have ht := lt_N t
      have e : ((cfg0.win 5).blk t).view.read (Elt Ideal) (resS m c) j = resS m c (ix2 ⟨(j 0).val, h0⟩ ⟨t.val * 1024 + (j 1).val, by omega⟩) := by
        rw [View.read_apply]
        refine congrArg (resS m c) (funext fun a => Fin.ext ?_)
        match a with
        | ⟨0, _⟩ => show win0_5.index t 0 * 224 + 1 * (j 0).val = (j 0).val; rw [(ix5' t).1]; omega
        | ⟨1, _⟩ => show win0_5.index t 1 * 1024 + 1 * (j 1).val = t.val * 1024 + (j 1).val; rw [(ix5' t).2]; omega
      have hp : gp ((t.val * 1024 + (j 1).val) / 1024) (by omega) = t := Fin.ext (by show (t.val * 1024 + (j 1).val) / 1024 = t.val; omega)
      refine Eq.trans ?_ e.symm
      show outS m c t j = outS m c (gp ((t.val * 1024 + (j 1).val) / 1024) _) (ix2 ⟨(j 0).val, h0⟩ ⟨(t.val * 1024 + (j 1).val) % 1024, _⟩)
      rw [hp]
      refine congrArg (outS m c t) (funext fun a => Fin.ext ?_)
      match a with
      | ⟨0, _⟩ => rfl
      | ⟨1, _⟩ => show (j 1).val = (t.val * 1024 + (j 1).val) % 1024; omega)
    fun i => by
      have h0 : (i 0).val < 224 := (i 0).isLt
      have h1 : (i 1).val < 98304 := (i 1).isLt
      have hl : (i 1).val / 1024 < 96 := by omega
      refine ⟨gp _ hl, flush0_5 _, ?_⟩
      show i ∈ ((View.whole main_v14_0).slice (win0_5.rect (gp _ hl))).set
      rw [View.set_slice_whole, Rect.mem_set_unit]
      intro a
      match a with
      | ⟨0, _⟩ => show win0_5.index (gp _ hl) 0 * 224 ≤ (i 0).val ∧ (i 0).val < win0_5.index (gp _ hl) 0 * 224 + 224
                  rw [(ix5' _).1]; omega
      | ⟨1, _⟩ => show win0_5.index (gp _ hl) 1 * 1024 ≤ (i 1).val ∧ (i 1).val < win0_5.index (gp _ hl) 1 * 1024 + 1024
                  rw [(ix5' _).2]; show (i 1).val / 1024 * 1024 ≤ (i 1).val ∧ (i 1).val < (i 1).val / 1024 * 1024 + 1024; omega

theorem final_T : (dats m 0 c).arrAt 6 cfg0.N = resT m c :=
  (dats m 0 c).arrAt_eq_of_cover 6 (resT m c)
    (fun t hf => by
      show (cfg0.win 6).cut (grid0.coords t) ((dats m 0 c).after 6 t) = _
      rw [after0_6]
      funext j
      have h0 : (j 0).val < 28 := (j 0).isLt
      have h1 : (j 1).val < 8 := (j 1).isLt
      have h2 : (j 2).val < 256 := (j 2).isLt
      have ht := lt_N t
      have e : ((cfg0.win 6).blk t).view.read (Elt Ideal) (resT m c) j = resT m c (ix3 ⟨t.val % 8 * 28 + (j 0).val, by omega⟩ ⟨t.val / 8 * 8 + (j 1).val, by omega⟩ ⟨(j 2).val, h2⟩) := by
        rw [View.read_apply]
        refine congrArg (resT m c) (funext fun a => Fin.ext ?_)
        match a with
        | ⟨0, _⟩ => show win0_6.index t 0 * 28 + 1 * (j 0).val = t.val % 8 * 28 + (j 0).val; rw [(ix6' t).1]; omega
        | ⟨1, _⟩ => show win0_6.index t 1 * 8 + 1 * (j 1).val = t.val / 8 * 8 + (j 1).val; rw [(ix6' t).2.1]; omega
        | ⟨2, _⟩ => show win0_6.index t 2 * 256 + 1 * (j 2).val = (j 2).val; rw [(ix6' t).2.2]; omega
      have hp : gp ((t.val / 8 * 8 + (j 1).val) / 8 * 8 + (t.val % 8 * 28 + (j 0).val) / 28) (by omega) = t := Fin.ext (by show (t.val / 8 * 8 + (j 1).val) / 8 * 8 + (t.val % 8 * 28 + (j 0).val) / 28 = t.val; omega)
      refine Eq.trans ?_ e.symm
      show outT m c t j = outT m c (gp ((t.val / 8 * 8 + (j 1).val) / 8 * 8 + (t.val % 8 * 28 + (j 0).val) / 28) _) (ix3 ⟨(t.val % 8 * 28 + (j 0).val) % 28, _⟩ ⟨(t.val / 8 * 8 + (j 1).val) % 8, _⟩ ⟨(j 2).val, h2⟩)
      rw [hp]
      refine congrArg (outT m c t) (funext fun a => Fin.ext ?_)
      match a with
      | ⟨0, _⟩ => show (j 0).val = (t.val % 8 * 28 + (j 0).val) % 28; omega
      | ⟨1, _⟩ => show (j 1).val = (t.val / 8 * 8 + (j 1).val) % 8; omega
      | ⟨2, _⟩ => rfl)
    fun i => by
      have h0 : (i 0).val < 224 := (i 0).isLt
      have h1 : (i 1).val < 96 := (i 1).isLt
      have h2 : (i 2).val < 256 := (i 2).isLt
      have hl : (i 1).val / 8 * 8 + (i 0).val / 28 < 96 := by omega
      refine ⟨gp _ hl, flush0_6 _, ?_⟩
      show i ∈ ((View.whole main_v14_1).slice (win0_6.rect (gp _ hl))).set
      rw [View.set_slice_whole, Rect.mem_set_unit]
      intro a
      match a with
      | ⟨0, _⟩ => show win0_6.index (gp _ hl) 0 * 28 ≤ (i 0).val ∧ (i 0).val < win0_6.index (gp _ hl) 0 * 28 + 28
                  rw [(ix6' _).1]; show ((i 1).val / 8 * 8 + (i 0).val / 28) % 8 * 28 ≤ (i 0).val ∧ (i 0).val < ((i 1).val / 8 * 8 + (i 0).val / 28) % 8 * 28 + 28; omega
      | ⟨1, _⟩ => show win0_6.index (gp _ hl) 1 * 8 ≤ (i 1).val ∧ (i 1).val < win0_6.index (gp _ hl) 1 * 8 + 8
                  rw [(ix6' _).2.1]; show ((i 1).val / 8 * 8 + (i 0).val / 28) / 8 * 8 ≤ (i 1).val ∧ (i 1).val < ((i 1).val / 8 * 8 + (i 0).val / 28) / 8 * 8 + 8; omega
      | ⟨2, _⟩ => show win0_6.index (gp _ hl) 2 * 256 ≤ (i 2).val ∧ (i 2).val < win0_6.index (gp _ hl) 2 * 256 + 256
                  rw [(ix6' _).2.2]; omega

end Cert.KernelIdeal.Gen

end
-- ==== Proof.KRes.lean ====
/- The kernel's results, element by element, from its arguments. -/
module

public import proofs.«01_k».proof.Proof.KArr

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

theorem hX2 (r : Fin 1536) (k : Fin 256) : (X2 m c : S1536x256.Idx → BitVec 8) (ix2 r k) = aC m c (ix3 ⟨r.val / 16, by omega⟩ k ⟨r.val % 16, by omega⟩) :=
  (blk2 m c tz r k).trans (ct_apply m c r k)

theorem hX3 (i : Fin 96) : X3 m c (ix2 i 0) = aS m c (ix1 i) := (blk3 m c tz i 0).trans (sc_apply m c i)

theorem resT_apply (q : Fin 224) (i : Fin 96) (k : Fin 256) :
    resT m c (ix3 q i k) = ((∑ d : Fin 16, aX m c (ix2 q ⟨i.val * 16 + d.val, by omega⟩) * aX m c (ix2 q ⟨i.val * 16 + d.val, by omega⟩))
        + (aS m c (ix1 i) * aS m c (ix1 i)) * ∑ d : Fin 16, cbE (aC m c) i k d * cbE (aC m c) i k d)
      - Ideal.ofBits .f32 0x40000000#32 * ((∑ d : Fin 16, aX m c (ix2 q ⟨i.val * 16 + d.val, by omega⟩) * cbE (aC m c) i k d) * aS m c (ix1 i)) := by
  have hq := q.isLt
  have hi := i.isLt
  have hn : i.val / 8 * 8 + q.val / 28 < 96 := by omega
  show outT m c (gp (i.val / 8 * 8 + q.val / 28) _) (ix3 ⟨q.val % 28, _⟩ ⟨i.val % 8, _⟩ k) = _
  unfold outT
  have hc : (grid0.coords (gp (i.val / 8 * 8 + q.val / 28) hn) 0).val = i.val / 8 * 8 + q.val / 28 := coord_val _
  rw [hc]
  refine (tB_apply (X1 m c) (X2 m c) (aC m c) (hX2 m c) (X3 m c) _ hn ⟨q.val % 28, by omega⟩ ⟨i.val % 8, by omega⟩ k).trans ?_
  have eq : (⟨(i.val / 8 * 8 + q.val / 28) % 8 * 28 + q.val % 28, by omega⟩ : Fin 224) = q := Fin.ext (by show (i.val / 8 * 8 + q.val / 28) % 8 * 28 + q.val % 28 = q.val; omega)
  have ei : (⟨(i.val / 8 * 8 + q.val / 28) / 8 * 8 + i.val % 8, by omega⟩ : Fin 96) = i := Fin.ext (by show (i.val / 8 * 8 + q.val / 28) / 8 * 8 + i.val % 8 = i.val; omega)
  have ed : ∀ d : Fin 16, (⟨((i.val / 8 * 8 + q.val / 28) / 8 * 8 + i.val % 8) * 16 + d.val, by omega⟩ : Fin 1536) = ⟨i.val * 16 + d.val, by omega⟩ := fun d => Fin.ext (by
    show ((i.val / 8 * 8 + q.val / 28) / 8 * 8 + i.val % 8) * 16 + d.val = i.val * 16 + d.val; omega)
  have e1 : ∀ j, X1 m c (ix2 q j) = aX m c (ix2 q j) := fun j => blk1 m c tz q j
  simp only [eq, ei, ed, e1, hX3]

theorem resS_apply (q : Fin 224) (n : Fin 98304) :
    resS m c (ix2 q n)
      = (∑ r : Fin 1536, (aX m c (ix2 q ⟨rowM r.val * 16 + rowD r.val, by have := rowM_lt r.val r.isLt; have := rowD_lt r.val; omega⟩) * (Ideal.ofBits .f32 0xC0000000#32 * aS m c (ix1 ⟨rowM r.val, rowM_lt r.val r.isLt⟩)))
            * cbE (aC m c) ⟨rowM r.val, rowM_lt r.val r.isLt⟩ (code (n := 98304) (aK m c) ⟨rowM r.val, rowM_lt r.val r.isLt⟩ n) ⟨rowD r.val, rowD_lt r.val⟩)
        + (∑ s : Fin 8, ∑ g : Fin 12, (aS m c (ix1 ⟨g.val / 4 * 32 + g.val % 4 + 4 * s.val, by omega⟩) * aS m c (ix1 ⟨g.val / 4 * 32 + g.val % 4 + 4 * s.val, by omega⟩))
            * ∑ d : Fin 16, cbE (aC m c) ⟨g.val / 4 * 32 + g.val % 4 + 4 * s.val, by omega⟩ (code (n := 98304) (aK m c) ⟨g.val / 4 * 32 + g.val % 4 + 4 * s.val, by omega⟩ n) d
                * cbE (aC m c) ⟨g.val / 4 * 32 + g.val % 4 + 4 * s.val, by omega⟩ (code (n := 98304) (aK m c) ⟨g.val / 4 * 32 + g.val % 4 + 4 * s.val, by omega⟩ n) d)
        + ∑ j : Fin 1536, aX m c (ix2 q j) * aX m c (ix2 q j) := by
  have hn := n.isLt
  have ht : n.val / 1024 < 96 := by omega
  show outS m c (gp (n.val / 1024) _) (ix2 q ⟨n.val % 1024, _⟩) = _
  unfold outS
  refine (scB_apply (iblk m c 0 (gp (n.val / 1024) ht)) (X1 m c) (X2 m c) (aC m c) (hX2 m c) (X3 m c) (iblk m c 4 (gp (n.val / 1024) ht)) q ⟨n.val % 1024, by omega⟩).trans ?_
  have e0 : ∀ r, (iblk m c 0 (gp (n.val / 1024) ht) : Vec Ideal S224x1536 .bf16) (ix2 q r) = _ := fun r => (blk0 m c (gp (n.val / 1024) ht) q r).trans (xp_apply m c q r)
  have e1 : ∀ j, X1 m c (ix2 q j) = aX m c (ix2 q j) := fun j => blk1 m c tz q j
  have ek : ∀ i : Fin 96, code (n := 1024) (iblk m c 4 (gp (n.val / 1024) ht)) i ⟨n.val % 1024, by omega⟩ = code (n := 98304) (aK m c) i n := fun i => by
    unfold code
    refine Fin.ext ?_
    show ((iblk m c 4 (gp (n.val / 1024) ht) : Vec Ideal S96x1024 .i8) (ix2 i ⟨n.val % 1024, _⟩)).toNat = _
    rw [blk4]
    refine congrArg (fun z => (aK m c (ix2 i z)).toNat) (Fin.ext ?_)
    show n.val / 1024 * 1024 + n.val % 1024 = n.val
    omega
  simp only [e0, e1, ek, pay3_apply (X2 m c) (aC m c) (hX2 m c), hX3]

end Cert.KernelIdeal.Gen

end
-- ==== Proof.KSum.lean ====
/- Sums over the kernel's orders of rows, and the equality of the two ways to add up a score. -/
module

public import proofs.«01_k».proof.Proof.KHost

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The place in the kernel's order of rows of subspace `p.1` and element `p.2`. -/
def rowAt (i d : ℕ) : ℕ := ((i / 32 * 4 + i % 4) * 4 + d / 4) * 32 + i % 32 / 4 * 4 + d % 4

theorem rowM_mk (a b e f g : ℕ) (hb : b < 4) (he : e < 4) (hf : f < 8) (hg : g < 4) : rowM (a * 512 + b * 128 + e * 32 + f * 4 + g) = a * 32 + f * 4 + b := by
  have h1 : (a * 512 + b * 128 + e * 32 + f * 4 + g) / 512 = a := by omega
  have h2 : (a * 512 + b * 128 + e * 32 + f * 4 + g) % 32 / 4 = f := by omega
  have h3 : (a * 512 + b * 128 + e * 32 + f * 4 + g) / 128 = a * 4 + b := by omega
  unfold rowM
  rw [h1, h2, h3]
  omega

theorem rowD_mk (a b e f g : ℕ) (hb : b < 4) (he : e < 4) (hf : f < 8) (hg : g < 4) : rowD (a * 512 + b * 128 + e * 32 + f * 4 + g) = e * 4 + g := by
  have h1 : (a * 512 + b * 128 + e * 32 + f * 4 + g) / 32 = (a * 4 + b) * 4 + e := by omega
  have h2 : (a * 512 + b * 128 + e * 32 + f * 4 + g) % 4 = g := by omega
  unfold rowD
  rw [h1, h2]
  omega

theorem rowAt_mk (a b e f g : ℕ) (hb : b < 4) (he : e < 4) (hf : f < 8) (hg : g < 4) : rowAt (a * 32 + f * 4 + b) (e * 4 + g) = a * 512 + b * 128 + e * 32 + f * 4 + g := by
  have h1 : (a * 32 + f * 4 + b) / 32 = a := by omega
  have h2 : (a * 32 + f * 4 + b) % 4 = b := by omega
  have h3 : (a * 32 + f * 4 + b) % 32 / 4 = f := by omega
  have h4 : (e * 4 + g) / 4 = e := by omega
  have h5 : (e * 4 + g) % 4 = g := by omega
  unfold rowAt
  rw [h1, h2, h3, h4, h5]
  omega

theorem row_digits (r : ℕ) : ∃ a b e f g, b < 4 ∧ e < 4 ∧ f < 8 ∧ g < 4 ∧ r = a * 512 + b * 128 + e * 32 + f * 4 + g := by
  have h1 : r / 32 / 4 = r / 128 := Nat.div_div_eq_div_mul r 32 4
  have h2 : r / 128 / 4 = r / 512 := Nat.div_div_eq_div_mul r 128 4
  exact ⟨r / 512, r / 128 % 4, r / 32 % 4, r % 32 / 4, r % 4, by omega, by omega, by omega, by omega, by omega⟩

theorem sub_digits (i : ℕ) : ∃ a f b, f < 8 ∧ b < 4 ∧ i = a * 32 + f * 4 + b :=
  ⟨i / 32, i % 32 / 4, i % 4, by omega, by omega, by omega⟩

theorem elt_digits (d : ℕ) (h : d < 16) : ∃ e g, e < 4 ∧ g < 4 ∧ d = e * 4 + g := ⟨d / 4, d % 4, by omega, by omega, by omega⟩

theorem sum_rows (f : Fin 96 → Fin 16 → ℝ) :
    (∑ r : Fin 1536, f ⟨rowM r.val, rowM_lt r.val r.isLt⟩ ⟨rowD r.val, rowD_lt r.val⟩) = ∑ i : Fin 96, ∑ d : Fin 16, f i d := by
  rw [← Fintype.sum_prod_type']
  refine Finset.sum_nbij' (fun r : Fin 1536 => ((⟨rowM r.val, rowM_lt r.val r.isLt⟩, ⟨rowD r.val, rowD_lt r.val⟩) : Fin 96 × Fin 16))
    (fun p => ⟨rowAt p.1.val p.2.val, by have := p.1.isLt; have := p.2.isLt; unfold rowAt; omega⟩) (fun _ _ => Finset.mem_univ _) (fun _ _ => Finset.mem_univ _) ?_ ?_ (fun _ _ => rfl)
  · intro r _
    refine Fin.ext ?_
    show rowAt (rowM r.val) (rowD r.val) = r.val
    obtain ⟨a, b, e, f, g, hb, he, hf, hg, hr⟩ := row_digits r.val
    rw [hr, rowM_mk a b e f g hb he hf hg, rowD_mk a b e f g hb he hf hg, rowAt_mk a b e f g hb he hf hg]
  · rintro ⟨i, d⟩ _
    obtain ⟨a, f, b, hf, hb, hi⟩ := sub_digits i.val
    obtain ⟨e, g, he, hg, hd⟩ := elt_digits d.val d.isLt
    refine Prod.ext (Fin.ext ?_) (Fin.ext ?_)
    · show rowM (rowAt i.val d.val) = i.val
      rw [hi, hd, rowAt_mk a b e f g hb he hf hg, rowM_mk a b e f g hb he hf hg]
    · show rowD (rowAt i.val d.val) = d.val
      rw [hi, hd, rowAt_mk a b e f g hb he hf hg, rowD_mk a b e f g hb he hf hg]

theorem sum_groups (f : Fin 96 → ℝ) :
    (∑ s : Fin 8, ∑ g : Fin 12, f ⟨g.val / 4 * 32 + g.val % 4 + 4 * s.val, by omega⟩) = ∑ i : Fin 96, f i := by
  rw [← Fintype.sum_prod_type' (f := fun (s : Fin 8) (g : Fin 12) => f ⟨g.val / 4 * 32 + g.val % 4 + 4 * s.val, by omega⟩)]
  refine Finset.sum_nbij' (fun p : Fin 8 × Fin 12 => (⟨p.2.val / 4 * 32 + p.2.val % 4 + 4 * p.1.val, by have := p.1.isLt; have := p.2.isLt; omega⟩ : Fin 96))
    (fun i => (⟨i.val % 32 / 4, by omega⟩, ⟨i.val / 32 * 4 + i.val % 4, by have := i.isLt; omega⟩)) (fun _ _ => Finset.mem_univ _) (fun _ _ => Finset.mem_univ _) ?_ ?_ (fun _ _ => rfl)
  · rintro ⟨s, g⟩ _
    have := s.isLt
    have := g.isLt
    refine Prod.ext (Fin.ext ?_) (Fin.ext ?_)
    · show (g.val / 4 * 32 + g.val % 4 + 4 * s.val) % 32 / 4 = s.val
      omega
    · show (g.val / 4 * 32 + g.val % 4 + 4 * s.val) / 32 * 4 + (g.val / 4 * 32 + g.val % 4 + 4 * s.val) % 4 = g.val
      omega
  · intro i _
    have := i.isLt
    refine Fin.ext ?_
    show (i.val / 32 * 4 + i.val % 4) / 4 * 32 + (i.val / 32 * 4 + i.val % 4) % 4 + 4 * (i.val % 32 / 4) = i.val
    omega

theorem sum_cols (f : Fin 1536 → ℝ) : (∑ j : Fin 1536, f j) = ∑ i : Fin 96, ∑ d : Fin 16, f ⟨i.val * 16 + d.val, by omega⟩ := by
  rw [← Fintype.sum_prod_type' (f := fun (i : Fin 96) (d : Fin 16) => f ⟨i.val * 16 + d.val, by omega⟩)]
  refine Finset.sum_nbij' (fun j : Fin 1536 => ((⟨j.val / 16, by omega⟩, ⟨j.val % 16, by omega⟩) : Fin 96 × Fin 16))
    (fun p => ⟨p.1.val * 16 + p.2.val, by have := p.1.isLt; have := p.2.isLt; omega⟩) (fun _ _ => Finset.mem_univ _) (fun _ _ => Finset.mem_univ _) ?_ ?_ ?_
  · intro j _
    refine Fin.ext ?_
    show j.val / 16 * 16 + j.val % 16 = j.val
    omega
  · rintro ⟨i, d⟩ _
    have := i.isLt
    have := d.isLt
    refine Prod.ext (Fin.ext ?_) (Fin.ext ?_)
    · show (i.val * 16 + d.val) / 16 = i.val
      omega
    · show (i.val * 16 + d.val) % 16 = d.val
      omega
  · intro j _
    refine congrArg f (Fin.ext ?_)
    show j.val = j.val / 16 * 16 + j.val % 16
    omega

theorem two : Ideal.ofBits .f32 0x40000000#32 = ((2 : ℝ) : EReal) := by
  simp [Ideal.ofBits, Ideal.ieee, -EReal.coe_mul]; norm_num

theorem neg_two : Ideal.ofBits .f32 0xC0000000#32 = ((-2 : ℝ) : EReal) := by
  simp [Ideal.ofBits, Ideal.ieee, -EReal.coe_mul, -EReal.coe_neg]; norm_num

/-- The same score, added up over reals in either order. -/
theorem score_real (x : Fin 1536 → ℝ) (s : Fin 96 → ℝ) (e : Fin 96 → Fin 16 → ℝ) :
    (∑ r : Fin 1536, (x ⟨rowM r.val * 16 + rowD r.val, by have := rowM_lt r.val r.isLt; have := rowD_lt r.val; omega⟩ * (-2 * s ⟨rowM r.val, rowM_lt r.val r.isLt⟩))
          * e ⟨rowM r.val, rowM_lt r.val r.isLt⟩ ⟨rowD r.val, rowD_lt r.val⟩)
        + (∑ a : Fin 8, ∑ g : Fin 12, (s ⟨g.val / 4 * 32 + g.val % 4 + 4 * a.val, by omega⟩ * s ⟨g.val / 4 * 32 + g.val % 4 + 4 * a.val, by omega⟩)
            * ∑ d : Fin 16, e ⟨g.val / 4 * 32 + g.val % 4 + 4 * a.val, by omega⟩ d * e ⟨g.val / 4 * 32 + g.val % 4 + 4 * a.val, by omega⟩ d)
        + ∑ j : Fin 1536, x j * x j
      = ∑ i : Fin 96, (((∑ d : Fin 16, x ⟨i.val * 16 + d.val, by omega⟩ * x ⟨i.val * 16 + d.val, by omega⟩) + (s i * s i) * ∑ d : Fin 16, e i d * e i d)
          - 2 * ((∑ d : Fin 16, e i d * x ⟨i.val * 16 + d.val, by omega⟩) * s i)) := by
  rw [sum_rows (fun i d => (x ⟨i.val * 16 + d.val, by omega⟩ * (-2 * s i)) * e i d), sum_groups (fun i => (s i * s i) * ∑ d : Fin 16, e i d * e i d),
    sum_cols (fun j => x j * x j), ← Finset.sum_add_distrib, ← Finset.sum_add_distrib]
  refine Finset.sum_congr rfl fun i _ => ?_
  have h : (∑ d : Fin 16, (x ⟨i.val * 16 + d.val, by omega⟩ * (-2 * s i)) * e i d) = -(2 * ((∑ d : Fin 16, e i d * x ⟨i.val * 16 + d.val, by omega⟩) * s i)) := by
    rw [Finset.sum_mul, Finset.mul_sum, ← Finset.sum_neg_distrib]
    exact Finset.sum_congr rfl fun d _ => by ring
  rw [h]
  ring

theorem coe_sum {ι : Type} [Fintype ι] (f : ι → ℝ) : (∑ i : ι, ((f i : ℝ) : EReal)) = ((∑ i : ι, f i : ℝ) : EReal) := by
  classical
  induction (Finset.univ : Finset ι) using Finset.induction_on with
  | empty => simp
  | insert a t h ih => rw [Finset.sum_insert h, Finset.sum_insert h, ih, EReal.coe_add]

/-- The same score, added up in either order, when every input is a real number. -/
theorem score_eq (x : Fin 1536 → EReal) (s : Fin 96 → EReal) (e : Fin 96 → Fin 16 → EReal)
    (hx : ∀ j, ∃ v : ℝ, x j = v) (hs : ∀ i, ∃ v : ℝ, s i = v) (he : ∀ i d, ∃ v : ℝ, e i d = v) :
    (∑ r : Fin 1536, (x ⟨rowM r.val * 16 + rowD r.val, by have := rowM_lt r.val r.isLt; have := rowD_lt r.val; omega⟩ * (Ideal.ofBits .f32 0xC0000000#32 * s ⟨rowM r.val, rowM_lt r.val r.isLt⟩))
          * e ⟨rowM r.val, rowM_lt r.val r.isLt⟩ ⟨rowD r.val, rowD_lt r.val⟩)
        + (∑ a : Fin 8, ∑ g : Fin 12, (s ⟨g.val / 4 * 32 + g.val % 4 + 4 * a.val, by omega⟩ * s ⟨g.val / 4 * 32 + g.val % 4 + 4 * a.val, by omega⟩)
            * ∑ d : Fin 16, e ⟨g.val / 4 * 32 + g.val % 4 + 4 * a.val, by omega⟩ d * e ⟨g.val / 4 * 32 + g.val % 4 + 4 * a.val, by omega⟩ d)
        + ∑ j : Fin 1536, x j * x j
      = ∑ i : Fin 96, (((∑ d : Fin 16, x ⟨i.val * 16 + d.val, by omega⟩ * x ⟨i.val * 16 + d.val, by omega⟩) + (s i * s i) * ∑ d : Fin 16, e i d * e i d)
          - Ideal.ofBits .f32 0x40000000#32 * ((∑ d : Fin 16, e i d * x ⟨i.val * 16 + d.val, by omega⟩) * s i)) := by
  choose x' hx' using hx
  choose s' hs' using hs
  choose e' he' using he
  simp only [hx', hs', he', two, neg_two]
  simp only [← EReal.coe_mul, coe_sum, ← EReal.coe_add, ← EReal.coe_sub]
  exact congrArg _ (score_real x' s' e')

/-- A value below plus infinity in absolute value is a real number. -/
theorem real_of_abs (x : EReal) (h : max x (-x) < ⊤) : ∃ v : ℝ, x = v := by
  induction x using EReal.rec with
  | bot => simp at h
  | top => simp at h
  | coe v => exact ⟨v, rfl⟩

/-- A byte other than the two patterns of no number decodes to a real number. -/
theorem real_of_byte (b : BitVec 8) (h : b ≠ 127#8) (h' : b ≠ 255#8) : ∃ v : ℝ, Ideal.ofBits .fp8e4m3 b = v := by
  have hb : ∀ b : BitVec 8, (b.extractLsb' 3 4).toNat = 15 ∧ (b.extractLsb' 0 3).toNat = 7 → b = 127#8 ∨ b = 255#8 := by decide
  show ∃ v : ℝ, Ideal.e4m3fn b = v
  unfold Ideal.e4m3fn
  dsimp only
  rw [if_neg fun hc => (hb b hc).elim h h']
  split
  · exact ⟨_, rfl⟩
  · exact ⟨_, rfl⟩

end Cert.KernelIdeal.Gen

end
-- ==== Proof.RArr.lean ====
/- The results of the reference, element by element. -/
module

public import proofs.«01_k».proof.Proof.Gen.ReferenceIdeal.Frame
public import Idealize.ShloMosaic.Lib.Pipeline.Value
public import Idealize.ShloMosaic.Lib.Pointwise
public import Idealize.ShloMosaic.Lib.StableHlo.Run

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat)

variable (m : (ℓ : Loc nD τ sig) → Buf (Elt Ideal) ℓ) (c : Dev nD)

abbrev bX : Vec Ideal S224x1536 .bf16 := m ((c : Thread nD τ).loc main_arg0)
abbrev bC : Vec Ideal S96x256x16 .i8 := m ((c : Thread nD τ).loc main_arg1)
abbrev bS : Vec Ideal S96 .f32 := m ((c : Thread nD τ).loc main_arg2)
abbrev bK : Vec Ideal S96x98304 .i8 := m ((c : Thread nD τ).loc main_arg3)

/-- The decoded codebook. -/
def decR : Vec Ideal S96x256x16 .f32 := fun i => Ideal.ofBits .fp8e4m3 (bC m c i)

theorem hz3 : (![0, 0, 0] : Fin 3 → Nat) = fun _ => 0 := funext fun a => by fin_cases a <;> rfl

theorem out_eq (x : Vec Ideal S96x256x16 .i8) : out0_1 x = fun i => Ideal.ofBits .fp8e4m3 (x i) := by
  unfold out0_1
  rw [View.canon_unit_zero hz3]
  simp only [View.ld_unit_zero (S := S96x256x16) hz3]
  rfl

theorem ixR0 : ∀ t : Fin cfg0.N, win0_0.index t = fun _ => 0 := (by decide +kernel : ∀ t : Fin grid0.N, win0_0.index t = fun _ => 0)
theorem ixR1 : ∀ t : Fin cfg0.N, win0_1.index t = fun _ => 0 := (by decide +kernel : ∀ t : Fin grid0.N, win0_1.index t = fun _ => 0)

theorem blkR (t : Fin cfg0.N) : (iblk m c 0 t : Vec Ideal S96x256x16 .i8) = bC m c := by
  funext i
  unfold iblk
  rw [View.read_apply]
  refine congrArg (bC m c) (funext fun a => Fin.ext ?_)
  match a with
  | ⟨0, _⟩ => show win0_0.index t 0 * 96 + 1 * (i 0).val = (i 0).val; rw [ixR0 t]; show 0 * _ + _ = _; omega
  | ⟨1, _⟩ => show win0_0.index t 1 * 256 + 1 * (i 1).val = (i 1).val; rw [ixR0 t]; show 0 * _ + _ = _; omega
  | ⟨2, _⟩ => show win0_0.index t 2 * 16 + 1 * (i 2).val = (i 2).val; rw [ixR0 t]; show 0 * _ + _ = _; omega

theorem final_R : (dats m 0 c).arrAt 1 cfg0.N = decR m c :=
  (dats m 0 c).arrAt_eq_of_cover 1 (decR m c)
    (fun t hf => by
      show (cfg0.win 1).cut (grid0.coords t) ((dats m 0 c).after 1 t) = _
      rw [after0_1, out_eq, blkR]
      funext j
      rw [View.read_apply]
      refine congrArg (decR m c) (a₁ := j) (funext fun a => Fin.ext ?_)
      match a with
      | ⟨0, _⟩ => show (j 0).val = win0_1.index t 0 * 96 + 1 * (j 0).val; rw [ixR1 t]; show _ = 0 * _ + _; omega
      | ⟨1, _⟩ => show (j 1).val = win0_1.index t 1 * 256 + 1 * (j 1).val; rw [ixR1 t]; show _ = 0 * _ + _; omega
      | ⟨2, _⟩ => show (j 2).val = win0_1.index t 2 * 16 + 1 * (j 2).val; rw [ixR1 t]; show _ = 0 * _ + _; omega)
    fun i => by
      refine ⟨t0_0, ?_, ?_⟩
      · decide +kernel
      show i ∈ ((View.whole main_v0).slice (win0_1.rect t0_0)).set
      rw [View.set_slice_whole, Rect.mem_set_unit]
      intro a
      have h0 : (i 0).val < 96 := (i 0).isLt
      have h1 : (i 1).val < 256 := (i 1).isLt
      have h2 : (i 2).val < 16 := (i 2).isLt
      match a with
      | ⟨0, _⟩ => show win0_1.index t0_0 0 * 96 ≤ (i 0).val ∧ (i 0).val < win0_1.index t0_0 0 * 96 + 96; rw [ixR1]; show 0 * _ ≤ _ ∧ _ < 0 * _ + _; omega
      | ⟨1, _⟩ => show win0_1.index t0_0 1 * 256 ≤ (i 1).val ∧ (i 1).val < win0_1.index t0_0 1 * 256 + 256; rw [ixR1]; show 0 * _ ≤ _ ∧ _ < 0 * _ + _; omega
      | ⟨2, _⟩ => show win0_1.index t0_0 2 * 16 ≤ (i 2).val ∧ (i 2).val < win0_1.index t0_0 2 * 16 + 16; rw [ixR1]; show 0 * _ ≤ _ ∧ _ < 0 * _ + _; omega

theorem W_v0 : Pipeline.withArrays spec0 c (V0 m c) (fun w => (dats m 0 c).arrAt w cfg0.N) (Proc.devRef .tc main_v0) = decR m c :=
  (Pipeline.withArrays_arr spec0 (by decide) c (V0 m c) (fun w => (dats m 0 c).arrAt w cfg0.N) 1).trans (final_R m c)

theorem W_ne (b : Ref sig .tc) (h : ∀ w, Pipeline.arrRef spec0 w ≠ b) :
    Pipeline.withArrays spec0 c (V0 m c) (fun w => (dats m 0 c).arrAt w cfg0.N) (Proc.devRef .tc b) = m ((c : Thread nD τ).loc b) :=
  Pipeline.withArrays_of_ne _ c (V0 m c) _ b h

/-- The reference's products of a query and a centroid. -/
def rDot (X : FVec Ideal S224x1536 .bf16) (D : FVec Ideal S96x256x16 .f32) : FVec Ideal S224x96x256 .f32 :=
  transpose S224x96x256 [2, 0, 1] (Host.dotGeneral (F := Ideal) dot_S96x256x16_S224x96x16_S96x256x224_2_2_1_0_0_1 none (truncf .bf16 D bitsLt_bf16_f32)
    (shapeCast S224x96x16 X shapeCasts_S224x1536_S224x96x16)) transposes_S96x256x224_S224x96x256_2_0_1

/-- The squared length of each query's part. -/
def rXn (X : FVec Ideal S224x1536 .bf16) : FVec Ideal S224x96x256 .f32 :=
  broadcastInDim S224x96x256 ![0, 1, 2] bcast_S224x96x1_S224x96x256_0_1_2 (broadcastInDim S224x96x1 ![0, 1] bcast_S224x96_S224x96x1_0_1
    (Host.reduceAdd (mulf (extf .f32 (shapeCast S224x96x16 X shapeCasts_S224x1536_S224x96x16) bitsLt_bf16_f32) (extf .f32 (shapeCast S224x96x16 X shapeCasts_S224x1536_S224x96x16) bitsLt_bf16_f32))
      (constant S_ .f32 0x00000000#32) reducesTo_S224x96x16_S224x96_d2 h_S_))

/-- The squared length of each centroid. -/
def rCn (D : FVec Ideal S96x256x16 .f32) (S : FVec Ideal S96 .f32) : FVec Ideal S224x96x256 .f32 :=
  broadcastInDim S224x96x256 ![0, 1, 2] bcast_S1x96x256_S224x96x256_0_1_2 (broadcastInDim S1x96x256 ![1, 2] bcast_S96x256_S1x96x256_1_2
    (mulf (broadcastInDim S96x256 ![0, 1] bcast_S96x1_S96x256_0_1 (broadcastInDim S96x1 ![0] bcast_S96_S96x1_0 (mulf S S)))
      (Host.reduceAdd (mulf D D) (constant S_ .f32 0x00000000#32) reducesTo_S96x256x16_S96x256_d2 h_S_)))

/-- The reference's distance table. -/
def rT (X : FVec Ideal S224x1536 .bf16) (D : FVec Ideal S96x256x16 .f32) (S : FVec Ideal S96 .f32) : FVec Ideal S224x96x256 .f32 :=
  subf (addf (rXn X) (rCn D S))
    (mulf (broadcastInDim S224x96x256 ![] bcast_S_S224x96x256 (constant S_ .f32 0x40000000#32))
      (mulf (rDot X D) (broadcastInDim S224x96x256 ![0, 1, 2] bcast_S1x96x1_S224x96x256_0_1_2 (broadcastInDim S1x96x1 ![1] bcast_S96_S1x96x1_1 S))))

theorem tail_T : Pipeline.afterTail₀ cfgs (dats m) 0 (V0 m) [hostOps1] c main_v24 = rT (bX m c) (decR m c) (bS m c) := by
  unfold Pipeline.afterTail₀
  show StableHlo.after hostOps1 (Pipeline.withArrays spec0 c (V0 m c) (fun w => (dats m 0 c).arrAt w cfg0.N)) (Proc.devRef .tc main_v24) = _
  have h0 := W_v0 m c
  have h1 := W_ne m c main_arg0 (by decide)
  have h2 := W_ne m c main_arg2 (by decide)
  generalize Pipeline.withArrays spec0 c (V0 m c) (fun w => (dats m 0 c).arrAt w cfg0.N) = W at *
  after_results
  rw [h0, h1, h2]
  rfl

/-- The column of row numbers with the wrap-around of a negative one. -/
def rRow : IVec S96x1 32 :=
  select (cmpi .slt (broadcastInDim S96x1 ![0] bcast_S96_S96x1_0 (iotaInDim S96 32 0)) (broadcastInDim S96x1 ![] bcast_S_S96x1 (constantI S_ 32 0#32)))
    (addi (broadcastInDim S96x1 ![0] bcast_S96_S96x1_0 (iotaInDim S96 32 0)) (broadcastInDim S96x1 ![] bcast_S_S96x1 (constantI S_ 32 96#32)))
    (broadcastInDim S96x1 ![0] bcast_S96_S96x1_0 (iotaInDim S96 32 0))

/-- The codes with the wrap-around of a negative one. -/
def rCode (K : Vec Ideal S96x98304 .i8) : IVec S96x98304 32 :=
  select (cmpi .slt (extui 32 (K : IVec S96x98304 8) natLt_8_32) (broadcastInDim S96x98304 ![] bcast_S_S96x98304 (constantI S_ 32 0#32)))
    (addi (extui 32 (K : IVec S96x98304 8) natLt_8_32) (broadcastInDim S96x98304 ![] bcast_S_S96x98304 (constantI S_ 32 256#32)))
    (extui 32 (K : IVec S96x98304 8) natLt_8_32)

/-- The pairs (row, code) that the reference looks up. -/
def rIdx (K : Vec Ideal S96x98304 .i8) : IVec S96x98304x2 32 :=
  concatenate S96x98304x2 2 [⟨S96x98304x1, broadcastInDim S96x98304x1 ![0, 1] bcast_S96x98304_S96x98304x1_0_1 (broadcastInDim S96x98304 ![0, 1] bcast_S96x1_S96x98304_0_1 rRow)⟩,
    ⟨S96x98304x1, broadcastInDim S96x98304x1 ![0, 1] bcast_S96x98304_S96x98304x1_0_1 (rCode K)⟩] concatenates_S96x98304x1_S96x98304x1_S96x98304x2_d2

/-- The reference's scores. -/
def rS (T : FVec Ideal S224x96x256 .f32) (K : Vec Ideal S96x98304 .i8) : FVec Ideal S224x98304 .bf16 :=
  truncf .bf16 (Host.reduceAdd (Host.gather gather_S224x96x256_S96x98304x2_S224x96x98304_0_12_n_n_12_2_22411 T (rIdx K))
    (constant S_ .f32 0x00000000#32) reducesTo_S224x96x98304_S224x98304_d1 h_S_) bitsLt_bf16_f32

theorem tail_S : Pipeline.afterTail₀ cfgs (dats m) 0 (V0 m) [hostOps1] c main_v44 = rS (rT (bX m c) (decR m c) (bS m c)) (bK m c) := by
  unfold Pipeline.afterTail₀
  show StableHlo.after hostOps1 (Pipeline.withArrays spec0 c (V0 m c) (fun w => (dats m 0 c).arrAt w cfg0.N)) (Proc.devRef .tc main_v44) = _
  have h0 := W_v0 m c
  have h1 := W_ne m c main_arg0 (by decide)
  have h2 := W_ne m c main_arg2 (by decide)
  have h3 := W_ne m c main_arg3 (by decide)
  generalize Pipeline.withArrays spec0 c (V0 m c) (fun w => (dats m 0 c).arrAt w cfg0.N) = W at *
  after_results
  rw [h0, h1, h2, h3]
  rfl

/-- The reference's run: both results, and the arguments as they were. -/
theorem run_value (ρ : Dev nD → PrngReg) : θ_run defs (onTc (τ := τ) (main (F := Ideal))) ⟨m, fun _ => 0, ρ⟩ (fun r => ∀ c : Dev nD,
    r.2.mem ((c : Thread nD τ).loc main_v44) = rS (rT (bX m c) (decR m c) (bS m c)) (bK m c)
    ∧ r.2.mem ((c : Thread nD τ).loc main_v24) = rT (bX m c) (decR m c) (bS m c)) :=
  (θ_run _ _ _).mono (fun r h c =>
    ⟨((h c).2 main_v44 (Pipeline.mem_restRefs_of main_v44 (by decide) (by decide))).trans (tail_S m c),
     ((h c).2 main_v24 (Pipeline.mem_restRefs_of main_v24 (by decide) (by decide))).trans (tail_T m c)⟩) (run_main m ρ)

end Cert.ReferenceIdeal.Gen

end
-- ==== Proof.RVal.lean ====
/- The reference's results, element by element. -/
module

public import proofs.«01_k».proof.Proof.RArr

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem rDot_apply (X : FVec Ideal S224x1536 .bf16) (D : FVec Ideal S96x256x16 .f32) (q : Fin 224) (i : Fin 96) (k : Fin 256) :
    rDot X D (ix3 q i k) = ∑ d : Fin 16, D (ix3 i k d) * X (ix2 q ⟨i.val * 16 + d.val, by omega⟩) := by
  unfold rDot
  pointwise

theorem rXn_apply (X : FVec Ideal S224x1536 .bf16) (q : Fin 224) (i : Fin 96) (k : Fin 256) :
    rXn X (ix3 q i k) = ∑ d : Fin 16, X (ix2 q ⟨i.val * 16 + d.val, by omega⟩) * X (ix2 q ⟨i.val * 16 + d.val, by omega⟩) := by
  unfold rXn
  pointwise

theorem rCn_apply (D : FVec Ideal S96x256x16 .f32) (S : FVec Ideal S96 .f32) (q : Fin 224) (i : Fin 96) (k : Fin 256) :
    rCn D S (ix3 q i k) = (S (ix1 i) * S (ix1 i)) * ∑ d : Fin 16, D (ix3 i k d) * D (ix3 i k d) := by
  unfold rCn
  pointwise

theorem rT_apply (X : FVec Ideal S224x1536 .bf16) (D : FVec Ideal S96x256x16 .f32) (S : FVec Ideal S96 .f32) (q : Fin 224) (i : Fin 96) (k : Fin 256) :
    rT X D S (ix3 q i k) = (rXn X (ix3 q i k) + rCn D S (ix3 q i k)) - Ideal.ofBits .f32 0x40000000#32 * (rDot X D (ix3 q i k) * S (ix1 i)) := by
  unfold rT
  generalize rXn X = A
  generalize rCn D S = B
  generalize rDot X D = C
  pointwise

theorem rRow_apply (i : Fin 96) : rRow (ix2 i 0) = BitVec.ofNat 32 i.val := by
  unfold rRow
  pointwise
  have h : (BitVec.ofNat 32 i.val).toInt = i.val := by
    rw [BitVec.toInt_eq_toNat_of_lt (by rw [BitVec.toNat_ofNat]; omega), BitVec.toNat_ofNat]; omega
  refine if_neg fun e => ?_
  have hs := (decide_eq_true_iff (p := (BitVec.ofNat 32 i.val).toInt < (0#32).toInt)).mp (by
    cases hd : decide ((BitVec.ofNat 32 i.val).toInt < (0#32).toInt) with
    | true => rfl
    | false => exact absurd e (by show ¬ (BitVec.ofBool (decide ((BitVec.ofNat 32 i.val).toInt < (0#32).toInt)) = 1#1); rw [hd]; decide))
  rw [h] at hs
  have : (0#32).toInt = 0 := by decide
  omega

theorem rCode_apply (K : Vec Ideal S96x98304 .i8) (i : Fin 96) (n : Fin 98304) : rCode K (ix2 i n) = BitVec.ofNat 32 (K (ix2 i n)).toNat := by
  unfold rCode
  pointwise
  have hk : (K (ix2 i n)).toNat < 256 := (K (ix2 i n)).isLt
  have h : (BitVec.setWidth 32 (K (ix2 i n))).toInt = (K (ix2 i n)).toNat := by
    rw [BitVec.toInt_eq_toNat_of_lt (by rw [BitVec.toNat_setWidth]; omega), BitVec.toNat_setWidth]; omega
  refine Eq.trans (if_neg fun e => ?_) (BitVec.eq_of_toNat_eq (by rw [BitVec.toNat_setWidth, BitVec.toNat_ofNat]))
  have hs := (decide_eq_true_iff (p := (BitVec.setWidth 32 (K (ix2 i n))).toInt < (0#32).toInt)).mp (by
    cases hd : decide ((BitVec.setWidth 32 (K (ix2 i n))).toInt < (0#32).toInt) with
    | true => rfl
    | false => exact absurd e (by show ¬ (BitVec.ofBool (decide ((BitVec.setWidth 32 (K (ix2 i n))).toInt < (0#32).toInt)) = 1#1); rw [hd]; decide))
  rw [h] at hs
  have : (0#32).toInt = 0 := by decide
  omega

theorem rIdx_0 (K : Vec Ideal S96x98304 .i8) (i : Fin 96) (n : Fin 98304) : rIdx K (ix3 i n 0) = rRow (ix2 i 0) := by
  unfold rIdx
  generalize rRow = A
  generalize rCode K = B
  pointwise

theorem rIdx_1 (K : Vec Ideal S96x98304 .i8) (i : Fin 96) (n : Fin 98304) : rIdx K (ix3 i n 1) = rCode K (ix2 i n) := by
  unfold rIdx
  generalize rRow = A
  generalize rCode K = B
  pointwise

theorem gatR (T : FVec Ideal S224x96x256 .f32) (J : IVec S96x98304x2 32) (q : Fin 224) (i : Fin 96) (n : Fin 98304) :
    Host.gather gather_S224x96x256_S96x98304x2_S224x96x98304_0_12_n_n_12_2_22411 T J (ix3 q i n)
      = T (ix3 q ⟨min (J (ix3 i n 0)).toInt.toNat 95, by omega⟩ ⟨min (J (ix3 i n 1)).toInt.toNat 255, by omega⟩) := by
  have s0 : gather_S224x96x256_S96x98304x2_S224x96x98304_0_12_n_n_12_2_22411.siIdx (ix3 q i n) ⟨0, by decide⟩ = ix3 i n 0 := funext fun b => Fin.ext (by
    match b with
    | ⟨0, _⟩ => rfl
    | ⟨1, _⟩ => rfl
    | ⟨2, _⟩ => rfl)
  have s1 : gather_S224x96x256_S96x98304x2_S224x96x98304_0_12_n_n_12_2_22411.siIdx (ix3 q i n) ⟨1, by decide⟩ = ix3 i n 1 := funext fun b => Fin.ext (by
    match b with
    | ⟨0, _⟩ => rfl
    | ⟨1, _⟩ => rfl
    | ⟨2, _⟩ => rfl)
  unfold Host.gather
  refine congrArg T (funext fun a => Fin.ext ?_)
  match a with
  | ⟨0, _⟩ => show 0 + 0 + q.val = q.val; omega
  | ⟨1, _⟩ => exact congrArg (fun z => min (J z).toInt.toNat 95) s0
  | ⟨2, _⟩ => exact congrArg (fun z => min (J z).toInt.toNat 255) s1

theorem rS_apply (T : FVec Ideal S224x96x256 .f32) (K : Vec Ideal S96x98304 .i8) (q : Fin 224) (n : Fin 98304) :
    rS T K (ix2 q n) = ∑ i : Fin 96, T (ix3 q i ⟨(K (ix2 i n)).toNat, (K (ix2 i n)).isLt⟩) := by
  unfold rS
  have hJ0 := fun i => rIdx_0 K i n
  have hJ1 := fun i => rIdx_1 K i n
  generalize rIdx K = J at *
  pointwise
  refine Finset.sum_congr rfl fun i _ => ?_
  rw [gatR]
  have hk : (K (ix2 i n)).toNat < 256 := (K (ix2 i n)).isLt
  refine congrArg T (funext fun a => Fin.ext ?_)
  match a with
  | ⟨0, _⟩ => rfl
  | ⟨1, _⟩ =>
    show min (J (ix3 i n 0)).toInt.toNat 95 = i.val
    rw [hJ0, rRow_apply, BitVec.toInt_eq_toNat_of_lt (by rw [BitVec.toNat_ofNat]; omega), BitVec.toNat_ofNat]
    omega
  | ⟨2, _⟩ =>
    show min (J (ix3 i n 1)).toInt.toNat 255 = (K (ix2 i n)).toNat
    rw [hJ1, rCode_apply, BitVec.toInt_eq_toNat_of_lt (by rw [BitVec.toNat_ofNat]; omega), BitVec.toNat_ofNat]
    omega

end Cert.ReferenceIdeal.Gen

end
-- ==== Proof.Value.lean ====
/- The value claim: over the extended reals the kernel's results are the reference's. -/
module

public import proofs.«01_k».proof.Defs
public import proofs.«01_k».proof.Proof.KRes
public import proofs.«01_k».proof.Proof.KSum
public import proofs.«01_k».proof.Proof.RVal
public import Idealize.ShloMosaic.Lib.Claim

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The kernel's run leaves the two result arrays. -/
theorem run_value (ρ : Dev nD → PrngReg) : θ_run defs (onTc (τ := τ) (main (F := Ideal))) ⟨m, fun _ => 0, ρ⟩ (fun r => ∀ c : Dev nD,
    r.2.mem ((c.tc : Thread nD τ).loc main_v14_0) = resS m c ∧ r.2.mem ((c.tc : Thread nD τ).loc main_v14_1) = resT m c) :=
  (θ_run defs _ _).mono (fun r h c => ⟨((h c).1 5).trans (final_S m c), ((h c).1 6).trans (final_T m c)⟩) (run_main m ρ)

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

theorem lt_of_cmp (x y : EReal) (h : Ideal.cmp .olt x y = 1#1) (hy : y = ⊤) : x < ⊤ := by
  subst hy
  by_contra hn
  have : Ideal.cmp .olt x ⊤ = 0#1 := by
    show BitVec.ofBool (decide (x < ⊤)) = 0#1
    rw [decide_eq_false hn]
    rfl
  rw [this] at h
  exact absurd h (by decide)

theorem ne_of_cmp (x y : BitVec 8) (h : IntOp.cmpi .ne x y = 1#1) : x ≠ y := by
  rintro rfl
  have : IntOp.cmpi .ne x x = 0#1 := by
    show BitVec.ofBool (x != x) = 0#1
    rw [bne_self_eq_false]
    rfl
  rw [this] at h
  exact absurd h (by decide)

/-- The precondition's four parts, element by element. -/
theorem pre_real [Cert.Pre_finite.Facts] (h : Cert.Pre_KernelIdeal_finite m) (c : Dev nD) :
    (∀ q j, ∃ v : ℝ, aX m c (ix2 q j) = v) ∧ (∀ i, ∃ v : ℝ, aS m c (ix1 i) = v) ∧ ∀ i k d, ∃ v : ℝ, cbE (aC m c) i k d = v := by
  obtain ⟨h1, h2, h3, h4⟩ := h c
  refine ⟨fun q j => ?_, fun i => ?_, fun i k d => ?_⟩
  · have e := congrFun h1 (ix2 q j)
    exact real_of_abs _ (lt_of_cmp _ _ e inf_bf16)
  · have e := congrFun h4 (ix1 i)
    exact real_of_abs _ (lt_of_cmp _ _ e inf_f32)
  · have e := congrFun h2 (ix3 i k d)
    have e' := congrFun h3 (ix3 i k d)
    exact real_of_byte _ (ne_of_cmp _ _ e) (ne_of_cmp _ _ e')

end Cert.KernelIdeal.Gen

namespace Cert.Proof

open Idealize.ShloMosaic Idealize.ShloMosaic.TcCoe Idealize.SL.Sem

/-- The two tables agree, whatever the arguments hold. -/
theorem table_eq (m : (ℓ : Loc Cert.KernelIdeal.nD Cert.KernelIdeal.τ Cert.KernelIdeal.sig) → Buf (Elt Ideal) ℓ) (c : Dev Cert.KernelIdeal.nD)
    (X : FVec Ideal Cert.ReferenceIdeal.S224x1536 .bf16) (D : FVec Ideal Cert.ReferenceIdeal.S96x256x16 .f32) (S : FVec Ideal Cert.ReferenceIdeal.S96 .f32)
    (hX : ∀ q j, X (ix2 q j) = Cert.KernelIdeal.Gen.aX m c (ix2 q j)) (hD : ∀ i k d, D (ix3 i k d) = Cert.KernelIdeal.Gen.cbE (Cert.KernelIdeal.Gen.aC m c) i k d)
    (hS : ∀ i, S (ix1 i) = Cert.KernelIdeal.Gen.aS m c (ix1 i)) (q : Fin 224) (i : Fin 96) (k : Fin 256) :
    Cert.ReferenceIdeal.Gen.rT X D S (ix3 q i k) = Cert.KernelIdeal.Gen.resT m c (ix3 q i k) := by
  rw [Cert.ReferenceIdeal.Gen.rT_apply, Cert.ReferenceIdeal.Gen.rXn_apply, Cert.ReferenceIdeal.Gen.rCn_apply, Cert.ReferenceIdeal.Gen.rDot_apply, Cert.KernelIdeal.Gen.resT_apply]
  simp only [hX, hD, hS]
  exact congrArg₂ (· - ·) rfl (congrArg₂ (· * ·) rfl (congrArg₂ (· * ·) (Finset.sum_congr rfl fun d _ => mul_comm _ _) rfl))

/-- The two arrays of scores agree when the arguments are real numbers. -/
theorem scores_eq (m : (ℓ : Loc Cert.KernelIdeal.nD Cert.KernelIdeal.τ Cert.KernelIdeal.sig) → Buf (Elt Ideal) ℓ) (c : Dev Cert.KernelIdeal.nD)
    (X : FVec Ideal Cert.ReferenceIdeal.S224x1536 .bf16) (D : FVec Ideal Cert.ReferenceIdeal.S96x256x16 .f32) (S : FVec Ideal Cert.ReferenceIdeal.S96 .f32)
    (K : Vec Ideal Cert.ReferenceIdeal.S96x98304 .i8)
    (hX : ∀ q j, X (ix2 q j) = Cert.KernelIdeal.Gen.aX m c (ix2 q j)) (hD : ∀ i k d, D (ix3 i k d) = Cert.KernelIdeal.Gen.cbE (Cert.KernelIdeal.Gen.aC m c) i k d)
    (hS : ∀ i, S (ix1 i) = Cert.KernelIdeal.Gen.aS m c (ix1 i)) (hK : ∀ i n, K (ix2 i n) = Cert.KernelIdeal.Gen.aK m c (ix2 i n))
    (hr : (∀ q j, ∃ v : ℝ, Cert.KernelIdeal.Gen.aX m c (ix2 q j) = v) ∧ (∀ i, ∃ v : ℝ, Cert.KernelIdeal.Gen.aS m c (ix1 i) = v)
      ∧ ∀ i k d, ∃ v : ℝ, Cert.KernelIdeal.Gen.cbE (Cert.KernelIdeal.Gen.aC m c) i k d = v) (q : Fin 224) (n : Fin 98304) :
    Cert.ReferenceIdeal.Gen.rS (Cert.ReferenceIdeal.Gen.rT X D S) K (ix2 q n) = Cert.KernelIdeal.Gen.resS m c (ix2 q n) := by
  rw [Cert.ReferenceIdeal.Gen.rS_apply, Cert.KernelIdeal.Gen.resS_apply]
  refine Eq.trans (Finset.sum_congr rfl fun i _ => ?_)
    (Cert.KernelIdeal.Gen.score_eq (fun j => Cert.KernelIdeal.Gen.aX m c (ix2 q j)) (fun i => Cert.KernelIdeal.Gen.aS m c (ix1 i))
      (fun i d => Cert.KernelIdeal.Gen.cbE (Cert.KernelIdeal.Gen.aC m c) i (Cert.KernelIdeal.Gen.code (n := 98304) (Cert.KernelIdeal.Gen.aK m c) i n) d)
      (fun j => hr.1 q j) hr.2.1 (fun i d => hr.2.2 i _ d)).symm
  have hc : (⟨(K (ix2 i n)).toNat, (K (ix2 i n)).isLt⟩ : Fin 256) = Cert.KernelIdeal.Gen.code (n := 98304) (Cert.KernelIdeal.Gen.aK m c) i n := Fin.ext (congrArg BitVec.toNat (hK i n))
  rw [hc, Cert.ReferenceIdeal.Gen.rT_apply, Cert.ReferenceIdeal.Gen.rXn_apply, Cert.ReferenceIdeal.Gen.rCn_apply, Cert.ReferenceIdeal.Gen.rDot_apply]
  simp only [hX, hD, hS]

theorem algebraic (hF : Cert.Pre_finite.Facts) : Cert.algebraic_KernelIdeal_ReferenceIdeal_pre_finite
    (hKernelIdeal := Cert.KernelIdeal.Gen.facts) (hReferenceIdeal := Cert.ReferenceIdeal.Gen.facts) (hPre_finite := hF) := by
  intro m g m' g' hp ha
  have eT : ∀ c, Cert.ReferenceIdeal.Gen.rT (Cert.ReferenceIdeal.Gen.bX m' c) (Cert.ReferenceIdeal.Gen.decR m' c) (Cert.ReferenceIdeal.Gen.bS m' c) = Cert.KernelIdeal.Gen.resT m c := fun c =>
    funext fun i => by
      rw [← ix3_eta i]
      exact table_eq m c _ _ _ (fun q j => congrFun (ha c).1 _) (fun i k d => congrArg (Ideal.ofBits .fp8e4m3) (congrFun (ha c).2.1 _)) (fun i => congrFun (ha c).2.2.1 _) _ _ _
  have eS : ∀ c, Cert.ReferenceIdeal.Gen.rS (Cert.ReferenceIdeal.Gen.rT (Cert.ReferenceIdeal.Gen.bX m' c) (Cert.ReferenceIdeal.Gen.decR m' c) (Cert.ReferenceIdeal.Gen.bS m' c)) (Cert.ReferenceIdeal.Gen.bK m' c)
      = Cert.KernelIdeal.Gen.resS m c := fun c =>
    funext fun i => by
      rw [← ix2_eta i]
      exact scores_eq m c _ _ _ _ (fun q j => congrFun (ha c).1 _) (fun i k d => congrArg (Ideal.ofBits .fp8e4m3) (congrFun (ha c).2.1 _)) (fun i => congrFun (ha c).2.2.1 _)
        (fun i n => congrFun (ha c).2.2.2 _) (Cert.KernelIdeal.Gen.pre_real m hp c) _ _
  refine ⟨fun c => Cert.KernelIdeal.Gen.resS m c, fun c => Cert.KernelIdeal.Gen.resT m c, ?_, ?_⟩
  · refine (θ_run _ _ _).mono (fun r h c => ?_) (θ_run_and (Cert.KernelIdeal.Gen.run_value m g) (Cert.KernelIdeal.Gen.frame_all m g))
    exact ⟨(h.1 c).1, (h.1 c).2, h.2.1 c⟩
  · refine (θ_run _ _ _).mono (fun r h c => ?_) (θ_run_and (Cert.ReferenceIdeal.Gen.run_value m' g') (Cert.ReferenceIdeal.Gen.unchanged m' g'))
    exact ⟨(h.1 c).1.trans (eS c), (h.1 c).2.trans (eT c), h.2 c⟩

end Cert.Proof

end
-- ==== Proof.lean ====
/- The proof of the claim: the frames of the three programs, and the equality of the two results at the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KFrame
public import proofs.«01_k».proof.Proof.BFrame
public import proofs.«01_k».proof.Proof.Value

@[expose] public section

noncomputable section

namespace Cert.Proof

open Idealize.ShloMosaic Idealize.SL.Sem

/-- The shape facts that the precondition states. -/
theorem facts_finite : Cert.Pre_finite.Facts where
  bcast_S_S224x1536 := by decide
  bcast_S_S96x256x16 := by decide
  bcast_S_S96 := by decide

/-- The claim of the statement. -/
theorem claim : Cert.Claim :=
  ⟨Cert.Kernel.Gen.facts, Cert.KernelIdeal.Gen.facts, Cert.ReferenceIdeal.Gen.facts, facts_finite,
    fun m g _ => Cert.Kernel.Gen.frame_all m g, fun m g _ => Cert.KernelIdeal.Gen.frame_all m g,
    fun m g _ => Cert.KernelIdeal.Gen.frame_all m g, fun m g _ => Cert.ReferenceIdeal.Gen.frame m g,
    fun m g _ => Cert.ReferenceIdeal.Gen.frame m g, trivial, algebraic facts_finite⟩

end Cert.Proof

end
